-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Scatter [hPre_places_in_rows : Cert.Pre_places_in_rows.Facts] (m : (ℓ : Loc Cert.Scatter.nD Cert.Scatter.τ Cert.Scatter.sig) → Buf (Elt Bits) ℓ) : Prop :=
  ∀ c : Dev Cert.Scatter.nD,
    (Cert.Pre_places_in_rows.fn (F := Bits) (m ((c.tc : Thread Cert.Scatter.nD Cert.Scatter.τ).loc Cert.Scatter.main_arg0)) (m ((c.tc : Thread Cert.Scatter.nD Cert.Scatter.τ).loc Cert.Scatter.main_arg1))) = (fun _ => 1#1)

def Pre_ScatterIdeal [hPre_places_in_rows : Cert.Pre_places_in_rows.Facts] (m : (ℓ : Loc Cert.ScatterIdeal.nD Cert.ScatterIdeal.τ Cert.ScatterIdeal.sig) → Buf (Elt Ideal) ℓ) : Prop :=
  ∀ c : Dev Cert.ScatterIdeal.nD,
    (Cert.Pre_places_in_rows.fn (F := Ideal) (m ((c.tc : Thread Cert.ScatterIdeal.nD Cert.ScatterIdeal.τ).loc Cert.ScatterIdeal.main_arg0)) (m ((c.tc : Thread Cert.ScatterIdeal.nD Cert.ScatterIdeal.τ).loc Cert.ScatterIdeal.main_arg1))) = (fun _ => 1#1)

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReferenceIdeal_places_in_rows [hPre_places_in_rows : Cert.Pre_places_in_rows.Facts] (m : (ℓ : Loc Cert.ScatterReferenceIdeal.nD Cert.ScatterReferenceIdeal.τ Cert.ScatterReferenceIdeal.sig) → Buf (Elt Ideal) ℓ) : Prop :=
  ∀ c : Dev Cert.ScatterReferenceIdeal.nD,
    (Cert.Pre_places_in_rows.fn (F := Ideal) (m ((c.tc : Thread Cert.ScatterReferenceIdeal.nD Cert.ScatterReferenceIdeal.τ).loc Cert.ScatterReferenceIdeal.main_arg0)) (m ((c.tc : Thread Cert.ScatterReferenceIdeal.nD Cert.ScatterReferenceIdeal.τ).loc Cert.ScatterReferenceIdeal.main_arg1))) = (fun _ => 1#1)

def Pre_SharedExpert (m : (ℓ : Loc Cert.SharedExpert.nD Cert.SharedExpert.τ Cert.SharedExpert.sig) → Buf (Elt Bits) ℓ) : Prop :=
  True

def Pre_SharedExpertIdeal (m : (ℓ : Loc Cert.SharedExpertIdeal.nD Cert.SharedExpertIdeal.τ Cert.SharedExpertIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Scatter [hScatter : Cert.Scatter.Facts] [hPre_places_in_rows : Cert.Pre_places_in_rows.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (Cert.Scatter.threads (F := Bits)) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1))
      ∧ r.2.sem = fun _ => 0)

def quiescent_ScatterIdeal [hScatterIdeal : Cert.ScatterIdeal.Facts] [hPre_places_in_rows : Cert.Pre_places_in_rows.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (Cert.ScatterIdeal.threads (F := Ideal)) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_ScatterReferenceIdeal_pre_places_in_rows [hScatterReferenceIdeal : Cert.ScatterReferenceIdeal.Facts] [hPre_places_in_rows : Cert.Pre_places_in_rows.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal_places_in_rows m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1))
      ∧ r.2.sem = fun _ => 0)

def quiescent_SharedExpert [hSharedExpert : Cert.SharedExpert.Facts] : Prop :=
  ∀ (m : (ℓ : Loc Cert.SharedExpert.nD Cert.SharedExpert.τ Cert.SharedExpert.sig) → Buf (Elt Bits) ℓ) (g : Dev Cert.SharedExpert.nD → PrngReg), Pre_SharedExpert m →
    θ_run (Cert.SharedExpert.defs (F := Bits)) (onTc (τ := Cert.SharedExpert.τ) (Cert.SharedExpert.main (F := Bits))) ⟨m, fun _ => 0, g⟩ (fun r => (∀ c : Dev Cert.SharedExpert.nD,
      r.2.mem ((c.tc : Thread Cert.SharedExpert.nD Cert.SharedExpert.τ).loc Cert.SharedExpert.main_arg0) = m ((c.tc : Thread Cert.SharedExpert.nD Cert.SharedExpert.τ).loc Cert.SharedExpert.main_arg0)
      ∧ r.2.mem ((c.tc : Thread Cert.SharedExpert.nD Cert.SharedExpert.τ).loc Cert.SharedExpert.main_arg1) = m ((c.tc : Thread Cert.SharedExpert.nD Cert.SharedExpert.τ).loc Cert.SharedExpert.main_arg1)
      ∧ r.2.mem ((c.tc : Thread Cert.SharedExpert.nD Cert.SharedExpert.τ).loc Cert.SharedExpert.main_arg2) = m ((c.tc : Thread Cert.SharedExpert.nD Cert.SharedExpert.τ).loc Cert.SharedExpert.main_arg2)
      ∧ r.2.mem ((c.tc : Thread Cert.SharedExpert.nD Cert.SharedExpert.τ).loc Cert.SharedExpert.main_arg3) = m ((c.tc : Thread Cert.SharedExpert.nD Cert.SharedExpert.τ).loc Cert.SharedExpert.main_arg3))
      ∧ r.2.sem = fun _ => 0)

def quiescent_SharedExpertIdeal [hSharedExpertIdeal : Cert.SharedExpertIdeal.Facts] : Prop :=
  ∀ (m : (ℓ : Loc Cert.SharedExpertIdeal.nD Cert.SharedExpertIdeal.τ Cert.SharedExpertIdeal.sig) → Buf (Elt Ideal) ℓ) (g : Dev Cert.SharedExpertIdeal.nD → PrngReg), Pre_SharedExpertIdeal m →
    θ_run (Cert.SharedExpertIdeal.defs (F := Ideal)) (onTc (τ := Cert.SharedExpertIdeal.τ) (Cert.SharedExpertIdeal.main (F := Ideal))) ⟨m, fun _ => 0, g⟩ (fun r => (∀ c : Dev Cert.SharedExpertIdeal.nD,
      r.2.mem ((c.tc : Thread Cert.SharedExpertIdeal.nD Cert.SharedExpertIdeal.τ).loc Cert.SharedExpertIdeal.main_arg0) = m ((c.tc : Thread Cert.SharedExpertIdeal.nD Cert.SharedExpertIdeal.τ).loc Cert.SharedExpertIdeal.main_arg0)
      ∧ r.2.mem ((c.tc : Thread Cert.SharedExpertIdeal.nD Cert.SharedExpertIdeal.τ).loc Cert.SharedExpertIdeal.main_arg1) = m ((c.tc : Thread Cert.SharedExpertIdeal.nD Cert.SharedExpertIdeal.τ).loc Cert.SharedExpertIdeal.main_arg1)
      ∧ r.2.mem ((c.tc : Thread Cert.SharedExpertIdeal.nD Cert.SharedExpertIdeal.τ).loc Cert.SharedExpertIdeal.main_arg2) = m ((c.tc : Thread Cert.SharedExpertIdeal.nD Cert.SharedExpertIdeal.τ).loc Cert.SharedExpertIdeal.main_arg2)
      ∧ r.2.mem ((c.tc : Thread Cert.SharedExpertIdeal.nD Cert.SharedExpertIdeal.τ).loc Cert.SharedExpertIdeal.main_arg3) = m ((c.tc : Thread Cert.SharedExpertIdeal.nD Cert.SharedExpertIdeal.τ).loc Cert.SharedExpertIdeal.main_arg3))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Scatter_ScatterIdeal : Prop :=
  True

def algebraic_ScatterIdeal_ScatterReferenceIdeal [hScatterIdeal : Cert.ScatterIdeal.Facts] [hScatterReferenceIdeal : Cert.ScatterReferenceIdeal.Facts] [hPre_places_in_rows : Cert.Pre_places_in_rows.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m' ((c.tc : Thread Cert.ScatterReferenceIdeal.nD Cert.ScatterReferenceIdeal.τ).loc Cert.ScatterReferenceIdeal.main_arg0) = m ((c.tc : Thread Cert.ScatterIdeal.nD Cert.ScatterIdeal.τ).loc Cert.ScatterIdeal.main_arg0)
      ∧ m' ((c.tc : Thread Cert.ScatterReferenceIdeal.nD Cert.ScatterReferenceIdeal.τ).loc Cert.ScatterReferenceIdeal.main_arg1) = m ((c.tc : Thread Cert.ScatterIdeal.nD Cert.ScatterIdeal.τ).loc Cert.ScatterIdeal.main_arg1)) →
    ∃ (v0 : (c : Dev Cert.ScatterIdeal.nD) → Buf (Elt Ideal) ((c.tc : Thread Cert.ScatterIdeal.nD Cert.ScatterIdeal.τ).loc Cert.ScatterIdeal.main_v0_0)) (v1 : (c : Dev Cert.ScatterIdeal.nD) → Buf (Elt Ideal) ((c.tc : Thread Cert.ScatterIdeal.nD Cert.ScatterIdeal.τ).loc Cert.ScatterIdeal.main_v0_1)),
      θ_run (Cert.ScatterIdeal.defs (F := Ideal)) (Cert.ScatterIdeal.threads (F := Ideal)) ⟨m, fun _ => 0, g⟩ (fun r => ∀ c : Dev Cert.ScatterIdeal.nD,
          r.2.mem ((c.tc : Thread Cert.ScatterIdeal.nD Cert.ScatterIdeal.τ).loc Cert.ScatterIdeal.main_v0_0) = v0 c
          ∧ r.2.mem ((c.tc : Thread Cert.ScatterIdeal.nD Cert.ScatterIdeal.τ).loc Cert.ScatterIdeal.main_v0_1) = v1 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1))
      ∧ θ_run (Cert.ScatterReferenceIdeal.defs (F := Ideal)) (onTc (τ := Cert.ScatterReferenceIdeal.τ) (Cert.ScatterReferenceIdeal.main (F := Ideal))) ⟨m', fun _ => 0, g'⟩ (fun r => ∀ c : Dev Cert.ScatterReferenceIdeal.nD,
          r.2.mem ((c.tc : Thread Cert.ScatterReferenceIdeal.nD Cert.ScatterReferenceIdeal.τ).loc Cert.ScatterReferenceIdeal.main_v10) = v0 c
          ∧ r.2.mem ((c.tc : Thread Cert.ScatterReferenceIdeal.nD Cert.ScatterReferenceIdeal.τ).loc Cert.ScatterReferenceIdeal.main_v18) = v1 c
          ∧ r.2.mem ((c.tc : Thread Cert.ScatterReferenceIdeal.nD Cert.ScatterReferenceIdeal.τ).loc Cert.ScatterReferenceIdeal.main_arg0) = m' ((c.tc : Thread Cert.ScatterReferenceIdeal.nD Cert.ScatterReferenceIdeal.τ).loc Cert.ScatterReferenceIdeal.main_arg0)
          ∧ r.2.mem ((c.tc : Thread Cert.ScatterReferenceIdeal.nD Cert.ScatterReferenceIdeal.τ).loc Cert.ScatterReferenceIdeal.main_arg1) = m' ((c.tc : Thread Cert.ScatterReferenceIdeal.nD Cert.ScatterReferenceIdeal.τ).loc Cert.ScatterReferenceIdeal.main_arg1))

def preserves_SharedExpert_SharedExpertIdeal : Prop :=
  True

def algebraic_SharedExpertIdeal_SharedReferenceIdeal [hSharedExpertIdeal : Cert.SharedExpertIdeal.Facts] [hSharedReferenceIdeal : Cert.SharedReferenceIdeal.Facts] : Prop :=
  ∀ (m : (ℓ : Loc Cert.SharedExpertIdeal.nD Cert.SharedExpertIdeal.τ Cert.SharedExpertIdeal.sig) → Buf (Elt Ideal) ℓ) (g : Dev Cert.SharedExpertIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedExpertIdeal m →
    (∀ c : Dev Cert.SharedExpertIdeal.nD,
      m' ((c.tc : Thread Cert.SharedReferenceIdeal.nD Cert.SharedReferenceIdeal.τ).loc Cert.SharedReferenceIdeal.main_arg0) = m ((c.tc : Thread Cert.SharedExpertIdeal.nD Cert.SharedExpertIdeal.τ).loc Cert.SharedExpertIdeal.main_arg0)
      ∧ m' ((c.tc : Thread Cert.SharedReferenceIdeal.nD Cert.SharedReferenceIdeal.τ).loc Cert.SharedReferenceIdeal.main_arg1) = m ((c.tc : Thread Cert.SharedExpertIdeal.nD Cert.SharedExpertIdeal.τ).loc Cert.SharedExpertIdeal.main_arg1)
      ∧ m' ((c.tc : Thread Cert.SharedReferenceIdeal.nD Cert.SharedReferenceIdeal.τ).loc Cert.SharedReferenceIdeal.main_arg2) = m ((c.tc : Thread Cert.SharedExpertIdeal.nD Cert.SharedExpertIdeal.τ).loc Cert.SharedExpertIdeal.main_arg2)
      ∧ m' ((c.tc : Thread Cert.SharedReferenceIdeal.nD Cert.SharedReferenceIdeal.τ).loc Cert.SharedReferenceIdeal.main_arg3) = m ((c.tc : Thread Cert.SharedExpertIdeal.nD Cert.SharedExpertIdeal.τ).loc Cert.SharedExpertIdeal.main_arg3)) →
    ∃ (v0 : (c : Dev Cert.SharedExpertIdeal.nD) → Buf (Elt Ideal) ((c.tc : Thread Cert.SharedExpertIdeal.nD Cert.SharedExpertIdeal.τ).loc Cert.SharedExpertIdeal.main_v0)),
      θ_run (Cert.SharedExpertIdeal.defs (F := Ideal)) (onTc (τ := Cert.SharedExpertIdeal.τ) (Cert.SharedExpertIdeal.main (F := Ideal))) ⟨m, fun _ => 0, g⟩ (fun r => ∀ c : Dev Cert.SharedExpertIdeal.nD,
          r.2.mem ((c.tc : Thread Cert.SharedExpertIdeal.nD Cert.SharedExpertIdeal.τ).loc Cert.SharedExpertIdeal.main_v0) = v0 c
          ∧ r.2.mem ((c.tc : Thread Cert.SharedExpertIdeal.nD Cert.SharedExpertIdeal.τ).loc Cert.SharedExpertIdeal.main_arg0) = m ((c.tc : Thread Cert.SharedExpertIdeal.nD Cert.SharedExpertIdeal.τ).loc Cert.SharedExpertIdeal.main_arg0)
          ∧ r.2.mem ((c.tc : Thread Cert.SharedExpertIdeal.nD Cert.SharedExpertIdeal.τ).loc Cert.SharedExpertIdeal.main_arg1) = m ((c.tc : Thread Cert.SharedExpertIdeal.nD Cert.SharedExpertIdeal.τ).loc Cert.SharedExpertIdeal.main_arg1)
          ∧ r.2.mem ((c.tc : Thread Cert.SharedExpertIdeal.nD Cert.SharedExpertIdeal.τ).loc Cert.SharedExpertIdeal.main_arg2) = m ((c.tc : Thread Cert.SharedExpertIdeal.nD Cert.SharedExpertIdeal.τ).loc Cert.SharedExpertIdeal.main_arg2)
          ∧ r.2.mem ((c.tc : Thread Cert.SharedExpertIdeal.nD Cert.SharedExpertIdeal.τ).loc Cert.SharedExpertIdeal.main_arg3) = m ((c.tc : Thread Cert.SharedExpertIdeal.nD Cert.SharedExpertIdeal.τ).loc Cert.SharedExpertIdeal.main_arg3))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v7) = v0 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3))

def Claim : Prop :=
  ∃ (hKernel : Cert.Kernel.Facts) (hKernelIdeal : Cert.KernelIdeal.Facts) (hReferenceIdeal : Cert.ReferenceIdeal.Facts) (hScatter : Cert.Scatter.Facts) (hScatterIdeal : Cert.ScatterIdeal.Facts) (hScatterReferenceIdeal : Cert.ScatterReferenceIdeal.Facts) (hSharedExpert : Cert.SharedExpert.Facts) (hSharedExpertIdeal : Cert.SharedExpertIdeal.Facts) (hSharedReferenceIdeal : Cert.SharedReferenceIdeal.Facts) (hPre_routed : Cert.Pre_routed.Facts) (hPre_places_in_rows : Cert.Pre_places_in_rows.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Scatter (hScatter := hScatter) (hPre_places_in_rows := hPre_places_in_rows)
    ∧ quiescent_ScatterIdeal (hScatterIdeal := hScatterIdeal) (hPre_places_in_rows := hPre_places_in_rows)
    ∧ quiescent_ScatterReferenceIdeal (hScatterReferenceIdeal := hScatterReferenceIdeal)
    ∧ quiescent_ScatterReferenceIdeal_pre_places_in_rows (hScatterReferenceIdeal := hScatterReferenceIdeal) (hPre_places_in_rows := hPre_places_in_rows)
    ∧ quiescent_SharedExpert (hSharedExpert := hSharedExpert)
    ∧ quiescent_SharedExpertIdeal (hSharedExpertIdeal := hSharedExpertIdeal)
    ∧ quiescent_SharedReferenceIdeal (hSharedReferenceIdeal := hSharedReferenceIdeal)
    ∧ preserves_Kernel_KernelIdeal
    ∧ algebraic_KernelIdeal_ReferenceIdeal (hKernelIdeal := hKernelIdeal) (hReferenceIdeal := hReferenceIdeal) (hPre_routed := hPre_routed)
    ∧ preserves_Scatter_ScatterIdeal
    ∧ algebraic_ScatterIdeal_ScatterReferenceIdeal (hScatterIdeal := hScatterIdeal) (hScatterReferenceIdeal := hScatterReferenceIdeal) (hPre_places_in_rows := hPre_places_in_rows)
    ∧ preserves_SharedExpert_SharedExpertIdeal
    ∧ algebraic_SharedExpertIdeal_SharedReferenceIdeal (hSharedExpertIdeal := hSharedExpertIdeal) (hSharedReferenceIdeal := hSharedReferenceIdeal)
-- ==== Pre_places_in_rows.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) (main_arg1 : FVec F S8192 .f32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 12288#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Pre_routed.lean ====
abbrev S48 : Shape := ⟨1, ![48]⟩
abbrev S8192 : Shape := ⟨1, ![8192]⟩
abbrev S4096x1024 : Shape := ⟨2, ![4096, 1024]⟩
abbrev S16x1024x1024 : Shape := ⟨3, ![16, 1024, 1024]⟩
abbrev S1024x4096 : Shape := ⟨2, ![1024, 4096]⟩
abbrev S_ : Shape := ⟨0, ![]⟩
abbrev S1x48 : Shape := ⟨2, ![1, 48]⟩
abbrev S8192x1 : Shape := ⟨2, ![8192, 1]⟩
abbrev S8192x48 : Shape := ⟨2, ![8192, 48]⟩

class Facts : Prop where
  bcast_S_S8192 : S_.BroadcastsInDim S8192 (![] : Fin 0 → Fin S8192.rank)
  reducesTo_S8192_S_d0 : S8192.ReducesTo [0] S_
  h_S_ : 0 < S_.numel
  bcast_S_S48 : S_.BroadcastsInDim S48 (![] : Fin 0 → Fin S48.rank)
  reducesTo_S48_S_d0 : S48.ReducesTo [0] S_
  bcast_S48_S1x48_1 : S48.BroadcastsInDim S1x48 (![1] : Fin 1 → Fin S1x48.rank)
  bcast_S8192_S8192x1_0 : S8192.BroadcastsInDim S8192x1 (![0] : Fin 1 → Fin S8192x1.rank)
  bcast_S1x48_S8192x48_0_1 : S1x48.BroadcastsInDim S8192x48 (![0, 1] : Fin 2 → Fin S8192x48.rank)
  bcast_S8192x1_S8192x48_0_1 : S8192x1.BroadcastsInDim S8192x48 (![0, 1] : Fin 2 → Fin S8192x48.rank)
  bcast_S_S1x48 : S_.BroadcastsInDim S1x48 (![] : Fin 0 → Fin S1x48.rank)
  reducesTo_S8192x48_S_d0_1 : S8192x48.ReducesTo [0, 1] S_

variable [Facts]

def fn_part1 {F : FTy → Type} [FloatOps F] (main_arg1 : IVec S48 32) (main_v1 : IVec S8192 32) (main_v14 : IVec S_ 1) (main_v16 : IVec S1x48 32) : IVec S_ 1 :=
  let main_v17 : IVec S8192x1 32 := broadcastInDim S8192x1 ![0] bcast_S8192_S8192x1_0 main_v1
  let main_v18 : IVec S8192x48 32 := broadcastInDim S8192x48 ![0, 1] bcast_S1x48_S8192x48_0_1 main_v16
  let main_v19 : IVec S8192x48 32 := broadcastInDim S8192x48 ![0, 1] bcast_S8192x1_S8192x48_0_1 main_v17
  let main_v20 : IVec S8192x48 1 := cmpi .ne main_v18 main_v19
  let main_v21 : IVec S1x48 32 := broadcastInDim S1x48 ![1] bcast_S48_S1x48_1 main_arg1
  let main_c_6 : IVec S_ 32 := constantI S_ 32 0#32
  let main_v22 : IVec S1x48 32 := broadcastInDim S1x48 ![] bcast_S_S1x48 main_c_6
  let main_v23 : IVec S1x48 1 := cmpi .ne main_v21 main_v22
  let main_v24 : IVec S8192x48 1 := broadcastInDim S8192x48 ![0, 1] bcast_S1x48_S8192x48_0_1 main_v23
  let main_v25 : IVec S8192x48 1 := ori main_v20 main_v24
  let main_c_7 : IVec S_ 1 := constantI S_ 1 1#1
  let main_v26 : IVec S_ 1 := (fun x v => Host.reduce IntOp.andi x v reducesTo_S8192x48_S_d0_1 h_S_) main_v25 main_c_7
  let main_v27 : IVec S_ 1 := andi main_v14 main_v26
  main_v27

def fn {F : FTy → Type} [FloatOps F] (main_arg0 : IVec S48 32) (main_arg1 : IVec S48 32) (main_arg2 : IVec S8192 32) (main_arg3 : FVec F S8192 .f32) (main_arg4 : FVec F S4096x1024 .bf16) (main_arg5 : FVec F S16x1024x1024 .f32) (main_arg6 : FVec F S16x1024x1024 .f32) (main_arg7 : FVec F S16x1024x1024 .f32) (main_arg8 : FVec F S4096x1024 .f32) (main_arg9 : FVec F S4096x1024 .f32) (main_arg10 : FVec F S4096x1024 .f32) (main_arg11 : FVec F S1024x4096 .f32) : IVec S_ 1 :=
  let main_c : IVec S_ 32 := constantI S_ 32 8#32
  let main_v0 : IVec S8192 32 := broadcastInDim S8192 ![] bcast_S_S8192 main_c
  let main_v1 : IVec S8192 32 := Host.shrui main_arg2 main_v0
  let main_c_0 : IVec S_ 32 := constantI S_ 32 0#32
  let main_v2 : IVec S8192 32 := broadcastInDim S8192 ![] bcast_S_S8192 main_c_0
  let main_v3 : IVec S8192 1 := cmpi .sge main_arg2 main_v2
  let main_c_1 : IVec S_ 32 := constantI S_ 32 12288#32
  let main_v4 : IVec S8192 32 := broadcastInDim S8192 ![] bcast_S_S8192 main_c_1
  let main_v5 : IVec S8192 1 := cmpi .slt main_arg2 main_v4
  let main_v6 : IVec S8192 1 := andi main_v3 main_v5
  let main_c_2 : IVec S_ 1 := constantI S_ 1 1#1
  let main_v7 : IVec S_ 1 := (fun x v => Host.reduce IntOp.andi x v reducesTo_S8192_S_d0 h_S_) main_v6 main_c_2
  let main_c_3 : IVec S_ 32 := constantI S_ 32 0#32
  let main_v8 : IVec S48 32 := broadcastInDim S48 ![] bcast_S_S48 main_c_3
  let main_v9 : IVec S48 1 := cmpi .sge main_arg0 main_v8
  let main_c_4 : IVec S_ 32 := constantI S_ 32 16#32
  let main_v10 : IVec S48 32 := broadcastInDim S48 ![] bcast_S_S48 main_c_4
  let main_v11 : IVec S48 1 := cmpi .slt main_arg0 main_v10
  let main_v12 : IVec S48 1 := andi main_v9 main_v11
  let main_c_5 : IVec S_ 1 := constantI S_ 1 1#1
  let main_v13 : IVec S_ 1 := (fun x v => Host.reduce IntOp.andi x v reducesTo_S48_S_d0 h_S_) main_v12 main_c_5
  let main_v14 : IVec S_ 1 := andi main_v7 main_v13
  let main_v15 : IVec S48 32 := iotaInDim S48 32 0
  let main_v16 : IVec S1x48 32 := broadcastInDim S1x48 ![1] bcast_S48_S1x48_1 main_v15
  fn_part1 (F := F) main_arg1 main_v1 main_v14 main_v16
-- ==== Kernel.lean ====
abbrev S48 : Shape := ⟨1, ![48]⟩
abbrev S8192 : Shape := ⟨1, ![8192]⟩
abbrev S4096x1024 : Shape := ⟨2, ![4096, 1024]⟩
abbrev S16x1024x1024 : Shape := ⟨3, ![16, 1024, 1024]⟩
abbrev S1024x4096 : Shape := ⟨2, ![1024, 4096]⟩
abbrev S512x1024 : Shape := ⟨2, ![512, 1024]⟩
abbrev S1024x1024 : Shape := ⟨2, ![1024, 1024]⟩
abbrev S12288 : Shape := ⟨1, ![12288]⟩
abbrev S_ : Shape := ⟨0, ![]⟩
abbrev S16 : Shape := ⟨1, ![16]⟩
abbrev S12288x1 : Shape := ⟨2, ![12288, 1]⟩
abbrev S12288x1024 : Shape := ⟨2, ![12288, 1024]⟩
abbrev S256x1 : Shape := ⟨2, ![256, 1]⟩
abbrev S1x1024x1024 : Shape := ⟨3, ![1, 1024, 1024]⟩
abbrev S1 : Shape := ⟨1, ![1]⟩
abbrev S256x1024 : Shape := ⟨2, ![256, 1024]⟩
abbrev S256x4096 : Shape := ⟨2, ![256, 4096]⟩
abbrev S98304x128 : Shape := ⟨2, ![98304, 128]⟩
abbrev S8192x1 : Shape := ⟨2, ![8192, 1]⟩
abbrev S8 : Shape := ⟨1, ![8]⟩
abbrev S1x8 : Shape := ⟨2, ![1, 8]⟩
abbrev S8192x8 : Shape := ⟨2, ![8192, 8]⟩
abbrev S65536 : Shape := ⟨1, ![65536]⟩
abbrev S256 : Shape := ⟨1, ![256]⟩
abbrev S256x128 : Shape := ⟨2, ![256, 128]⟩
abbrev S16x1024 : Shape := ⟨2, ![16, 1024]⟩
abbrev S1x16 : Shape := ⟨2, ![1, 16]⟩

abbrev nBuf : Table → Nat
  | .hbm => 28
  | .local .tc .vmem => 24
  | .local .tc .smem => 2
  | .local .scVector .vmem => 10
  | _ => 0

abbrev bufTy : (tb : Table) → Fin (nBuf tb) → BufTy
  | .hbm, ⟨0, _⟩ => ⟨S8192, .i32⟩
  | .hbm, ⟨1, _⟩ => ⟨S8192, .f32⟩
  | .hbm, ⟨2, _⟩ => ⟨S4096x1024, .bf16⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S12288, .i32⟩
  | .hbm, ⟨12, _⟩ => ⟨S12288, .f32⟩
  | .hbm, ⟨13, _⟩ => ⟨S12288x1, .i32⟩
  | .hbm, ⟨14, _⟩ => ⟨S12288x1, .f32⟩
  | .hbm, ⟨15, _⟩ => ⟨S12288x1024, .f32⟩
  | .hbm, ⟨16, _⟩ => ⟨S98304x128, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i32⟩
  | .hbm, ⟨21, _⟩ => ⟨S8, .i32⟩
  | .hbm, ⟨22, _⟩ => ⟨S1x8, .i32⟩
  | .hbm, ⟨23, _⟩ => ⟨S8192x8, .i32⟩
  | .hbm, ⟨24, _⟩ => ⟨S8192x8, .i32⟩
  | .hbm, ⟨25, _⟩ => ⟨S8192x8, .i32⟩
  | .hbm, ⟨26, _⟩ => ⟨S65536, .i32⟩
  | .hbm, ⟨27, _⟩ => ⟨S4096x1024, .f32⟩
  | .local .tc .vmem, ⟨0, _⟩ => ⟨S512x1024, .f32⟩
  | .local .tc .vmem, ⟨1, _⟩ => ⟨S512x1024, .f32⟩
  | .local .tc .vmem, ⟨2, _⟩ => ⟨S1024x1024, .f32⟩
  | .local .tc .vmem, ⟨3, _⟩ => ⟨S1024x1024, .f32⟩
  | .local .tc .vmem, ⟨4, _⟩ => ⟨S1024x1024, .f32⟩
  | .local .tc .vmem, ⟨5, _⟩ => ⟨S1024x1024, .f32⟩
  | .local .tc .vmem, ⟨6, _⟩ => ⟨S1024x1024, .f32⟩
  | .local .tc .vmem, ⟨7, _⟩ => ⟨S1024x1024, .f32⟩
  | .local .tc .vmem, ⟨8, _⟩ => ⟨S512x1024, .f32⟩
  | .local .tc .vmem, ⟨9, _⟩ => ⟨S512x1024, .f32⟩
  | .local .tc .vmem, ⟨10, _⟩ => ⟨S4096x1024, .f32⟩
  | .local .tc .vmem, ⟨11, _⟩ => ⟨S256x1, .i32⟩
  | .local .tc .vmem, ⟨12, _⟩ => ⟨S256x1, .i32⟩
  | .local .tc .vmem, ⟨13, _⟩ => ⟨S4096x1024, .bf16⟩
  | .local .tc .vmem, ⟨14, _⟩ => ⟨S1x1024x1024, .f32⟩
  | .local .tc .vmem, ⟨15, _⟩ => ⟨S1x1024x1024, .f32⟩
  | .local .tc .vmem, ⟨16, _⟩ => ⟨S1x1024x1024, .f32⟩
  | .local .tc .vmem, ⟨17, _⟩ => ⟨S1x1024x1024, .f32⟩
  | .local .tc .vmem, ⟨18, _⟩ => ⟨S1x1024x1024, .f32⟩
  | .local .tc .vmem, ⟨19, _⟩ => ⟨S1x1024x1024, .f32⟩
  | .local .tc .vmem, ⟨20, _⟩ => ⟨S256x1, .f32⟩
  | .local .tc .vmem, ⟨21, _⟩ => ⟨S256x1, .f32⟩
  | .local .tc .vmem, ⟨22, _⟩ => ⟨S256x1024, .f32⟩
  | .local .tc .vmem, ⟨23, _⟩ => ⟨S256x1024, .f32⟩
  | .local .tc .smem, ⟨0, _⟩ => ⟨S48, .i32⟩
  | .local .tc .smem, ⟨1, _⟩ => ⟨S48, .i32⟩
  | .local .scVector .vmem, ⟨0, _⟩ => ⟨S8192, .i32⟩
  | .local .scVector .vmem, ⟨1, _⟩ => ⟨S8192, .f32⟩
  | .local .scVector .vmem, ⟨2, _⟩ => ⟨S12288, .i32⟩
  | .local .scVector .vmem, ⟨3, _⟩ => ⟨S12288, .f32⟩
  | .local .scVector .vmem, ⟨4, _⟩ => ⟨S256, .i32⟩
  | .local .scVector .vmem, ⟨5, _⟩ => ⟨S256, .i32⟩
  | .local .scVector .vmem, ⟨6, _⟩ => ⟨S256x128, .f32⟩
  | .local .scVector .vmem, ⟨7, _⟩ => ⟨S256x128, .f32⟩
  | .local .scVector .vmem, ⟨8, _⟩ => ⟨S16x1024, .f32⟩
  | .local .scVector .vmem, ⟨9, _⟩ => ⟨S16x1024, .f32⟩
  | _, _ => ⟨S8192, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | _ => false

abbrev sig : RefSig :=
  ofTables nBuf rfl bufTy 4 47 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_arg0 : Ref sig .tc := ⟨.smem, 0, rfl⟩
abbrev main_arg1 : Ref sig .tc := ⟨.smem, 1, rfl⟩
abbrev main_arg2_scv : Ref sig .scVector := ⟨.hbm, 0, rfl⟩
abbrev main_arg3_scv : Ref sig .scVector := ⟨.hbm, 1, rfl⟩
abbrev main_v1_0_scv : Ref sig .scVector := ⟨.hbm, 11, rfl⟩
abbrev main_v1_1_scv : Ref sig .scVector := ⟨.hbm, 12, rfl⟩
abbrev main_v5_scv : Ref sig .scVector := ⟨.hbm, 16, rfl⟩
abbrev main_v14_scv : Ref sig .scVector := ⟨.hbm, 26, rfl⟩
abbrev main_v0_scv : Ref sig .scVector := ⟨.hbm, 10, rfl⟩
abbrev main_v15_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc3_scratch4 : Ref sig .scVector := ⟨.vmem, 8, rfl⟩
abbrev cc3_scratch5 : Ref sig .scVector := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_9 : BitVec 32 := 0#32
  let v13 : BitVec 1 := Scalar.cmpi .ne v12 c0_i32_9
  v13

def k0_off1 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def k0_cond2 (i : grid0.Coords) : BitVec 1 :=
  let arg0 : BitVec 32 := BitVec.ofNat 32 (i 0).val
  let c0_i32_10 : BitVec 32 := 0#32
  let v14 : BitVec 1 := Scalar.cmpi .ne arg0 c0_i32_10
  let c3_i32 : BitVec 32 := 3#32
  let v15 : BitVec 1 := Scalar.cmpi .ne arg0 c3_i32
  let v16 : BitVec 1 := Scalar.andi v14 v15
  let v17 : BitVec 32 := Scalar.extui v16
  let c0_i32_11 : BitVec 32 := 0#32
  let v18 : BitVec 1 := Scalar.cmpi .ne v17 c0_i32_11
  v18

def k0_off2 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def k0_cond3 (i : grid0.Coords) : BitVec 1 :=
  let arg0 : BitVec 32 := BitVec.ofNat 32 (i 0).val
  let c3_i32_12 : BitVec 32 := 3#32
  let v19 : BitVec 1 := Scalar.cmpi .eq arg0 c3_i32_12
  let v20 : BitVec 32 := Scalar.extui v19
  let c0_i32_13 : BitVec 32 := 0#32
  let v21 : BitVec 1 := Scalar.cmpi .ne v20 c0_i32_13
  v21

def k0_off3 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k1_t1_loop : Scf.Loop 32 :=
  let c0_i32_2 : BitVec 32 := 0#32
  let c768_i32 : BitVec 32 := 768#32
  let v5 : BitVec 32 := Scalar.addi c0_i32_2 c768_i32
  let c1_i32 : BitVec 32 := 1#32
  ⟨c0_i32_2, v5, c1_i32⟩
def k1_off1 (k1_t1 : Fin k1_t1_loop.trips) : Fin 1 → Nat :=
  let c0_i32_2 : BitVec 32 := 0#32
  let c1_i32 : BitVec 32 := 1#32
  let arg10 : BitVec 32 := Scf.iv c0_i32_2 c1_i32 k1_t1
  let c16_i32 : BitVec 32 := 16#32
  let v9 : BitVec 32 := Scalar.muli arg10 c16_i32
  let v10 : Index := Scalar.indexCast v9
  ![v10.toNat]
@[reducible] def k1_t2_loop : Scf.Loop 32 :=
  let c0_i32_5 : BitVec 32 := 0#32
  let c512_i32 : BitVec 32 := 512#32
  let v7 : BitVec 32 := Scalar.addi c0_i32_5 c512_i32
  let c1_i32_6 : BitVec 32 := 1#32
  ⟨c0_i32_5, v7, c1_i32_6⟩
def k1_off2 (k1_t2 : Fin k1_t2_loop.trips) : Fin 1 → Nat :=
  let c0_i32_5 : BitVec 32 := 0#32
  let c1_i32_6 : BitVec 32 := 1#32
  let arg10 : BitVec 32 := Scf.iv c0_i32_5 c1_i32_6 k1_t2
  let c16_i32 : BitVec 32 := 16#32
  let v8 : BitVec 32 := Scalar.muli arg10 c16_i32
  let v9 : Index := Scalar.indexCast v8
  ![v9.toNat]

def k1_chk1 (i : grid1.Coords) (v10 : IVec S16 32) : Prop :=
  (∀ (k1_h1 : k1_cond1 i = 1#1), ∀ a x, ((![v10] : Fin 1 → IVec S16 32) a x).toNat < S12288.size a) ∧
  (∀ (k1_h1 : k1_cond1 i = 1#1), ∀ a x, ((![v10] : Fin 1 → IVec S16 32) a x).toNat < S12288.size a)
theorem k1_idx1_inb : ∀ (i : grid1.Coords) (v10 : IVec S16 32) (k1_hw1 : k1_chk1 i v10), ∀ (k1_h1 : k1_cond1 i = 1#1), ∀ a x, ((![v10] : Fin 1 → IVec S16 32) a x).toNat < S12288.size a := fun i v10 k1_hw1 k1_h1 => k1_hw1.1 k1_h1
theorem k1_idx2_inb : ∀ (i : grid1.Coords) (v10 : IVec S16 32) (k1_hw1 : k1_chk1 i v10), ∀ (k1_h1 : k1_cond1 i = 1#1), ∀ a x, ((![v10] : Fin 1 → IVec S16 32) a x).toNat < S12288.size a := fun i v10 k1_hw1 k1_h1 => k1_hw1.2 k1_h1
abbrev grid2 : Pipeline.Grid := ⟨1, ![48], ![false]⟩

abbrev pre2 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (k2_off1_inb : ∀ i : grid2.Coords, ∀ a, (k2_off1 i) a + S1.size a ≤ S48.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S48) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S48.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S48) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (k2_off1_inb : ∀ i : grid2.Coords, ∀ a, (k2_off1 i) a + S1.size a ≤ S48.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S48) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c2_i32_0 : BitVec 32 := 2#32
  let v4 : BitVec 32 := Scalar.muli v3 c2_i32_0
  let c8_i32 : BitVec 32 := 8#32
  let v5 : BitVec 32 := Scalar.muli v4 c8_i32
  ![v5.toNat]
def k3_off2 (i : grid3.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_3 : BitVec 32 := 0#32
  ![v3.toNat, 0]
@[reducible] def k3_t1_loop : Scf.Loop 32 :=
  let c0_i32_17 : BitVec 32 := 0#32
  let c64_i32 : BitVec 32 := 64#32
  let v19 : BitVec 32 := Scalar.addi c0_i32_17 c64_i32
  let c1_i32 : BitVec 32 := 1#32
  ⟨c0_i32_17, v19, c1_i32⟩
def k3_off3 (k3_t1 : Fin k3_t1_loop.trips) : Fin 2 → Nat :=
  let c0_i32_728 : BitVec 32 := 0#32
  let v215 : Index := Scalar.indexCast c0_i32_728
  let c0_i32_17 : BitVec 32 := 0#32
  let c1_i32 : BitVec 32 := 1#32
  let arg16 : BitVec 32 := Scf.iv c0_i32_17 c1_i32 k3_t1
  let c16_i32_726 : BitVec 32 := 16#32
  let v211 : BitVec 32 := Scalar.muli arg16 c16_i32_726
  let v216 : Index := Scalar.indexCast v211
  ![0, v216.toNat]
def k3_off4 (k3_t1 : Fin k3_t1_loop.trips) (c0_i32_729 : BitVec 32) : Fin 2 → Nat :=
  let c0_i32_17 : BitVec 32 := 0#32
  let c1_i32 : BitVec 32 := 1#32
  let arg16 : BitVec 32 := Scf.iv c0_i32_17 c1_i32 k3_t1
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t2_loop : Scf.Loop 32 :=
  let c0_i32_20 : BitVec 32 := 0#32
  let c64_i32_21 : BitVec 32 := 64#32
  let v20 : BitVec 32 := Scalar.addi c0_i32_20 c64_i32_21
  let c1_i32_22 : BitVec 32 := 1#32
  ⟨c0_i32_20, v20, c1_i32_22⟩
def k3_off5 (k3_t2 : Fin k3_t2_loop.trips) : Fin 2 → Nat :=
  let c1_i32_728 : BitVec 32 := 1#32
  let v215 : Index := Scalar.indexCast c1_i32_728
  let c0_i32_20 : BitVec 32 := 0#32
  let c1_i32_22 : BitVec 32 := 1#32
  let arg16 : BitVec 32 := Scf.iv c0_i32_20 c1_i32_22 k3_t2
  let c16_i32_726 : BitVec 32 := 16#32
  let v211 : BitVec 32 := Scalar.muli arg16 c16_i32_726
  let v216 : Index := Scalar.indexCast v211
  ![1, v216.toNat]
def k3_off6 (k3_t2 : Fin k3_t2_loop.trips) (c16_i32_729 : BitVec 32) : Fin 2 → Nat :=
  let c0_i32_20 : BitVec 32 := 0#32
  let c1_i32_22 : BitVec 32 := 1#32
  let arg16 : BitVec 32 := Scf.iv c0_i32_20 c1_i32_22 k3_t2
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t3_loop : Scf.Loop 32 :=
  let c0_i32_25 : BitVec 32 := 0#32
  let c64_i32_26 : BitVec 32 := 64#32
  let v21 : BitVec 32 := Scalar.addi c0_i32_25 c64_i32_26
  let c1_i32_27 : BitVec 32 := 1#32
  ⟨c0_i32_25, v21, c1_i32_27⟩
def k3_off7 (k3_t3 : Fin k3_t3_loop.trips) : Fin 2 → Nat :=
  let c2_i32_728 : BitVec 32 := 2#32
  let v215 : Index := Scalar.indexCast c2_i32_728
  let c0_i32_25 : BitVec 32 := 0#32
  let c1_i32_27 : BitVec 32 := 1#32
  let arg16 : BitVec 32 := Scf.iv c0_i32_25 c1_i32_27 k3_t3
  let c16_i32_726 : BitVec 32 := 16#32
  let v211 : BitVec 32 := Scalar.muli arg16 c16_i32_726
  let v216 : Index := Scalar.indexCast v211
  ![2, v216.toNat]
def k3_off8 (k3_t3 : Fin k3_t3_loop.trips) (c32_i32_729 : BitVec 32) : Fin 2 → Nat :=
  let c0_i32_25 : BitVec 32 := 0#32
  let c1_i32_27 : BitVec 32 := 1#32
  let arg16 : BitVec 32 := Scf.iv c0_i32_25 c1_i32_27 k3_t3
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t4_loop : Scf.Loop 32 :=
  let c0_i32_30 : BitVec 32 := 0#32
  let c64_i32_31 : BitVec 32 := 64#32
  let v22 : BitVec 32 := Scalar.addi c0_i32_30 c64_i32_31
  let c1_i32_32 : BitVec 32 := 1#32
  ⟨c0_i32_30, v22, c1_i32_32⟩
def k3_off9 (k3_t4 : Fin k3_t4_loop.trips) : Fin 2 → Nat :=
  let c3_i32_728 : BitVec 32 := 3#32
  let v215 : Index := Scalar.indexCast c3_i32_728
  let c0_i32_30 : BitVec 32 := 0#32
  let c1_i32_32 : BitVec 32 := 1#32
  let arg16 : BitVec 32 := Scf.iv c0_i32_30 c1_i32_32 k3_t4
  let c16_i32_726 : BitVec 32 := 16#32
  let v211 : BitVec 32 := Scalar.muli arg16 c16_i32_726
  let v216 : Index := Scalar.indexCast v211
  ![3, v216.toNat]
def k3_off10 (k3_t4 : Fin k3_t4_loop.trips) (c48_i32_729 : BitVec 32) : Fin 2 → Nat :=
  let c0_i32_30 : BitVec 32 := 0#32
  let c1_i32_32 : BitVec 32 := 1#32
  let arg16 : BitVec 32 := Scf.iv c0_i32_30 c1_i32_32 k3_t4
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t5_loop : Scf.Loop 32 :=
  let c0_i32_35 : BitVec 32 := 0#32
  let c64_i32_36 : BitVec 32 := 64#32
  let v23 : BitVec 32 := Scalar.addi c0_i32_35 c64_i32_36
  let c1_i32_37 : BitVec 32 := 1#32
  ⟨c0_i32_35, v23, c1_i32_37⟩
def k3_off11 (k3_t5 : Fin k3_t5_loop.trips) : Fin 2 → Nat :=
  let c4_i32 : BitVec 32 := 4#32
  let v215 : Index := Scalar.indexCast c4_i32
  let c0_i32_35 : BitVec 32 := 0#32
  let c1_i32_37 : BitVec 32 := 1#32
  let arg16 : BitVec 32 := Scf.iv c0_i32_35 c1_i32_37 k3_t5
  let c16_i32_726 : BitVec 32 := 16#32
  let v211 : BitVec 32 := Scalar.muli arg16 c16_i32_726
  let v216 : Index := Scalar.indexCast v211
  ![4, v216.toNat]
def k3_off12 (k3_t5 : Fin k3_t5_loop.trips) (c64_i32_728 : BitVec 32) : Fin 2 → Nat :=
  let c0_i32_35 : BitVec 32 := 0#32
  let c1_i32_37 : BitVec 32 := 1#32
  let arg16 : BitVec 32 := Scf.iv c0_i32_35 c1_i32_37 k3_t5
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t6_loop : Scf.Loop 32 :=
  let c0_i32_40 : BitVec 32 := 0#32
  let c64_i32_41 : BitVec 32 := 64#32
  let v24 : BitVec 32 := Scalar.addi c0_i32_40 c64_i32_41
  let c1_i32_42 : BitVec 32 := 1#32
  ⟨c0_i32_40, v24, c1_i32_42⟩
def k3_off13 (k3_t6 : Fin k3_t6_loop.trips) : Fin 2 → Nat :=
  let c5_i32 : BitVec 32 := 5#32
  let v215 : Index := Scalar.indexCast c5_i32
  let c0_i32_40 : BitVec 32 := 0#32
  let c1_i32_42 : BitVec 32 := 1#32
  let arg16 : BitVec 32 := Scf.iv c0_i32_40 c1_i32_42 k3_t6
  let c16_i32_726 : BitVec 32 := 16#32
  let v211 : BitVec 32 := Scalar.muli arg16 c16_i32_726
  let v216 : Index := Scalar.indexCast v211
  ![5, v216.toNat]
def k3_off14 (k3_t6 : Fin k3_t6_loop.trips) (c80_i32_728 : BitVec 32) : Fin 2 → Nat :=
  let c0_i32_40 : BitVec 32 := 0#32
  let c1_i32_42 : BitVec 32 := 1#32
  let arg16 : BitVec 32 := Scf.iv c0_i32_40 c1_i32_42 k3_t6
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t7_loop : Scf.Loop 32 :=
  let c0_i32_45 : BitVec 32 := 0#32
  let c64_i32_46 : BitVec 32 := 64#32
  let v25 : BitVec 32 := Scalar.addi c0_i32_45 c64_i32_46
  let c1_i32_47 : BitVec 32 := 1#32
  ⟨c0_i32_45, v25, c1_i32_47⟩
def k3_off15 (k3_t7 : Fin k3_t7_loop.trips) : Fin 2 → Nat :=
  let c6_i32 : BitVec 32 := 6#32
  let v215 : Index := Scalar.indexCast c6_i32
  let c0_i32_45 : BitVec 32 := 0#32
  let c1_i32_47 : BitVec 32 := 1#32
  let arg16 : BitVec 32 := Scf.iv c0_i32_45 c1_i32_47 k3_t7
  let c16_i32_726 : BitVec 32 := 16#32
  let v211 : BitVec 32 := Scalar.muli arg16 c16_i32_726
  let v216 : Index := Scalar.indexCast v211
  ![6, v216.toNat]
def k3_off16 (k3_t7 : Fin k3_t7_loop.trips) (c96_i32_728 : BitVec 32) : Fin 2 → Nat :=
  let c0_i32_45 : BitVec 32 := 0#32
  let c1_i32_47 : BitVec 32 := 1#32
  let arg16 : BitVec 32 := Scf.iv c0_i32_45 c1_i32_47 k3_t7
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t8_loop : Scf.Loop 32 :=
  let c0_i32_50 : BitVec 32 := 0#32
  let c64_i32_51 : BitVec 32 := 64#32
  let v26 : BitVec 32 := Scalar.addi c0_i32_50 c64_i32_51
  let c1_i32_52 : BitVec 32 := 1#32
  ⟨c0_i32_50, v26, c1_i32_52⟩
def k3_off17 (k3_t8 : Fin k3_t8_loop.trips) : Fin 2 → Nat :=
  let c7_i32_728 : BitVec 32 := 7#32
  let v215 : Index := Scalar.indexCast c7_i32_728
  let c0_i32_50 : BitVec 32 := 0#32
  let c1_i32_52 : BitVec 32 := 1#32
  let arg16 : BitVec 32 := Scf.iv c0_i32_50 c1_i32_52 k3_t8
  let c16_i32_726 : BitVec 32 := 16#32
  let v211 : BitVec 32 := Scalar.muli arg16 c16_i32_726
  let v216 : Index := Scalar.indexCast v211
  ![7, v216.toNat]
def k3_off18 (k3_t8 : Fin k3_t8_loop.trips) (c112_i32_729 : BitVec 32) : Fin 2 → Nat :=
  let c0_i32_50 : BitVec 32 := 0#32
  let c1_i32_52 : BitVec 32 := 1#32
  let arg16 : BitVec 32 := Scf.iv c0_i32_50 c1_i32_52 k3_t8
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t9_loop : Scf.Loop 32 :=
  let c0_i32_55 : BitVec 32 := 0#32
  let c64_i32_56 : BitVec 32 := 64#32
  let v27 : BitVec 32 := Scalar.addi c0_i32_55 c64_i32_56
  let c1_i32_57 : BitVec 32 := 1#32
  ⟨c0_i32_55, v27, c1_i32_57⟩
def k3_off19 (k3_t9 : Fin k3_t9_loop.trips) : Fin 2 → Nat :=
  let c8_i32_728 : BitVec 32 := 8#32
  let v215 : Index := Scalar.indexCast c8_i32_728
  let c0_i32_55 : BitVec 32 := 0#32
  let c1_i32_57 : BitVec 32 := 1#32
  let arg16 : BitVec 32 := Scf.iv c0_i32_55 c1_i32_57 k3_t9
  let c16_i32_726 : BitVec 32 := 16#32
  let v211 : BitVec 32 := Scalar.muli arg16 c16_i32_726
  let v216 : Index := Scalar.indexCast v211
  ![8, v216.toNat]
def k3_off20 (k3_t9 : Fin k3_t9_loop.trips) (c128_i32_729 : BitVec 32) : Fin 2 → Nat :=
  let c0_i32_55 : BitVec 32 := 0#32
  let c1_i32_57 : BitVec 32 := 1#32
  let arg16 : BitVec 32 := Scf.iv c0_i32_55 c1_i32_57 k3_t9
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t10_loop : Scf.Loop 32 :=
  let c0_i32_60 : BitVec 32 := 0#32
  let c64_i32_61 : BitVec 32 := 64#32
  let v28 : BitVec 32 := Scalar.addi c0_i32_60 c64_i32_61
  let c1_i32_62 : BitVec 32 := 1#32
  ⟨c0_i32_60, v28, c1_i32_62⟩
def k3_off21 (k3_t10 : Fin k3_t10_loop.trips) : Fin 2 → Nat :=
  let c9_i32 : BitVec 32 := 9#32
  let v215 : Index := Scalar.indexCast c9_i32
  let c0_i32_60 : BitVec 32 := 0#32
  let c1_i32_62 : BitVec 32 := 1#32
  let arg16 : BitVec 32 := Scf.iv c0_i32_60 c1_i32_62 k3_t10
  let c16_i32_726 : BitVec 32 := 16#32
  let v211 : BitVec 32 := Scalar.muli arg16 c16_i32_726
  let v216 : Index := Scalar.indexCast v211
  ![9, v216.toNat]
def k3_off22 (k3_t10 : Fin k3_t10_loop.trips) (c144_i32 : BitVec 32) : Fin 2 → Nat :=
  let c0_i32_60 : BitVec 32 := 0#32
  let c1_i32_62 : BitVec 32 := 1#32
  let arg16 : BitVec 32 := Scf.iv c0_i32_60 c1_i32_62 k3_t10
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t11_loop : Scf.Loop 32 :=
  let c0_i32_65 : BitVec 32 := 0#32
  let c64_i32_66 : BitVec 32 := 64#32
  let v29 : BitVec 32 := Scalar.addi c0_i32_65 c64_i32_66
  let c1_i32_67 : BitVec 32 := 1#32
  ⟨c0_i32_65, v29, c1_i32_67⟩
def k3_off23 (k3_t11 : Fin k3_t11_loop.trips) : Fin 2 → Nat :=
  let c10_i32 : BitVec 32 := 10#32
  let v215 : Index := Scalar.indexCast c10_i32
  let c0_i32_65 : BitVec 32 := 0#32
  let c1_i32_67 : BitVec 32 := 1#32
  let arg16 : BitVec 32 := Scf.iv c0_i32_65 c1_i32_67 k3_t11
  let c16_i32_726 : BitVec 32 := 16#32
  let v211 : BitVec 32 := Scalar.muli arg16 c16_i32_726
  let v216 : Index := Scalar.indexCast v211
  ![10, v216.toNat]
def k3_off24 (k3_t11 : Fin k3_t11_loop.trips) (c160_i32 : BitVec 32) : Fin 2 → Nat :=
  let c0_i32_65 : BitVec 32 := 0#32
  let c1_i32_67 : BitVec 32 := 1#32
  let arg16 : BitVec 32 := Scf.iv c0_i32_65 c1_i32_67 k3_t11
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t12_loop : Scf.Loop 32 :=
  let c0_i32_70 : BitVec 32 := 0#32
  let c64_i32_71 : BitVec 32 := 64#32
  let v30 : BitVec 32 := Scalar.addi c0_i32_70 c64_i32_71
  let c1_i32_72 : BitVec 32 := 1#32
  ⟨c0_i32_70, v30, c1_i32_72⟩
def k3_off25 (k3_t12 : Fin k3_t12_loop.trips) : Fin 2 → Nat :=
  let c11_i32 : BitVec 32 := 11#32
  let v215 : Index := Scalar.indexCast c11_i32
  let c0_i32_70 : BitVec 32 := 0#32
  let c1_i32_72 : BitVec 32 := 1#32
  let arg16 : BitVec 32 := Scf.iv c0_i32_70 c1_i32_72 k3_t12
  let c16_i32_726 : BitVec 32 := 16#32
  let v211 : BitVec 32 := Scalar.muli arg16 c16_i32_726
  let v216 : Index := Scalar.indexCast v211
  ![11, v216.toNat]
def k3_off26 (k3_t12 : Fin k3_t12_loop.trips) (c176_i32 : BitVec 32) : Fin 2 → Nat :=
  let c0_i32_70 : BitVec 32 := 0#32
  let c1_i32_72 : BitVec 32 := 1#32
  let arg16 : BitVec 32 := Scf.iv c0_i32_70 c1_i32_72 k3_t12
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t13_loop : Scf.Loop 32 :=
  let c0_i32_75 : BitVec 32 := 0#32
  let c64_i32_76 : BitVec 32 := 64#32
  let v31 : BitVec 32 := Scalar.addi c0_i32_75 c64_i32_76
  let c1_i32_77 : BitVec 32 := 1#32
  ⟨c0_i32_75, v31, c1_i32_77⟩
def k3_off27 (k3_t13 : Fin k3_t13_loop.trips) : Fin 2 → Nat :=
  let c12_i32 : BitVec 32 := 12#32
  let v215 : Index := Scalar.indexCast c12_i32
  let c0_i32_75 : BitVec 32 := 0#32
  let c1_i32_77 : BitVec 32 := 1#32
  let arg16 : BitVec 32 := Scf.iv c0_i32_75 c1_i32_77 k3_t13
  let c16_i32_726 : BitVec 32 := 16#32
  let v211 : BitVec 32 := Scalar.muli arg16 c16_i32_726
  let v216 : Index := Scalar.indexCast v211
  ![12, v216.toNat]
def k3_off28 (k3_t13 : Fin k3_t13_loop.trips) (c192_i32 : BitVec 32) : Fin 2 → Nat :=
  let c0_i32_75 : BitVec 32 := 0#32
  let c1_i32_77 : BitVec 32 := 1#32
  let arg16 : BitVec 32 := Scf.iv c0_i32_75 c1_i32_77 k3_t13
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t14_loop : Scf.Loop 32 :=
  let c0_i32_80 : BitVec 32 := 0#32
  let c64_i32_81 : BitVec 32 := 64#32
  let v32 : BitVec 32 := Scalar.addi c0_i32_80 c64_i32_81
  let c1_i32_82 : BitVec 32 := 1#32
  ⟨c0_i32_80, v32, c1_i32_82⟩
def k3_off29 (k3_t14 : Fin k3_t14_loop.trips) : Fin 2 → Nat :=
  let c13_i32 : BitVec 32 := 13#32
  let v215 : Index := Scalar.indexCast c13_i32
  let c0_i32_80 : BitVec 32 := 0#32
  let c1_i32_82 : BitVec 32 := 1#32
  let arg16 : BitVec 32 := Scf.iv c0_i32_80 c1_i32_82 k3_t14
  let c16_i32_726 : BitVec 32 := 16#32
  let v211 : BitVec 32 := Scalar.muli arg16 c16_i32_726
  let v216 : Index := Scalar.indexCast v211
  ![13, v216.toNat]
def k3_off30 (k3_t14 : Fin k3_t14_loop.trips) (c208_i32 : BitVec 32) : Fin 2 → Nat :=
  let c0_i32_80 : BitVec 32 := 0#32
  let c1_i32_82 : BitVec 32 := 1#32
  let arg16 : BitVec 32 := Scf.iv c0_i32_80 c1_i32_82 k3_t14
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t15_loop : Scf.Loop 32 :=
  let c0_i32_85 : BitVec 32 := 0#32
  let c64_i32_86 : BitVec 32 := 64#32
  let v33 : BitVec 32 := Scalar.addi c0_i32_85 c64_i32_86
  let c1_i32_87 : BitVec 32 := 1#32
  ⟨c0_i32_85, v33, c1_i32_87⟩
def k3_off31 (k3_t15 : Fin k3_t15_loop.trips) : Fin 2 → Nat :=
  let c14_i32 : BitVec 32 := 14#32
  let v215 : Index := Scalar.indexCast c14_i32
  let c0_i32_85 : BitVec 32 := 0#32
  let c1_i32_87 : BitVec 32 := 1#32
  let arg16 : BitVec 32 := Scf.iv c0_i32_85 c1_i32_87 k3_t15
  let c16_i32_726 : BitVec 32 := 16#32
  let v211 : BitVec 32 := Scalar.muli arg16 c16_i32_726
  let v216 : Index := Scalar.indexCast v211
  ![14, v216.toNat]
def k3_off32 (k3_t15 : Fin k3_t15_loop.trips) (c224_i32 : BitVec 32) : Fin 2 → Nat :=
  let c0_i32_85 : BitVec 32 := 0#32
  let c1_i32_87 : BitVec 32 := 1#32
  let arg16 : BitVec 32 := Scf.iv c0_i32_85 c1_i32_87 k3_t15
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t16_loop : Scf.Loop 32 :=
  let c0_i32_90 : BitVec 32 := 0#32
  let c64_i32_91 : BitVec 32 := 64#32
  let v34 : BitVec 32 := Scalar.addi c0_i32_90 c64_i32_91
  let c1_i32_92 : BitVec 32 := 1#32
  ⟨c0_i32_90, v34, c1_i32_92⟩
def k3_off33 (k3_t16 : Fin k3_t16_loop.trips) : Fin 2 → Nat :=
  let c15_i32 : BitVec 32 := 15#32
  let v215 : Index := Scalar.indexCast c15_i32
  let c0_i32_90 : BitVec 32 := 0#32
  let c1_i32_92 : BitVec 32 := 1#32
  let arg16 : BitVec 32 := Scf.iv c0_i32_90 c1_i32_92 k3_t16
  let c16_i32_726 : BitVec 32 := 16#32
  let v211 : BitVec 32 := Scalar.muli arg16 c16_i32_726
  let v216 : Index := Scalar.indexCast v211
  ![15, v216.toNat]
def k3_off34 (k3_t16 : Fin k3_t16_loop.trips) (c240_i32 : BitVec 32) : Fin 2 → Nat :=
  let c0_i32_90 : BitVec 32 := 0#32
  let c1_i32_92 : BitVec 32 := 1#32
  let arg16 : BitVec 32 := Scf.iv c0_i32_90 c1_i32_92 k3_t16
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t17_loop : Scf.Loop 32 :=
  let c0_i32_106 : BitVec 32 := 0#32
  let c64_i32_107 : BitVec 32 := 64#32
  let v45 : BitVec 32 := Scalar.addi c0_i32_106 c64_i32_107
  let c1_i32_108 : BitVec 32 := 1#32
  ⟨c0_i32_106, v45, c1_i32_108⟩
def k3_off35 (k3_t17 : Fin k3_t17_loop.trips) : Fin 2 → Nat :=
  let c0_i32_728 : BitVec 32 := 0#32
  let v215 : Index := Scalar.indexCast c0_i32_728
  let c0_i32_106 : BitVec 32 := 0#32
  let c1_i32_108 : BitVec 32 := 1#32
  let arg16 : BitVec 32 := Scf.iv c0_i32_106 c1_i32_108 k3_t17
  let c16_i32_726 : BitVec 32 := 16#32
  let v211 : BitVec 32 := Scalar.muli arg16 c16_i32_726
  let v216 : Index := Scalar.indexCast v211
  ![0, v216.toNat]
def k3_off36 (k3_t17 : Fin k3_t17_loop.trips) (c0_i32_729 : BitVec 32) : Fin 2 → Nat :=
  let c0_i32_106 : BitVec 32 := 0#32
  let c1_i32_108 : BitVec 32 := 1#32
  let arg16 : BitVec 32 := Scf.iv c0_i32_106 c1_i32_108 k3_t17
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t18_loop : Scf.Loop 32 :=
  let c0_i32_111 : BitVec 32 := 0#32
  let c64_i32_112 : BitVec 32 := 64#32
  let v46 : BitVec 32 := Scalar.addi c0_i32_111 c64_i32_112
  let c1_i32_113 : BitVec 32 := 1#32
  ⟨c0_i32_111, v46, c1_i32_113⟩
def k3_off37 (k3_t18 : Fin k3_t18_loop.trips) : Fin 2 → Nat :=
  let c1_i32_728 : BitVec 32 := 1#32
  let v215 : Index := Scalar.indexCast c1_i32_728
  let c0_i32_111 : BitVec 32 := 0#32
  let c1_i32_113 : BitVec 32 := 1#32
  let arg16 : BitVec 32 := Scf.iv c0_i32_111 c1_i32_113 k3_t18
  let c16_i32_726 : BitVec 32 := 16#32
  let v211 : BitVec 32 := Scalar.muli arg16 c16_i32_726
  let v216 : Index := Scalar.indexCast v211
  ![1, v216.toNat]
def k3_off38 (k3_t18 : Fin k3_t18_loop.trips) (c16_i32_729 : BitVec 32) : Fin 2 → Nat :=
  let c0_i32_111 : BitVec 32 := 0#32
  let c1_i32_113 : BitVec 32 := 1#32
  let arg16 : BitVec 32 := Scf.iv c0_i32_111 c1_i32_113 k3_t18
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t19_loop : Scf.Loop 32 :=
  let c0_i32_116 : BitVec 32 := 0#32
  let c64_i32_117 : BitVec 32 := 64#32
  let v47 : BitVec 32 := Scalar.addi c0_i32_116 c64_i32_117
  let c1_i32_118 : BitVec 32 := 1#32
  ⟨c0_i32_116, v47, c1_i32_118⟩
def k3_off39 (k3_t19 : Fin k3_t19_loop.trips) : Fin 2 → Nat :=
  let c2_i32_728 : BitVec 32 := 2#32
  let v215 : Index := Scalar.indexCast c2_i32_728
  let c0_i32_116 : BitVec 32 := 0#32
  let c1_i32_118 : BitVec 32 := 1#32
  let arg16 : BitVec 32 := Scf.iv c0_i32_116 c1_i32_118 k3_t19
  let c16_i32_726 : BitVec 32 := 16#32
  let v211 : BitVec 32 := Scalar.muli arg16 c16_i32_726
  let v216 : Index := Scalar.indexCast v211
  ![2, v216.toNat]
def k3_off40 (k3_t19 : Fin k3_t19_loop.trips) (c32_i32_729 : BitVec 32) : Fin 2 → Nat :=
  let c0_i32_116 : BitVec 32 := 0#32
  let c1_i32_118 : BitVec 32 := 1#32
  let arg16 : BitVec 32 := Scf.iv c0_i32_116 c1_i32_118 k3_t19
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t20_loop : Scf.Loop 32 :=
  let c0_i32_121 : BitVec 32 := 0#32
  let c64_i32_122 : BitVec 32 := 64#32
  let v48 : BitVec 32 := Scalar.addi c0_i32_121 c64_i32_122
  let c1_i32_123 : BitVec 32 := 1#32
  ⟨c0_i32_121, v48, c1_i32_123⟩
def k3_off41 (k3_t20 : Fin k3_t20_loop.trips) : Fin 2 → Nat :=
  let c3_i32_728 : BitVec 32 := 3#32
  let v215 : Index := Scalar.indexCast c3_i32_728
  let c0_i32_121 : BitVec 32 := 0#32
  let c1_i32_123 : BitVec 32 := 1#32
  let arg16 : BitVec 32 := Scf.iv c0_i32_121 c1_i32_123 k3_t20
  let c16_i32_726 : BitVec 32 := 16#32
  let v211 : BitVec 32 := Scalar.muli arg16 c16_i32_726
  let v216 : Index := Scalar.indexCast v211
  ![3, v216.toNat]
def k3_off42 (k3_t20 : Fin k3_t20_loop.trips) (c48_i32_729 : BitVec 32) : Fin 2 → Nat :=
  let c0_i32_121 : BitVec 32 := 0#32
  let c1_i32_123 : BitVec 32 := 1#32
  let arg16 : BitVec 32 := Scf.iv c0_i32_121 c1_i32_123 k3_t20
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t21_loop : Scf.Loop 32 :=
  let c0_i32_126 : BitVec 32 := 0#32
  let c64_i32_127 : BitVec 32 := 64#32
  let v49 : BitVec 32 := Scalar.addi c0_i32_126 c64_i32_127
  let c1_i32_128 : BitVec 32 := 1#32
  ⟨c0_i32_126, v49, c1_i32_128⟩
def k3_off43 (k3_t21 : Fin k3_t21_loop.trips) : Fin 2 → Nat :=
  let c4_i32 : BitVec 32 := 4#32
  let v215 : Index := Scalar.indexCast c4_i32
  let c0_i32_126 : BitVec 32 := 0#32
  let c1_i32_128 : BitVec 32 := 1#32
  let arg16 : BitVec 32 := Scf.iv c0_i32_126 c1_i32_128 k3_t21
  let c16_i32_726 : BitVec 32 := 16#32
  let v211 : BitVec 32 := Scalar.muli arg16 c16_i32_726
  let v216 : Index := Scalar.indexCast v211
  ![4, v216.toNat]
def k3_off44 (k3_t21 : Fin k3_t21_loop.trips) (c64_i32_728 : BitVec 32) : Fin 2 → Nat :=
  let c0_i32_126 : BitVec 32 := 0#32
  let c1_i32_128 : BitVec 32 := 1#32
  let arg16 : BitVec 32 := Scf.iv c0_i32_126 c1_i32_128 k3_t21
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t22_loop : Scf.Loop 32 :=
  let c0_i32_131 : BitVec 32 := 0#32
  let c64_i32_132 : BitVec 32 := 64#32
  let v50 : BitVec 32 := Scalar.addi c0_i32_131 c64_i32_132
  let c1_i32_133 : BitVec 32 := 1#32
  ⟨c0_i32_131, v50, c1_i32_133⟩
def k3_off45 (k3_t22 : Fin k3_t22_loop.trips) : Fin 2 → Nat :=
  let c5_i32 : BitVec 32 := 5#32
  let v215 : Index := Scalar.indexCast c5_i32
  let c0_i32_131 : BitVec 32 := 0#32
  let c1_i32_133 : BitVec 32 := 1#32
  let arg16 : BitVec 32 := Scf.iv c0_i32_131 c1_i32_133 k3_t22
  let c16_i32_726 : BitVec 32 := 16#32
  let v211 : BitVec 32 := Scalar.muli arg16 c16_i32_726
  let v216 : Index := Scalar.indexCast v211
  ![5, v216.toNat]
def k3_off46 (k3_t22 : Fin k3_t22_loop.trips) (c80_i32_728 : BitVec 32) : Fin 2 → Nat :=
  let c0_i32_131 : BitVec 32 := 0#32
  let c1_i32_133 : BitVec 32 := 1#32
  let arg16 : BitVec 32 := Scf.iv c0_i32_131 c1_i32_133 k3_t22
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t23_loop : Scf.Loop 32 :=
  let c0_i32_136 : BitVec 32 := 0#32
  let c64_i32_137 : BitVec 32 := 64#32
  let v51 : BitVec 32 := Scalar.addi c0_i32_136 c64_i32_137
  let c1_i32_138 : BitVec 32 := 1#32
  ⟨c0_i32_136, v51, c1_i32_138⟩
def k3_off47 (k3_t23 : Fin k3_t23_loop.trips) : Fin 2 → Nat :=
  let c6_i32 : BitVec 32 := 6#32
  let v215 : Index := Scalar.indexCast c6_i32
  let c0_i32_136 : BitVec 32 := 0#32
  let c1_i32_138 : BitVec 32 := 1#32
  let arg16 : BitVec 32 := Scf.iv c0_i32_136 c1_i32_138 k3_t23
  let c16_i32_726 : BitVec 32 := 16#32
  let v211 : BitVec 32 := Scalar.muli arg16 c16_i32_726
  let v216 : Index := Scalar.indexCast v211
  ![6, v216.toNat]
def k3_off48 (k3_t23 : Fin k3_t23_loop.trips) (c96_i32_728 : BitVec 32) : Fin 2 → Nat :=
  let c0_i32_136 : BitVec 32 := 0#32
  let c1_i32_138 : BitVec 32 := 1#32
  let arg16 : BitVec 32 := Scf.iv c0_i32_136 c1_i32_138 k3_t23
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t24_loop : Scf.Loop 32 :=
  let c0_i32_141 : BitVec 32 := 0#32
  let c64_i32_142 : BitVec 32 := 64#32
  let v52 : BitVec 32 := Scalar.addi c0_i32_141 c64_i32_142
  let c1_i32_143 : BitVec 32 := 1#32
  ⟨c0_i32_141, v52, c1_i32_143⟩
def k3_off49 (k3_t24 : Fin k3_t24_loop.trips) : Fin 2 → Nat :=
  let c7_i32_728 : BitVec 32 := 7#32
  let v215 : Index := Scalar.indexCast c7_i32_728
  let c0_i32_141 : BitVec 32 := 0#32
  let c1_i32_143 : BitVec 32 := 1#32
  let arg16 : BitVec 32 := Scf.iv c0_i32_141 c1_i32_143 k3_t24
  let c16_i32_726 : BitVec 32 := 16#32
  let v211 : BitVec 32 := Scalar.muli arg16 c16_i32_726
  let v216 : Index := Scalar.indexCast v211
  ![7, v216.toNat]
def k3_off50 (k3_t24 : Fin k3_t24_loop.trips) (c112_i32_729 : BitVec 32) : Fin 2 → Nat :=
  let c0_i32_141 : BitVec 32 := 0#32
  let c1_i32_143 : BitVec 32 := 1#32
  let arg16 : BitVec 32 := Scf.iv c0_i32_141 c1_i32_143 k3_t24
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t25_loop : Scf.Loop 32 :=
  let c0_i32_146 : BitVec 32 := 0#32
  let c64_i32_147 : BitVec 32 := 64#32
  let v53 : BitVec 32 := Scalar.addi c0_i32_146 c64_i32_147
  let c1_i32_148 : BitVec 32 := 1#32
  ⟨c0_i32_146, v53, c1_i32_148⟩
def k3_off51 (k3_t25 : Fin k3_t25_loop.trips) : Fin 2 → Nat :=
  let c8_i32_728 : BitVec 32 := 8#32
  let v215 : Index := Scalar.indexCast c8_i32_728
  let c0_i32_146 : BitVec 32 := 0#32
  let c1_i32_148 : BitVec 32 := 1#32
  let arg16 : BitVec 32 := Scf.iv c0_i32_146 c1_i32_148 k3_t25
  let c16_i32_726 : BitVec 32 := 16#32
  let v211 : BitVec 32 := Scalar.muli arg16 c16_i32_726
  let v216 : Index := Scalar.indexCast v211
  ![8, v216.toNat]
def k3_off52 (k3_t25 : Fin k3_t25_loop.trips) (c128_i32_729 : BitVec 32) : Fin 2 → Nat :=
  let c0_i32_146 : BitVec 32 := 0#32
  let c1_i32_148 : BitVec 32 := 1#32
  let arg16 : BitVec 32 := Scf.iv c0_i32_146 c1_i32_148 k3_t25
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t26_loop : Scf.Loop 32 :=
  let c0_i32_151 : BitVec 32 := 0#32
  let c64_i32_152 : BitVec 32 := 64#32
  let v54 : BitVec 32 := Scalar.addi c0_i32_151 c64_i32_152
  let c1_i32_153 : BitVec 32 := 1#32
  ⟨c0_i32_151, v54, c1_i32_153⟩
def k3_off53 (k3_t26 : Fin k3_t26_loop.trips) : Fin 2 → Nat :=
  let c9_i32 : BitVec 32 := 9#32
  let v215 : Index := Scalar.indexCast c9_i32
  let c0_i32_151 : BitVec 32 := 0#32
  let c1_i32_153 : BitVec 32 := 1#32
  let arg16 : BitVec 32 := Scf.iv c0_i32_151 c1_i32_153 k3_t26
  let c16_i32_726 : BitVec 32 := 16#32
  let v211 : BitVec 32 := Scalar.muli arg16 c16_i32_726
  let v216 : Index := Scalar.indexCast v211
  ![9, v216.toNat]
def k3_off54 (k3_t26 : Fin k3_t26_loop.trips) (c144_i32 : BitVec 32) : Fin 2 → Nat :=
  let c0_i32_151 : BitVec 32 := 0#32
  let c1_i32_153 : BitVec 32 := 1#32
  let arg16 : BitVec 32 := Scf.iv c0_i32_151 c1_i32_153 k3_t26
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t27_loop : Scf.Loop 32 :=
  let c0_i32_156 : BitVec 32 := 0#32
  let c64_i32_157 : BitVec 32 := 64#32
  let v55 : BitVec 32 := Scalar.addi c0_i32_156 c64_i32_157
  let c1_i32_158 : BitVec 32 := 1#32
  ⟨c0_i32_156, v55, c1_i32_158⟩
def k3_off55 (k3_t27 : Fin k3_t27_loop.trips) : Fin 2 → Nat :=
  let c10_i32 : BitVec 32 := 10#32
  let v215 : Index := Scalar.indexCast c10_i32
  let c0_i32_156 : BitVec 32 := 0#32
  let c1_i32_158 : BitVec 32 := 1#32
  let arg16 : BitVec 32 := Scf.iv c0_i32_156 c1_i32_158 k3_t27
  let c16_i32_726 : BitVec 32 := 16#32
  let v211 : BitVec 32 := Scalar.muli arg16 c16_i32_726
  let v216 : Index := Scalar.indexCast v211
  ![10, v216.toNat]
def k3_off56 (k3_t27 : Fin k3_t27_loop.trips) (c160_i32 : BitVec 32) : Fin 2 → Nat :=
  let c0_i32_156 : BitVec 32 := 0#32
  let c1_i32_158 : BitVec 32 := 1#32
  let arg16 : BitVec 32 := Scf.iv c0_i32_156 c1_i32_158 k3_t27
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t28_loop : Scf.Loop 32 :=
  let c0_i32_161 : BitVec 32 := 0#32
  let c64_i32_162 : BitVec 32 := 64#32
  let v56 : BitVec 32 := Scalar.addi c0_i32_161 c64_i32_162
  let c1_i32_163 : BitVec 32 := 1#32
  ⟨c0_i32_161, v56, c1_i32_163⟩
def k3_off57 (k3_t28 : Fin k3_t28_loop.trips) : Fin 2 → Nat :=
  let c11_i32 : BitVec 32 := 11#32
  let v215 : Index := Scalar.indexCast c11_i32
  let c0_i32_161 : BitVec 32 := 0#32
  let c1_i32_163 : BitVec 32 := 1#32
  let arg16 : BitVec 32 := Scf.iv c0_i32_161 c1_i32_163 k3_t28
  let c16_i32_726 : BitVec 32 := 16#32
  let v211 : BitVec 32 := Scalar.muli arg16 c16_i32_726
  let v216 : Index := Scalar.indexCast v211
  ![11, v216.toNat]
def k3_off58 (k3_t28 : Fin k3_t28_loop.trips) (c176_i32 : BitVec 32) : Fin 2 → Nat :=
  let c0_i32_161 : BitVec 32 := 0#32
  let c1_i32_163 : BitVec 32 := 1#32
  let arg16 : BitVec 32 := Scf.iv c0_i32_161 c1_i32_163 k3_t28
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t29_loop : Scf.Loop 32 :=
  let c0_i32_166 : BitVec 32 := 0#32
  let c64_i32_167 : BitVec 32 := 64#32
  let v57 : BitVec 32 := Scalar.addi c0_i32_166 c64_i32_167
  let c1_i32_168 : BitVec 32 := 1#32
  ⟨c0_i32_166, v57, c1_i32_168⟩
def k3_off59 (k3_t29 : Fin k3_t29_loop.trips) : Fin 2 → Nat :=
  let c12_i32 : BitVec 32 := 12#32
  let v215 : Index := Scalar.indexCast c12_i32
  let c0_i32_166 : BitVec 32 := 0#32
  let c1_i32_168 : BitVec 32 := 1#32
  let arg16 : BitVec 32 := Scf.iv c0_i32_166 c1_i32_168 k3_t29
  let c16_i32_726 : BitVec 32 := 16#32
  let v211 : BitVec 32 := Scalar.muli arg16 c16_i32_726
  let v216 : Index := Scalar.indexCast v211
  ![12, v216.toNat]
def k3_off60 (k3_t29 : Fin k3_t29_loop.trips) (c192_i32 : BitVec 32) : Fin 2 → Nat :=
  let c0_i32_166 : BitVec 32 := 0#32
  let c1_i32_168 : BitVec 32 := 1#32
  let arg16 : BitVec 32 := Scf.iv c0_i32_166 c1_i32_168 k3_t29
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t30_loop : Scf.Loop 32 :=
  let c0_i32_171 : BitVec 32 := 0#32
  let c64_i32_172 : BitVec 32 := 64#32
  let v58 : BitVec 32 := Scalar.addi c0_i32_171 c64_i32_172
  let c1_i32_173 : BitVec 32 := 1#32
  ⟨c0_i32_171, v58, c1_i32_173⟩
def k3_off61 (k3_t30 : Fin k3_t30_loop.trips) : Fin 2 → Nat :=
  let c13_i32 : BitVec 32 := 13#32
  let v215 : Index := Scalar.indexCast c13_i32
  let c0_i32_171 : BitVec 32 := 0#32
  let c1_i32_173 : BitVec 32 := 1#32
  let arg16 : BitVec 32 := Scf.iv c0_i32_171 c1_i32_173 k3_t30
  let c16_i32_726 : BitVec 32 := 16#32
  let v211 : BitVec 32 := Scalar.muli arg16 c16_i32_726
  let v216 : Index := Scalar.indexCast v211
  ![13, v216.toNat]
def k3_off62 (k3_t30 : Fin k3_t30_loop.trips) (c208_i32 : BitVec 32) : Fin 2 → Nat :=
  let c0_i32_171 : BitVec 32 := 0#32
  let c1_i32_173 : BitVec 32 := 1#32
  let arg16 : BitVec 32 := Scf.iv c0_i32_171 c1_i32_173 k3_t30
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t31_loop : Scf.Loop 32 :=
  let c0_i32_176 : BitVec 32 := 0#32
  let c64_i32_177 : BitVec 32 := 64#32
  let v59 : BitVec 32 := Scalar.addi c0_i32_176 c64_i32_177
  let c1_i32_178 : BitVec 32 := 1#32
  ⟨c0_i32_176, v59, c1_i32_178⟩
def k3_off63 (k3_t31 : Fin k3_t31_loop.trips) : Fin 2 → Nat :=
  let c14_i32 : BitVec 32 := 14#32
  let v215 : Index := Scalar.indexCast c14_i32
  let c0_i32_176 : BitVec 32 := 0#32
  let c1_i32_178 : BitVec 32 := 1#32
  let arg16 : BitVec 32 := Scf.iv c0_i32_176 c1_i32_178 k3_t31
  let c16_i32_726 : BitVec 32 := 16#32
  let v211 : BitVec 32 := Scalar.muli arg16 c16_i32_726
  let v216 : Index := Scalar.indexCast v211
  ![14, v216.toNat]
def k3_off64 (k3_t31 : Fin k3_t31_loop.trips) (c224_i32 : BitVec 32) : Fin 2 → Nat :=
  let c0_i32_176 : BitVec 32 := 0#32
  let c1_i32_178 : BitVec 32 := 1#32
  let arg16 : BitVec 32 := Scf.iv c0_i32_176 c1_i32_178 k3_t31
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t32_loop : Scf.Loop 32 :=
  let c0_i32_181 : BitVec 32 := 0#32
  let c64_i32_182 : BitVec 32 := 64#32
  let v60 : BitVec 32 := Scalar.addi c0_i32_181 c64_i32_182
  let c1_i32_183 : BitVec 32 := 1#32
  ⟨c0_i32_181, v60, c1_i32_183⟩
def k3_off65 (k3_t32 : Fin k3_t32_loop.trips) : Fin 2 → Nat :=
  let c15_i32 : BitVec 32 := 15#32
  let v215 : Index := Scalar.indexCast c15_i32
  let c0_i32_181 : BitVec 32 := 0#32
  let c1_i32_183 : BitVec 32 := 1#32
  let arg16 : BitVec 32 := Scf.iv c0_i32_181 c1_i32_183 k3_t32
  let c16_i32_726 : BitVec 32 := 16#32
  let v211 : BitVec 32 := Scalar.muli arg16 c16_i32_726
  let v216 : Index := Scalar.indexCast v211
  ![15, v216.toNat]
def k3_off66 (k3_t32 : Fin k3_t32_loop.trips) (c240_i32 : BitVec 32) : Fin 2 → Nat :=
  let c0_i32_181 : BitVec 32 := 0#32
  let c1_i32_183 : BitVec 32 := 1#32
  let arg16 : BitVec 32 := Scf.iv c0_i32_181 c1_i32_183 k3_t32
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t33_loop : Scf.Loop 32 :=
  let c0_i32_197 : BitVec 32 := 0#32
  let c64_i32_198 : BitVec 32 := 64#32
  let v71 : BitVec 32 := Scalar.addi c0_i32_197 c64_i32_198
  let c1_i32_199 : BitVec 32 := 1#32
  ⟨c0_i32_197, v71, c1_i32_199⟩
def k3_off67 (k3_t33 : Fin k3_t33_loop.trips) : Fin 2 → Nat :=
  let c0_i32_728 : BitVec 32 := 0#32
  let v215 : Index := Scalar.indexCast c0_i32_728
  let c0_i32_197 : BitVec 32 := 0#32
  let c1_i32_199 : BitVec 32 := 1#32
  let arg16 : BitVec 32 := Scf.iv c0_i32_197 c1_i32_199 k3_t33
  let c16_i32_726 : BitVec 32 := 16#32
  let v211 : BitVec 32 := Scalar.muli arg16 c16_i32_726
  let v216 : Index := Scalar.indexCast v211
  ![0, v216.toNat]
def k3_off68 (k3_t33 : Fin k3_t33_loop.trips) (c0_i32_729 : BitVec 32) : Fin 2 → Nat :=
  let c0_i32_197 : BitVec 32 := 0#32
  let c1_i32_199 : BitVec 32 := 1#32
  let arg16 : BitVec 32 := Scf.iv c0_i32_197 c1_i32_199 k3_t33
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t34_loop : Scf.Loop 32 :=
  let c0_i32_202 : BitVec 32 := 0#32
  let c64_i32_203 : BitVec 32 := 64#32
  let v72 : BitVec 32 := Scalar.addi c0_i32_202 c64_i32_203
  let c1_i32_204 : BitVec 32 := 1#32
  ⟨c0_i32_202, v72, c1_i32_204⟩
def k3_off69 (k3_t34 : Fin k3_t34_loop.trips) : Fin 2 → Nat :=
  let c1_i32_728 : BitVec 32 := 1#32
  let v215 : Index := Scalar.indexCast c1_i32_728
  let c0_i32_202 : BitVec 32 := 0#32
  let c1_i32_204 : BitVec 32 := 1#32
  let arg16 : BitVec 32 := Scf.iv c0_i32_202 c1_i32_204 k3_t34
  let c16_i32_726 : BitVec 32 := 16#32
  let v211 : BitVec 32 := Scalar.muli arg16 c16_i32_726
  let v216 : Index := Scalar.indexCast v211
  ![1, v216.toNat]
def k3_off70 (k3_t34 : Fin k3_t34_loop.trips) (c16_i32_729 : BitVec 32) : Fin 2 → Nat :=
  let c0_i32_202 : BitVec 32 := 0#32
  let c1_i32_204 : BitVec 32 := 1#32
  let arg16 : BitVec 32 := Scf.iv c0_i32_202 c1_i32_204 k3_t34
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t35_loop : Scf.Loop 32 :=
  let c0_i32_207 : BitVec 32 := 0#32
  let c64_i32_208 : BitVec 32 := 64#32
  let v73 : BitVec 32 := Scalar.addi c0_i32_207 c64_i32_208
  let c1_i32_209 : BitVec 32 := 1#32
  ⟨c0_i32_207, v73, c1_i32_209⟩
def k3_off71 (k3_t35 : Fin k3_t35_loop.trips) : Fin 2 → Nat :=
  let c2_i32_728 : BitVec 32 := 2#32
  let v215 : Index := Scalar.indexCast c2_i32_728
  let c0_i32_207 : BitVec 32 := 0#32
  let c1_i32_209 : BitVec 32 := 1#32
  let arg16 : BitVec 32 := Scf.iv c0_i32_207 c1_i32_209 k3_t35
  let c16_i32_726 : BitVec 32 := 16#32
  let v211 : BitVec 32 := Scalar.muli arg16 c16_i32_726
  let v216 : Index := Scalar.indexCast v211
  ![2, v216.toNat]
def k3_off72 (k3_t35 : Fin k3_t35_loop.trips) (c32_i32_729 : BitVec 32) : Fin 2 → Nat :=
  let c0_i32_207 : BitVec 32 := 0#32
  let c1_i32_209 : BitVec 32 := 1#32
  let arg16 : BitVec 32 := Scf.iv c0_i32_207 c1_i32_209 k3_t35
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t36_loop : Scf.Loop 32 :=
  let c0_i32_212 : BitVec 32 := 0#32
  let c64_i32_213 : BitVec 32 := 64#32
  let v74 : BitVec 32 := Scalar.addi c0_i32_212 c64_i32_213
  let c1_i32_214 : BitVec 32 := 1#32
  ⟨c0_i32_212, v74, c1_i32_214⟩
def k3_off73 (k3_t36 : Fin k3_t36_loop.trips) : Fin 2 → Nat :=
  let c3_i32_728 : BitVec 32 := 3#32
  let v215 : Index := Scalar.indexCast c3_i32_728
  let c0_i32_212 : BitVec 32 := 0#32
  let c1_i32_214 : BitVec 32 := 1#32
  let arg16 : BitVec 32 := Scf.iv c0_i32_212 c1_i32_214 k3_t36
  let c16_i32_726 : BitVec 32 := 16#32
  let v211 : BitVec 32 := Scalar.muli arg16 c16_i32_726
  let v216 : Index := Scalar.indexCast v211
  ![3, v216.toNat]
def k3_off74 (k3_t36 : Fin k3_t36_loop.trips) (c48_i32_729 : BitVec 32) : Fin 2 → Nat :=
  let c0_i32_212 : BitVec 32 := 0#32
  let c1_i32_214 : BitVec 32 := 1#32
  let arg16 : BitVec 32 := Scf.iv c0_i32_212 c1_i32_214 k3_t36
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t37_loop : Scf.Loop 32 :=
  let c0_i32_217 : BitVec 32 := 0#32
  let c64_i32_218 : BitVec 32 := 64#32
  let v75 : BitVec 32 := Scalar.addi c0_i32_217 c64_i32_218
  let c1_i32_219 : BitVec 32 := 1#32
  ⟨c0_i32_217, v75, c1_i32_219⟩
def k3_off75 (k3_t37 : Fin k3_t37_loop.trips) : Fin 2 → Nat :=
  let c4_i32 : BitVec 32 := 4#32
  let v215 : Index := Scalar.indexCast c4_i32
  let c0_i32_217 : BitVec 32 := 0#32
  let c1_i32_219 : BitVec 32 := 1#32
  let arg16 : BitVec 32 := Scf.iv c0_i32_217 c1_i32_219 k3_t37
  let c16_i32_726 : BitVec 32 := 16#32
  let v211 : BitVec 32 := Scalar.muli arg16 c16_i32_726
  let v216 : Index := Scalar.indexCast v211
  ![4, v216.toNat]
def k3_off76 (k3_t37 : Fin k3_t37_loop.trips) (c64_i32_728 : BitVec 32) : Fin 2 → Nat :=
  let c0_i32_217 : BitVec 32 := 0#32
  let c1_i32_219 : BitVec 32 := 1#32
  let arg16 : BitVec 32 := Scf.iv c0_i32_217 c1_i32_219 k3_t37
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t38_loop : Scf.Loop 32 :=
  let c0_i32_222 : BitVec 32 := 0#32
  let c64_i32_223 : BitVec 32 := 64#32
  let v76 : BitVec 32 := Scalar.addi c0_i32_222 c64_i32_223
  let c1_i32_224 : BitVec 32 := 1#32
  ⟨c0_i32_222, v76, c1_i32_224⟩
def k3_off77 (k3_t38 : Fin k3_t38_loop.trips) : Fin 2 → Nat :=
  let c5_i32 : BitVec 32 := 5#32
  let v215 : Index := Scalar.indexCast c5_i32
  let c0_i32_222 : BitVec 32 := 0#32
  let c1_i32_224 : BitVec 32 := 1#32
  let arg16 : BitVec 32 := Scf.iv c0_i32_222 c1_i32_224 k3_t38
  let c16_i32_726 : BitVec 32 := 16#32
  let v211 : BitVec 32 := Scalar.muli arg16 c16_i32_726
  let v216 : Index := Scalar.indexCast v211
  ![5, v216.toNat]
def k3_off78 (k3_t38 : Fin k3_t38_loop.trips) (c80_i32_728 : BitVec 32) : Fin 2 → Nat :=
  let c0_i32_222 : BitVec 32 := 0#32
  let c1_i32_224 : BitVec 32 := 1#32
  let arg16 : BitVec 32 := Scf.iv c0_i32_222 c1_i32_224 k3_t38
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t39_loop : Scf.Loop 32 :=
  let c0_i32_227 : BitVec 32 := 0#32
  let c64_i32_228 : BitVec 32 := 64#32
  let v77 : BitVec 32 := Scalar.addi c0_i32_227 c64_i32_228
  let c1_i32_229 : BitVec 32 := 1#32
  ⟨c0_i32_227, v77, c1_i32_229⟩
def k3_off79 (k3_t39 : Fin k3_t39_loop.trips) : Fin 2 → Nat :=
  let c6_i32 : BitVec 32 := 6#32
  let v215 : Index := Scalar.indexCast c6_i32
  let c0_i32_227 : BitVec 32 := 0#32
  let c1_i32_229 : BitVec 32 := 1#32
  let arg16 : BitVec 32 := Scf.iv c0_i32_227 c1_i32_229 k3_t39
  let c16_i32_726 : BitVec 32 := 16#32
  let v211 : BitVec 32 := Scalar.muli arg16 c16_i32_726
  let v216 : Index := Scalar.indexCast v211
  ![6, v216.toNat]
def k3_off80 (k3_t39 : Fin k3_t39_loop.trips) (c96_i32_728 : BitVec 32) : Fin 2 → Nat :=
  let c0_i32_227 : BitVec 32 := 0#32
  let c1_i32_229 : BitVec 32 := 1#32
  let arg16 : BitVec 32 := Scf.iv c0_i32_227 c1_i32_229 k3_t39
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t40_loop : Scf.Loop 32 :=
  let c0_i32_232 : BitVec 32 := 0#32
  let c64_i32_233 : BitVec 32 := 64#32
  let v78 : BitVec 32 := Scalar.addi c0_i32_232 c64_i32_233
  let c1_i32_234 : BitVec 32 := 1#32
  ⟨c0_i32_232, v78, c1_i32_234⟩
def k3_off81 (k3_t40 : Fin k3_t40_loop.trips) : Fin 2 → Nat :=
  let c7_i32_728 : BitVec 32 := 7#32
  let v215 : Index := Scalar.indexCast c7_i32_728
  let c0_i32_232 : BitVec 32 := 0#32
  let c1_i32_234 : BitVec 32 := 1#32
  let arg16 : BitVec 32 := Scf.iv c0_i32_232 c1_i32_234 k3_t40
  let c16_i32_726 : BitVec 32 := 16#32
  let v211 : BitVec 32 := Scalar.muli arg16 c16_i32_726
  let v216 : Index := Scalar.indexCast v211
  ![7, v216.toNat]
def k3_off82 (k3_t40 : Fin k3_t40_loop.trips) (c112_i32_729 : BitVec 32) : Fin 2 → Nat :=
  let c0_i32_232 : BitVec 32 := 0#32
  let c1_i32_234 : BitVec 32 := 1#32
  let arg16 : BitVec 32 := Scf.iv c0_i32_232 c1_i32_234 k3_t40
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t41_loop : Scf.Loop 32 :=
  let c0_i32_237 : BitVec 32 := 0#32
  let c64_i32_238 : BitVec 32 := 64#32
  let v79 : BitVec 32 := Scalar.addi c0_i32_237 c64_i32_238
  let c1_i32_239 : BitVec 32 := 1#32
  ⟨c0_i32_237, v79, c1_i32_239⟩
def k3_off83 (k3_t41 : Fin k3_t41_loop.trips) : Fin 2 → Nat :=
  let c8_i32_728 : BitVec 32 := 8#32
  let v215 : Index := Scalar.indexCast c8_i32_728
  let c0_i32_237 : BitVec 32 := 0#32
  let c1_i32_239 : BitVec 32 := 1#32
  let arg16 : BitVec 32 := Scf.iv c0_i32_237 c1_i32_239 k3_t41
  let c16_i32_726 : BitVec 32 := 16#32
  let v211 : BitVec 32 := Scalar.muli arg16 c16_i32_726
  let v216 : Index := Scalar.indexCast v211
  ![8, v216.toNat]
def k3_off84 (k3_t41 : Fin k3_t41_loop.trips) (c128_i32_729 : BitVec 32) : Fin 2 → Nat :=
  let c0_i32_237 : BitVec 32 := 0#32
  let c1_i32_239 : BitVec 32 := 1#32
  let arg16 : BitVec 32 := Scf.iv c0_i32_237 c1_i32_239 k3_t41
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t42_loop : Scf.Loop 32 :=
  let c0_i32_242 : BitVec 32 := 0#32
  let c64_i32_243 : BitVec 32 := 64#32
  let v80 : BitVec 32 := Scalar.addi c0_i32_242 c64_i32_243
  let c1_i32_244 : BitVec 32 := 1#32
  ⟨c0_i32_242, v80, c1_i32_244⟩
def k3_off85 (k3_t42 : Fin k3_t42_loop.trips) : Fin 2 → Nat :=
  let c9_i32 : BitVec 32 := 9#32
  let v215 : Index := Scalar.indexCast c9_i32
  let c0_i32_242 : BitVec 32 := 0#32
  let c1_i32_244 : BitVec 32 := 1#32
  let arg16 : BitVec 32 := Scf.iv c0_i32_242 c1_i32_244 k3_t42
  let c16_i32_726 : BitVec 32 := 16#32
  let v211 : BitVec 32 := Scalar.muli arg16 c16_i32_726
  let v216 : Index := Scalar.indexCast v211
  ![9, v216.toNat]
def k3_off86 (k3_t42 : Fin k3_t42_loop.trips) (c144_i32 : BitVec 32) : Fin 2 → Nat :=
  let c0_i32_242 : BitVec 32 := 0#32
  let c1_i32_244 : BitVec 32 := 1#32
  let arg16 : BitVec 32 := Scf.iv c0_i32_242 c1_i32_244 k3_t42
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t43_loop : Scf.Loop 32 :=
  let c0_i32_247 : BitVec 32 := 0#32
  let c64_i32_248 : BitVec 32 := 64#32
  let v81 : BitVec 32 := Scalar.addi c0_i32_247 c64_i32_248
  let c1_i32_249 : BitVec 32 := 1#32
  ⟨c0_i32_247, v81, c1_i32_249⟩
def k3_off87 (k3_t43 : Fin k3_t43_loop.trips) : Fin 2 → Nat :=
  let c10_i32 : BitVec 32 := 10#32
  let v215 : Index := Scalar.indexCast c10_i32
  let c0_i32_247 : BitVec 32 := 0#32
  let c1_i32_249 : BitVec 32 := 1#32
  let arg16 : BitVec 32 := Scf.iv c0_i32_247 c1_i32_249 k3_t43
  let c16_i32_726 : BitVec 32 := 16#32
  let v211 : BitVec 32 := Scalar.muli arg16 c16_i32_726
  let v216 : Index := Scalar.indexCast v211
  ![10, v216.toNat]
def k3_off88 (k3_t43 : Fin k3_t43_loop.trips) (c160_i32 : BitVec 32) : Fin 2 → Nat :=
  let c0_i32_247 : BitVec 32 := 0#32
  let c1_i32_249 : BitVec 32 := 1#32
  let arg16 : BitVec 32 := Scf.iv c0_i32_247 c1_i32_249 k3_t43
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t44_loop : Scf.Loop 32 :=
  let c0_i32_252 : BitVec 32 := 0#32
  let c64_i32_253 : BitVec 32 := 64#32
  let v82 : BitVec 32 := Scalar.addi c0_i32_252 c64_i32_253
  let c1_i32_254 : BitVec 32 := 1#32
  ⟨c0_i32_252, v82, c1_i32_254⟩
def k3_off89 (k3_t44 : Fin k3_t44_loop.trips) : Fin 2 → Nat :=
  let c11_i32 : BitVec 32 := 11#32
  let v215 : Index := Scalar.indexCast c11_i32
  let c0_i32_252 : BitVec 32 := 0#32
  let c1_i32_254 : BitVec 32 := 1#32
  let arg16 : BitVec 32 := Scf.iv c0_i32_252 c1_i32_254 k3_t44
  let c16_i32_726 : BitVec 32 := 16#32
  let v211 : BitVec 32 := Scalar.muli arg16 c16_i32_726
  let v216 : Index := Scalar.indexCast v211
  ![11, v216.toNat]
def k3_off90 (k3_t44 : Fin k3_t44_loop.trips) (c176_i32 : BitVec 32) : Fin 2 → Nat :=
  let c0_i32_252 : BitVec 32 := 0#32
  let c1_i32_254 : BitVec 32 := 1#32
  let arg16 : BitVec 32 := Scf.iv c0_i32_252 c1_i32_254 k3_t44
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t45_loop : Scf.Loop 32 :=
  let c0_i32_257 : BitVec 32 := 0#32
  let c64_i32_258 : BitVec 32 := 64#32
  let v83 : BitVec 32 := Scalar.addi c0_i32_257 c64_i32_258
  let c1_i32_259 : BitVec 32 := 1#32
  ⟨c0_i32_257, v83, c1_i32_259⟩
def k3_off91 (k3_t45 : Fin k3_t45_loop.trips) : Fin 2 → Nat :=
  let c12_i32 : BitVec 32 := 12#32
  let v215 : Index := Scalar.indexCast c12_i32
  let c0_i32_257 : BitVec 32 := 0#32
  let c1_i32_259 : BitVec 32 := 1#32
  let arg16 : BitVec 32 := Scf.iv c0_i32_257 c1_i32_259 k3_t45
  let c16_i32_726 : BitVec 32 := 16#32
  let v211 : BitVec 32 := Scalar.muli arg16 c16_i32_726
  let v216 : Index := Scalar.indexCast v211
  ![12, v216.toNat]
def k3_off92 (k3_t45 : Fin k3_t45_loop.trips) (c192_i32 : BitVec 32) : Fin 2 → Nat :=
  let c0_i32_257 : BitVec 32 := 0#32
  let c1_i32_259 : BitVec 32 := 1#32
  let arg16 : BitVec 32 := Scf.iv c0_i32_257 c1_i32_259 k3_t45
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t46_loop : Scf.Loop 32 :=
  let c0_i32_262 : BitVec 32 := 0#32
  let c64_i32_263 : BitVec 32 := 64#32
  let v84 : BitVec 32 := Scalar.addi c0_i32_262 c64_i32_263
  let c1_i32_264 : BitVec 32 := 1#32
  ⟨c0_i32_262, v84, c1_i32_264⟩
def k3_off93 (k3_t46 : Fin k3_t46_loop.trips) : Fin 2 → Nat :=
  let c13_i32 : BitVec 32 := 13#32
  let v215 : Index := Scalar.indexCast c13_i32
  let c0_i32_262 : BitVec 32 := 0#32
  let c1_i32_264 : BitVec 32 := 1#32
  let arg16 : BitVec 32 := Scf.iv c0_i32_262 c1_i32_264 k3_t46
  let c16_i32_726 : BitVec 32 := 16#32
  let v211 : BitVec 32 := Scalar.muli arg16 c16_i32_726
  let v216 : Index := Scalar.indexCast v211
  ![13, v216.toNat]
def k3_off94 (k3_t46 : Fin k3_t46_loop.trips) (c208_i32 : BitVec 32) : Fin 2 → Nat :=
  let c0_i32_262 : BitVec 32 := 0#32
  let c1_i32_264 : BitVec 32 := 1#32
  let arg16 : BitVec 32 := Scf.iv c0_i32_262 c1_i32_264 k3_t46
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t47_loop : Scf.Loop 32 :=
  let c0_i32_267 : BitVec 32 := 0#32
  let c64_i32_268 : BitVec 32 := 64#32
  let v85 : BitVec 32 := Scalar.addi c0_i32_267 c64_i32_268
  let c1_i32_269 : BitVec 32 := 1#32
  ⟨c0_i32_267, v85, c1_i32_269⟩
def k3_off95 (k3_t47 : Fin k3_t47_loop.trips) : Fin 2 → Nat :=
  let c14_i32 : BitVec 32 := 14#32
  let v215 : Index := Scalar.indexCast c14_i32
  let c0_i32_267 : BitVec 32 := 0#32
  let c1_i32_269 : BitVec 32 := 1#32
  let arg16 : BitVec 32 := Scf.iv c0_i32_267 c1_i32_269 k3_t47
  let c16_i32_726 : BitVec 32 := 16#32
  let v211 : BitVec 32 := Scalar.muli arg16 c16_i32_726
  let v216 : Index := Scalar.indexCast v211
  ![14, v216.toNat]
def k3_off96 (k3_t47 : Fin k3_t47_loop.trips) (c224_i32 : BitVec 32) : Fin 2 → Nat :=
  let c0_i32_267 : BitVec 32 := 0#32
  let c1_i32_269 : BitVec 32 := 1#32
  let arg16 : BitVec 32 := Scf.iv c0_i32_267 c1_i32_269 k3_t47
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t48_loop : Scf.Loop 32 :=
  let c0_i32_272 : BitVec 32 := 0#32
  let c64_i32_273 : BitVec 32 := 64#32
  let v86 : BitVec 32 := Scalar.addi c0_i32_272 c64_i32_273
  let c1_i32_274 : BitVec 32 := 1#32
  ⟨c0_i32_272, v86, c1_i32_274⟩
def k3_off97 (k3_t48 : Fin k3_t48_loop.trips) : Fin 2 → Nat :=
  let c15_i32 : BitVec 32 := 15#32
  let v215 : Index := Scalar.indexCast c15_i32
  let c0_i32_272 : BitVec 32 := 0#32
  let c1_i32_274 : BitVec 32 := 1#32
  let arg16 : BitVec 32 := Scf.iv c0_i32_272 c1_i32_274 k3_t48
  let c16_i32_726 : BitVec 32 := 16#32
  let v211 : BitVec 32 := Scalar.muli arg16 c16_i32_726
  let v216 : Index := Scalar.indexCast v211
  ![15, v216.toNat]
def k3_off98 (k3_t48 : Fin k3_t48_loop.trips) (c240_i32 : BitVec 32) : Fin 2 → Nat :=
  let c0_i32_272 : BitVec 32 := 0#32
  let c1_i32_274 : BitVec 32 := 1#32
  let arg16 : BitVec 32 := Scf.iv c0_i32_272 c1_i32_274 k3_t48
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t49_loop : Scf.Loop 32 :=
  let c0_i32_289 : BitVec 32 := 0#32
  let c64_i32_290 : BitVec 32 := 64#32
  let v97 : BitVec 32 := Scalar.addi c0_i32_289 c64_i32_290
  let c1_i32_291 : BitVec 32 := 1#32
  ⟨c0_i32_289, v97, c1_i32_291⟩
def k3_off99 (k3_t49 : Fin k3_t49_loop.trips) : Fin 2 → Nat :=
  let c0_i32_728 : BitVec 32 := 0#32
  let v215 : Index := Scalar.indexCast c0_i32_728
  let c0_i32_289 : BitVec 32 := 0#32
  let c1_i32_291 : BitVec 32 := 1#32
  let arg16 : BitVec 32 := Scf.iv c0_i32_289 c1_i32_291 k3_t49
  let c16_i32_726 : BitVec 32 := 16#32
  let v211 : BitVec 32 := Scalar.muli arg16 c16_i32_726
  let v216 : Index := Scalar.indexCast v211
  ![0, v216.toNat]
def k3_off100 (k3_t49 : Fin k3_t49_loop.trips) (c0_i32_729 : BitVec 32) : Fin 2 → Nat :=
  let c0_i32_289 : BitVec 32 := 0#32
  let c1_i32_291 : BitVec 32 := 1#32
  let arg16 : BitVec 32 := Scf.iv c0_i32_289 c1_i32_291 k3_t49
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t50_loop : Scf.Loop 32 :=
  let c0_i32_294 : BitVec 32 := 0#32
  let c64_i32_295 : BitVec 32 := 64#32
  let v98 : BitVec 32 := Scalar.addi c0_i32_294 c64_i32_295
  let c1_i32_296 : BitVec 32 := 1#32
  ⟨c0_i32_294, v98, c1_i32_296⟩
def k3_off101 (k3_t50 : Fin k3_t50_loop.trips) : Fin 2 → Nat :=
  let c1_i32_728 : BitVec 32 := 1#32
  let v215 : Index := Scalar.indexCast c1_i32_728
  let c0_i32_294 : BitVec 32 := 0#32
  let c1_i32_296 : BitVec 32 := 1#32
  let arg16 : BitVec 32 := Scf.iv c0_i32_294 c1_i32_296 k3_t50
  let c16_i32_726 : BitVec 32 := 16#32
  let v211 : BitVec 32 := Scalar.muli arg16 c16_i32_726
  let v216 : Index := Scalar.indexCast v211
  ![1, v216.toNat]
def k3_off102 (k3_t50 : Fin k3_t50_loop.trips) (c16_i32_729 : BitVec 32) : Fin 2 → Nat :=
  let c0_i32_294 : BitVec 32 := 0#32
  let c1_i32_296 : BitVec 32 := 1#32
  let arg16 : BitVec 32 := Scf.iv c0_i32_294 c1_i32_296 k3_t50
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t51_loop : Scf.Loop 32 :=
  let c0_i32_299 : BitVec 32 := 0#32
  let c64_i32_300 : BitVec 32 := 64#32
  let v99 : BitVec 32 := Scalar.addi c0_i32_299 c64_i32_300
  let c1_i32_301 : BitVec 32 := 1#32
  ⟨c0_i32_299, v99, c1_i32_301⟩
def k3_off103 (k3_t51 : Fin k3_t51_loop.trips) : Fin 2 → Nat :=
  let c2_i32_728 : BitVec 32 := 2#32
  let v215 : Index := Scalar.indexCast c2_i32_728
  let c0_i32_299 : BitVec 32 := 0#32
  let c1_i32_301 : BitVec 32 := 1#32
  let arg16 : BitVec 32 := Scf.iv c0_i32_299 c1_i32_301 k3_t51
  let c16_i32_726 : BitVec 32 := 16#32
  let v211 : BitVec 32 := Scalar.muli arg16 c16_i32_726
  let v216 : Index := Scalar.indexCast v211
  ![2, v216.toNat]
def k3_off104 (k3_t51 : Fin k3_t51_loop.trips) (c32_i32_729 : BitVec 32) : Fin 2 → Nat :=
  let c0_i32_299 : BitVec 32 := 0#32
  let c1_i32_301 : BitVec 32 := 1#32
  let arg16 : BitVec 32 := Scf.iv c0_i32_299 c1_i32_301 k3_t51
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t52_loop : Scf.Loop 32 :=
  let c0_i32_304 : BitVec 32 := 0#32
  let c64_i32_305 : BitVec 32 := 64#32
  let v100 : BitVec 32 := Scalar.addi c0_i32_304 c64_i32_305
  let c1_i32_306 : BitVec 32 := 1#32
  ⟨c0_i32_304, v100, c1_i32_306⟩
def k3_off105 (k3_t52 : Fin k3_t52_loop.trips) : Fin 2 → Nat :=
  let c3_i32_728 : BitVec 32 := 3#32
  let v215 : Index := Scalar.indexCast c3_i32_728
  let c0_i32_304 : BitVec 32 := 0#32
  let c1_i32_306 : BitVec 32 := 1#32
  let arg16 : BitVec 32 := Scf.iv c0_i32_304 c1_i32_306 k3_t52
  let c16_i32_726 : BitVec 32 := 16#32
  let v211 : BitVec 32 := Scalar.muli arg16 c16_i32_726
  let v216 : Index := Scalar.indexCast v211
  ![3, v216.toNat]
def k3_off106 (k3_t52 : Fin k3_t52_loop.trips) (c48_i32_729 : BitVec 32) : Fin 2 → Nat :=
  let c0_i32_304 : BitVec 32 := 0#32
  let c1_i32_306 : BitVec 32 := 1#32
  let arg16 : BitVec 32 := Scf.iv c0_i32_304 c1_i32_306 k3_t52
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t53_loop : Scf.Loop 32 :=
  let c0_i32_309 : BitVec 32 := 0#32
  let c64_i32_310 : BitVec 32 := 64#32
  let v101 : BitVec 32 := Scalar.addi c0_i32_309 c64_i32_310
  let c1_i32_311 : BitVec 32 := 1#32
  ⟨c0_i32_309, v101, c1_i32_311⟩
def k3_off107 (k3_t53 : Fin k3_t53_loop.trips) : Fin 2 → Nat :=
  let c4_i32 : BitVec 32 := 4#32
  let v215 : Index := Scalar.indexCast c4_i32
  let c0_i32_309 : BitVec 32 := 0#32
  let c1_i32_311 : BitVec 32 := 1#32
  let arg16 : BitVec 32 := Scf.iv c0_i32_309 c1_i32_311 k3_t53
  let c16_i32_726 : BitVec 32 := 16#32
  let v211 : BitVec 32 := Scalar.muli arg16 c16_i32_726
  let v216 : Index := Scalar.indexCast v211
  ![4, v216.toNat]
def k3_off108 (k3_t53 : Fin k3_t53_loop.trips) (c64_i32_728 : BitVec 32) : Fin 2 → Nat :=
  let c0_i32_309 : BitVec 32 := 0#32
  let c1_i32_311 : BitVec 32 := 1#32
  let arg16 : BitVec 32 := Scf.iv c0_i32_309 c1_i32_311 k3_t53
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t54_loop : Scf.Loop 32 :=
  let c0_i32_314 : BitVec 32 := 0#32
  let c64_i32_315 : BitVec 32 := 64#32
  let v102 : BitVec 32 := Scalar.addi c0_i32_314 c64_i32_315
  let c1_i32_316 : BitVec 32 := 1#32
  ⟨c0_i32_314, v102, c1_i32_316⟩
def k3_off109 (k3_t54 : Fin k3_t54_loop.trips) : Fin 2 → Nat :=
  let c5_i32 : BitVec 32 := 5#32
  let v215 : Index := Scalar.indexCast c5_i32
  let c0_i32_314 : BitVec 32 := 0#32
  let c1_i32_316 : BitVec 32 := 1#32
  let arg16 : BitVec 32 := Scf.iv c0_i32_314 c1_i32_316 k3_t54
  let c16_i32_726 : BitVec 32 := 16#32
  let v211 : BitVec 32 := Scalar.muli arg16 c16_i32_726
  let v216 : Index := Scalar.indexCast v211
  ![5, v216.toNat]
def k3_off110 (k3_t54 : Fin k3_t54_loop.trips) (c80_i32_728 : BitVec 32) : Fin 2 → Nat :=
  let c0_i32_314 : BitVec 32 := 0#32
  let c1_i32_316 : BitVec 32 := 1#32
  let arg16 : BitVec 32 := Scf.iv c0_i32_314 c1_i32_316 k3_t54
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t55_loop : Scf.Loop 32 :=
  let c0_i32_319 : BitVec 32 := 0#32
  let c64_i32_320 : BitVec 32 := 64#32
  let v103 : BitVec 32 := Scalar.addi c0_i32_319 c64_i32_320
  let c1_i32_321 : BitVec 32 := 1#32
  ⟨c0_i32_319, v103, c1_i32_321⟩
def k3_off111 (k3_t55 : Fin k3_t55_loop.trips) : Fin 2 → Nat :=
  let c6_i32 : BitVec 32 := 6#32
  let v215 : Index := Scalar.indexCast c6_i32
  let c0_i32_319 : BitVec 32 := 0#32
  let c1_i32_321 : BitVec 32 := 1#32
  let arg16 : BitVec 32 := Scf.iv c0_i32_319 c1_i32_321 k3_t55
  let c16_i32_726 : BitVec 32 := 16#32
  let v211 : BitVec 32 := Scalar.muli arg16 c16_i32_726
  let v216 : Index := Scalar.indexCast v211
  ![6, v216.toNat]
def k3_off112 (k3_t55 : Fin k3_t55_loop.trips) (c96_i32_728 : BitVec 32) : Fin 2 → Nat :=
  let c0_i32_319 : BitVec 32 := 0#32
  let c1_i32_321 : BitVec 32 := 1#32
  let arg16 : BitVec 32 := Scf.iv c0_i32_319 c1_i32_321 k3_t55
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t56_loop : Scf.Loop 32 :=
  let c0_i32_324 : BitVec 32 := 0#32
  let c64_i32_325 : BitVec 32 := 64#32
  let v104 : BitVec 32 := Scalar.addi c0_i32_324 c64_i32_325
  let c1_i32_326 : BitVec 32 := 1#32
  ⟨c0_i32_324, v104, c1_i32_326⟩
def k3_off113 (k3_t56 : Fin k3_t56_loop.trips) : Fin 2 → Nat :=
  let c7_i32_728 : BitVec 32 := 7#32
  let v215 : Index := Scalar.indexCast c7_i32_728
  let c0_i32_324 : BitVec 32 := 0#32
  let c1_i32_326 : BitVec 32 := 1#32
  let arg16 : BitVec 32 := Scf.iv c0_i32_324 c1_i32_326 k3_t56
  let c16_i32_726 : BitVec 32 := 16#32
  let v211 : BitVec 32 := Scalar.muli arg16 c16_i32_726
  let v216 : Index := Scalar.indexCast v211
  ![7, v216.toNat]
def k3_off114 (k3_t56 : Fin k3_t56_loop.trips) (c112_i32_729 : BitVec 32) : Fin 2 → Nat :=
  let c0_i32_324 : BitVec 32 := 0#32
  let c1_i32_326 : BitVec 32 := 1#32
  let arg16 : BitVec 32 := Scf.iv c0_i32_324 c1_i32_326 k3_t56
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t57_loop : Scf.Loop 32 :=
  let c0_i32_329 : BitVec 32 := 0#32
  let c64_i32_330 : BitVec 32 := 64#32
  let v105 : BitVec 32 := Scalar.addi c0_i32_329 c64_i32_330
  let c1_i32_331 : BitVec 32 := 1#32
  ⟨c0_i32_329, v105, c1_i32_331⟩
def k3_off115 (k3_t57 : Fin k3_t57_loop.trips) : Fin 2 → Nat :=
  let c8_i32_728 : BitVec 32 := 8#32
  let v215 : Index := Scalar.indexCast c8_i32_728
  let c0_i32_329 : BitVec 32 := 0#32
  let c1_i32_331 : BitVec 32 := 1#32
  let arg16 : BitVec 32 := Scf.iv c0_i32_329 c1_i32_331 k3_t57
  let c16_i32_726 : BitVec 32 := 16#32
  let v211 : BitVec 32 := Scalar.muli arg16 c16_i32_726
  let v216 : Index := Scalar.indexCast v211
  ![8, v216.toNat]
def k3_off116 (k3_t57 : Fin k3_t57_loop.trips) (c128_i32_729 : BitVec 32) : Fin 2 → Nat :=
  let c0_i32_329 : BitVec 32 := 0#32
  let c1_i32_331 : BitVec 32 := 1#32
  let arg16 : BitVec 32 := Scf.iv c0_i32_329 c1_i32_331 k3_t57
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t58_loop : Scf.Loop 32 :=
  let c0_i32_334 : BitVec 32 := 0#32
  let c64_i32_335 : BitVec 32 := 64#32
  let v106 : BitVec 32 := Scalar.addi c0_i32_334 c64_i32_335
  let c1_i32_336 : BitVec 32 := 1#32
  ⟨c0_i32_334, v106, c1_i32_336⟩
def k3_off117 (k3_t58 : Fin k3_t58_loop.trips) : Fin 2 → Nat :=
  let c9_i32 : BitVec 32 := 9#32
  let v215 : Index := Scalar.indexCast c9_i32
  let c0_i32_334 : BitVec 32 := 0#32
  let c1_i32_336 : BitVec 32 := 1#32
  let arg16 : BitVec 32 := Scf.iv c0_i32_334 c1_i32_336 k3_t58
  let c16_i32_726 : BitVec 32 := 16#32
  let v211 : BitVec 32 := Scalar.muli arg16 c16_i32_726
  let v216 : Index := Scalar.indexCast v211
  ![9, v216.toNat]
def k3_off118 (k3_t58 : Fin k3_t58_loop.trips) (c144_i32 : BitVec 32) : Fin 2 → Nat :=
  let c0_i32_334 : BitVec 32 := 0#32
  let c1_i32_336 : BitVec 32 := 1#32
  let arg16 : BitVec 32 := Scf.iv c0_i32_334 c1_i32_336 k3_t58
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t59_loop : Scf.Loop 32 :=
  let c0_i32_339 : BitVec 32 := 0#32
  let c64_i32_340 : BitVec 32 := 64#32
  let v107 : BitVec 32 := Scalar.addi c0_i32_339 c64_i32_340
  let c1_i32_341 : BitVec 32 := 1#32
  ⟨c0_i32_339, v107, c1_i32_341⟩
def k3_off119 (k3_t59 : Fin k3_t59_loop.trips) : Fin 2 → Nat :=
  let c10_i32 : BitVec 32 := 10#32
  let v215 : Index := Scalar.indexCast c10_i32
  let c0_i32_339 : BitVec 32 := 0#32
  let c1_i32_341 : BitVec 32 := 1#32
  let arg16 : BitVec 32 := Scf.iv c0_i32_339 c1_i32_341 k3_t59
  let c16_i32_726 : BitVec 32 := 16#32
  let v211 : BitVec 32 := Scalar.muli arg16 c16_i32_726
  let v216 : Index := Scalar.indexCast v211
  ![10, v216.toNat]
def k3_off120 (k3_t59 : Fin k3_t59_loop.trips) (c160_i32 : BitVec 32) : Fin 2 → Nat :=
  let c0_i32_339 : BitVec 32 := 0#32
  let c1_i32_341 : BitVec 32 := 1#32
  let arg16 : BitVec 32 := Scf.iv c0_i32_339 c1_i32_341 k3_t59
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t60_loop : Scf.Loop 32 :=
  let c0_i32_344 : BitVec 32 := 0#32
  let c64_i32_345 : BitVec 32 := 64#32
  let v108 : BitVec 32 := Scalar.addi c0_i32_344 c64_i32_345
  let c1_i32_346 : BitVec 32 := 1#32
  ⟨c0_i32_344, v108, c1_i32_346⟩
def k3_off121 (k3_t60 : Fin k3_t60_loop.trips) : Fin 2 → Nat :=
  let c11_i32 : BitVec 32 := 11#32
  let v215 : Index := Scalar.indexCast c11_i32
  let c0_i32_344 : BitVec 32 := 0#32
  let c1_i32_346 : BitVec 32 := 1#32
  let arg16 : BitVec 32 := Scf.iv c0_i32_344 c1_i32_346 k3_t60
  let c16_i32_726 : BitVec 32 := 16#32
  let v211 : BitVec 32 := Scalar.muli arg16 c16_i32_726
  let v216 : Index := Scalar.indexCast v211
  ![11, v216.toNat]
def k3_off122 (k3_t60 : Fin k3_t60_loop.trips) (c176_i32 : BitVec 32) : Fin 2 → Nat :=
  let c0_i32_344 : BitVec 32 := 0#32
  let c1_i32_346 : BitVec 32 := 1#32
  let arg16 : BitVec 32 := Scf.iv c0_i32_344 c1_i32_346 k3_t60
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t61_loop : Scf.Loop 32 :=
  let c0_i32_349 : BitVec 32 := 0#32
  let c64_i32_350 : BitVec 32 := 64#32
  let v109 : BitVec 32 := Scalar.addi c0_i32_349 c64_i32_350
  let c1_i32_351 : BitVec 32 := 1#32
  ⟨c0_i32_349, v109, c1_i32_351⟩
def k3_off123 (k3_t61 : Fin k3_t61_loop.trips) : Fin 2 → Nat :=
  let c12_i32 : BitVec 32 := 12#32
  let v215 : Index := Scalar.indexCast c12_i32
  let c0_i32_349 : BitVec 32 := 0#32
  let c1_i32_351 : BitVec 32 := 1#32
  let arg16 : BitVec 32 := Scf.iv c0_i32_349 c1_i32_351 k3_t61
  let c16_i32_726 : BitVec 32 := 16#32
  let v211 : BitVec 32 := Scalar.muli arg16 c16_i32_726
  let v216 : Index := Scalar.indexCast v211
  ![12, v216.toNat]
def k3_off124 (k3_t61 : Fin k3_t61_loop.trips) (c192_i32 : BitVec 32) : Fin 2 → Nat :=
  let c0_i32_349 : BitVec 32 := 0#32
  let c1_i32_351 : BitVec 32 := 1#32
  let arg16 : BitVec 32 := Scf.iv c0_i32_349 c1_i32_351 k3_t61
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t62_loop : Scf.Loop 32 :=
  let c0_i32_354 : BitVec 32 := 0#32
  let c64_i32_355 : BitVec 32 := 64#32
  let v110 : BitVec 32 := Scalar.addi c0_i32_354 c64_i32_355
  let c1_i32_356 : BitVec 32 := 1#32
  ⟨c0_i32_354, v110, c1_i32_356⟩
def k3_off125 (k3_t62 : Fin k3_t62_loop.trips) : Fin 2 → Nat :=
  let c13_i32 : BitVec 32 := 13#32
  let v215 : Index := Scalar.indexCast c13_i32
  let c0_i32_354 : BitVec 32 := 0#32
  let c1_i32_356 : BitVec 32 := 1#32
  let arg16 : BitVec 32 := Scf.iv c0_i32_354 c1_i32_356 k3_t62
  let c16_i32_726 : BitVec 32 := 16#32
  let v211 : BitVec 32 := Scalar.muli arg16 c16_i32_726
  let v216 : Index := Scalar.indexCast v211
  ![13, v216.toNat]
def k3_off126 (k3_t62 : Fin k3_t62_loop.trips) (c208_i32 : BitVec 32) : Fin 2 → Nat :=
  let c0_i32_354 : BitVec 32 := 0#32
  let c1_i32_356 : BitVec 32 := 1#32
  let arg16 : BitVec 32 := Scf.iv c0_i32_354 c1_i32_356 k3_t62
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t63_loop : Scf.Loop 32 :=
  let c0_i32_359 : BitVec 32 := 0#32
  let c64_i32_360 : BitVec 32 := 64#32
  let v111 : BitVec 32 := Scalar.addi c0_i32_359 c64_i32_360
  let c1_i32_361 : BitVec 32 := 1#32
  ⟨c0_i32_359, v111, c1_i32_361⟩
def k3_off127 (k3_t63 : Fin k3_t63_loop.trips) : Fin 2 → Nat :=
  let c14_i32 : BitVec 32 := 14#32
  let v215 : Index := Scalar.indexCast c14_i32
  let c0_i32_359 : BitVec 32 := 0#32
  let c1_i32_361 : BitVec 32 := 1#32
  let arg16 : BitVec 32 := Scf.iv c0_i32_359 c1_i32_361 k3_t63
  let c16_i32_726 : BitVec 32 := 16#32
  let v211 : BitVec 32 := Scalar.muli arg16 c16_i32_726
  let v216 : Index := Scalar.indexCast v211
  ![14, v216.toNat]
def k3_off128 (k3_t63 : Fin k3_t63_loop.trips) (c224_i32 : BitVec 32) : Fin 2 → Nat :=
  let c0_i32_359 : BitVec 32 := 0#32
  let c1_i32_361 : BitVec 32 := 1#32
  let arg16 : BitVec 32 := Scf.iv c0_i32_359 c1_i32_361 k3_t63
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t64_loop : Scf.Loop 32 :=
  let c0_i32_364 : BitVec 32 := 0#32
  let c64_i32_365 : BitVec 32 := 64#32
  let v112 : BitVec 32 := Scalar.addi c0_i32_364 c64_i32_365
  let c1_i32_366 : BitVec 32 := 1#32
  ⟨c0_i32_364, v112, c1_i32_366⟩
def k3_off129 (k3_t64 : Fin k3_t64_loop.trips) : Fin 2 → Nat :=
  let c15_i32 : BitVec 32 := 15#32
  let v215 : Index := Scalar.indexCast c15_i32
  let c0_i32_364 : BitVec 32 := 0#32
  let c1_i32_366 : BitVec 32 := 1#32
  let arg16 : BitVec 32 := Scf.iv c0_i32_364 c1_i32_366 k3_t64
  let c16_i32_726 : BitVec 32 := 16#32
  let v211 : BitVec 32 := Scalar.muli arg16 c16_i32_726
  let v216 : Index := Scalar.indexCast v211
  ![15, v216.toNat]
def k3_off130 (k3_t64 : Fin k3_t64_loop.trips) (c240_i32 : BitVec 32) : Fin 2 → Nat :=
  let c0_i32_364 : BitVec 32 := 0#32
  let c1_i32_366 : BitVec 32 := 1#32
  let arg16 : BitVec 32 := Scf.iv c0_i32_364 c1_i32_366 k3_t64
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t65_loop : Scf.Loop 32 :=
  let c0_i32_380 : BitVec 32 := 0#32
  let c64_i32_381 : BitVec 32 := 64#32
  let v123 : BitVec 32 := Scalar.addi c0_i32_380 c64_i32_381
  let c1_i32_382 : BitVec 32 := 1#32
  ⟨c0_i32_380, v123, c1_i32_382⟩
def k3_off131 (k3_t65 : Fin k3_t65_loop.trips) : Fin 2 → Nat :=
  let c0_i32_728 : BitVec 32 := 0#32
  let v215 : Index := Scalar.indexCast c0_i32_728
  let c0_i32_380 : BitVec 32 := 0#32
  let c1_i32_382 : BitVec 32 := 1#32
  let arg16 : BitVec 32 := Scf.iv c0_i32_380 c1_i32_382 k3_t65
  let c16_i32_726 : BitVec 32 := 16#32
  let v211 : BitVec 32 := Scalar.muli arg16 c16_i32_726
  let v216 : Index := Scalar.indexCast v211
  ![0, v216.toNat]
def k3_off132 (k3_t65 : Fin k3_t65_loop.trips) (c0_i32_729 : BitVec 32) : Fin 2 → Nat :=
  let c0_i32_380 : BitVec 32 := 0#32
  let c1_i32_382 : BitVec 32 := 1#32
  let arg16 : BitVec 32 := Scf.iv c0_i32_380 c1_i32_382 k3_t65
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t66_loop : Scf.Loop 32 :=
  let c0_i32_385 : BitVec 32 := 0#32
  let c64_i32_386 : BitVec 32 := 64#32
  let v124 : BitVec 32 := Scalar.addi c0_i32_385 c64_i32_386
  let c1_i32_387 : BitVec 32 := 1#32
  ⟨c0_i32_385, v124, c1_i32_387⟩
def k3_off133 (k3_t66 : Fin k3_t66_loop.trips) : Fin 2 → Nat :=
  let c1_i32_728 : BitVec 32 := 1#32
  let v215 : Index := Scalar.indexCast c1_i32_728
  let c0_i32_385 : BitVec 32 := 0#32
  let c1_i32_387 : BitVec 32 := 1#32
  let arg16 : BitVec 32 := Scf.iv c0_i32_385 c1_i32_387 k3_t66
  let c16_i32_726 : BitVec 32 := 16#32
  let v211 : BitVec 32 := Scalar.muli arg16 c16_i32_726
  let v216 : Index := Scalar.indexCast v211
  ![1, v216.toNat]
def k3_off134 (k3_t66 : Fin k3_t66_loop.trips) (c16_i32_729 : BitVec 32) : Fin 2 → Nat :=
  let c0_i32_385 : BitVec 32 := 0#32
  let c1_i32_387 : BitVec 32 := 1#32
  let arg16 : BitVec 32 := Scf.iv c0_i32_385 c1_i32_387 k3_t66
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t67_loop : Scf.Loop 32 :=
  let c0_i32_390 : BitVec 32 := 0#32
  let c64_i32_391 : BitVec 32 := 64#32
  let v125 : BitVec 32 := Scalar.addi c0_i32_390 c64_i32_391
  let c1_i32_392 : BitVec 32 := 1#32
  ⟨c0_i32_390, v125, c1_i32_392⟩
def k3_off135 (k3_t67 : Fin k3_t67_loop.trips) : Fin 2 → Nat :=
  let c2_i32_728 : BitVec 32 := 2#32
  let v215 : Index := Scalar.indexCast c2_i32_728
  let c0_i32_390 : BitVec 32 := 0#32
  let c1_i32_392 : BitVec 32 := 1#32
  let arg16 : BitVec 32 := Scf.iv c0_i32_390 c1_i32_392 k3_t67
  let c16_i32_726 : BitVec 32 := 16#32
  let v211 : BitVec 32 := Scalar.muli arg16 c16_i32_726
  let v216 : Index := Scalar.indexCast v211
  ![2, v216.toNat]
def k3_off136 (k3_t67 : Fin k3_t67_loop.trips) (c32_i32_729 : BitVec 32) : Fin 2 → Nat :=
  let c0_i32_390 : BitVec 32 := 0#32
  let c1_i32_392 : BitVec 32 := 1#32
  let arg16 : BitVec 32 := Scf.iv c0_i32_390 c1_i32_392 k3_t67
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t68_loop : Scf.Loop 32 :=
  let c0_i32_395 : BitVec 32 := 0#32
  let c64_i32_396 : BitVec 32 := 64#32
  let v126 : BitVec 32 := Scalar.addi c0_i32_395 c64_i32_396
  let c1_i32_397 : BitVec 32 := 1#32
  ⟨c0_i32_395, v126, c1_i32_397⟩
def k3_off137 (k3_t68 : Fin k3_t68_loop.trips) : Fin 2 → Nat :=
  let c3_i32_728 : BitVec 32 := 3#32
  let v215 : Index := Scalar.indexCast c3_i32_728
  let c0_i32_395 : BitVec 32 := 0#32
  let c1_i32_397 : BitVec 32 := 1#32
  let arg16 : BitVec 32 := Scf.iv c0_i32_395 c1_i32_397 k3_t68
  let c16_i32_726 : BitVec 32 := 16#32
  let v211 : BitVec 32 := Scalar.muli arg16 c16_i32_726
  let v216 : Index := Scalar.indexCast v211
  ![3, v216.toNat]
def k3_off138 (k3_t68 : Fin k3_t68_loop.trips) (c48_i32_729 : BitVec 32) : Fin 2 → Nat :=
  let c0_i32_395 : BitVec 32 := 0#32
  let c1_i32_397 : BitVec 32 := 1#32
  let arg16 : BitVec 32 := Scf.iv c0_i32_395 c1_i32_397 k3_t68
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t69_loop : Scf.Loop 32 :=
  let c0_i32_400 : BitVec 32 := 0#32
  let c64_i32_401 : BitVec 32 := 64#32
  let v127 : BitVec 32 := Scalar.addi c0_i32_400 c64_i32_401
  let c1_i32_402 : BitVec 32 := 1#32
  ⟨c0_i32_400, v127, c1_i32_402⟩
def k3_off139 (k3_t69 : Fin k3_t69_loop.trips) : Fin 2 → Nat :=
  let c4_i32 : BitVec 32 := 4#32
  let v215 : Index := Scalar.indexCast c4_i32
  let c0_i32_400 : BitVec 32 := 0#32
  let c1_i32_402 : BitVec 32 := 1#32
  let arg16 : BitVec 32 := Scf.iv c0_i32_400 c1_i32_402 k3_t69
  let c16_i32_726 : BitVec 32 := 16#32
  let v211 : BitVec 32 := Scalar.muli arg16 c16_i32_726
  let v216 : Index := Scalar.indexCast v211
  ![4, v216.toNat]
def k3_off140 (k3_t69 : Fin k3_t69_loop.trips) (c64_i32_728 : BitVec 32) : Fin 2 → Nat :=
  let c0_i32_400 : BitVec 32 := 0#32
  let c1_i32_402 : BitVec 32 := 1#32
  let arg16 : BitVec 32 := Scf.iv c0_i32_400 c1_i32_402 k3_t69
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t70_loop : Scf.Loop 32 :=
  let c0_i32_405 : BitVec 32 := 0#32
  let c64_i32_406 : BitVec 32 := 64#32
  let v128 : BitVec 32 := Scalar.addi c0_i32_405 c64_i32_406
  let c1_i32_407 : BitVec 32 := 1#32
  ⟨c0_i32_405, v128, c1_i32_407⟩
def k3_off141 (k3_t70 : Fin k3_t70_loop.trips) : Fin 2 → Nat :=
  let c5_i32 : BitVec 32 := 5#32
  let v215 : Index := Scalar.indexCast c5_i32
  let c0_i32_405 : BitVec 32 := 0#32
  let c1_i32_407 : BitVec 32 := 1#32
  let arg16 : BitVec 32 := Scf.iv c0_i32_405 c1_i32_407 k3_t70
  let c16_i32_726 : BitVec 32 := 16#32
  let v211 : BitVec 32 := Scalar.muli arg16 c16_i32_726
  let v216 : Index := Scalar.indexCast v211
  ![5, v216.toNat]
def k3_off142 (k3_t70 : Fin k3_t70_loop.trips) (c80_i32_728 : BitVec 32) : Fin 2 → Nat :=
  let c0_i32_405 : BitVec 32 := 0#32
  let c1_i32_407 : BitVec 32 := 1#32
  let arg16 : BitVec 32 := Scf.iv c0_i32_405 c1_i32_407 k3_t70
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t71_loop : Scf.Loop 32 :=
  let c0_i32_410 : BitVec 32 := 0#32
  let c64_i32_411 : BitVec 32 := 64#32
  let v129 : BitVec 32 := Scalar.addi c0_i32_410 c64_i32_411
  let c1_i32_412 : BitVec 32 := 1#32
  ⟨c0_i32_410, v129, c1_i32_412⟩
def k3_off143 (k3_t71 : Fin k3_t71_loop.trips) : Fin 2 → Nat :=
  let c6_i32 : BitVec 32 := 6#32
  let v215 : Index := Scalar.indexCast c6_i32
  let c0_i32_410 : BitVec 32 := 0#32
  let c1_i32_412 : BitVec 32 := 1#32
  let arg16 : BitVec 32 := Scf.iv c0_i32_410 c1_i32_412 k3_t71
  let c16_i32_726 : BitVec 32 := 16#32
  let v211 : BitVec 32 := Scalar.muli arg16 c16_i32_726
  let v216 : Index := Scalar.indexCast v211
  ![6, v216.toNat]
def k3_off144 (k3_t71 : Fin k3_t71_loop.trips) (c96_i32_728 : BitVec 32) : Fin 2 → Nat :=
  let c0_i32_410 : BitVec 32 := 0#32
  let c1_i32_412 : BitVec 32 := 1#32
  let arg16 : BitVec 32 := Scf.iv c0_i32_410 c1_i32_412 k3_t71
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t72_loop : Scf.Loop 32 :=
  let c0_i32_415 : BitVec 32 := 0#32
  let c64_i32_416 : BitVec 32 := 64#32
  let v130 : BitVec 32 := Scalar.addi c0_i32_415 c64_i32_416
  let c1_i32_417 : BitVec 32 := 1#32
  ⟨c0_i32_415, v130, c1_i32_417⟩
def k3_off145 (k3_t72 : Fin k3_t72_loop.trips) : Fin 2 → Nat :=
  let c7_i32_728 : BitVec 32 := 7#32
  let v215 : Index := Scalar.indexCast c7_i32_728
  let c0_i32_415 : BitVec 32 := 0#32
  let c1_i32_417 : BitVec 32 := 1#32
  let arg16 : BitVec 32 := Scf.iv c0_i32_415 c1_i32_417 k3_t72
  let c16_i32_726 : BitVec 32 := 16#32
  let v211 : BitVec 32 := Scalar.muli arg16 c16_i32_726
  let v216 : Index := Scalar.indexCast v211
  ![7, v216.toNat]
def k3_off146 (k3_t72 : Fin k3_t72_loop.trips) (c112_i32_729 : BitVec 32) : Fin 2 → Nat :=
  let c0_i32_415 : BitVec 32 := 0#32
  let c1_i32_417 : BitVec 32 := 1#32
  let arg16 : BitVec 32 := Scf.iv c0_i32_415 c1_i32_417 k3_t72
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t73_loop : Scf.Loop 32 :=
  let c0_i32_420 : BitVec 32 := 0#32
  let c64_i32_421 : BitVec 32 := 64#32
  let v131 : BitVec 32 := Scalar.addi c0_i32_420 c64_i32_421
  let c1_i32_422 : BitVec 32 := 1#32
  ⟨c0_i32_420, v131, c1_i32_422⟩
def k3_off147 (k3_t73 : Fin k3_t73_loop.trips) : Fin 2 → Nat :=
  let c8_i32_728 : BitVec 32 := 8#32
  let v215 : Index := Scalar.indexCast c8_i32_728
  let c0_i32_420 : BitVec 32 := 0#32
  let c1_i32_422 : BitVec 32 := 1#32
  let arg16 : BitVec 32 := Scf.iv c0_i32_420 c1_i32_422 k3_t73
  let c16_i32_726 : BitVec 32 := 16#32
  let v211 : BitVec 32 := Scalar.muli arg16 c16_i32_726
  let v216 : Index := Scalar.indexCast v211
  ![8, v216.toNat]
def k3_off148 (k3_t73 : Fin k3_t73_loop.trips) (c128_i32_729 : BitVec 32) : Fin 2 → Nat :=
  let c0_i32_420 : BitVec 32 := 0#32
  let c1_i32_422 : BitVec 32 := 1#32
  let arg16 : BitVec 32 := Scf.iv c0_i32_420 c1_i32_422 k3_t73
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t74_loop : Scf.Loop 32 :=
  let c0_i32_425 : BitVec 32 := 0#32
  let c64_i32_426 : BitVec 32 := 64#32
  let v132 : BitVec 32 := Scalar.addi c0_i32_425 c64_i32_426
  let c1_i32_427 : BitVec 32 := 1#32
  ⟨c0_i32_425, v132, c1_i32_427⟩
def k3_off149 (k3_t74 : Fin k3_t74_loop.trips) : Fin 2 → Nat :=
  let c9_i32 : BitVec 32 := 9#32
  let v215 : Index := Scalar.indexCast c9_i32
  let c0_i32_425 : BitVec 32 := 0#32
  let c1_i32_427 : BitVec 32 := 1#32
  let arg16 : BitVec 32 := Scf.iv c0_i32_425 c1_i32_427 k3_t74
  let c16_i32_726 : BitVec 32 := 16#32
  let v211 : BitVec 32 := Scalar.muli arg16 c16_i32_726
  let v216 : Index := Scalar.indexCast v211
  ![9, v216.toNat]
def k3_off150 (k3_t74 : Fin k3_t74_loop.trips) (c144_i32 : BitVec 32) : Fin 2 → Nat :=
  let c0_i32_425 : BitVec 32 := 0#32
  let c1_i32_427 : BitVec 32 := 1#32
  let arg16 : BitVec 32 := Scf.iv c0_i32_425 c1_i32_427 k3_t74
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t75_loop : Scf.Loop 32 :=
  let c0_i32_430 : BitVec 32 := 0#32
  let c64_i32_431 : BitVec 32 := 64#32
  let v133 : BitVec 32 := Scalar.addi c0_i32_430 c64_i32_431
  let c1_i32_432 : BitVec 32 := 1#32
  ⟨c0_i32_430, v133, c1_i32_432⟩
def k3_off151 (k3_t75 : Fin k3_t75_loop.trips) : Fin 2 → Nat :=
  let c10_i32 : BitVec 32 := 10#32
  let v215 : Index := Scalar.indexCast c10_i32
  let c0_i32_430 : BitVec 32 := 0#32
  let c1_i32_432 : BitVec 32 := 1#32
  let arg16 : BitVec 32 := Scf.iv c0_i32_430 c1_i32_432 k3_t75
  let c16_i32_726 : BitVec 32 := 16#32
  let v211 : BitVec 32 := Scalar.muli arg16 c16_i32_726
  let v216 : Index := Scalar.indexCast v211
  ![10, v216.toNat]
def k3_off152 (k3_t75 : Fin k3_t75_loop.trips) (c160_i32 : BitVec 32) : Fin 2 → Nat :=
  let c0_i32_430 : BitVec 32 := 0#32
  let c1_i32_432 : BitVec 32 := 1#32
  let arg16 : BitVec 32 := Scf.iv c0_i32_430 c1_i32_432 k3_t75
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t76_loop : Scf.Loop 32 :=
  let c0_i32_435 : BitVec 32 := 0#32
  let c64_i32_436 : BitVec 32 := 64#32
  let v134 : BitVec 32 := Scalar.addi c0_i32_435 c64_i32_436
  let c1_i32_437 : BitVec 32 := 1#32
  ⟨c0_i32_435, v134, c1_i32_437⟩
def k3_off153 (k3_t76 : Fin k3_t76_loop.trips) : Fin 2 → Nat :=
  let c11_i32 : BitVec 32 := 11#32
  let v215 : Index := Scalar.indexCast c11_i32
  let c0_i32_435 : BitVec 32 := 0#32
  let c1_i32_437 : BitVec 32 := 1#32
  let arg16 : BitVec 32 := Scf.iv c0_i32_435 c1_i32_437 k3_t76
  let c16_i32_726 : BitVec 32 := 16#32
  let v211 : BitVec 32 := Scalar.muli arg16 c16_i32_726
  let v216 : Index := Scalar.indexCast v211
  ![11, v216.toNat]
def k3_off154 (k3_t76 : Fin k3_t76_loop.trips) (c176_i32 : BitVec 32) : Fin 2 → Nat :=
  let c0_i32_435 : BitVec 32 := 0#32
  let c1_i32_437 : BitVec 32 := 1#32
  let arg16 : BitVec 32 := Scf.iv c0_i32_435 c1_i32_437 k3_t76
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t77_loop : Scf.Loop 32 :=
  let c0_i32_440 : BitVec 32 := 0#32
  let c64_i32_441 : BitVec 32 := 64#32
  let v135 : BitVec 32 := Scalar.addi c0_i32_440 c64_i32_441
  let c1_i32_442 : BitVec 32 := 1#32
  ⟨c0_i32_440, v135, c1_i32_442⟩
def k3_off155 (k3_t77 : Fin k3_t77_loop.trips) : Fin 2 → Nat :=
  let c12_i32 : BitVec 32 := 12#32
  let v215 : Index := Scalar.indexCast c12_i32
  let c0_i32_440 : BitVec 32 := 0#32
  let c1_i32_442 : BitVec 32 := 1#32
  let arg16 : BitVec 32 := Scf.iv c0_i32_440 c1_i32_442 k3_t77
  let c16_i32_726 : BitVec 32 := 16#32
  let v211 : BitVec 32 := Scalar.muli arg16 c16_i32_726
  let v216 : Index := Scalar.indexCast v211
  ![12, v216.toNat]
def k3_off156 (k3_t77 : Fin k3_t77_loop.trips) (c192_i32 : BitVec 32) : Fin 2 → Nat :=
  let c0_i32_440 : BitVec 32 := 0#32
  let c1_i32_442 : BitVec 32 := 1#32
  let arg16 : BitVec 32 := Scf.iv c0_i32_440 c1_i32_442 k3_t77
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t78_loop : Scf.Loop 32 :=
  let c0_i32_445 : BitVec 32 := 0#32
  let c64_i32_446 : BitVec 32 := 64#32
  let v136 : BitVec 32 := Scalar.addi c0_i32_445 c64_i32_446
  let c1_i32_447 : BitVec 32 := 1#32
  ⟨c0_i32_445, v136, c1_i32_447⟩
def k3_off157 (k3_t78 : Fin k3_t78_loop.trips) : Fin 2 → Nat :=
  let c13_i32 : BitVec 32 := 13#32
  let v215 : Index := Scalar.indexCast c13_i32
  let c0_i32_445 : BitVec 32 := 0#32
  let c1_i32_447 : BitVec 32 := 1#32
  let arg16 : BitVec 32 := Scf.iv c0_i32_445 c1_i32_447 k3_t78
  let c16_i32_726 : BitVec 32 := 16#32
  let v211 : BitVec 32 := Scalar.muli arg16 c16_i32_726
  let v216 : Index := Scalar.indexCast v211
  ![13, v216.toNat]
def k3_off158 (k3_t78 : Fin k3_t78_loop.trips) (c208_i32 : BitVec 32) : Fin 2 → Nat :=
  let c0_i32_445 : BitVec 32 := 0#32
  let c1_i32_447 : BitVec 32 := 1#32
  let arg16 : BitVec 32 := Scf.iv c0_i32_445 c1_i32_447 k3_t78
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t79_loop : Scf.Loop 32 :=
  let c0_i32_450 : BitVec 32 := 0#32
  let c64_i32_451 : BitVec 32 := 64#32
  let v137 : BitVec 32 := Scalar.addi c0_i32_450 c64_i32_451
  let c1_i32_452 : BitVec 32 := 1#32
  ⟨c0_i32_450, v137, c1_i32_452⟩
def k3_off159 (k3_t79 : Fin k3_t79_loop.trips) : Fin 2 → Nat :=
  let c14_i32 : BitVec 32 := 14#32
  let v215 : Index := Scalar.indexCast c14_i32
  let c0_i32_450 : BitVec 32 := 0#32
  let c1_i32_452 : BitVec 32 := 1#32
  let arg16 : BitVec 32 := Scf.iv c0_i32_450 c1_i32_452 k3_t79
  let c16_i32_726 : BitVec 32 := 16#32
  let v211 : BitVec 32 := Scalar.muli arg16 c16_i32_726
  let v216 : Index := Scalar.indexCast v211
  ![14, v216.toNat]
def k3_off160 (k3_t79 : Fin k3_t79_loop.trips) (c224_i32 : BitVec 32) : Fin 2 → Nat :=
  let c0_i32_450 : BitVec 32 := 0#32
  let c1_i32_452 : BitVec 32 := 1#32
  let arg16 : BitVec 32 := Scf.iv c0_i32_450 c1_i32_452 k3_t79
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t80_loop : Scf.Loop 32 :=
  let c0_i32_455 : BitVec 32 := 0#32
  let c64_i32_456 : BitVec 32 := 64#32
  let v138 : BitVec 32 := Scalar.addi c0_i32_455 c64_i32_456
  let c1_i32_457 : BitVec 32 := 1#32
  ⟨c0_i32_455, v138, c1_i32_457⟩
def k3_off161 (k3_t80 : Fin k3_t80_loop.trips) : Fin 2 → Nat :=
  let c15_i32 : BitVec 32 := 15#32
  let v215 : Index := Scalar.indexCast c15_i32
  let c0_i32_455 : BitVec 32 := 0#32
  let c1_i32_457 : BitVec 32 := 1#32
  let arg16 : BitVec 32 := Scf.iv c0_i32_455 c1_i32_457 k3_t80
  let c16_i32_726 : BitVec 32 := 16#32
  let v211 : BitVec 32 := Scalar.muli arg16 c16_i32_726
  let v216 : Index := Scalar.indexCast v211
  ![15, v216.toNat]
def k3_off162 (k3_t80 : Fin k3_t80_loop.trips) (c240_i32 : BitVec 32) : Fin 2 → Nat :=
  let c0_i32_455 : BitVec 32 := 0#32
  let c1_i32_457 : BitVec 32 := 1#32
  let arg16 : BitVec 32 := Scf.iv c0_i32_455 c1_i32_457 k3_t80
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t81_loop : Scf.Loop 32 :=
  let c0_i32_471 : BitVec 32 := 0#32
  let c64_i32_472 : BitVec 32 := 64#32
  let v149 : BitVec 32 := Scalar.addi c0_i32_471 c64_i32_472
  let c1_i32_473 : BitVec 32 := 1#32
  ⟨c0_i32_471, v149, c1_i32_473⟩
def k3_off163 (k3_t81 : Fin k3_t81_loop.trips) : Fin 2 → Nat :=
  let c0_i32_728 : BitVec 32 := 0#32
  let v215 : Index := Scalar.indexCast c0_i32_728
  let c0_i32_471 : BitVec 32 := 0#32
  let c1_i32_473 : BitVec 32 := 1#32
  let arg16 : BitVec 32 := Scf.iv c0_i32_471 c1_i32_473 k3_t81
  let c16_i32_726 : BitVec 32 := 16#32
  let v211 : BitVec 32 := Scalar.muli arg16 c16_i32_726
  let v216 : Index := Scalar.indexCast v211
  ![0, v216.toNat]
def k3_off164 (k3_t81 : Fin k3_t81_loop.trips) (c0_i32_729 : BitVec 32) : Fin 2 → Nat :=
  let c0_i32_471 : BitVec 32 := 0#32
  let c1_i32_473 : BitVec 32 := 1#32
  let arg16 : BitVec 32 := Scf.iv c0_i32_471 c1_i32_473 k3_t81
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t82_loop : Scf.Loop 32 :=
  let c0_i32_476 : BitVec 32 := 0#32
  let c64_i32_477 : BitVec 32 := 64#32
  let v150 : BitVec 32 := Scalar.addi c0_i32_476 c64_i32_477
  let c1_i32_478 : BitVec 32 := 1#32
  ⟨c0_i32_476, v150, c1_i32_478⟩
def k3_off165 (k3_t82 : Fin k3_t82_loop.trips) : Fin 2 → Nat :=
  let c1_i32_728 : BitVec 32 := 1#32
  let v215 : Index := Scalar.indexCast c1_i32_728
  let c0_i32_476 : BitVec 32 := 0#32
  let c1_i32_478 : BitVec 32 := 1#32
  let arg16 : BitVec 32 := Scf.iv c0_i32_476 c1_i32_478 k3_t82
  let c16_i32_726 : BitVec 32 := 16#32
  let v211 : BitVec 32 := Scalar.muli arg16 c16_i32_726
  let v216 : Index := Scalar.indexCast v211
  ![1, v216.toNat]
def k3_off166 (k3_t82 : Fin k3_t82_loop.trips) (c16_i32_729 : BitVec 32) : Fin 2 → Nat :=
  let c0_i32_476 : BitVec 32 := 0#32
  let c1_i32_478 : BitVec 32 := 1#32
  let arg16 : BitVec 32 := Scf.iv c0_i32_476 c1_i32_478 k3_t82
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t83_loop : Scf.Loop 32 :=
  let c0_i32_481 : BitVec 32 := 0#32
  let c64_i32_482 : BitVec 32 := 64#32
  let v151 : BitVec 32 := Scalar.addi c0_i32_481 c64_i32_482
  let c1_i32_483 : BitVec 32 := 1#32
  ⟨c0_i32_481, v151, c1_i32_483⟩
def k3_off167 (k3_t83 : Fin k3_t83_loop.trips) : Fin 2 → Nat :=
  let c2_i32_728 : BitVec 32 := 2#32
  let v215 : Index := Scalar.indexCast c2_i32_728
  let c0_i32_481 : BitVec 32 := 0#32
  let c1_i32_483 : BitVec 32 := 1#32
  let arg16 : BitVec 32 := Scf.iv c0_i32_481 c1_i32_483 k3_t83
  let c16_i32_726 : BitVec 32 := 16#32
  let v211 : BitVec 32 := Scalar.muli arg16 c16_i32_726
  let v216 : Index := Scalar.indexCast v211
  ![2, v216.toNat]
def k3_off168 (k3_t83 : Fin k3_t83_loop.trips) (c32_i32_729 : BitVec 32) : Fin 2 → Nat :=
  let c0_i32_481 : BitVec 32 := 0#32
  let c1_i32_483 : BitVec 32 := 1#32
  let arg16 : BitVec 32 := Scf.iv c0_i32_481 c1_i32_483 k3_t83
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t84_loop : Scf.Loop 32 :=
  let c0_i32_486 : BitVec 32 := 0#32
  let c64_i32_487 : BitVec 32 := 64#32
  let v152 : BitVec 32 := Scalar.addi c0_i32_486 c64_i32_487
  let c1_i32_488 : BitVec 32 := 1#32
  ⟨c0_i32_486, v152, c1_i32_488⟩
def k3_off169 (k3_t84 : Fin k3_t84_loop.trips) : Fin 2 → Nat :=
  let c3_i32_728 : BitVec 32 := 3#32
  let v215 : Index := Scalar.indexCast c3_i32_728
  let c0_i32_486 : BitVec 32 := 0#32
  let c1_i32_488 : BitVec 32 := 1#32
  let arg16 : BitVec 32 := Scf.iv c0_i32_486 c1_i32_488 k3_t84
  let c16_i32_726 : BitVec 32 := 16#32
  let v211 : BitVec 32 := Scalar.muli arg16 c16_i32_726
  let v216 : Index := Scalar.indexCast v211
  ![3, v216.toNat]
def k3_off170 (k3_t84 : Fin k3_t84_loop.trips) (c48_i32_729 : BitVec 32) : Fin 2 → Nat :=
  let c0_i32_486 : BitVec 32 := 0#32
  let c1_i32_488 : BitVec 32 := 1#32
  let arg16 : BitVec 32 := Scf.iv c0_i32_486 c1_i32_488 k3_t84
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t85_loop : Scf.Loop 32 :=
  let c0_i32_491 : BitVec 32 := 0#32
  let c64_i32_492 : BitVec 32 := 64#32
  let v153 : BitVec 32 := Scalar.addi c0_i32_491 c64_i32_492
  let c1_i32_493 : BitVec 32 := 1#32
  ⟨c0_i32_491, v153, c1_i32_493⟩
def k3_off171 (k3_t85 : Fin k3_t85_loop.trips) : Fin 2 → Nat :=
  let c4_i32 : BitVec 32 := 4#32
  let v215 : Index := Scalar.indexCast c4_i32
  let c0_i32_491 : BitVec 32 := 0#32
  let c1_i32_493 : BitVec 32 := 1#32
  let arg16 : BitVec 32 := Scf.iv c0_i32_491 c1_i32_493 k3_t85
  let c16_i32_726 : BitVec 32 := 16#32
  let v211 : BitVec 32 := Scalar.muli arg16 c16_i32_726
  let v216 : Index := Scalar.indexCast v211
  ![4, v216.toNat]
def k3_off172 (k3_t85 : Fin k3_t85_loop.trips) (c64_i32_728 : BitVec 32) : Fin 2 → Nat :=
  let c0_i32_491 : BitVec 32 := 0#32
  let c1_i32_493 : BitVec 32 := 1#32
  let arg16 : BitVec 32 := Scf.iv c0_i32_491 c1_i32_493 k3_t85
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t86_loop : Scf.Loop 32 :=
  let c0_i32_496 : BitVec 32 := 0#32
  let c64_i32_497 : BitVec 32 := 64#32
  let v154 : BitVec 32 := Scalar.addi c0_i32_496 c64_i32_497
  let c1_i32_498 : BitVec 32 := 1#32
  ⟨c0_i32_496, v154, c1_i32_498⟩
def k3_off173 (k3_t86 : Fin k3_t86_loop.trips) : Fin 2 → Nat :=
  let c5_i32 : BitVec 32 := 5#32
  let v215 : Index := Scalar.indexCast c5_i32
  let c0_i32_496 : BitVec 32 := 0#32
  let c1_i32_498 : BitVec 32 := 1#32
  let arg16 : BitVec 32 := Scf.iv c0_i32_496 c1_i32_498 k3_t86
  let c16_i32_726 : BitVec 32 := 16#32
  let v211 : BitVec 32 := Scalar.muli arg16 c16_i32_726
  let v216 : Index := Scalar.indexCast v211
  ![5, v216.toNat]
def k3_off174 (k3_t86 : Fin k3_t86_loop.trips) (c80_i32_728 : BitVec 32) : Fin 2 → Nat :=
  let c0_i32_496 : BitVec 32 := 0#32
  let c1_i32_498 : BitVec 32 := 1#32
  let arg16 : BitVec 32 := Scf.iv c0_i32_496 c1_i32_498 k3_t86
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t87_loop : Scf.Loop 32 :=
  let c0_i32_501 : BitVec 32 := 0#32
  let c64_i32_502 : BitVec 32 := 64#32
  let v155 : BitVec 32 := Scalar.addi c0_i32_501 c64_i32_502
  let c1_i32_503 : BitVec 32 := 1#32
  ⟨c0_i32_501, v155, c1_i32_503⟩
def k3_off175 (k3_t87 : Fin k3_t87_loop.trips) : Fin 2 → Nat :=
  let c6_i32 : BitVec 32 := 6#32
  let v215 : Index := Scalar.indexCast c6_i32
  let c0_i32_501 : BitVec 32 := 0#32
  let c1_i32_503 : BitVec 32 := 1#32
  let arg16 : BitVec 32 := Scf.iv c0_i32_501 c1_i32_503 k3_t87
  let c16_i32_726 : BitVec 32 := 16#32
  let v211 : BitVec 32 := Scalar.muli arg16 c16_i32_726
  let v216 : Index := Scalar.indexCast v211
  ![6, v216.toNat]
def k3_off176 (k3_t87 : Fin k3_t87_loop.trips) (c96_i32_728 : BitVec 32) : Fin 2 → Nat :=
  let c0_i32_501 : BitVec 32 := 0#32
  let c1_i32_503 : BitVec 32 := 1#32
  let arg16 : BitVec 32 := Scf.iv c0_i32_501 c1_i32_503 k3_t87
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t88_loop : Scf.Loop 32 :=
  let c0_i32_506 : BitVec 32 := 0#32
  let c64_i32_507 : BitVec 32 := 64#32
  let v156 : BitVec 32 := Scalar.addi c0_i32_506 c64_i32_507
  let c1_i32_508 : BitVec 32 := 1#32
  ⟨c0_i32_506, v156, c1_i32_508⟩
def k3_off177 (k3_t88 : Fin k3_t88_loop.trips) : Fin 2 → Nat :=
  let c7_i32_728 : BitVec 32 := 7#32
  let v215 : Index := Scalar.indexCast c7_i32_728
  let c0_i32_506 : BitVec 32 := 0#32
  let c1_i32_508 : BitVec 32 := 1#32
  let arg16 : BitVec 32 := Scf.iv c0_i32_506 c1_i32_508 k3_t88
  let c16_i32_726 : BitVec 32 := 16#32
  let v211 : BitVec 32 := Scalar.muli arg16 c16_i32_726
  let v216 : Index := Scalar.indexCast v211
  ![7, v216.toNat]
def k3_off178 (k3_t88 : Fin k3_t88_loop.trips) (c112_i32_729 : BitVec 32) : Fin 2 → Nat :=
  let c0_i32_506 : BitVec 32 := 0#32
  let c1_i32_508 : BitVec 32 := 1#32
  let arg16 : BitVec 32 := Scf.iv c0_i32_506 c1_i32_508 k3_t88
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t89_loop : Scf.Loop 32 :=
  let c0_i32_511 : BitVec 32 := 0#32
  let c64_i32_512 : BitVec 32 := 64#32
  let v157 : BitVec 32 := Scalar.addi c0_i32_511 c64_i32_512
  let c1_i32_513 : BitVec 32 := 1#32
  ⟨c0_i32_511, v157, c1_i32_513⟩
def k3_off179 (k3_t89 : Fin k3_t89_loop.trips) : Fin 2 → Nat :=
  let c8_i32_728 : BitVec 32 := 8#32
  let v215 : Index := Scalar.indexCast c8_i32_728
  let c0_i32_511 : BitVec 32 := 0#32
  let c1_i32_513 : BitVec 32 := 1#32
  let arg16 : BitVec 32 := Scf.iv c0_i32_511 c1_i32_513 k3_t89
  let c16_i32_726 : BitVec 32 := 16#32
  let v211 : BitVec 32 := Scalar.muli arg16 c16_i32_726
  let v216 : Index := Scalar.indexCast v211
  ![8, v216.toNat]
def k3_off180 (k3_t89 : Fin k3_t89_loop.trips) (c128_i32_729 : BitVec 32) : Fin 2 → Nat :=
  let c0_i32_511 : BitVec 32 := 0#32
  let c1_i32_513 : BitVec 32 := 1#32
  let arg16 : BitVec 32 := Scf.iv c0_i32_511 c1_i32_513 k3_t89
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t90_loop : Scf.Loop 32 :=
  let c0_i32_516 : BitVec 32 := 0#32
  let c64_i32_517 : BitVec 32 := 64#32
  let v158 : BitVec 32 := Scalar.addi c0_i32_516 c64_i32_517
  let c1_i32_518 : BitVec 32 := 1#32
  ⟨c0_i32_516, v158, c1_i32_518⟩
def k3_off181 (k3_t90 : Fin k3_t90_loop.trips) : Fin 2 → Nat :=
  let c9_i32 : BitVec 32 := 9#32
  let v215 : Index := Scalar.indexCast c9_i32
  let c0_i32_516 : BitVec 32 := 0#32
  let c1_i32_518 : BitVec 32 := 1#32
  let arg16 : BitVec 32 := Scf.iv c0_i32_516 c1_i32_518 k3_t90
  let c16_i32_726 : BitVec 32 := 16#32
  let v211 : BitVec 32 := Scalar.muli arg16 c16_i32_726
  let v216 : Index := Scalar.indexCast v211
  ![9, v216.toNat]
def k3_off182 (k3_t90 : Fin k3_t90_loop.trips) (c144_i32 : BitVec 32) : Fin 2 → Nat :=
  let c0_i32_516 : BitVec 32 := 0#32
  let c1_i32_518 : BitVec 32 := 1#32
  let arg16 : BitVec 32 := Scf.iv c0_i32_516 c1_i32_518 k3_t90
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t91_loop : Scf.Loop 32 :=
  let c0_i32_521 : BitVec 32 := 0#32
  let c64_i32_522 : BitVec 32 := 64#32
  let v159 : BitVec 32 := Scalar.addi c0_i32_521 c64_i32_522
  let c1_i32_523 : BitVec 32 := 1#32
  ⟨c0_i32_521, v159, c1_i32_523⟩
def k3_off183 (k3_t91 : Fin k3_t91_loop.trips) : Fin 2 → Nat :=
  let c10_i32 : BitVec 32 := 10#32
  let v215 : Index := Scalar.indexCast c10_i32
  let c0_i32_521 : BitVec 32 := 0#32
  let c1_i32_523 : BitVec 32 := 1#32
  let arg16 : BitVec 32 := Scf.iv c0_i32_521 c1_i32_523 k3_t91
  let c16_i32_726 : BitVec 32 := 16#32
  let v211 : BitVec 32 := Scalar.muli arg16 c16_i32_726
  let v216 : Index := Scalar.indexCast v211
  ![10, v216.toNat]
def k3_off184 (k3_t91 : Fin k3_t91_loop.trips) (c160_i32 : BitVec 32) : Fin 2 → Nat :=
  let c0_i32_521 : BitVec 32 := 0#32
  let c1_i32_523 : BitVec 32 := 1#32
  let arg16 : BitVec 32 := Scf.iv c0_i32_521 c1_i32_523 k3_t91
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t92_loop : Scf.Loop 32 :=
  let c0_i32_526 : BitVec 32 := 0#32
  let c64_i32_527 : BitVec 32 := 64#32
  let v160 : BitVec 32 := Scalar.addi c0_i32_526 c64_i32_527
  let c1_i32_528 : BitVec 32 := 1#32
  ⟨c0_i32_526, v160, c1_i32_528⟩
def k3_off185 (k3_t92 : Fin k3_t92_loop.trips) : Fin 2 → Nat :=
  let c11_i32 : BitVec 32 := 11#32
  let v215 : Index := Scalar.indexCast c11_i32
  let c0_i32_526 : BitVec 32 := 0#32
  let c1_i32_528 : BitVec 32 := 1#32
  let arg16 : BitVec 32 := Scf.iv c0_i32_526 c1_i32_528 k3_t92
  let c16_i32_726 : BitVec 32 := 16#32
  let v211 : BitVec 32 := Scalar.muli arg16 c16_i32_726
  let v216 : Index := Scalar.indexCast v211
  ![11, v216.toNat]
def k3_off186 (k3_t92 : Fin k3_t92_loop.trips) (c176_i32 : BitVec 32) : Fin 2 → Nat :=
  let c0_i32_526 : BitVec 32 := 0#32
  let c1_i32_528 : BitVec 32 := 1#32
  let arg16 : BitVec 32 := Scf.iv c0_i32_526 c1_i32_528 k3_t92
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t93_loop : Scf.Loop 32 :=
  let c0_i32_531 : BitVec 32 := 0#32
  let c64_i32_532 : BitVec 32 := 64#32
  let v161 : BitVec 32 := Scalar.addi c0_i32_531 c64_i32_532
  let c1_i32_533 : BitVec 32 := 1#32
  ⟨c0_i32_531, v161, c1_i32_533⟩
def k3_off187 (k3_t93 : Fin k3_t93_loop.trips) : Fin 2 → Nat :=
  let c12_i32 : BitVec 32 := 12#32
  let v215 : Index := Scalar.indexCast c12_i32
  let c0_i32_531 : BitVec 32 := 0#32
  let c1_i32_533 : BitVec 32 := 1#32
  let arg16 : BitVec 32 := Scf.iv c0_i32_531 c1_i32_533 k3_t93
  let c16_i32_726 : BitVec 32 := 16#32
  let v211 : BitVec 32 := Scalar.muli arg16 c16_i32_726
  let v216 : Index := Scalar.indexCast v211
  ![12, v216.toNat]
def k3_off188 (k3_t93 : Fin k3_t93_loop.trips) (c192_i32 : BitVec 32) : Fin 2 → Nat :=
  let c0_i32_531 : BitVec 32 := 0#32
  let c1_i32_533 : BitVec 32 := 1#32
  let arg16 : BitVec 32 := Scf.iv c0_i32_531 c1_i32_533 k3_t93
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t94_loop : Scf.Loop 32 :=
  let c0_i32_536 : BitVec 32 := 0#32
  let c64_i32_537 : BitVec 32 := 64#32
  let v162 : BitVec 32 := Scalar.addi c0_i32_536 c64_i32_537
  let c1_i32_538 : BitVec 32 := 1#32
  ⟨c0_i32_536, v162, c1_i32_538⟩
def k3_off189 (k3_t94 : Fin k3_t94_loop.trips) : Fin 2 → Nat :=
  let c13_i32 : BitVec 32 := 13#32
  let v215 : Index := Scalar.indexCast c13_i32
  let c0_i32_536 : BitVec 32 := 0#32
  let c1_i32_538 : BitVec 32 := 1#32
  let arg16 : BitVec 32 := Scf.iv c0_i32_536 c1_i32_538 k3_t94
  let c16_i32_726 : BitVec 32 := 16#32
  let v211 : BitVec 32 := Scalar.muli arg16 c16_i32_726
  let v216 : Index := Scalar.indexCast v211
  ![13, v216.toNat]
def k3_off190 (k3_t94 : Fin k3_t94_loop.trips) (c208_i32 : BitVec 32) : Fin 2 → Nat :=
  let c0_i32_536 : BitVec 32 := 0#32
  let c1_i32_538 : BitVec 32 := 1#32
  let arg16 : BitVec 32 := Scf.iv c0_i32_536 c1_i32_538 k3_t94
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t95_loop : Scf.Loop 32 :=
  let c0_i32_541 : BitVec 32 := 0#32
  let c64_i32_542 : BitVec 32 := 64#32
  let v163 : BitVec 32 := Scalar.addi c0_i32_541 c64_i32_542
  let c1_i32_543 : BitVec 32 := 1#32
  ⟨c0_i32_541, v163, c1_i32_543⟩
def k3_off191 (k3_t95 : Fin k3_t95_loop.trips) : Fin 2 → Nat :=
  let c14_i32 : BitVec 32 := 14#32
  let v215 : Index := Scalar.indexCast c14_i32
  let c0_i32_541 : BitVec 32 := 0#32
  let c1_i32_543 : BitVec 32 := 1#32
  let arg16 : BitVec 32 := Scf.iv c0_i32_541 c1_i32_543 k3_t95
  let c16_i32_726 : BitVec 32 := 16#32
  let v211 : BitVec 32 := Scalar.muli arg16 c16_i32_726
  let v216 : Index := Scalar.indexCast v211
  ![14, v216.toNat]
def k3_off192 (k3_t95 : Fin k3_t95_loop.trips) (c224_i32 : BitVec 32) : Fin 2 → Nat :=
  let c0_i32_541 : BitVec 32 := 0#32
  let c1_i32_543 : BitVec 32 := 1#32
  let arg16 : BitVec 32 := Scf.iv c0_i32_541 c1_i32_543 k3_t95
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t96_loop : Scf.Loop 32 :=
  let c0_i32_546 : BitVec 32 := 0#32
  let c64_i32_547 : BitVec 32 := 64#32
  let v164 : BitVec 32 := Scalar.addi c0_i32_546 c64_i32_547
  let c1_i32_548 : BitVec 32 := 1#32
  ⟨c0_i32_546, v164, c1_i32_548⟩
def k3_off193 (k3_t96 : Fin k3_t96_loop.trips) : Fin 2 → Nat :=
  let c15_i32 : BitVec 32 := 15#32
  let v215 : Index := Scalar.indexCast c15_i32
  let c0_i32_546 : BitVec 32 := 0#32
  let c1_i32_548 : BitVec 32 := 1#32
  let arg16 : BitVec 32 := Scf.iv c0_i32_546 c1_i32_548 k3_t96
  let c16_i32_726 : BitVec 32 := 16#32
  let v211 : BitVec 32 := Scalar.muli arg16 c16_i32_726
  let v216 : Index := Scalar.indexCast v211
  ![15, v216.toNat]
def k3_off194 (k3_t96 : Fin k3_t96_loop.trips) (c240_i32 : BitVec 32) : Fin 2 → Nat :=
  let c0_i32_546 : BitVec 32 := 0#32
  let c1_i32_548 : BitVec 32 := 1#32
  let arg16 : BitVec 32 := Scf.iv c0_i32_546 c1_i32_548 k3_t96
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t97_loop : Scf.Loop 32 :=
  let c0_i32_562 : BitVec 32 := 0#32
  let c64_i32_563 : BitVec 32 := 64#32
  let v175 : BitVec 32 := Scalar.addi c0_i32_562 c64_i32_563
  let c1_i32_564 : BitVec 32 := 1#32
  ⟨c0_i32_562, v175, c1_i32_564⟩
def k3_off195 (k3_t97 : Fin k3_t97_loop.trips) : Fin 2 → Nat :=
  let c0_i32_728 : BitVec 32 := 0#32
  let v215 : Index := Scalar.indexCast c0_i32_728
  let c0_i32_562 : BitVec 32 := 0#32
  let c1_i32_564 : BitVec 32 := 1#32
  let arg16 : BitVec 32 := Scf.iv c0_i32_562 c1_i32_564 k3_t97
  let c16_i32_726 : BitVec 32 := 16#32
  let v211 : BitVec 32 := Scalar.muli arg16 c16_i32_726
  let v216 : Index := Scalar.indexCast v211
  ![0, v216.toNat]
def k3_off196 (k3_t97 : Fin k3_t97_loop.trips) (c0_i32_729 : BitVec 32) : Fin 2 → Nat :=
  let c0_i32_562 : BitVec 32 := 0#32
  let c1_i32_564 : BitVec 32 := 1#32
  let arg16 : BitVec 32 := Scf.iv c0_i32_562 c1_i32_564 k3_t97
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t98_loop : Scf.Loop 32 :=
  let c0_i32_567 : BitVec 32 := 0#32
  let c64_i32_568 : BitVec 32 := 64#32
  let v176 : BitVec 32 := Scalar.addi c0_i32_567 c64_i32_568
  let c1_i32_569 : BitVec 32 := 1#32
  ⟨c0_i32_567, v176, c1_i32_569⟩
def k3_off197 (k3_t98 : Fin k3_t98_loop.trips) : Fin 2 → Nat :=
  let c1_i32_728 : BitVec 32 := 1#32
  let v215 : Index := Scalar.indexCast c1_i32_728
  let c0_i32_567 : BitVec 32 := 0#32
  let c1_i32_569 : BitVec 32 := 1#32
  let arg16 : BitVec 32 := Scf.iv c0_i32_567 c1_i32_569 k3_t98
  let c16_i32_726 : BitVec 32 := 16#32
  let v211 : BitVec 32 := Scalar.muli arg16 c16_i32_726
  let v216 : Index := Scalar.indexCast v211
  ![1, v216.toNat]
def k3_off198 (k3_t98 : Fin k3_t98_loop.trips) (c16_i32_729 : BitVec 32) : Fin 2 → Nat :=
  let c0_i32_567 : BitVec 32 := 0#32
  let c1_i32_569 : BitVec 32 := 1#32
  let arg16 : BitVec 32 := Scf.iv c0_i32_567 c1_i32_569 k3_t98
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t99_loop : Scf.Loop 32 :=
  let c0_i32_572 : BitVec 32 := 0#32
  let c64_i32_573 : BitVec 32 := 64#32
  let v177 : BitVec 32 := Scalar.addi c0_i32_572 c64_i32_573
  let c1_i32_574 : BitVec 32 := 1#32
  ⟨c0_i32_572, v177, c1_i32_574⟩
def k3_off199 (k3_t99 : Fin k3_t99_loop.trips) : Fin 2 → Nat :=
  let c2_i32_728 : BitVec 32 := 2#32
  let v215 : Index := Scalar.indexCast c2_i32_728
  let c0_i32_572 : BitVec 32 := 0#32
  let c1_i32_574 : BitVec 32 := 1#32
  let arg16 : BitVec 32 := Scf.iv c0_i32_572 c1_i32_574 k3_t99
  let c16_i32_726 : BitVec 32 := 16#32
  let v211 : BitVec 32 := Scalar.muli arg16 c16_i32_726
  let v216 : Index := Scalar.indexCast v211
  ![2, v216.toNat]
def k3_off200 (k3_t99 : Fin k3_t99_loop.trips) (c32_i32_729 : BitVec 32) : Fin 2 → Nat :=
  let c0_i32_572 : BitVec 32 := 0#32
  let c1_i32_574 : BitVec 32 := 1#32
  let arg16 : BitVec 32 := Scf.iv c0_i32_572 c1_i32_574 k3_t99
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t100_loop : Scf.Loop 32 :=
  let c0_i32_577 : BitVec 32 := 0#32
  let c64_i32_578 : BitVec 32 := 64#32
  let v178 : BitVec 32 := Scalar.addi c0_i32_577 c64_i32_578
  let c1_i32_579 : BitVec 32 := 1#32
  ⟨c0_i32_577, v178, c1_i32_579⟩
def k3_off201 (k3_t100 : Fin k3_t100_loop.trips) : Fin 2 → Nat :=
  let c3_i32_728 : BitVec 32 := 3#32
  let v215 : Index := Scalar.indexCast c3_i32_728
  let c0_i32_577 : BitVec 32 := 0#32
  let c1_i32_579 : BitVec 32 := 1#32
  let arg16 : BitVec 32 := Scf.iv c0_i32_577 c1_i32_579 k3_t100
  let c16_i32_726 : BitVec 32 := 16#32
  let v211 : BitVec 32 := Scalar.muli arg16 c16_i32_726
  let v216 : Index := Scalar.indexCast v211
  ![3, v216.toNat]
def k3_off202 (k3_t100 : Fin k3_t100_loop.trips) (c48_i32_729 : BitVec 32) : Fin 2 → Nat :=
  let c0_i32_577 : BitVec 32 := 0#32
  let c1_i32_579 : BitVec 32 := 1#32
  let arg16 : BitVec 32 := Scf.iv c0_i32_577 c1_i32_579 k3_t100
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t101_loop : Scf.Loop 32 :=
  let c0_i32_582 : BitVec 32 := 0#32
  let c64_i32_583 : BitVec 32 := 64#32
  let v179 : BitVec 32 := Scalar.addi c0_i32_582 c64_i32_583
  let c1_i32_584 : BitVec 32 := 1#32
  ⟨c0_i32_582, v179, c1_i32_584⟩
def k3_off203 (k3_t101 : Fin k3_t101_loop.trips) : Fin 2 → Nat :=
  let c4_i32 : BitVec 32 := 4#32
  let v215 : Index := Scalar.indexCast c4_i32
  let c0_i32_582 : BitVec 32 := 0#32
  let c1_i32_584 : BitVec 32 := 1#32
  let arg16 : BitVec 32 := Scf.iv c0_i32_582 c1_i32_584 k3_t101
  let c16_i32_726 : BitVec 32 := 16#32
  let v211 : BitVec 32 := Scalar.muli arg16 c16_i32_726
  let v216 : Index := Scalar.indexCast v211
  ![4, v216.toNat]
def k3_off204 (k3_t101 : Fin k3_t101_loop.trips) (c64_i32_728 : BitVec 32) : Fin 2 → Nat :=
  let c0_i32_582 : BitVec 32 := 0#32
  let c1_i32_584 : BitVec 32 := 1#32
  let arg16 : BitVec 32 := Scf.iv c0_i32_582 c1_i32_584 k3_t101
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t102_loop : Scf.Loop 32 :=
  let c0_i32_587 : BitVec 32 := 0#32
  let c64_i32_588 : BitVec 32 := 64#32
  let v180 : BitVec 32 := Scalar.addi c0_i32_587 c64_i32_588
  let c1_i32_589 : BitVec 32 := 1#32
  ⟨c0_i32_587, v180, c1_i32_589⟩
def k3_off205 (k3_t102 : Fin k3_t102_loop.trips) : Fin 2 → Nat :=
  let c5_i32 : BitVec 32 := 5#32
  let v215 : Index := Scalar.indexCast c5_i32
  let c0_i32_587 : BitVec 32 := 0#32
  let c1_i32_589 : BitVec 32 := 1#32
  let arg16 : BitVec 32 := Scf.iv c0_i32_587 c1_i32_589 k3_t102
  let c16_i32_726 : BitVec 32 := 16#32
  let v211 : BitVec 32 := Scalar.muli arg16 c16_i32_726
  let v216 : Index := Scalar.indexCast v211
  ![5, v216.toNat]
def k3_off206 (k3_t102 : Fin k3_t102_loop.trips) (c80_i32_728 : BitVec 32) : Fin 2 → Nat :=
  let c0_i32_587 : BitVec 32 := 0#32
  let c1_i32_589 : BitVec 32 := 1#32
  let arg16 : BitVec 32 := Scf.iv c0_i32_587 c1_i32_589 k3_t102
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t103_loop : Scf.Loop 32 :=
  let c0_i32_592 : BitVec 32 := 0#32
  let c64_i32_593 : BitVec 32 := 64#32
  let v181 : BitVec 32 := Scalar.addi c0_i32_592 c64_i32_593
  let c1_i32_594 : BitVec 32 := 1#32
  ⟨c0_i32_592, v181, c1_i32_594⟩
def k3_off207 (k3_t103 : Fin k3_t103_loop.trips) : Fin 2 → Nat :=
  let c6_i32 : BitVec 32 := 6#32
  let v215 : Index := Scalar.indexCast c6_i32
  let c0_i32_592 : BitVec 32 := 0#32
  let c1_i32_594 : BitVec 32 := 1#32
  let arg16 : BitVec 32 := Scf.iv c0_i32_592 c1_i32_594 k3_t103
  let c16_i32_726 : BitVec 32 := 16#32
  let v211 : BitVec 32 := Scalar.muli arg16 c16_i32_726
  let v216 : Index := Scalar.indexCast v211
  ![6, v216.toNat]
def k3_off208 (k3_t103 : Fin k3_t103_loop.trips) (c96_i32_728 : BitVec 32) : Fin 2 → Nat :=
  let c0_i32_592 : BitVec 32 := 0#32
  let c1_i32_594 : BitVec 32 := 1#32
  let arg16 : BitVec 32 := Scf.iv c0_i32_592 c1_i32_594 k3_t103
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t104_loop : Scf.Loop 32 :=
  let c0_i32_597 : BitVec 32 := 0#32
  let c64_i32_598 : BitVec 32 := 64#32
  let v182 : BitVec 32 := Scalar.addi c0_i32_597 c64_i32_598
  let c1_i32_599 : BitVec 32 := 1#32
  ⟨c0_i32_597, v182, c1_i32_599⟩
def k3_off209 (k3_t104 : Fin k3_t104_loop.trips) : Fin 2 → Nat :=
  let c7_i32_728 : BitVec 32 := 7#32
  let v215 : Index := Scalar.indexCast c7_i32_728
  let c0_i32_597 : BitVec 32 := 0#32
  let c1_i32_599 : BitVec 32 := 1#32
  let arg16 : BitVec 32 := Scf.iv c0_i32_597 c1_i32_599 k3_t104
  let c16_i32_726 : BitVec 32 := 16#32
  let v211 : BitVec 32 := Scalar.muli arg16 c16_i32_726
  let v216 : Index := Scalar.indexCast v211
  ![7, v216.toNat]
def k3_off210 (k3_t104 : Fin k3_t104_loop.trips) (c112_i32_729 : BitVec 32) : Fin 2 → Nat :=
  let c0_i32_597 : BitVec 32 := 0#32
  let c1_i32_599 : BitVec 32 := 1#32
  let arg16 : BitVec 32 := Scf.iv c0_i32_597 c1_i32_599 k3_t104
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t105_loop : Scf.Loop 32 :=
  let c0_i32_602 : BitVec 32 := 0#32
  let c64_i32_603 : BitVec 32 := 64#32
  let v183 : BitVec 32 := Scalar.addi c0_i32_602 c64_i32_603
  let c1_i32_604 : BitVec 32 := 1#32
  ⟨c0_i32_602, v183, c1_i32_604⟩
def k3_off211 (k3_t105 : Fin k3_t105_loop.trips) : Fin 2 → Nat :=
  let c8_i32_728 : BitVec 32 := 8#32
  let v215 : Index := Scalar.indexCast c8_i32_728
  let c0_i32_602 : BitVec 32 := 0#32
  let c1_i32_604 : BitVec 32 := 1#32
  let arg16 : BitVec 32 := Scf.iv c0_i32_602 c1_i32_604 k3_t105
  let c16_i32_726 : BitVec 32 := 16#32
  let v211 : BitVec 32 := Scalar.muli arg16 c16_i32_726
  let v216 : Index := Scalar.indexCast v211
  ![8, v216.toNat]
def k3_off212 (k3_t105 : Fin k3_t105_loop.trips) (c128_i32_729 : BitVec 32) : Fin 2 → Nat :=
  let c0_i32_602 : BitVec 32 := 0#32
  let c1_i32_604 : BitVec 32 := 1#32
  let arg16 : BitVec 32 := Scf.iv c0_i32_602 c1_i32_604 k3_t105
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t106_loop : Scf.Loop 32 :=
  let c0_i32_607 : BitVec 32 := 0#32
  let c64_i32_608 : BitVec 32 := 64#32
  let v184 : BitVec 32 := Scalar.addi c0_i32_607 c64_i32_608
  let c1_i32_609 : BitVec 32 := 1#32
  ⟨c0_i32_607, v184, c1_i32_609⟩
def k3_off213 (k3_t106 : Fin k3_t106_loop.trips) : Fin 2 → Nat :=
  let c9_i32 : BitVec 32 := 9#32
  let v215 : Index := Scalar.indexCast c9_i32
  let c0_i32_607 : BitVec 32 := 0#32
  let c1_i32_609 : BitVec 32 := 1#32
  let arg16 : BitVec 32 := Scf.iv c0_i32_607 c1_i32_609 k3_t106
  let c16_i32_726 : BitVec 32 := 16#32
  let v211 : BitVec 32 := Scalar.muli arg16 c16_i32_726
  let v216 : Index := Scalar.indexCast v211
  ![9, v216.toNat]
def k3_off214 (k3_t106 : Fin k3_t106_loop.trips) (c144_i32 : BitVec 32) : Fin 2 → Nat :=
  let c0_i32_607 : BitVec 32 := 0#32
  let c1_i32_609 : BitVec 32 := 1#32
  let arg16 : BitVec 32 := Scf.iv c0_i32_607 c1_i32_609 k3_t106
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t107_loop : Scf.Loop 32 :=
  let c0_i32_612 : BitVec 32 := 0#32
  let c64_i32_613 : BitVec 32 := 64#32
  let v185 : BitVec 32 := Scalar.addi c0_i32_612 c64_i32_613
  let c1_i32_614 : BitVec 32 := 1#32
  ⟨c0_i32_612, v185, c1_i32_614⟩
def k3_off215 (k3_t107 : Fin k3_t107_loop.trips) : Fin 2 → Nat :=
  let c10_i32 : BitVec 32 := 10#32
  let v215 : Index := Scalar.indexCast c10_i32
  let c0_i32_612 : BitVec 32 := 0#32
  let c1_i32_614 : BitVec 32 := 1#32
  let arg16 : BitVec 32 := Scf.iv c0_i32_612 c1_i32_614 k3_t107
  let c16_i32_726 : BitVec 32 := 16#32
  let v211 : BitVec 32 := Scalar.muli arg16 c16_i32_726
  let v216 : Index := Scalar.indexCast v211
  ![10, v216.toNat]
def k3_off216 (k3_t107 : Fin k3_t107_loop.trips) (c160_i32 : BitVec 32) : Fin 2 → Nat :=
  let c0_i32_612 : BitVec 32 := 0#32
  let c1_i32_614 : BitVec 32 := 1#32
  let arg16 : BitVec 32 := Scf.iv c0_i32_612 c1_i32_614 k3_t107
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t108_loop : Scf.Loop 32 :=
  let c0_i32_617 : BitVec 32 := 0#32
  let c64_i32_618 : BitVec 32 := 64#32
  let v186 : BitVec 32 := Scalar.addi c0_i32_617 c64_i32_618
  let c1_i32_619 : BitVec 32 := 1#32
  ⟨c0_i32_617, v186, c1_i32_619⟩
def k3_off217 (k3_t108 : Fin k3_t108_loop.trips) : Fin 2 → Nat :=
  let c11_i32 : BitVec 32 := 11#32
  let v215 : Index := Scalar.indexCast c11_i32
  let c0_i32_617 : BitVec 32 := 0#32
  let c1_i32_619 : BitVec 32 := 1#32
  let arg16 : BitVec 32 := Scf.iv c0_i32_617 c1_i32_619 k3_t108
  let c16_i32_726 : BitVec 32 := 16#32
  let v211 : BitVec 32 := Scalar.muli arg16 c16_i32_726
  let v216 : Index := Scalar.indexCast v211
  ![11, v216.toNat]
def k3_off218 (k3_t108 : Fin k3_t108_loop.trips) (c176_i32 : BitVec 32) : Fin 2 → Nat :=
  let c0_i32_617 : BitVec 32 := 0#32
  let c1_i32_619 : BitVec 32 := 1#32
  let arg16 : BitVec 32 := Scf.iv c0_i32_617 c1_i32_619 k3_t108
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t109_loop : Scf.Loop 32 :=
  let c0_i32_622 : BitVec 32 := 0#32
  let c64_i32_623 : BitVec 32 := 64#32
  let v187 : BitVec 32 := Scalar.addi c0_i32_622 c64_i32_623
  let c1_i32_624 : BitVec 32 := 1#32
  ⟨c0_i32_622, v187, c1_i32_624⟩
def k3_off219 (k3_t109 : Fin k3_t109_loop.trips) : Fin 2 → Nat :=
  let c12_i32 : BitVec 32 := 12#32
  let v215 : Index := Scalar.indexCast c12_i32
  let c0_i32_622 : BitVec 32 := 0#32
  let c1_i32_624 : BitVec 32 := 1#32
  let arg16 : BitVec 32 := Scf.iv c0_i32_622 c1_i32_624 k3_t109
  let c16_i32_726 : BitVec 32 := 16#32
  let v211 : BitVec 32 := Scalar.muli arg16 c16_i32_726
  let v216 : Index := Scalar.indexCast v211
  ![12, v216.toNat]
def k3_off220 (k3_t109 : Fin k3_t109_loop.trips) (c192_i32 : BitVec 32) : Fin 2 → Nat :=
  let c0_i32_622 : BitVec 32 := 0#32
  let c1_i32_624 : BitVec 32 := 1#32
  let arg16 : BitVec 32 := Scf.iv c0_i32_622 c1_i32_624 k3_t109
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t110_loop : Scf.Loop 32 :=
  let c0_i32_627 : BitVec 32 := 0#32
  let c64_i32_628 : BitVec 32 := 64#32
  let v188 : BitVec 32 := Scalar.addi c0_i32_627 c64_i32_628
  let c1_i32_629 : BitVec 32 := 1#32
  ⟨c0_i32_627, v188, c1_i32_629⟩
def k3_off221 (k3_t110 : Fin k3_t110_loop.trips) : Fin 2 → Nat :=
  let c13_i32 : BitVec 32 := 13#32
  let v215 : Index := Scalar.indexCast c13_i32
  let c0_i32_627 : BitVec 32 := 0#32
  let c1_i32_629 : BitVec 32 := 1#32
  let arg16 : BitVec 32 := Scf.iv c0_i32_627 c1_i32_629 k3_t110
  let c16_i32_726 : BitVec 32 := 16#32
  let v211 : BitVec 32 := Scalar.muli arg16 c16_i32_726
  let v216 : Index := Scalar.indexCast v211
  ![13, v216.toNat]
def k3_off222 (k3_t110 : Fin k3_t110_loop.trips) (c208_i32 : BitVec 32) : Fin 2 → Nat :=
  let c0_i32_627 : BitVec 32 := 0#32
  let c1_i32_629 : BitVec 32 := 1#32
  let arg16 : BitVec 32 := Scf.iv c0_i32_627 c1_i32_629 k3_t110
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t111_loop : Scf.Loop 32 :=
  let c0_i32_632 : BitVec 32 := 0#32
  let c64_i32_633 : BitVec 32 := 64#32
  let v189 : BitVec 32 := Scalar.addi c0_i32_632 c64_i32_633
  let c1_i32_634 : BitVec 32 := 1#32
  ⟨c0_i32_632, v189, c1_i32_634⟩
def k3_off223 (k3_t111 : Fin k3_t111_loop.trips) : Fin 2 → Nat :=
  let c14_i32 : BitVec 32 := 14#32
  let v215 : Index := Scalar.indexCast c14_i32
  let c0_i32_632 : BitVec 32 := 0#32
  let c1_i32_634 : BitVec 32 := 1#32
  let arg16 : BitVec 32 := Scf.iv c0_i32_632 c1_i32_634 k3_t111
  let c16_i32_726 : BitVec 32 := 16#32
  let v211 : BitVec 32 := Scalar.muli arg16 c16_i32_726
  let v216 : Index := Scalar.indexCast v211
  ![14, v216.toNat]
def k3_off224 (k3_t111 : Fin k3_t111_loop.trips) (c224_i32 : BitVec 32) : Fin 2 → Nat :=
  let c0_i32_632 : BitVec 32 := 0#32
  let c1_i32_634 : BitVec 32 := 1#32
  let arg16 : BitVec 32 := Scf.iv c0_i32_632 c1_i32_634 k3_t111
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t112_loop : Scf.Loop 32 :=
  let c0_i32_637 : BitVec 32 := 0#32
  let c64_i32_638 : BitVec 32 := 64#32
  let v190 : BitVec 32 := Scalar.addi c0_i32_637 c64_i32_638
  let c1_i32_639 : BitVec 32 := 1#32
  ⟨c0_i32_637, v190, c1_i32_639⟩
def k3_off225 (k3_t112 : Fin k3_t112_loop.trips) : Fin 2 → Nat :=
  let c15_i32 : BitVec 32 := 15#32
  let v215 : Index := Scalar.indexCast c15_i32
  let c0_i32_637 : BitVec 32 := 0#32
  let c1_i32_639 : BitVec 32 := 1#32
  let arg16 : BitVec 32 := Scf.iv c0_i32_637 c1_i32_639 k3_t112
  let c16_i32_726 : BitVec 32 := 16#32
  let v211 : BitVec 32 := Scalar.muli arg16 c16_i32_726
  let v216 : Index := Scalar.indexCast v211
  ![15, v216.toNat]
def k3_off226 (k3_t112 : Fin k3_t112_loop.trips) (c240_i32 : BitVec 32) : Fin 2 → Nat :=
  let c0_i32_637 : BitVec 32 := 0#32
  let c1_i32_639 : BitVec 32 := 1#32
  let arg16 : BitVec 32 := Scf.iv c0_i32_637 c1_i32_639 k3_t112
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t113_loop : Scf.Loop 32 :=
  let c0_i32_647 : BitVec 32 := 0#32
  let c64_i32_648 : BitVec 32 := 64#32
  let v195 : BitVec 32 := Scalar.addi c0_i32_647 c64_i32_648
  let c1_i32_649 : BitVec 32 := 1#32
  ⟨c0_i32_647, v195, c1_i32_649⟩
def k3_off227 (k3_t113 : Fin k3_t113_loop.trips) : Fin 2 → Nat :=
  let c0_i32_728 : BitVec 32 := 0#32
  let v215 : Index := Scalar.indexCast c0_i32_728
  let c0_i32_647 : BitVec 32 := 0#32
  let c1_i32_649 : BitVec 32 := 1#32
  let arg16 : BitVec 32 := Scf.iv c0_i32_647 c1_i32_649 k3_t113
  let c16_i32_726 : BitVec 32 := 16#32
  let v211 : BitVec 32 := Scalar.muli arg16 c16_i32_726
  let v216 : Index := Scalar.indexCast v211
  ![0, v216.toNat]
def k3_off228 (k3_t113 : Fin k3_t113_loop.trips) (c0_i32_729 : BitVec 32) : Fin 2 → Nat :=
  let c0_i32_647 : BitVec 32 := 0#32
  let c1_i32_649 : BitVec 32 := 1#32
  let arg16 : BitVec 32 := Scf.iv c0_i32_647 c1_i32_649 k3_t113
  let c3_i32 : BitVec 32 := 3#32
  let v212 : BitVec 32 := Scalar.shrui arg16 c3_i32
  let v219 : BitVec 32 := Scalar.addi c0_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t114_loop : Scf.Loop 32 :=
  let c0_i32_652 : BitVec 32 := 0#32
  let c64_i32_653 : BitVec 32 := 64#32
  let v196 : BitVec 32 := Scalar.addi c0_i32_652 c64_i32_653
  let c1_i32_654 : BitVec 32 := 1#32
  ⟨c0_i32_652, v196, c1_i32_654⟩
def k3_off229 (k3_t114 : Fin k3_t114_loop.trips) : Fin 2 → Nat :=
  let c1_i32_728 : BitVec 32 := 1#32
  let v215 : Index := Scalar.indexCast c1_i32_728
  let c0_i32_652 : BitVec 32 := 0#32
  let c1_i32_654 : BitVec 32 := 1#32
  let arg16 : BitVec 32 := Scf.iv c0_i32_652 c1_i32_654 k3_t114
  let c16_i32_726 : BitVec 32 := 16#32
  let v211 : BitVec 32 := Scalar.muli arg16 c16_i32_726
  let v216 : Index := Scalar.indexCast v211
  ![1, v216.toNat]
def k3_off230 (k3_t114 : Fin k3_t114_loop.trips) (c16_i32_729 : BitVec 32) : Fin 2 → Nat :=
  let c0_i32_652 : BitVec 32 := 0#32
  let c1_i32_654 : BitVec 32 := 1#32
  let arg16 : BitVec 32 := Scf.iv c0_i32_652 c1_i32_654 k3_t114
  let c3_i32 : BitVec 32 := 3#32
  let v212 : BitVec 32 := Scalar.shrui arg16 c3_i32
  let v219 : BitVec 32 := Scalar.addi c16_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t115_loop : Scf.Loop 32 :=
  let c0_i32_657 : BitVec 32 := 0#32
  let c64_i32_658 : BitVec 32 := 64#32
  let v197 : BitVec 32 := Scalar.addi c0_i32_657 c64_i32_658
  let c1_i32_659 : BitVec 32 := 1#32
  ⟨c0_i32_657, v197, c1_i32_659⟩
def k3_off231 (k3_t115 : Fin k3_t115_loop.trips) : Fin 2 → Nat :=
  let c2_i32_728 : BitVec 32 := 2#32
  let v215 : Index := Scalar.indexCast c2_i32_728
  let c0_i32_657 : BitVec 32 := 0#32
  let c1_i32_659 : BitVec 32 := 1#32
  let arg16 : BitVec 32 := Scf.iv c0_i32_657 c1_i32_659 k3_t115
  let c16_i32_726 : BitVec 32 := 16#32
  let v211 : BitVec 32 := Scalar.muli arg16 c16_i32_726
  let v216 : Index := Scalar.indexCast v211
  ![2, v216.toNat]
def k3_off232 (k3_t115 : Fin k3_t115_loop.trips) (c32_i32_729 : BitVec 32) : Fin 2 → Nat :=
  let c0_i32_657 : BitVec 32 := 0#32
  let c1_i32_659 : BitVec 32 := 1#32
  let arg16 : BitVec 32 := Scf.iv c0_i32_657 c1_i32_659 k3_t115
  let c3_i32 : BitVec 32 := 3#32
  let v212 : BitVec 32 := Scalar.shrui arg16 c3_i32
  let v219 : BitVec 32 := Scalar.addi c32_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t116_loop : Scf.Loop 32 :=
  let c0_i32_662 : BitVec 32 := 0#32
  let c64_i32_663 : BitVec 32 := 64#32
  let v198 : BitVec 32 := Scalar.addi c0_i32_662 c64_i32_663
  let c1_i32_664 : BitVec 32 := 1#32
  ⟨c0_i32_662, v198, c1_i32_664⟩
def k3_off233 (k3_t116 : Fin k3_t116_loop.trips) : Fin 2 → Nat :=
  let c3_i32_728 : BitVec 32 := 3#32
  let v215 : Index := Scalar.indexCast c3_i32_728
  let c0_i32_662 : BitVec 32 := 0#32
  let c1_i32_664 : BitVec 32 := 1#32
  let arg16 : BitVec 32 := Scf.iv c0_i32_662 c1_i32_664 k3_t116
  let c16_i32_726 : BitVec 32 := 16#32
  let v211 : BitVec 32 := Scalar.muli arg16 c16_i32_726
  let v216 : Index := Scalar.indexCast v211
  ![3, v216.toNat]
def k3_off234 (k3_t116 : Fin k3_t116_loop.trips) (c48_i32_729 : BitVec 32) : Fin 2 → Nat :=
  let c0_i32_662 : BitVec 32 := 0#32
  let c1_i32_664 : BitVec 32 := 1#32
  let arg16 : BitVec 32 := Scf.iv c0_i32_662 c1_i32_664 k3_t116
  let c3_i32 : BitVec 32 := 3#32
  let v212 : BitVec 32 := Scalar.shrui arg16 c3_i32
  let v219 : BitVec 32 := Scalar.addi c48_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t117_loop : Scf.Loop 32 :=
  let c0_i32_667 : BitVec 32 := 0#32
  let c64_i32_668 : BitVec 32 := 64#32
  let v199 : BitVec 32 := Scalar.addi c0_i32_667 c64_i32_668
  let c1_i32_669 : BitVec 32 := 1#32
  ⟨c0_i32_667, v199, c1_i32_669⟩
def k3_off235 (k3_t117 : Fin k3_t117_loop.trips) : Fin 2 → Nat :=
  let c4_i32 : BitVec 32 := 4#32
  let v215 : Index := Scalar.indexCast c4_i32
  let c0_i32_667 : BitVec 32 := 0#32
  let c1_i32_669 : BitVec 32 := 1#32
  let arg16 : BitVec 32 := Scf.iv c0_i32_667 c1_i32_669 k3_t117
  let c16_i32_726 : BitVec 32 := 16#32
  let v211 : BitVec 32 := Scalar.muli arg16 c16_i32_726
  let v216 : Index := Scalar.indexCast v211
  ![4, v216.toNat]
def k3_off236 (k3_t117 : Fin k3_t117_loop.trips) (c64_i32_728 : BitVec 32) : Fin 2 → Nat :=
  let c0_i32_667 : BitVec 32 := 0#32
  let c1_i32_669 : BitVec 32 := 1#32
  let arg16 : BitVec 32 := Scf.iv c0_i32_667 c1_i32_669 k3_t117
  let c3_i32 : BitVec 32 := 3#32
  let v212 : BitVec 32 := Scalar.shrui arg16 c3_i32
  let v219 : BitVec 32 := Scalar.addi c64_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t118_loop : Scf.Loop 32 :=
  let c0_i32_672 : BitVec 32 := 0#32
  let c64_i32_673 : BitVec 32 := 64#32
  let v200 : BitVec 32 := Scalar.addi c0_i32_672 c64_i32_673
  let c1_i32_674 : BitVec 32 := 1#32
  ⟨c0_i32_672, v200, c1_i32_674⟩
def k3_off237 (k3_t118 : Fin k3_t118_loop.trips) : Fin 2 → Nat :=
  let c5_i32 : BitVec 32 := 5#32
  let v215 : Index := Scalar.indexCast c5_i32
  let c0_i32_672 : BitVec 32 := 0#32
  let c1_i32_674 : BitVec 32 := 1#32
  let arg16 : BitVec 32 := Scf.iv c0_i32_672 c1_i32_674 k3_t118
  let c16_i32_726 : BitVec 32 := 16#32
  let v211 : BitVec 32 := Scalar.muli arg16 c16_i32_726
  let v216 : Index := Scalar.indexCast v211
  ![5, v216.toNat]
def k3_off238 (k3_t118 : Fin k3_t118_loop.trips) (c80_i32_728 : BitVec 32) : Fin 2 → Nat :=
  let c0_i32_672 : BitVec 32 := 0#32
  let c1_i32_674 : BitVec 32 := 1#32
  let arg16 : BitVec 32 := Scf.iv c0_i32_672 c1_i32_674 k3_t118
  let c3_i32 : BitVec 32 := 3#32
  let v212 : BitVec 32 := Scalar.shrui arg16 c3_i32
  let v219 : BitVec 32 := Scalar.addi c80_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t119_loop : Scf.Loop 32 :=
  let c0_i32_677 : BitVec 32 := 0#32
  let c64_i32_678 : BitVec 32 := 64#32
  let v201 : BitVec 32 := Scalar.addi c0_i32_677 c64_i32_678
  let c1_i32_679 : BitVec 32 := 1#32
  ⟨c0_i32_677, v201, c1_i32_679⟩
def k3_off239 (k3_t119 : Fin k3_t119_loop.trips) : Fin 2 → Nat :=
  let c6_i32 : BitVec 32 := 6#32
  let v215 : Index := Scalar.indexCast c6_i32
  let c0_i32_677 : BitVec 32 := 0#32
  let c1_i32_679 : BitVec 32 := 1#32
  let arg16 : BitVec 32 := Scf.iv c0_i32_677 c1_i32_679 k3_t119
  let c16_i32_726 : BitVec 32 := 16#32
  let v211 : BitVec 32 := Scalar.muli arg16 c16_i32_726
  let v216 : Index := Scalar.indexCast v211
  ![6, v216.toNat]
def k3_off240 (k3_t119 : Fin k3_t119_loop.trips) (c96_i32_728 : BitVec 32) : Fin 2 → Nat :=
  let c0_i32_677 : BitVec 32 := 0#32
  let c1_i32_679 : BitVec 32 := 1#32
  let arg16 : BitVec 32 := Scf.iv c0_i32_677 c1_i32_679 k3_t119
  let c3_i32 : BitVec 32 := 3#32
  let v212 : BitVec 32 := Scalar.shrui arg16 c3_i32
  let v219 : BitVec 32 := Scalar.addi c96_i32_728 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t120_loop : Scf.Loop 32 :=
  let c0_i32_682 : BitVec 32 := 0#32
  let c64_i32_683 : BitVec 32 := 64#32
  let v202 : BitVec 32 := Scalar.addi c0_i32_682 c64_i32_683
  let c1_i32_684 : BitVec 32 := 1#32
  ⟨c0_i32_682, v202, c1_i32_684⟩
def k3_off241 (k3_t120 : Fin k3_t120_loop.trips) : Fin 2 → Nat :=
  let c7_i32_728 : BitVec 32 := 7#32
  let v215 : Index := Scalar.indexCast c7_i32_728
  let c0_i32_682 : BitVec 32 := 0#32
  let c1_i32_684 : BitVec 32 := 1#32
  let arg16 : BitVec 32 := Scf.iv c0_i32_682 c1_i32_684 k3_t120
  let c16_i32_726 : BitVec 32 := 16#32
  let v211 : BitVec 32 := Scalar.muli arg16 c16_i32_726
  let v216 : Index := Scalar.indexCast v211
  ![7, v216.toNat]
def k3_off242 (k3_t120 : Fin k3_t120_loop.trips) (c112_i32_729 : BitVec 32) : Fin 2 → Nat :=
  let c0_i32_682 : BitVec 32 := 0#32
  let c1_i32_684 : BitVec 32 := 1#32
  let arg16 : BitVec 32 := Scf.iv c0_i32_682 c1_i32_684 k3_t120
  let c3_i32 : BitVec 32 := 3#32
  let v212 : BitVec 32 := Scalar.shrui arg16 c3_i32
  let v219 : BitVec 32 := Scalar.addi c112_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t121_loop : Scf.Loop 32 :=
  let c0_i32_687 : BitVec 32 := 0#32
  let c64_i32_688 : BitVec 32 := 64#32
  let v203 : BitVec 32 := Scalar.addi c0_i32_687 c64_i32_688
  let c1_i32_689 : BitVec 32 := 1#32
  ⟨c0_i32_687, v203, c1_i32_689⟩
def k3_off243 (k3_t121 : Fin k3_t121_loop.trips) : Fin 2 → Nat :=
  let c8_i32_728 : BitVec 32 := 8#32
  let v215 : Index := Scalar.indexCast c8_i32_728
  let c0_i32_687 : BitVec 32 := 0#32
  let c1_i32_689 : BitVec 32 := 1#32
  let arg16 : BitVec 32 := Scf.iv c0_i32_687 c1_i32_689 k3_t121
  let c16_i32_726 : BitVec 32 := 16#32
  let v211 : BitVec 32 := Scalar.muli arg16 c16_i32_726
  let v216 : Index := Scalar.indexCast v211
  ![8, v216.toNat]
def k3_off244 (k3_t121 : Fin k3_t121_loop.trips) (c128_i32_729 : BitVec 32) : Fin 2 → Nat :=
  let c0_i32_687 : BitVec 32 := 0#32
  let c1_i32_689 : BitVec 32 := 1#32
  let arg16 : BitVec 32 := Scf.iv c0_i32_687 c1_i32_689 k3_t121
  let c3_i32 : BitVec 32 := 3#32
  let v212 : BitVec 32 := Scalar.shrui arg16 c3_i32
  let v219 : BitVec 32 := Scalar.addi c128_i32_729 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t122_loop : Scf.Loop 32 :=
  let c0_i32_692 : BitVec 32 := 0#32
  let c64_i32_693 : BitVec 32 := 64#32
  let v204 : BitVec 32 := Scalar.addi c0_i32_692 c64_i32_693
  let c1_i32_694 : BitVec 32 := 1#32
  ⟨c0_i32_692, v204, c1_i32_694⟩
def k3_off245 (k3_t122 : Fin k3_t122_loop.trips) : Fin 2 → Nat :=
  let c9_i32 : BitVec 32 := 9#32
  let v215 : Index := Scalar.indexCast c9_i32
  let c0_i32_692 : BitVec 32 := 0#32
  let c1_i32_694 : BitVec 32 := 1#32
  let arg16 : BitVec 32 := Scf.iv c0_i32_692 c1_i32_694 k3_t122
  let c16_i32_726 : BitVec 32 := 16#32
  let v211 : BitVec 32 := Scalar.muli arg16 c16_i32_726
  let v216 : Index := Scalar.indexCast v211
  ![9, v216.toNat]
def k3_off246 (k3_t122 : Fin k3_t122_loop.trips) (c144_i32 : BitVec 32) : Fin 2 → Nat :=
  let c0_i32_692 : BitVec 32 := 0#32
  let c1_i32_694 : BitVec 32 := 1#32
  let arg16 : BitVec 32 := Scf.iv c0_i32_692 c1_i32_694 k3_t122
  let c3_i32 : BitVec 32 := 3#32
  let v212 : BitVec 32 := Scalar.shrui arg16 c3_i32
  let v219 : BitVec 32 := Scalar.addi c144_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t123_loop : Scf.Loop 32 :=
  let c0_i32_697 : BitVec 32 := 0#32
  let c64_i32_698 : BitVec 32 := 64#32
  let v205 : BitVec 32 := Scalar.addi c0_i32_697 c64_i32_698
  let c1_i32_699 : BitVec 32 := 1#32
  ⟨c0_i32_697, v205, c1_i32_699⟩
def k3_off247 (k3_t123 : Fin k3_t123_loop.trips) : Fin 2 → Nat :=
  let c10_i32 : BitVec 32 := 10#32
  let v215 : Index := Scalar.indexCast c10_i32
  let c0_i32_697 : BitVec 32 := 0#32
  let c1_i32_699 : BitVec 32 := 1#32
  let arg16 : BitVec 32 := Scf.iv c0_i32_697 c1_i32_699 k3_t123
  let c16_i32_726 : BitVec 32 := 16#32
  let v211 : BitVec 32 := Scalar.muli arg16 c16_i32_726
  let v216 : Index := Scalar.indexCast v211
  ![10, v216.toNat]
def k3_off248 (k3_t123 : Fin k3_t123_loop.trips) (c160_i32 : BitVec 32) : Fin 2 → Nat :=
  let c0_i32_697 : BitVec 32 := 0#32
  let c1_i32_699 : BitVec 32 := 1#32
  let arg16 : BitVec 32 := Scf.iv c0_i32_697 c1_i32_699 k3_t123
  let c3_i32 : BitVec 32 := 3#32
  let v212 : BitVec 32 := Scalar.shrui arg16 c3_i32
  let v219 : BitVec 32 := Scalar.addi c160_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t124_loop : Scf.Loop 32 :=
  let c0_i32_702 : BitVec 32 := 0#32
  let c64_i32_703 : BitVec 32 := 64#32
  let v206 : BitVec 32 := Scalar.addi c0_i32_702 c64_i32_703
  let c1_i32_704 : BitVec 32 := 1#32
  ⟨c0_i32_702, v206, c1_i32_704⟩
def k3_off249 (k3_t124 : Fin k3_t124_loop.trips) : Fin 2 → Nat :=
  let c11_i32 : BitVec 32 := 11#32
  let v215 : Index := Scalar.indexCast c11_i32
  let c0_i32_702 : BitVec 32 := 0#32
  let c1_i32_704 : BitVec 32 := 1#32
  let arg16 : BitVec 32 := Scf.iv c0_i32_702 c1_i32_704 k3_t124
  let c16_i32_726 : BitVec 32 := 16#32
  let v211 : BitVec 32 := Scalar.muli arg16 c16_i32_726
  let v216 : Index := Scalar.indexCast v211
  ![11, v216.toNat]
def k3_off250 (k3_t124 : Fin k3_t124_loop.trips) (c176_i32 : BitVec 32) : Fin 2 → Nat :=
  let c0_i32_702 : BitVec 32 := 0#32
  let c1_i32_704 : BitVec 32 := 1#32
  let arg16 : BitVec 32 := Scf.iv c0_i32_702 c1_i32_704 k3_t124
  let c3_i32 : BitVec 32 := 3#32
  let v212 : BitVec 32 := Scalar.shrui arg16 c3_i32
  let v219 : BitVec 32 := Scalar.addi c176_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t125_loop : Scf.Loop 32 :=
  let c0_i32_707 : BitVec 32 := 0#32
  let c64_i32_708 : BitVec 32 := 64#32
  let v207 : BitVec 32 := Scalar.addi c0_i32_707 c64_i32_708
  let c1_i32_709 : BitVec 32 := 1#32
  ⟨c0_i32_707, v207, c1_i32_709⟩
def k3_off251 (k3_t125 : Fin k3_t125_loop.trips) : Fin 2 → Nat :=
  let c12_i32 : BitVec 32 := 12#32
  let v215 : Index := Scalar.indexCast c12_i32
  let c0_i32_707 : BitVec 32 := 0#32
  let c1_i32_709 : BitVec 32 := 1#32
  let arg16 : BitVec 32 := Scf.iv c0_i32_707 c1_i32_709 k3_t125
  let c16_i32_726 : BitVec 32 := 16#32
  let v211 : BitVec 32 := Scalar.muli arg16 c16_i32_726
  let v216 : Index := Scalar.indexCast v211
  ![12, v216.toNat]
def k3_off252 (k3_t125 : Fin k3_t125_loop.trips) (c192_i32 : BitVec 32) : Fin 2 → Nat :=
  let c0_i32_707 : BitVec 32 := 0#32
  let c1_i32_709 : BitVec 32 := 1#32
  let arg16 : BitVec 32 := Scf.iv c0_i32_707 c1_i32_709 k3_t125
  let c3_i32 : BitVec 32 := 3#32
  let v212 : BitVec 32 := Scalar.shrui arg16 c3_i32
  let v219 : BitVec 32 := Scalar.addi c192_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t126_loop : Scf.Loop 32 :=
  let c0_i32_712 : BitVec 32 := 0#32
  let c64_i32_713 : BitVec 32 := 64#32
  let v208 : BitVec 32 := Scalar.addi c0_i32_712 c64_i32_713
  let c1_i32_714 : BitVec 32 := 1#32
  ⟨c0_i32_712, v208, c1_i32_714⟩
def k3_off253 (k3_t126 : Fin k3_t126_loop.trips) : Fin 2 → Nat :=
  let c13_i32 : BitVec 32 := 13#32
  let v215 : Index := Scalar.indexCast c13_i32
  let c0_i32_712 : BitVec 32 := 0#32
  let c1_i32_714 : BitVec 32 := 1#32
  let arg16 : BitVec 32 := Scf.iv c0_i32_712 c1_i32_714 k3_t126
  let c16_i32_726 : BitVec 32 := 16#32
  let v211 : BitVec 32 := Scalar.muli arg16 c16_i32_726
  let v216 : Index := Scalar.indexCast v211
  ![13, v216.toNat]
def k3_off254 (k3_t126 : Fin k3_t126_loop.trips) (c208_i32 : BitVec 32) : Fin 2 → Nat :=
  let c0_i32_712 : BitVec 32 := 0#32
  let c1_i32_714 : BitVec 32 := 1#32
  let arg16 : BitVec 32 := Scf.iv c0_i32_712 c1_i32_714 k3_t126
  let c3_i32 : BitVec 32 := 3#32
  let v212 : BitVec 32 := Scalar.shrui arg16 c3_i32
  let v219 : BitVec 32 := Scalar.addi c208_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t127_loop : Scf.Loop 32 :=
  let c0_i32_717 : BitVec 32 := 0#32
  let c64_i32_718 : BitVec 32 := 64#32
  let v209 : BitVec 32 := Scalar.addi c0_i32_717 c64_i32_718
  let c1_i32_719 : BitVec 32 := 1#32
  ⟨c0_i32_717, v209, c1_i32_719⟩
def k3_off255 (k3_t127 : Fin k3_t127_loop.trips) : Fin 2 → Nat :=
  let c14_i32 : BitVec 32 := 14#32
  let v215 : Index := Scalar.indexCast c14_i32
  let c0_i32_717 : BitVec 32 := 0#32
  let c1_i32_719 : BitVec 32 := 1#32
  let arg16 : BitVec 32 := Scf.iv c0_i32_717 c1_i32_719 k3_t127
  let c16_i32_726 : BitVec 32 := 16#32
  let v211 : BitVec 32 := Scalar.muli arg16 c16_i32_726
  let v216 : Index := Scalar.indexCast v211
  ![14, v216.toNat]
def k3_off256 (k3_t127 : Fin k3_t127_loop.trips) (c224_i32 : BitVec 32) : Fin 2 → Nat :=
  let c0_i32_717 : BitVec 32 := 0#32
  let c1_i32_719 : BitVec 32 := 1#32
  let arg16 : BitVec 32 := Scf.iv c0_i32_717 c1_i32_719 k3_t127
  let c3_i32 : BitVec 32 := 3#32
  let v212 : BitVec 32 := Scalar.shrui arg16 c3_i32
  let v219 : BitVec 32 := Scalar.addi c224_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
@[reducible] def k3_t128_loop : Scf.Loop 32 :=
  let c0_i32_722 : BitVec 32 := 0#32
  let c64_i32_723 : BitVec 32 := 64#32
  let v210 : BitVec 32 := Scalar.addi c0_i32_722 c64_i32_723
  let c1_i32_724 : BitVec 32 := 1#32
  ⟨c0_i32_722, v210, c1_i32_724⟩
def k3_off257 (k3_t128 : Fin k3_t128_loop.trips) : Fin 2 → Nat :=
  let c15_i32 : BitVec 32 := 15#32
  let v215 : Index := Scalar.indexCast c15_i32
  let c0_i32_722 : BitVec 32 := 0#32
  let c1_i32_724 : BitVec 32 := 1#32
  let arg16 : BitVec 32 := Scf.iv c0_i32_722 c1_i32_724 k3_t128
  let c16_i32_726 : BitVec 32 := 16#32
  let v211 : BitVec 32 := Scalar.muli arg16 c16_i32_726
  let v216 : Index := Scalar.indexCast v211
  ![15, v216.toNat]
def k3_off258 (k3_t128 : Fin k3_t128_loop.trips) (c240_i32 : BitVec 32) : Fin 2 → Nat :=
  let c0_i32_722 : BitVec 32 := 0#32
  let c1_i32_724 : BitVec 32 := 1#32
  let arg16 : BitVec 32 := Scf.iv c0_i32_722 c1_i32_724 k3_t128
  let c3_i32 : BitVec 32 := 3#32
  let v212 : BitVec 32 := Scalar.shrui arg16 c3_i32
  let v219 : BitVec 32 := Scalar.addi c240_i32 v212
  let v220 : Index := Scalar.indexCast v219
  let c7_i32 : BitVec 32 := 7#32
  let v213 : BitVec 32 := Scalar.andi arg16 c7_i32
  let c16_i32_727 : BitVec 32 := 16#32
  let v214 : BitVec 32 := Scalar.muli v213 c16_i32_727
  let v221 : Index := Scalar.indexCast v214
  ![v220.toNat, v221.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S48 : Shape := ⟨1, ![48]⟩
abbrev S8192 : Shape := ⟨1, ![8192]⟩
abbrev S4096x1024 : Shape := ⟨2, ![4096, 1024]⟩
abbrev S16x1024x1024 : Shape := ⟨3, ![16, 1024, 1024]⟩
abbrev S1024x4096 : Shape := ⟨2, ![1024, 4096]⟩
abbrev S_ : Shape := ⟨0, ![]⟩
abbrev S12288 : Shape := ⟨1, ![12288]⟩
abbrev S4096 : Shape := ⟨1, ![4096]⟩
abbrev S4096x2 : Shape := ⟨2, ![4096, 2]⟩
abbrev S8192x1 : Shape := ⟨2, ![8192, 1]⟩
abbrev S12288x1 : Shape := ⟨2, ![12288, 1]⟩
abbrev S12288x1024 : Shape := ⟨2, ![12288, 1024]⟩
abbrev S48x256x1024 : Shape := ⟨3, ![48, 256, 1024]⟩
abbrev S48x1 : Shape := ⟨2, ![48, 1]⟩
abbrev S48x1024x1024 : Shape := ⟨3, ![48, 1024, 1024]⟩
abbrev S48x256x1 : Shape := ⟨3, ![48, 256, 1]⟩
abbrev S4096x4096 : Shape := ⟨2, ![4096, 4096]⟩
abbrev S4096x2x1 : Shape := ⟨3, ![4096, 2, 1]⟩
abbrev S4096x2x1024 : Shape := ⟨3, ![4096, 2, 1024]⟩

abbrev nBuf : Space → Nat
  | .hbm => 121
  | .vmem => 0
  | .smem => 0
  | _ => 0

abbrev bufTy : (tb : Table) → Fin (tcTables nBuf tb) → BufTy
  | .hbm, ⟨0, _⟩ => ⟨S48, .i32⟩
  | .hbm, ⟨1, _⟩ => ⟨S48, .i32⟩
  | .hbm, ⟨2, _⟩ => ⟨S8192, .i32⟩
  | .hbm, ⟨3, _⟩ => ⟨S8192, .f32⟩
  | .hbm, ⟨4, _⟩ => ⟨S4096x1024, .bf16⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S_, .i32⟩
  | .hbm, ⟨13, _⟩ => ⟨S12288, .i32⟩
  | .hbm, ⟨14, _⟩ => ⟨S4096, .i32⟩
  | .hbm, ⟨15, _⟩ => ⟨S4096x2, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S12288, .i32⟩
  | .hbm, ⟨26, _⟩ => ⟨S_, .f32⟩
  | .hbm, ⟨27, _⟩ => ⟨S12288, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S12288, .f32⟩
  | .hbm, ⟨37, _⟩ => ⟨S4096x1024, .f32⟩
  | .hbm, ⟨38, _⟩ => ⟨S_, .i32⟩
  | .hbm, ⟨39, _⟩ => ⟨S12288, .i32⟩
  | .hbm, ⟨40, _⟩ => ⟨S12288, .i1⟩
  | .hbm, ⟨41, _⟩ => ⟨S_, .i32⟩
  | .hbm, ⟨42, _⟩ => ⟨S12288, .i32⟩
  | .hbm, ⟨43, _⟩ => ⟨S12288, .i32⟩
  | .hbm, ⟨44, _⟩ => ⟨S12288, .i32⟩
  | .hbm, ⟨45, _⟩ => ⟨S12288x1, .i32⟩
  | .hbm, ⟨46, _⟩ => ⟨S12288x1024, .f32⟩
  | .hbm, ⟨47, _⟩ => ⟨S48x256x1024, .f32⟩
  | .hbm, ⟨48, _⟩ => ⟨S_, .i32⟩
  | .hbm, ⟨49, _⟩ => ⟨S48, .i32⟩
  | .hbm, ⟨50, _⟩ => ⟨S48, .i1⟩
  | .hbm, ⟨51, _⟩ => ⟨S_, .i32⟩
  | .hbm, ⟨52, _⟩ => ⟨S48, .i32⟩
  | .hbm, ⟨53, _⟩ => ⟨S48, .i32⟩
  | .hbm, ⟨54, _⟩ => ⟨S48, .i32⟩
  | .hbm, ⟨55, _⟩ => ⟨S48x1, .i32⟩
  | .hbm, ⟨56, _⟩ => ⟨S48x1024x1024, .f32⟩
  | .hbm, ⟨57, _⟩ => ⟨S_, .i32⟩
  | .hbm, ⟨58, _⟩ => ⟨S48, .i32⟩
  | .hbm, ⟨59, _⟩ => ⟨S48, .i1⟩
  | .hbm, ⟨60, _⟩ => ⟨S_, .i32⟩
  | .hbm, ⟨61, _⟩ => ⟨S48, .i32⟩
  | .hbm, ⟨62, _⟩ => ⟨S48, .i32⟩
  | .hbm, ⟨63, _⟩ => ⟨S48, .i32⟩
  | .hbm, ⟨64, _⟩ => ⟨S48x1, .i32⟩
  | .hbm, ⟨65, _⟩ => ⟨S48x1024x1024, .f32⟩
  | .hbm, ⟨66, _⟩ => ⟨S_, .i32⟩
  | .hbm, ⟨67, _⟩ => ⟨S48, .i32⟩
  | .hbm, ⟨68, _⟩ => ⟨S48, .i1⟩
  | .hbm, ⟨69, _⟩ => ⟨S_, .i32⟩
  | .hbm, ⟨70, _⟩ => ⟨S48, .i32⟩
  | .hbm, ⟨71, _⟩ => ⟨S48, .i32⟩
  | .hbm, ⟨72, _⟩ => ⟨S48, .i32⟩
  | .hbm, ⟨73, _⟩ => ⟨S48x1, .i32⟩
  | .hbm, ⟨74, _⟩ => ⟨S48x1024x1024, .f32⟩
  | .hbm, ⟨75, _⟩ => ⟨S48x256x1024, .f32⟩
  | .hbm, ⟨76, _⟩ => ⟨S48x256x1024, .f32⟩
  | .hbm, ⟨77, _⟩ => ⟨S48x256x1024, .f32⟩
  | .hbm, ⟨78, _⟩ => ⟨S_, .f32⟩
  | .hbm, ⟨79, _⟩ => ⟨S48x256x1024, .f32⟩
  | .hbm, ⟨80, _⟩ => ⟨S48x256x1024, .f32⟩
  | .hbm, ⟨81, _⟩ => ⟨S_, .f32⟩
  | .hbm, ⟨82, _⟩ => ⟨S48x256x1024, .f32⟩
  | .hbm, ⟨83, _⟩ => ⟨S48x256x1024, .f32⟩
  | .hbm, ⟨84, _⟩ => ⟨S48x256x1024, .f32⟩
  | .hbm, ⟨85, _⟩ => ⟨S48x256x1024, .f32⟩
  | .hbm, ⟨86, _⟩ => ⟨S48x256x1024, .f32⟩
  | .hbm, ⟨87, _⟩ => ⟨S48x256x1024, .f32⟩
  | .hbm, ⟨88, _⟩ => ⟨S48x256x1, .f32⟩
  | .hbm, ⟨89, _⟩ => ⟨S48x256x1024, .f32⟩
  | .hbm, ⟨90, _⟩ => ⟨S48x256x1024, .f32⟩
  | .hbm, ⟨91, _⟩ => ⟨S1024x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S4096x4096, .f32⟩
  | .hbm, ⟨100, _⟩ => ⟨S4096x4096, .f32⟩
  | .hbm, ⟨101, _⟩ => ⟨S4096x4096, .f32⟩
  | .hbm, ⟨102, _⟩ => ⟨S1024x4096, .f32⟩
  | .hbm, ⟨103, _⟩ => ⟨S4096x4096, .f32⟩
  | .hbm, ⟨104, _⟩ => ⟨S4096x4096, .f32⟩
  | .hbm, ⟨105, _⟩ => ⟨S4096x1024, .f32⟩
  | .hbm, ⟨106, _⟩ => ⟨S4096x1024, .f32⟩
  | .hbm, ⟨107, _⟩ => ⟨S12288x1024, .f32⟩
  | .hbm, ⟨108, _⟩ => ⟨S4096x2, .i32⟩
  | .hbm, ⟨109, _⟩ => ⟨S_, .i32⟩
  | .hbm, ⟨110, _⟩ => ⟨S4096x2, .i32⟩
  | .hbm, ⟨111, _⟩ => ⟨S4096x2, .i1⟩
  | .hbm, ⟨112, _⟩ => ⟨S_, .i32⟩
  | .hbm, ⟨113, _⟩ => ⟨S4096x2, .i32⟩
  | .hbm, ⟨114, _⟩ => ⟨S4096x2, .i32⟩
  | .hbm, ⟨115, _⟩ => ⟨S4096x2, .i32⟩
  | .hbm, ⟨116, _⟩ => ⟨S4096x2x1, .i32⟩
  | .hbm, ⟨117, _⟩ => ⟨S4096x2x1024, .f32⟩
  | .hbm, ⟨118, _⟩ => ⟨S_, .f32⟩
  | .hbm, ⟨119, _⟩ => ⟨S4096x1024, .f32⟩
  | .hbm, ⟨120, _⟩ => ⟨S4096x1024, .f32⟩
  | _, _ => ⟨S48, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_12 : Ref sig .tc := ⟨.hbm, 109, rfl⟩
abbrev main_v67 : Ref sig .tc := ⟨.hbm, 110, rfl⟩
abbrev main_v68 : Ref sig .tc := ⟨.hbm, 111, rfl⟩
abbrev main_c_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_14 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]
-- ==== Scatter.lean ====
abbrev S8192 : Shape := ⟨1, ![8192]⟩
abbrev S12288 : Shape := ⟨1, ![12288]⟩
abbrev S_ : Shape := ⟨0, ![]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S8192, .i32⟩
  | .hbm, ⟨1, _⟩ => ⟨S8192, .f32⟩
  | .hbm, ⟨2, _⟩ => ⟨S12288, .i32⟩
  | .hbm, ⟨3, _⟩ => ⟨S12288, .f32⟩
  | .local .scVector .vmem, ⟨0, _⟩ => ⟨S8192, .i32⟩
  | .local .scVector .vmem, ⟨1, _⟩ => ⟨S8192, .f32⟩
  | .local .scVector .vmem, ⟨2, _⟩ => ⟨S12288, .i32⟩
  | .local .scVector .vmem, ⟨3, _⟩ => ⟨S12288, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_2 : BitVec 32 := 0#32
  let c768_i32 : BitVec 32 := 768#32
  let v5 : BitVec 32 := Scalar.addi c0_i32_2 c768_i32
  let c1_i32 : BitVec 32 := 1#32
  ⟨c0_i32_2, v5, c1_i32⟩
def k0_off1 (k0_t1 : Fin k0_t1_loop.trips) : Fin 1 → Nat :=
  let c0_i32_2 : BitVec 32 := 0#32
  let c1_i32 : BitVec 32 := 1#32
  let arg10 : BitVec 32 := Scf.iv c0_i32_2 c1_i32 k0_t1
  let c16_i32 : BitVec 32 := 16#32
  let v9 : BitVec 32 := Scalar.muli arg10 c16_i32
  let v10 : Index := Scalar.indexCast v9
  ![v10.toNat]
@[reducible] def k0_t2_loop : Scf.Loop 32 :=
  let c0_i32_5 : BitVec 32 := 0#32
  let c512_i32 : BitVec 32 := 512#32
  let v7 : BitVec 32 := Scalar.addi c0_i32_5 c512_i32
  let c1_i32_6 : BitVec 32 := 1#32
  ⟨c0_i32_5, v7, c1_i32_6⟩
def k0_off2 (k0_t2 : Fin k0_t2_loop.trips) : Fin 1 → Nat :=
  let c0_i32_5 : BitVec 32 := 0#32
  let c1_i32_6 : BitVec 32 := 1#32
  let arg10 : BitVec 32 := Scf.iv c0_i32_5 c1_i32_6 k0_t2
  let c16_i32 : BitVec 32 := 16#32
  let v8 : BitVec 32 := Scalar.muli arg10 c16_i32
  let v9 : Index := Scalar.indexCast v8
  ![v9.toNat]

def k0_chk1 (i : grid0.Coords) (v10 : IVec S16 32) : Prop :=
  (∀ (k0_h1 : k0_cond1 i = 1#1), ∀ a x, ((![v10] : Fin 1 → IVec S16 32) a x).toNat < S12288.size a) ∧
  (∀ (k0_h1 : k0_cond1 i = 1#1), ∀ a x, ((![v10] : Fin 1 → IVec S16 32) a x).toNat < S12288.size a)
theorem k0_idx1_inb : ∀ (i : grid0.Coords) (v10 : IVec S16 32) (k0_hw1 : k0_chk1 i v10), ∀ (k0_h1 : k0_cond1 i = 1#1), ∀ a x, ((![v10] : Fin 1 → IVec S16 32) a x).toNat < S12288.size a := fun i v10 k0_hw1 k0_h1 => k0_hw1.1 k0_h1
theorem k0_idx2_inb : ∀ (i : grid0.Coords) (v10 : IVec S16 32) (k0_hw1 : k0_chk1 i v10), ∀ (k0_h1 : k0_cond1 i = 1#1), ∀ a x, ((![v10] : Fin 1 → IVec S16 32) a x).toNat < S12288.size a := fun i v10 k0_hw1 k0_h1 => k0_hw1.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScatterReferenceIdeal.lean ====
abbrev S8192 : Shape := ⟨1, ![8192]⟩
abbrev S_ : Shape := ⟨0, ![]⟩
abbrev S12288 : Shape := ⟨1, ![12288]⟩
abbrev S4096 : Shape := ⟨1, ![4096]⟩
abbrev S4096x2 : Shape := ⟨2, ![4096, 2]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .f32⟩
  | .hbm, ⟨2, _⟩ => ⟨S_, .i32⟩
  | .hbm, ⟨3, _⟩ => ⟨S12288, .i32⟩
  | .hbm, ⟨4, _⟩ => ⟨S4096, .i32⟩
  | .hbm, ⟨5, _⟩ => ⟨S4096x2, .i32⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S12288, .i32⟩
  | .hbm, ⟨16, _⟩ => ⟨S_, .f32⟩
  | .hbm, ⟨17, _⟩ => ⟨S12288, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S12288, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== SharedExpert.lean ====
abbrev S4096x1024 : Shape := ⟨2, ![4096, 1024]⟩
abbrev S1024x4096 : Shape := ⟨2, ![1024, 4096]⟩
abbrev S512x1024 : Shape := ⟨2, ![512, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_9 : BitVec 32 := 0#32
  let v13 : BitVec 1 := Scalar.cmpi .ne v12 c0_i32_9
  v13

def k0_off1 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def k0_cond2 (i : grid0.Coords) : BitVec 1 :=
  let arg0 : BitVec 32 := BitVec.ofNat 32 (i 0).val
  let c0_i32_10 : BitVec 32 := 0#32
  let v14 : BitVec 1 := Scalar.cmpi .ne arg0 c0_i32_10
  let c3_i32 : BitVec 32 := 3#32
  let v15 : BitVec 1 := Scalar.cmpi .ne arg0 c3_i32
  let v16 : BitVec 1 := Scalar.andi v14 v15
  let v17 : BitVec 32 := Scalar.extui v16
  let c0_i32_11 : BitVec 32 := 0#32
  let v18 : BitVec 1 := Scalar.cmpi .ne v17 c0_i32_11
  v18

def k0_off2 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def k0_cond3 (i : grid0.Coords) : BitVec 1 :=
  let arg0 : BitVec 32 := BitVec.ofNat 32 (i 0).val
  let c3_i32_12 : BitVec 32 := 3#32
  let v19 : BitVec 1 := Scalar.cmpi .eq arg0 c3_i32_12
  let v20 : BitVec 32 := Scalar.extui v19
  let c0_i32_13 : BitVec 32 := 0#32
  let v21 : BitVec 1 := Scalar.cmpi .ne v20 c0_i32_13
  v21

def k0_off3 (i : grid0.Coords) : Fin 2 → Nat :=
  let arg1 : BitVec 32 := BitVec.ofNat 32 (i 1).val
  let c512_i32 : BitVec 32 := 512#32
  let v10 : BitVec 32 := Scalar.muli arg1 c512_i32
  let v22 : Index := Scalar.indexCast v10
  let c0_14 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== SharedReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Proof.Combine.Prog.lean ====
/-
  The combine call's body as ONE structured program: eight chunks of sixteen tokens, two sets of buffers used in turn,
  sixteen counted loops to a chunk. `body_eq` says that the printed body is this program; everything after this file
  reasons about the chunk and the loop once, at a variable chunk and a variable row.
-/
module

public import proofs.«01_k».proof.Defs
public import proofs.«01_k».proof.Proof.Gen.KernelIdeal
public import proofs.«01_k».proof.Proof.Gen.KernelIdeal.Skeleton

@[expose] public section

noncomputable section

namespace Cert.Proof.Combine

open Cert.KernelIdeal hiding ix2
open Cert.KernelIdeal.Gen
open Idealize.ShloMosaic Idealize.SL.Sem

variable {F : FTy → Type} [FloatOps F]

/-- What a tile's program may do. -/
abbrev Eff (F : FTy → Type) (i : grid3.Coords) := TpuEff nD τ sig (Elt F) Λ₀ (.scVector ((i 0).castLE hcore3) ((i 1).castLE hsub3))

/-- One of the two sets of buffers: the list of rows, the rows gathered, the accumulator, and their two semaphores. -/
structure Slot where
  idx : Memref sig .scVector .vmem S256 .i32
  hidx : idx.IsWhole
  yb : Memref sig .scVector .vmem S256x128 .f32
  hyb : yb.IsWhole
  acc : Memref sig .scVector .vmem S16x1024 .f32
  hacc : acc.IsWhole
  g : DmaSems sig S_
  s : DmaSems sig S_

/-- The chunk's first token, of the tile's, as a word. -/
abbrev cw (c : Fin 8) : BitVec 32 := BitVec.ofNat 32 (16 * c.val)

/-- The induction variable of a row's loop. -/
abbrev iv (t : Fin k3_t1_loop.trips) : BitVec 32 := Scf.iv 0#32 1#32 t

/-- Where a trip reads and writes the accumulator. -/
def accOff (r : Fin 16) (t : Fin k3_t1_loop.trips) : Fin 2 → Nat :=
  ![r.val, (Scalar.indexCast (Scalar.muli (iv t) 16#32)).toNat]

/-- Where a trip reads the gathered rows: eight rows to a copy of a token's row, the `h`-th of its two. -/
def ybOff (r : Fin 16) (h : Fin 2) (t : Fin k3_t1_loop.trips) : Fin 2 → Nat :=
  ![(Scalar.indexCast (Scalar.addi (BitVec.ofNat 32 (16 * r.val + 8 * h.val)) (Scalar.shrui (iv t) 3#32))).toNat,
    (Scalar.indexCast (Scalar.muli (Scalar.andi (iv t) 7#32) 16#32)).toNat]

theorem trips_eq : k3_t1_loop.trips = 64 := by decide +kernel

theorem accOff_col : ∀ t : Fin k3_t1_loop.trips, (Scalar.indexCast (Scalar.muli (iv t) 16#32)).toNat = 16 * t.val := by
  decide +kernel

theorem ybOff_col : ∀ t : Fin k3_t1_loop.trips,
    (Scalar.indexCast (Scalar.muli (Scalar.andi (iv t) 7#32) 16#32)).toNat = 16 * (t.val % 8) := by decide +kernel

theorem ybOff_row : ∀ (r : Fin 16) (h : Fin 2) (t : Fin k3_t1_loop.trips),
    (Scalar.indexCast (Scalar.addi (BitVec.ofNat 32 (16 * r.val + 8 * h.val)) (Scalar.shrui (iv t) 3#32))).toNat
      = 16 * r.val + 8 * h.val + t.val / 8 := by decide +kernel

theorem accOff_eq (r : Fin 16) (t : Fin k3_t1_loop.trips) : accOff r t = ![r.val, 16 * t.val] := by
  unfold accOff; rw [accOff_col]

theorem ybOff_eq (r : Fin 16) (h : Fin 2) (t : Fin k3_t1_loop.trips) :
    ybOff r h t = ![16 * r.val + 8 * h.val + t.val / 8, 16 * (t.val % 8)] := by
  unfold ybOff; rw [ybOff_row, ybOff_col]

theorem accOff_inb (r : Fin 16) (t : Fin k3_t1_loop.trips) : ∀ a, accOff r t a + S1x16.size a ≤ S16x1024.size a := by
  rw [accOff_eq]
  have := t.isLt.trans_eq trips_eq
  refine Fin.forall_fin_two.mpr ⟨?_, ?_⟩
  · show r.val + 1 ≤ 16; omega
  · show 16 * t.val + 16 ≤ 1024; omega

theorem ybOff_inb (r : Fin 16) (h : Fin 2) (t : Fin k3_t1_loop.trips) :
    ∀ a, ybOff r h t a + S1x16.size a ≤ S256x128.size a := by
  rw [ybOff_eq]
  have := t.isLt.trans_eq trips_eq
  refine Fin.forall_fin_two.mpr ⟨?_, ?_⟩
  · show 16 * r.val + 8 * h.val + t.val / 8 + 1 ≤ 256; omega
  · show 16 * (t.val % 8) + 16 ≤ 128; omega

/-- What a trip stores: the accumulator's sixteen lanes and the two rows' added. -/
abbrev pay (a b c : Vec F S1x16 .f32) : FVec F S1x16 .f32 := k3_pay5 a b c

/-- One trip of a row's loop. -/
def rowBody (i : grid3.Coords) (sl : Slot) (r : Fin 16) :
    Fin k3_t1_loop.trips → Unit → Prog (Eff F i) Unit :=
  fun t _ => do
    let a : Vec F S1x16 .f32 ← Prog.lift (.load sl.acc (Rect.unit (s := S16x1024) (accOff r t) S1x16.size (accOff_inb r t)).toLoadRect (View.loadsAt_vmem h_S1x16))
    let b : Vec F S1x16 .f32 ← Prog.lift (.load sl.yb (Rect.unit (s := S256x128) (ybOff r 0 t) S1x16.size (ybOff_inb r 0 t)).toLoadRect (View.loadsAt_vmem h_S1x16))
    let c : Vec F S1x16 .f32 ← Prog.lift (.load sl.yb (Rect.unit (s := S256x128) (ybOff r 1 t) S1x16.size (ybOff_inb r 1 t)).toLoadRect (View.loadsAt_vmem h_S1x16))
    let _ : Vec F S1x16 .f32 ← Prog.lift (.load sl.acc (Rect.unit (s := S16x1024) (accOff r t) S1x16.size (accOff_inb r t)).toLoadRect (View.loadsAt_vmem h_S1x16))
    Prog.lift (.store sl.acc (Rect.unit (s := S16x1024) (accOff r t) S1x16.size (accOff_inb r t)) (pay a b c) Finset.univ (View.stores_vmem_bits_univ h_S1x16 rfl) (.inl rfl))
    pure ⟨⟩

/-- The loops of the rows listed, in order, and then the rest. -/
def rows (i : grid3.Coords) (sl : Slot) : List (Fin 16) → Prog (Eff F i) PUnit → Prog (Eff F i) PUnit
  | [], k => k
  | r :: rs, k => Scf.Loop.for k3_t1_loop k3_t1_ok ⟨⟩ (rowBody i sl r) >>= fun _ => rows i sl rs k

/-- The chunk's block of the list of rows. -/
abbrev listAt (i : grid3.Coords) (m : Memref sig .scVector .hbm S65536 .i32) (c : Fin 8) : Memref sig .scVector .hbm S256 .i32 :=
  m.slice (Rect.unit (s := S65536) (k3_off1 i (cw c)) S256.size (k3_off1_inb i c)) (fun _ => rfl)

/-- The chunk's block of the shared part, or of the result. -/
abbrev blockAt (i : grid3.Coords) (m : Memref sig .scVector .hbm S4096x1024 .f32) (c : Fin 8) : Memref sig .scVector .hbm S16x1024 .f32 :=
  m.slice (Rect.unit (s := S4096x1024) (k3_off2 i (cw c)) S16x1024.size (k3_off2_inb i c)) (fun _ => rfl)

/-- The whole table, as the gather names it. -/
abbrev tableAt (m : Memref sig .scVector .hbm S98304x128 .f32) : Memref sig .scVector .hbm S98304x128 .f32 :=
  m.slice (Rect.unit (s := S98304x128) ![0, 0] S98304x128.size inb_S98304x128_S98304x128_0_0) (fun _ => rfl)

/-- A chunk is started: its list of rows fetched, the gather of its rows and the copy of its shared part begun. -/
def start (i : grid3.Coords) (y : Memref sig .scVector .hbm S98304x128 .f32) (p : Memref sig .scVector .hbm S65536 .i32)
    (sh : Memref sig .scVector .hbm S4096x1024 .f32) (sl : Slot) (rg : DmaSems sig S_) (c : Fin 8)
    (k : Prog (Eff F i) PUnit) : Prog (Eff F i) PUnit :=
  Prog.lift (.enqueueDma (listAt i p c) (.here sl.idx) (.dma rg.sem) (View.wordExact_bits rfl) sl.hidx.wordExact ⟨Or.inl rfl, trivial⟩) >>= fun _ =>
  Prog.lift (.waitDma2 rg.sem (listAt i p c) sl.idx (View.wordExact_bits rfl) sl.hidx.wordExact) >>= fun _ =>
  (SparseCore.enqueueIndirectGather rfl (tableAt y) sl.yb gathers_S98304x128_S256x128 sl.idx rfl sl.g.sem (View.wordExact_bits rfl) rfl (Or.inl rfl) : Prog (Eff F i) PUnit) >>= fun _ =>
  Prog.lift (.enqueueDma (blockAt i sh c) (.here sl.acc) (.dma sl.s.sem) (View.wordExact_bits rfl) sl.hacc.wordExact ⟨Or.inl rfl, trivial⟩) >>= fun _ => k

/-- A chunk's two transfers are waited for. -/
def await (i : grid3.Coords) (y : Memref sig .scVector .hbm S98304x128 .f32) (sh : Memref sig .scVector .hbm S4096x1024 .f32)
    (sl : Slot) (c : Fin 8) (k : Prog (Eff F i) PUnit) : Prog (Eff F i) PUnit :=
  (SparseCore.waitIndirectGather sl.g.sem (tableAt y) sl.yb (View.wordExact_bits rfl) sl.hyb.wordExact : Prog (Eff F i) PUnit) >>= fun _ =>
  Prog.lift (.waitDma2 sl.s.sem (blockAt i sh c) sl.acc (View.wordExact_bits rfl) sl.hacc.wordExact) >>= fun _ => k

/-- A chunk's sums, and its block of the result written back. -/
def sums (i : grid3.Coords) (o : Memref sig .scVector .hbm S4096x1024 .f32) (sl : Slot) (rg : DmaSems sig S_) (c : Fin 8)
    (k : Prog (Eff F i) PUnit) : Prog (Eff F i) PUnit :=
  rows i sl [0, 1, 2, 3, 4, 5, 6, 7, 8, 9, 10, 11, 12, 13, 14, 15]
    (Prog.lift (.enqueueDma sl.acc (.here (blockAt i o c)) (.dma rg.sem) sl.hacc.wordExact (View.wordExact_bits rfl) ⟨Or.inl rfl, trivial⟩) >>= fun _ =>
      Prog.lift (.waitDma2 rg.sem sl.acc (blockAt i o c) sl.hacc.wordExact (View.wordExact_bits rfl)) >>= fun _ => k)

/-- A tile's whole program, over its arrays, its two sets of buffers and the semaphores of its own short copies. -/
def prog (i : grid3.Coords) (y : Memref sig .scVector .hbm S98304x128 .f32) (p : Memref sig .scVector .hbm S65536 .i32)
    (sh o : Memref sig .scVector .hbm S4096x1024 .f32) (a b : Slot) (r0 r1 r2 r3 r4 r5 r6 r7 r8 r9 r10 r11 r12 r13 r14 r15 : DmaSems sig S_) :
    Prog (Eff F i) PUnit :=
  start i y p sh a r0 0 <|
  await i y sh a 0 <| start i y p sh b r1 1 <| sums i o a r2 0 <|
  await i y sh b 1 <| start i y p sh a r3 2 <| sums i o b r4 1 <|
  await i y sh a 2 <| start i y p sh b r5 3 <| sums i o a r6 2 <|
  await i y sh b 3 <| start i y p sh a r7 4 <| sums i o b r8 3 <|
  await i y sh a 4 <| start i y p sh b r9 5 <| sums i o a r10 4 <|
  await i y sh b 5 <| start i y p sh a r11 6 <| sums i o b r12 5 <|
  await i y sh a 6 <| start i y p sh b r13 7 <| sums i o a r14 6 <|
  await i y sh b 7 <| sums i o b r15 7 <| pure ⟨⟩

end Cert.Proof.Combine

end
-- ==== Proof.Combine.Setup.lean ====
/-
  The combine call as the launch theorem sees it: the configuration, the ghost state, and the values its result holds.
  Everything is stated over any float values `F`: the run is proved once and read at both instances.
-/
module

public import proofs.«01_k».proof.Proof.Combine.Prog
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.WritesUnit

@[expose] public section

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's static facts: its semaphores and their scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the staging buffers' and the transfers' counters -/

abbrev UH : Type := URounds (GSem nD τ sig) ℕ
abbrev UP : Type := URounds (GSem nD τ sig) Unit
abbrev UU : Type := (UH × UP) × Counters

/-- The logic's resources for this program. -/
abbrev MM (F : FTy → Type) : Type := MT nD τ sig (HIx 2) (Elt F) ℕ UU ℕ

/-- The handshakes' component, -/
def EH {F : FTy → Type} : Emb UH (MM F) := (Emb.inl : Emb UH (UH × UP)).trans embL
/-- and the staging buffers'. -/
def EP {F : FTy → Type} : Emb UP (MM F) := (Emb.inr : Emb UP (UH × UP)).trans embL

instance EH_landsIn {F : FTy → Type} : (EH (F := F)).LandsIn (upEmb : UEmb _ (MM F)) := by unfold EH embL; infer_instance
instance EP_landsIn {F : FTy → Type} : (EP (F := F)).LandsIn (upEmb : UEmb _ (MM F)) := by unfold EP embL; infer_instance

/-- The tile's thread. -/
abbrev tile (d : Dev nD) (i : grid3.Coords) : Thread nD τ := V d ((i 0).castLE hcore3) ((i 1).castLE hsub3)

/-! ## What a chunk's accumulator holds -/

/-- The lane group of an accumulator's entry: sixty-four groups of sixteen lanes to a row. -/
def group (x : S16x1024.Idx) : ℕ := 64 * (x 0).val + (x 1).val / 16

/-- Where the `h`-th of a token's two rows keeps the entry, among the gathered rows of 128. -/
def src (h : Fin 2) (x : S16x1024.Idx) : S256x128.Idx :=
  ix2 (⟨16 * (x 0).val + 8 * h.val + (x 1).val / 128, by
      have h0 : (x 0).val < 16 := (x 0).isLt
      have h1 : (x 1).val < 1024 := (x 1).isLt
      have := h.isLt; omega⟩ : Fin 256)
    (⟨(x 1).val % 128, Nat.mod_lt _ (by decide)⟩ : Fin 128)

/-- The accumulator once the first `n` lane groups are summed: the shared part's entry, and to it the two rows' added. -/
def mix (B : S16x1024.Idx → F .f32) (G : S256x128.Idx → F .f32) (n : ℕ) : S16x1024.Idx → F .f32 :=
  fun x => if group x < n then FloatOps.addf (FloatOps.addf (B x) (G (src 0 x))) (G (src 1 x)) else B x

end Cert.Proof.Combine

end
-- ==== Proof.Combine.Debt.lean ====
/-
  What the TensorCore owes while a region of @main runs: the starts of the SparseCore calls still to come.
-/
module

public import proofs.«01_k».proof.Proof.Combine.Setup

@[expose] public section

noncomputable section

namespace Cert.Proof.Combine

open Cert.KernelIdeal hiding ix2
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- What the core owes after `n` of the calls, having waited no higher than them. -/
def debt (n : ℕ) (c : Dev nD) : sProp 𝕄 :=
  iprop(∃ Wd, ⌜(K (F := F)).WBelow (T c) Wd (8 * n)⌝ ∗ owes (T c) ((K (F := F)).Otc c n) Wd)

/-- It owes no transfer of its own. -/
theorem otc_none (n : ℕ) (c : Dev nD) (g : GSem nD τ sig) : (K (F := F)).Otc c n g none = 0 := by
  unfold SparseCore.Cfg.Otc
  simp [Finset.sum_apply, tallyAt_apply]
  constructor <;> split <;> simp [tallyAt_apply]

end Cert.Proof.Combine

end
-- ==== Proof.Shared.Body.lean ====
/-
  The shared expert's body at one grid point, on any staging buffers: what it leaves in the scratch and in the result's
  buffer, in each of its three cases (the first block of hidden columns, the ones between, the last).
-/
module

public import proofs.«01_k».proof.Proof.Gen.SharedExpertIdeal.Frame
public import proofs.«01_k».proof.Proof.Gen.SharedExpertIdeal.Skeleton
public import Idealize.ShloMosaic.Lib.Tactic
public import Idealize.ShloMosaic.Lib.VecWindow
public import Idealize.ShloMosaic.Lib.WritesUnit
public import Idealize.ShloMosaic.Lib.ValueIdxCore

@[expose] public section

set_option maxRecDepth 16384

noncomputable section

namespace Cert.Proof.Shared

open Cert.SharedExpertIdeal Cert.SharedExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (UR sig nD τ) ℕ

/-- The kernel has no recursion: no variants. -/
abbrev 𝒱₀ : Variants := Variants.none

/-! ## The scratch, a slab of 512 rows for each block of tokens -/

/-- Rows `512 t` to `512 t + 511`. -/
def slab {α : Type} (A : S4096x1024.Idx → α) (t : Fin 8) : S512x1024.Idx → α := fun y =>
  A (ix2 (⟨512 * t.val + (y 0).val, by have := t.isLt; have : (y 0).val < 512 := (y 0).isLt; omega⟩ : Fin 4096) (⟨(y 1).val, (y 1).isLt⟩ : Fin 1024))

/-- What the scratch holds, read as an array. -/
abbrev held (c : Dev nD) (f : Buf (Elt F) ((c : Thread nD τ).loc cc0_scratch0)) : S4096x1024.Idx → F .f32 :=
  (Memref.whole cc0_scratch0).view.read (Elt F) f

/-- The load of a slab. -/
theorem load_slab (f : (Memref.whole cc0_scratch0).view.ty.Contents (Elt F)) {off : Fin 2 → ℕ} (t : Fin 8) (inb : ∀ a, off a + S512x1024.size a ≤ S4096x1024.size a)
    (h : off = ![512 * t.val, 0]) :
    (Memref.whole cc0_scratch0).view.readAt (Elt F) (Rect.unit (s := S4096x1024) off S512x1024.size inb).toLoadRect f
      = slab ((Memref.whole cc0_scratch0).view.read (Elt F) f) t := by
  subst h
  funext y
  refine congrArg ((Memref.whole cc0_scratch0).view.read (Elt F) f) (funext fun a => Fin.ext ?_)
  match a with
  | ⟨0, _⟩ => show 512 * t.val + 1 * (y 0).val = 512 * t.val + (y 0).val; omega
  | ⟨1, _⟩ => show 0 + 1 * (y 1).val = (y 1).val; omega

/-- The store of a slab replaces it, -/
theorem store_slab (f : (Memref.whole cc0_scratch0).view.ty.Contents (Elt F)) {off : Fin 2 → ℕ} (t : Fin 8) (inb : ∀ a, off a + S512x1024.size a ≤ S4096x1024.size a)
    (h : off = ![512 * t.val, 0]) (w : S512x1024.Idx → F .f32) :
    slab ((Memref.whole cc0_scratch0).view.read (Elt F) ((Memref.whole cc0_scratch0).view.writes (Elt F) f [⟨Rect.unit (s := S4096x1024) off S512x1024.size inb, w⟩])) t = w := by
  funext y
  refine View.read_writes_cons_unit_of_mem _ f inb w [] _ y h fun a => ?_
  match a with
  | ⟨0, _⟩ => rfl
  | ⟨1, _⟩ => show (y 1).val = 0 + (y 1).val; omega

/-- and no other. -/
theorem store_slab_ne (f : (Memref.whole cc0_scratch0).view.ty.Contents (Elt F)) {off : Fin 2 → ℕ} (t t' : Fin 8) (ht : t' ≠ t)
    (inb : ∀ a, off a + S512x1024.size a ≤ S4096x1024.size a) (h : off = ![512 * t.val, 0]) (w : S512x1024.Idx → F .f32) :
    slab ((Memref.whole cc0_scratch0).view.read (Elt F) ((Memref.whole cc0_scratch0).view.writes (Elt F) f [⟨Rect.unit (s := S4096x1024) off S512x1024.size inb, w⟩])) t'
      = slab ((Memref.whole cc0_scratch0).view.read (Elt F) f) t' := by
  funext y
  refine View.read_writes_cons_unit_of_not_mem _ f inb w [] _ h 0 ?_
  have hy : (y 0).val < 512 := (y 0).isLt
  have hne : t'.val ≠ t.val := fun e => ht (Fin.ext e)
  show 512 * t'.val + (y 0).val < 512 * t.val ∨ 512 * t.val + 512 ≤ 512 * t'.val + (y 0).val
  omega

/-! ## One grid point -/

/-- The three conditions, by the block of hidden columns. -/
theorem cond1_iff : ∀ i : grid0.Coords, k0_cond1 i = 1#1 ↔ (i 0).val = 0 := by decide +kernel
theorem cond2_iff : ∀ i : grid0.Coords, k0_cond2 i = 1#1 ↔ (i 0).val ≠ 0 ∧ (i 0).val ≠ 3 := by decide +kernel
theorem cond3_iff : ∀ i : grid0.Coords, k0_cond3 i = 1#1 ↔ (i 0).val = 3 := by decide +kernel

/-- What a point makes of the slab: the first block's product replaces it, a later one's is added to it. -/
def next (j : ℕ) (old : S512x1024.Idx → F .f32) (x2 : Vec F S512x1024 .f32) (x3 x4 x5 : Vec F S1024x1024 .f32) : S512x1024.Idx → F .f32 :=
  if j = 0 then k0_pay1 x2 x3 x4 x5 else addf old (k0_pay1 x2 x3 x4 x5)

/-- A stored payload is cast to its own shape. -/
theorem pay2_eq (x2 : Vec F S512x1024 .f32) (x3 x4 x5 : Vec F S1024x1024 .f32) : k0_pay2 x2 x3 x4 x5 = k0_pay1 x2 x3 x4 x5 := by
  funext y
  show k0_pay1 x2 x3 x4 x5 (Shape.reshapeEquiv shapeCasts_S512x1024_S512x1024 y) = _
  rw [Shape.reshapeEquiv_self]
theorem pay3_eq (x2 : Vec F S512x1024 .f32) (x3 x4 x5 : Vec F S1024x1024 .f32) (v : Vec F S512x1024 .f32) :
    k0_pay3 x2 x3 x4 x5 v = addf v (k0_pay1 x2 x3 x4 x5) := by
  funext y
  show addf v (k0_pay1 x2 x3 x4 x5) (Shape.reshapeEquiv shapeCasts_S512x1024_S512x1024 y) = _
  rw [Shape.reshapeEquiv_self]

/-- The body at a point, on whole staging buffers holding the four operands' blocks: before the last block of hidden columns the
    token block's slab of the scratch ends at `next`, at the last one the result's buffer does, the other slabs as they were. -/
theorem body_run (c : Dev nD) (i : grid0.Coords) (t : Fin 8) (ht : (i 1).val = t.val)
    (M2 : Memref sig .tc .vmem S512x1024 .f32) (h2 : M2.IsWhole) (M3 : Memref sig .tc .vmem S1024x1024 .f32) (h3 : M3.IsWhole)
    (M4 : Memref sig .tc .vmem S1024x1024 .f32) (h4 : M4.IsWhole) (M5 : Memref sig .tc .vmem S1024x1024 .f32) (h5 : M5.IsWhole)
    (M6 : Memref sig .tc .vmem S512x1024 .f32) (h6 : M6.IsWhole)
    (x2 : Vec F S512x1024 .f32) (x3 x4 x5 : Vec F S1024x1024 .f32) (x6 : Vec F S512x1024 .f32) (f : Buf (Elt F) ((c : Thread nD τ).loc cc0_scratch0))
    (E : Set ℕ) (K : PUnit → sProp 𝕄) :
    iprop(owns (c : Thread nD τ) M2 fullShare x2 ∗ owns (c : Thread nD τ) M3 fullShare x3 ∗ owns (c : Thread nD τ) M4 fullShare x4
        ∗ owns (c : Thread nD τ) M5 fullShare x5 ∗ owns (c : Thread nD τ) M6 fullShare x6 ∗ ((Memref.whole cc0_scratch0).view.loc (c : Thread nD τ) ↦{fullShare} f)
        ∗ (iprop(owns (c : Thread nD τ) M2 fullShare x2 ∗ owns (c : Thread nD τ) M3 fullShare x3 ∗ owns (c : Thread nD τ) M4 fullShare x4
            ∗ owns (c : Thread nD τ) M5 fullShare x5
            ∗ (∃ y6, ⌜(i 0).val = 3 → y6 = next (i 0).val (slab (held c f) t) x2 x3 x4 x5⌝ ∗ owns (c : Thread nD τ) M6 fullShare y6)
            ∗ (∃ g, ⌜((i 0).val ≠ 3 → slab (held c g) t = next (i 0).val (slab (held c f) t) x2 x3 x4 x5)
                  ∧ ∀ t' : Fin 8, t' ≠ t → slab (held c g) t' = slab (held c f) t'⌝
                ∗ ((Memref.whole cc0_scratch0).view.loc (c : Thread nD τ) ↦{fullShare} g))) -∗ K ⟨⟩))
      ⊢ wp frame (wpE (defs₀ (F := F)) 𝒱₀ c none) E
          (cc0__shared_body i M2 h2 M3 h3 M4 h4 M5 h5 M6 h6 (Memref.whole cc0_scratch0) (Memref.isWhole_whole _)) K := by
  unfold owns
  iintro ⟨⟨%f2, %hf2, H2⟩, ⟨%f3, %hf3, H3⟩, ⟨%f4, %hf4, H4⟩, ⟨%f5, %hf5, H5⟩, ⟨%f6, %hf6, H6⟩, HS, Hk⟩
  have off1 : k0_off1 i = ![512 * t.val, 0] := by rw [k0_off1_eq, ht]
  have off2 : k0_off2 i = ![512 * t.val, 0] := by rw [k0_off2_eq, ht]
  have off3 : k0_off3 i = ![512 * t.val, 0] := by rw [k0_off3_eq, ht]
  have hj : (i 0).val < 4 := (i 0).isLt
  sl_unfold [cc0__shared_body]
  rcases (by omega : (i 0).val = 0 ∨ (i 0).val = 3 ∨ ((i 0).val ≠ 0 ∧ (i 0).val ≠ 3)) with h | h | h
  · have hc1 : k0_cond1 i = 1#1 := (cond1_iff i).2 h
    have hc2 : ¬ k0_cond2 i = 1#1 := fun e => ((cond2_iff i).1 e).1 h
    have hc3 : ¬ k0_cond3 i = 1#1 := fun e => by have := (cond3_iff i).1 e; omega
    sl_exec!
    sl_step
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]
    · iexists x6; isplitr; · ipureintro; intro e; omega
      iexists _; isplitr; · ipureintro; exact hf6
      iexact H6
    iexists _
    isplitr; swap
    · iexact HS
    ipureintro
    refine ⟨fun _ => ?_, fun t' ht' => store_slab_ne f t t' ht' _ off1 _⟩
    refine (store_slab f t _ off1 _).trans ?_
    rw [pay2_eq, View.readAt_full, View.readAt_full, View.readAt_full, View.readAt_full, hf2, hf3, hf4, hf5]
    exact (if_pos h).symm
  · have hc1 : ¬ k0_cond1 i = 1#1 := fun e => by have := (cond1_iff i).1 e; omega
    have hc2 : ¬ k0_cond2 i = 1#1 := fun e => ((cond2_iff i).1 e).2 h
    have hc3 : k0_cond3 i = 1#1 := (cond3_iff i).2 h
    sl_exec!
    sl_step
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]
    · iexists _; isplitr; swap
      · iexists _; isplitr; swap
        · iexact H6
        ipureintro
        exact View.read_writes_full _ _ _ _ _
      ipureintro; intro _
      show k0_pay4 _ _ _ _ _ = _
      rw [load_slab f t _ off3, View.readAt_full, View.readAt_full, View.readAt_full, View.readAt_full, hf2, hf3, hf4, hf5]
      exact (if_neg (by omega)).symm
    iexists f
    isplitr; swap
    · iexact HS
    ipureintro
    exact ⟨fun e => absurd h e, fun _ _ => rfl⟩
  · have hc1 : ¬ k0_cond1 i = 1#1 := fun e => h.1 ((cond1_iff i).1 e)
    have hc2 : k0_cond2 i = 1#1 := (cond2_iff i).2 h
    have hc3 : ¬ k0_cond3 i = 1#1 := fun e => h.2 ((cond3_iff i).1 e)
    sl_exec!
    sl_step
    iapply Hk
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]
    · iexists x6; isplitr; · ipureintro; intro e; exact absurd e h.2
      iexists _; isplitr; · ipureintro; exact hf6
      iexact H6
    iexists _
    isplitr; swap
    · iexact HS
    ipureintro
    refine ⟨fun _ => ?_, fun t' ht' => store_slab_ne f t t' ht' _ off2 _⟩
    refine (store_slab f t _ off2 _).trans ?_
    rw [pay3_eq, load_slab f t _ off2, View.readAt_full, View.readAt_full, View.readAt_full, View.readAt_full, hf2, hf3, hf4, hf5]
    exact (if_neg h.1).symm

end Cert.Proof.Shared

end
-- ==== Proof.Shared.Launch.lean ====
/-
  The shared expert's call: the partial sums its scratch carries from one block of hidden columns to the next, the
  invariant of its grid, and its run from any memory.
-/
module

public import proofs.«01_k».proof.Proof.Shared.Body
public import proofs.«01_k».proof.Proof.Gen.SharedExpertIdeal.Points
public import Idealize.ShloMosaic.Lib.Pipeline.DatRel
public import Idealize.ShloMosaic.Lib.Pipeline.Frame

@[expose] public section

set_option maxRecDepth 16384

noncomputable section

namespace Cert.Proof.Shared

open Cert.SharedExpertIdeal Cert.SharedExpertIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The partial sums -/

/-- The grid point of a block of hidden columns `j` and a block of tokens `t`. -/
def pt (j : Fin 4) (t : Fin 8) : Fin cfg0.N := ⟨8 * j.val + t.val, by have := j.isLt; have := t.isLt; show _ < grid0.N; rw [N_0]; omega⟩

/-- The product of the point's blocks. -/
def contrib (c : Dev nD) (n : Fin cfg0.N) : S512x1024.Idx → F .f32 :=
  k0_pay1 (iblk m c 0 n) (iblk m c 1 n) (iblk m c 2 n) (iblk m c 3 n)

/-- A token block's sum over the hidden blocks up to the `j`-th, added in their order. -/
def acc (c : Dev nD) (t : Fin 8) : (j : ℕ) → j < 4 → S512x1024.Idx → F .f32
  | 0, h => contrib m c (pt ⟨0, h⟩ t)
  | j + 1, h => addf (acc c t j (by omega)) (contrib m c (pt ⟨j + 1, h⟩ t))

theorem acc_congr (c : Dev nD) {t t' : Fin 8} {j j' : ℕ} (ht : t = t') (hj : j = j') (h : j < 4) (h' : j' < 4) : acc m c t j h = acc m c t' j' h' := by
  subst ht; subst hj; rfl

/-- Before point `n`, of each token block whose last point is one of the eight before `n` (and not of the last hidden block) the
    scratch holds the sum so far. -/
def Part (c : Dev nD) (n : ℕ) (A : S4096x1024.Idx → F .f32) : Prop :=
  ∀ (t : Fin 8) (j : ℕ) (hj : j < 3), 8 * j + t.val < n → n ≤ 8 * j + t.val + 8 → slab A t = acc m c t j (by omega)

/-- At point `8 j + t` the body makes of the slab the block's next sum. -/
theorem next_eq (c : Dev nD) (j : Fin 4) (t : Fin 8) (A : S4096x1024.Idx → F .f32) (h : Part m c (8 * j.val + t.val) A) :
    next j.val (slab A t) (iblk m c 0 (pt j t)) (iblk m c 1 (pt j t)) (iblk m c 2 (pt j t)) (iblk m c 3 (pt j t)) = acc m c t j.val j.isLt := by
  obtain ⟨j, hj⟩ := j
  cases j with
  | zero => rfl
  | succ j =>
    have e := h t j (by omega) (by show 8 * j + t.val < 8 * (j + 1) + t.val; omega) (by show 8 * (j + 1) + t.val ≤ _; omega)
    rw [e]; rfl

/-- The invariant passes a point. -/
theorem Part.step (c : Dev nD) (j : Fin 4) (t : Fin 8) (A B : S4096x1024.Idx → F .f32) (h : Part m c (8 * j.val + t.val) A)
    (hB : j.val ≠ 3 → slab B t = acc m c t j.val j.isLt) (ho : ∀ t' : Fin 8, t' ≠ t → slab B t' = slab A t') :
    Part m c (8 * j.val + t.val + 1) B := by
  intro t' j' hj' h1 h2
  have ht := t.isLt; have ht' := t'.isLt; have hj := j.isLt
  by_cases e : t' = t
  · subst e
    obtain rfl : j' = j.val := by omega
    exact hB (by omega)
  · have hne : t'.val ≠ t.val := fun q => e (Fin.ext q)
    rw [ho t' e]
    exact h t' j' hj' (by omega) (by omega)

/-! ## The proof data -/

/-- The grid's invariant: the scratch at sums so far, the generator's register at some state. -/
def Inv (c : Dev nD) (n : ℕ) : sProp 𝕄 :=
  iprop((∃ f : Buf (Elt F) ((c : Thread nD τ).loc cc0_scratch0), ⌜Part m c n (held c f)⌝ ∗ ((c : Thread nD τ).loc cc0_scratch0) ↦{fullShare} f) ∗ ∃ r, prngReg c r)

/-- The arrays as the call finds them; each input's buffer stays at its block; the result's is described below. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => contrib m c t
  Φ t := Inv m c t.val
  q _ := fullShare
  owed _ := 0

/-- The result's window is described by a predicate, -/
def fgt : Fin cfg0.W → Bool := ![false, false, false, false, true]
/-- which speaks of the last hidden block only: there the buffer holds the whole sum. -/
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, n, X => ∀ t : Fin 8, n.val = 24 + t.val → X = acc m c t 3 (by decide)

theorem A_eq (c : Dev nD) (w : Fin cfg0.W) : (dats m c).A w = V m c (Pipeline.arrRef spec0 w) := rfl
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]

/-- Each input's buffer holds its block when the body runs. -/
theorem before0_0 (c : Dev nD) (t : Fin cfg0.N) (d) : (dats m c).before 0 t d = iblk m c 0 t := before0_0_of m (dats m c) (A_eq m c 0) (after0_0 m c) t d
theorem before0_1 (c : Dev nD) (t : Fin cfg0.N) (d) : (dats m c).before 1 t d = iblk m c 1 t := before0_1_of m (dats m c) (A_eq m c 1) (after0_1 m c) t d
theorem before0_2 (c : Dev nD) (t : Fin cfg0.N) (d) : (dats m c).before 2 t d = iblk m c 2 t := before0_2_of m (dats m c) (A_eq m c 2) (after0_2 m c) t d
theorem before0_3 (c : Dev nD) (t : Fin cfg0.N) (d) : (dats m c).before 3 t d = iblk m c 3 t := before0_3_of m (dats m c) (A_eq m c 3) (after0_3 m c) t d

/-- A point is the hidden block and the token block of its coordinates. -/
theorem pt_coords : ∀ n : Fin grid0.N, (grid0.coords n 0).val = n.val / 8 ∧ (grid0.coords n 1).val = n.val % 8 := by decide +kernel

/-- The library's body obligation: the body passes the invariant on and leaves in the result's buffer, at the last hidden block,
    the whole sum. -/
theorem body_obligation (c : Dev nD) :
    BodyObligationRel (dats (F := F) m c) (defs₀ (F := F)) 𝒱₀ () Set.univ fgt (Rl m c) := fun n => by
  have hn : n.val < 32 := by have := n.isLt; have e : cfg0.N = 32 := N_0; omega
  obtain ⟨e0, e1⟩ := pt_coords n
  have hpt : n = pt ⟨n.val / 8, by omega⟩ ⟨n.val % 8, by omega⟩ := Fin.ext (by show n.val = 8 * (n.val / 8) + n.val % 8; omega)
  have hsum : 8 * (n.val / 8) + n.val % 8 = n.val := by omega
  rw [bigSep_W0, bigSep_W0]
  sl_whnfR [defs₀, Defs.onTc]
  simp only [before0_0, before0_1, before0_2, before0_3]
  rw [show (dats m c).Φ n.succ = Inv m c (n.val + 1) from rfl, show (dats m c).Φ n.castSucc = Inv m c n.val from rfl,
    show (dats m c).owesAt () n.succ = (dats m c).owesAt () n.castSucc from rfl, after0_0, after0_1, after0_2, after0_3]
  rw [show fgt 0 = false from rfl, show fgt 1 = false from rfl, show fgt 2 = false from rfl, show fgt 3 = false from rfl, show fgt 4 = true from rfl]
  dsimp only
  unfold Inv
  iintro ⟨⟨⟨%f, %hf, HS⟩, Hr⟩, Ho, ⟨%d0, H0⟩, ⟨%d1, H1⟩, ⟨%d2, H2⟩, ⟨%d3, H3⟩, ⟨%Y, -, H4⟩⟩
  have hP : Part m c (8 * (n.val / 8) + n.val % 8) (held c f) := by rw [hsum]; exact hf
  have hnext : next (grid0.coords n 0).val (slab (held c f) ⟨n.val % 8, by omega⟩) (iblk m c 0 n) (iblk m c 1 n) (iblk m c 2 n) (iblk m c 3 n)
      = acc m c ⟨n.val % 8, by omega⟩ (n.val / 8) (by omega) := by
    have h := next_eq m c ⟨n.val / 8, by omega⟩ ⟨n.val % 8, by omega⟩ (held c f) hP
    rw [← hpt] at h
    rw [e0]; exact h
  iapply (body_run c (grid0.coords n) ⟨n.val % 8, by omega⟩ e1 _ _ _ _ _ _ _ _ _ _ (iblk m c 0 n) (iblk m c 1 n) (iblk m c 2 n) (iblk m c 3 n) Y f Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%y, %hy, H4⟩, ⟨%g, %hg, HS⟩⟩
  isplitl [HS Hr]
  · isplitl [HS]
    · iexists g; isplitr; swap
      · iexact HS
      ipureintro
      have h := Part.step m c ⟨n.val / 8, by omega⟩ ⟨n.val % 8, by omega⟩ (held c f) (held c g) hP
        (fun q => (hg.1 (by rw [e0]; exact q)).trans hnext) hg.2
      rw [← hsum]; exact h
    iexact Hr
  isplitl [Ho]; · iexact Ho
  isplitl [H0]; · iexact H0
  isplitl [H1]; · iexact H1
  isplitl [H2]; · iexact H2
  isplitl [H3]; · iexact H3
  iexists y; isplitr; swap
  · iexact H4
  ipureintro
  intro t ht
  have h3 : n.val / 8 = 3 := by have := t.isLt; omega
  have ht8 : (⟨n.val % 8, by omega⟩ : Fin 8) = t := Fin.ext (by show n.val % 8 = t.val; have := t.isLt; omega)
  refine (hy (by rw [e0]; exact h3)).trans (hnext.trans ?_)
  exact acc_congr m c ht8 h3 _ _

/-! ## The run -/

/-- Before the first point the scratch may hold anything, -/
theorem inv_in (c : Dev nD) : ΦA spec0 c ⊢ Inv m c 0 := by
  unfold ΦA Inv
  rw [scopedRest0_eq]
  iintro ⟨⟨%f, H⟩, Hr⟩
  isplitl [H]
  · iexists f; isplitr; swap
    · iexact H
    ipureintro
    intro t j hj h; omega
  iexact Hr

/-- and after the last what it holds is forgotten. -/
theorem inv_out (c : Dev nD) (n : ℕ) : Inv m c n ⊢ ΦA spec0 c := by
  unfold ΦA Inv
  rw [scopedRest0_eq]
  iintro ⟨⟨%f, -, H⟩, Hr⟩
  isplitl [H]
  · iexists f; iexact H
  iexact Hr

set_option backward.isDefEq.respectTransparency.types false in
/-- For any values, from any memory with zero counters: every fair execution ends, with the arrays as the write-backs of such
    results leave them and every counter at zero. -/
theorem run_main : θ_run defs (onTc (τ := τ) (main (F := F))) (s₀ m ρ)
    (fun r => RDat.FramePost cfg0 (fun c => (dats m c).toRRel fgt (Rl m c)) (V m) r ∧ r.2.sem = fun _ => 0) :=
  RDat.θ_run_frame_track (Q' := _) cfgs (0 : Fin 1) launch0 defs₀ 𝒱₀ (fun c => (dats m c).toRRel fgt (Rl m c)) m ρ main
    (hbody := fun c => (body_obligation m c).toRRel) (hshare := fun c => (dats m c).share_full fun _ => rfl)
    (howed := fun _ _ => rfl) (V := V m) (hmain := hmain m 𝒱₀) (hA := fun _ _ => rfl)
    (hin := fun c => inv_in m c) (hout := fun c => inv_out m c _)

end Cert.Proof.Shared

end
-- ==== Proof.Shared.Value.lean ====
/-
  The shared expert's result array after the run: each row block is the sum over the four blocks of hidden columns.
-/
module

public import proofs.«01_k».proof.Proof.Shared.Launch
public import Idealize.ShloMosaic.Lib.Pipeline.ArrRel
public import Idealize.ShloMosaic.Lib.Pipeline.Value

@[expose] public section

set_option maxRecDepth 16384

noncomputable section

namespace Cert.Proof.Shared

open Cert.SharedExpertIdeal Cert.SharedExpertIdeal.Gen
open Idealize.ShloMosaic Idealize.ShloMosaic.TcCoe
open Idealize.SL Idealize.SL.RA Idealize.SL.Sem
open Idealize.ShloMosaic.ValueIdx
open Idealize.ShloMosaic.Pipeline (Dat RDat Cfg Window)

/-! ## The last write-back of a block stays -/

section Last

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD}

/-- If no later point that writes back has the same block index, what point `u` wrote back is there at the end. -/
theorem arrAt_of_last (dat : Dat τ Val Ix Name U Lvl cfg c) (w : Fin cfg.W) (hk : (cfg.win w).kind = .blocked) (u : Fin cfg.N) (hf : (cfg.win w).flush u = true)
    (hno : ∀ u' : Fin cfg.N, u.val < u'.val → (cfg.win w).index u' ≠ (cfg.win w).index u)
    (y : ((cfg.win w).xblock (cfg.grid.coords u)).Idx) :
    ∀ n, u.val < n → dat.arrAt w n (((cfg.win w).blk u).view.emb y)
      = _root_.cast (congrArg Val ((cfg.win w).blk u).view.elt_eq.symm) (dat.flushed w u y)
  | 0, h => absurd h (Nat.not_lt_zero _)
  | n + 1, h => by
    rw [dat.arrAt_succ_apply]
    by_cases e : u.val = n
    · subst e
      rw [dif_pos u.isLt, if_pos hf]
      exact View.write_emb_of_mem _ _ (Finset.mem_univ y)
    have hlt : u.val < n := by omega
    have ih := arrAt_of_last dat w hk u hf hno y n hlt
    by_cases hn : n < cfg.N
    · rw [dif_pos hn]
      by_cases hfn : (cfg.win w).flush ⟨n, hn⟩ = true
      · rw [if_pos hfn, View.write_of_not_mem]
        · exact ih
        rw [View.setOn_univ]
        intro hin
        have hd : Disjoint ((cfg.win w).blk ⟨n, hn⟩).view.set ((cfg.win w).blk u).view.set := (cfg.win w).disjoint_blk (hno ⟨n, hn⟩ hlt) hk
        exact Finset.disjoint_left.mp hd hin (View.emb_mem_set _ y)
      · rw [if_neg hfn]; exact ih
    · rw [dif_neg hn]; exact ih

end Last

variable {F : FTy → Type} [FloatOps F]
variable (m : (ℓ : Loc nD τ sig) → Buf (Elt F) ℓ) (ρ : Dev nD → PrngReg)

/-! ## The result array -/

/-- The whole result: row `r` is row `r % 512` of token block `r / 512`'s sum. -/
def total (c : Dev nD) : S4096x1024.Idx → F .f32 := fun i =>
  acc m c ⟨(i 0).val / 512, by have : (i 0).val < 4096 := (i 0).isLt; omega⟩ 3 (by decide)
    (ix2 (⟨(i 0).val % 512, Nat.mod_lt _ (by decide)⟩ : Fin 512) (⟨(i 1).val, (i 1).isLt⟩ : Fin 1024))

/-- The result's block index at a point. -/
theorem index4 : ∀ n : Fin grid0.N, (win0 4).index n 0 = n.val % 8 ∧ (win0 4).index n 1 = 0 := by decide +kernel

/-- After the run the result array is `total`, the arguments are as launched and every counter is zero. -/
theorem run_value : θ_run defs (onTc (τ := τ) (main (F := F))) ⟨m, fun _ => 0, ρ⟩ (fun r => (∀ c : Dev nD,
      r.2.mem ((c.tc : Thread nD τ).loc main_v0) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono (fun r hr => ⟨fun c => ?_, hr.2⟩) (run_main m ρ)
  obtain ⟨after, hL, hA⟩ := RDat.FramePost.exists_exact hr.1 c
  have hin : ∀ w, (win0 w).isOut = false → r.2.mem ((spec0 w).arr.view.loc (c.tc : Thread nD τ)) = V m c (Pipeline.arrRef spec0 w) :=
    fun w h => (hA w).trans (Dat.arrAt_in (((dats m c).toRRel fgt (Rl m c)).withAfter after) w h cfg0.N)
  refine ⟨?_, hin 0 rfl, hin 1 rfl, hin 2 rfl, hin 3 rfl⟩
  refine (hA 4).trans (funext fun i => ?_)
  have h0 : (i 0).val < 4096 := (i 0).isLt
  let t : Fin 8 := ⟨(i 0).val / 512, by omega⟩
  let y : S512x1024.Idx := ix2 (⟨(i 0).val % 512, Nat.mod_lt _ (by decide)⟩ : Fin 512) (⟨(i 1).val, (i 1).isLt⟩ : Fin 1024)
  have hy : ((win0 4).blk (pt 3 t)).view.emb y = i := by
    funext a
    apply Fin.ext
    refine (Window.rect_emb_val (win0 4) (pt 3 t) y a).trans ?_
    match a with
    | ⟨0, _⟩ =>
      have e : (win0 4).index (pt 3 t) 0 = t.val := (index4 (pt 3 t)).1.trans (by have h3 : (pt 3 t).val = 24 + t.val := rfl; have := t.isLt; omega)
      have ht : t.val = (i 0).val / 512 := rfl
      show (win0 4).index (pt 3 t) 0 * 512 + (i 0).val % 512 = (i 0).val
      rw [e]; omega
    | ⟨1, _⟩ =>
      have e : (win0 4).index (pt 3 t) 1 = 0 := (index4 (pt 3 t)).2
      show (win0 4).index (pt 3 t) 1 * 1024 + (i 1).val = (i 1).val
      rw [e]; omega
  have hlast := arrAt_of_last ((((dats m c).toRRel fgt (Rl m c))).withAfter after) 4 rfl (pt 3 t) (flush0_4 _) (fun u' hu' e => by
    have h := congrFun e 0
    have h1 : u'.val < 32 := by have := u'.isLt; have e : cfg0.N = 32 := N_0; omega
    have h2 : u'.val % 8 = (pt 3 t).val % 8 := ((index4 u').1.symm.trans h).trans (index4 (pt 3 t)).1
    have h3 : (pt 3 t).val = 24 + t.val := rfl
    have := t.isLt
    omega) y cfg0.N (pt 3 t).isLt
  rw [hy] at hlast
  refine hlast.trans ?_
  have hl : Rl m c 4 (pt 3 t) (after 4 (pt 3 t)) := (dats m c).toRRel_leaves rfl (hL 4 (pt 3 t) (flush0_4 _))
  exact congrFun (hl t rfl) y

end Cert.Proof.Shared

end
-- ==== Proof.SharedCall.Region.lean ====
/-
  The program's first call, the shared expert on the TensorCore: the partial sums its scratch carries from one block of
  hidden columns to the next, the invariant of its grid, and the region of the whole call.  The core meanwhile owes both
  SparseCore calls their starts.
-/
module

public import proofs.«01_k».proof.Proof.SharedCall.Body
public import proofs.«01_k».proof.Proof.Shared.Value
public import proofs.«01_k».proof.Proof.Gen.KernelIdeal.Points
public import Idealize.ShloMosaic.Lib.Pipeline.Regions
public import Idealize.ShloMosaic.Lib.Pipeline.DatRel
public import Idealize.ShloMosaic.Lib.Pipeline.ArrRel
public import Idealize.ShloMosaic.Lib.Pipeline.Value
public import Idealize.ShloMosaic.Lib.Pipeline.RegionArraysT

@[expose] public section

set_option maxRecDepth 16384

noncomputable section

namespace Cert.Proof.SharedCall

open Cert.KernelIdeal hiding ix2
open Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window BodyObligationRel ucRefs arrRefs tblRefs prefHeld)
open Cert.Proof.Combine (MM UU K 𝒱₀ debt otc_none)

variable {F : FTy → Type} [FloatOps F]

local notation "𝕄" => MM F

variable (a : (p : Fin 2) → (pcfgs (F := F) p).Adm) (W : Dev nD → Valuation τ sig (Elt F))

/-- The block of its array that window `w` shows at a point. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-! ## The partial sums -/

/-- The grid point of a block of hidden columns `j` and a block of tokens `t`. -/
def pt (j : Fin 4) (t : Fin 8) : Fin cfg0.N := ⟨8 * j.val + t.val, by have := j.isLt; have := t.isLt; show _ < grid0.N; rw [N_0]; omega⟩

/-- The product of the point's blocks. -/
def contrib (c : Dev nD) (n : Fin cfg0.N) : S512x1024.Idx → F .f32 :=
  k0_pay1 (iblk W c 0 n) (iblk W c 1 n) (iblk W c 2 n) (iblk W c 3 n)

/-- A token block's sum over the hidden blocks up to the `j`-th, added in their order. -/
def acc (c : Dev nD) (t : Fin 8) : (j : ℕ) → j < 4 → S512x1024.Idx → F .f32
  | 0, h => contrib W c (pt ⟨0, h⟩ t)
  | j + 1, h => addf (acc c t j (by omega)) (contrib W c (pt ⟨j + 1, h⟩ t))

theorem acc_congr (c : Dev nD) {t t' : Fin 8} {j j' : ℕ} (ht : t = t') (hj : j = j') (h : j < 4) (h' : j' < 4) : acc W c t j h = acc W c t' j' h' := by
  subst ht; subst hj; rfl

/-- Before point `n`, of each token block whose last point is one of the eight before `n` (and not of the last hidden block) the
    scratch holds the sum so far. -/
def Part (c : Dev nD) (n : ℕ) (A : S4096x1024.Idx → F .f32) : Prop :=
  ∀ (t : Fin 8) (j : ℕ) (hj : j < 3), 8 * j + t.val < n → n ≤ 8 * j + t.val + 8 → slab A t = acc W c t j (by omega)

/-- At point `8 j + t` the body makes of the slab the block's next sum. -/
theorem next_eq (c : Dev nD) (j : Fin 4) (t : Fin 8) (A : S4096x1024.Idx → F .f32) (h : Part W c (8 * j.val + t.val) A) :
    next j.val (slab A t) (iblk W c 0 (pt j t)) (iblk W c 1 (pt j t)) (iblk W c 2 (pt j t)) (iblk W c 3 (pt j t)) = acc W c t j.val j.isLt := by
  obtain ⟨j, hj⟩ := j
  cases j with
  | zero => rfl
  | succ j =>
    have e := h t j (by omega) (by show 8 * j + t.val < 8 * (j + 1) + t.val; omega) (by show 8 * (j + 1) + t.val ≤ _; omega)
    rw [e]; rfl

/-- The invariant passes a point. -/
theorem Part.step (c : Dev nD) (j : Fin 4) (t : Fin 8) (A B : S4096x1024.Idx → F .f32) (h : Part W c (8 * j.val + t.val) A)
    (hB : j.val ≠ 3 → slab B t = acc W c t j.val j.isLt) (ho : ∀ t' : Fin 8, t' ≠ t → slab B t' = slab A t') :
    Part W c (8 * j.val + t.val + 1) B := by
  intro t' j' hj' h1 h2
  have ht := t.isLt; have ht' := t'.isLt; have hj := j.isLt
  by_cases e : t' = t
  · subst e
    obtain rfl : j' = j.val := by omega
    exact hB (by omega)
  · have hne : t'.val ≠ t.val := fun q => e (Fin.ext q)
    rw [ho t' e]
    exact h t' j' hj' (by omega) (by omega)

/-! ## The proof data -/

/-- The core's other scoped buffers: the staging buffers of the windows of the other region. -/
def Others (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- The grid's invariant: the scratch at sums so far, the other buffers at anything. -/
def Inv (c : Dev nD) (n : ℕ) : sProp 𝕄 :=
  iprop((∃ f : Buf (Elt F) ((c : Thread nD τ).loc cc0_scratch0), ⌜Part W c n (held c f)⌝ ∗ ((c : Thread nD τ).loc cc0_scratch0) ↦{fullShare} f) ∗ Others c)

/-- Filler contents for the other region's buffers. -/
def fill (c : Dev nD) (w : Fin (cfg2 (a 1)).W) (t : Fin (cfg2 (a 1)).N) :
    ((cfg2 (a 1)).win w).block.Idx → Elt F ((cfg2 (a 1)).win w).elt :=
  (((cfg2 (a 1)).win w).blk t).view.read (Elt F) (W c (Proc.devRef .tc (Pipeline.arrRef spec2 w)))

/-- The first region's data; the second region's, which runs on its own data, is a filler here. The arrays as the call finds them;
    each input's buffer stays at its block; the result's is described below. The core meanwhile owes the two SparseCore calls
    their starts. -/
def dats (p : Fin 2) (c : Dev nD) : Dat τ (Elt F) (HIx 2) ℕ UU ℕ (Pipeline.pin (pcfgs (F := F)) a p) c :=
  match p with
  | 0 =>
  { A := fun w => W c (Proc.devRef .tc (Pipeline.arrRef spec0 w))
    after := fun w t => match w with
      | ⟨0, _⟩ => iblk W c 0 t
      | ⟨1, _⟩ => iblk W c 1 t
      | ⟨2, _⟩ => iblk W c 2 t
      | ⟨3, _⟩ => iblk W c 3 t
      | ⟨4, _⟩ => contrib W c t
    Φ := fun t => Inv W c t.val
    q := fun _ => fullShare
    owed := fun _ => (K (F := F)).Otc c 0
    recorded := fun _ => {p | (K (F := F)).lev (T c, p.1) p.2 ≤ 8 * 0} }
  | 1 =>
  { A := fun w => W c (Proc.devRef .tc (Pipeline.arrRef spec2 w))
    after := fun w t => fill a W c w t
    Φ := fun _ => iprop(emp)
    q := fun _ => fullShare
    owed := fun _ => 0 }

/-- The result's window is described by a predicate, -/
def fgt : Fin cfg0.W → Bool := ![false, false, false, false, true]
/-- which speaks of the last hidden block only: there the buffer holds the whole sum. -/
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, n, X => ∀ t : Fin 8, n.val = 24 + t.val → X = acc W c t 3 (by decide)

theorem A_eq (c : Dev nD) (w : Fin cfg0.W) : (dats a W 0 c).A w = W c (Proc.devRef .tc (Pipeline.arrRef spec0 w)) := rfl
theorem after_0 (c : Dev nD) (t : Fin cfg0.N) : (dats a W 0 c).after 0 t = iblk W c 0 t := by dsimp only [dats]; rfl
theorem after_1 (c : Dev nD) (t : Fin cfg0.N) : (dats a W 0 c).after 1 t = iblk W c 1 t := by dsimp only [dats]; rfl
theorem after_2 (c : Dev nD) (t : Fin cfg0.N) : (dats a W 0 c).after 2 t = iblk W c 2 t := by dsimp only [dats]; rfl
theorem after_3 (c : Dev nD) (t : Fin cfg0.N) : (dats a W 0 c).after 3 t = iblk W c 3 t := by dsimp only [dats]; rfl

/-- Each input's buffer holds its block when the body runs. -/
theorem before_0 (c : Dev nD) (t : Fin cfg0.N) (d) : (dats a W 0 c).before 0 t d = iblk W c 0 t :=
  ((dats a W 0 c).before_in_eq_fetched 0 rfl (fun _ => rfl) (fun _ _ _ => rfl) (fun t => by rw [after_0]; rfl) t d).trans rfl
theorem before_1 (c : Dev nD) (t : Fin cfg0.N) (d) : (dats a W 0 c).before 1 t d = iblk W c 1 t :=
  ((dats a W 0 c).before_in_eq_fetched 1 rfl (fun _ => rfl) (fun _ _ _ => rfl) (fun t => by rw [after_1]; rfl) t d).trans rfl
theorem before_2 (c : Dev nD) (t : Fin cfg0.N) (d) : (dats a W 0 c).before 2 t d = iblk W c 2 t :=
  ((dats a W 0 c).before_in_eq_fetched 2 rfl (fun _ => rfl) (fun _ _ _ => rfl) (fun t => by rw [after_2]; rfl) t d).trans rfl
theorem before_3 (c : Dev nD) (t : Fin cfg0.N) (d) : (dats a W 0 c).before 3 t d = iblk W c 3 t :=
  ((dats a W 0 c).before_in_eq_fetched 3 rfl (fun _ => rfl) (fun _ _ _ => rfl) (fun t => by rw [after_3]; rfl) t d).trans rfl

/-- A buffer's contents by an equal value. -/
theorem owns_of_eq {c : Dev nD} {sh : Shape} {e : EltTy} {M : Memref sig .tc .vmem sh e} {x y : Vec F sh e} (h : x = y) :
    (owns (c : Thread nD τ) M fullShare x : sProp 𝕄) ⊢ owns (c : Thread nD τ) M fullShare y := by rw [h]

/-- A point is the hidden block and the token block of its coordinates. -/
theorem pt_coords : ∀ n : Fin grid0.N, (grid0.coords n 0).val = n.val / 8 ∧ (grid0.coords n 1).val = n.val % 8 := by decide +kernel

/-- The library's body obligation: the body passes the invariant on and leaves in the result's buffer, at the last hidden block,
    the whole sum. -/
theorem body_obligation (c : Dev nD) :
    BodyObligationRel (dats a W 0 c) (defs₀ (F := F)) 𝒱₀ none Set.univ fgt (Rl W c) := fun n => by
  have hn : n.val < 32 := n.isLt.trans_eq N_0
  obtain ⟨e0, e1⟩ := pt_coords n
  have hpt : n = pt ⟨n.val / 8, by omega⟩ ⟨n.val % 8, by omega⟩ := Fin.ext (by show n.val = 8 * (n.val / 8) + n.val % 8; omega)
  have hsum : 8 * (n.val / 8) + n.val % 8 = n.val := by omega
  rw [bigSep_W0, bigSep_W0]
  sl_whnfR [defs₀, Defs.onTc]
  rw [show (dats a W 0 c).Φ n.succ = Inv W c (n.val + 1) from rfl, show (dats a W 0 c).Φ n.castSucc = Inv W c n.val from rfl,
    show (dats a W 0 c).owesAt none n.succ = (dats a W 0 c).owesAt none n.castSucc from rfl, after_0, after_1, after_2, after_3]
  rw [show fgt 0 = false from rfl, show fgt 1 = false from rfl, show fgt 2 = false from rfl, show fgt 3 = false from rfl, show fgt 4 = true from rfl]
  dsimp only
  unfold Inv
  iintro ⟨⟨⟨%f, %hf, HS⟩, Hr⟩, Ho, ⟨%d0, H0⟩, ⟨%d1, H1⟩, ⟨%d2, H2⟩, ⟨%d3, H3⟩, ⟨%Y, -, H4⟩⟩
  have hP : Part W c (8 * (n.val / 8) + n.val % 8) (held c f) := by rw [hsum]; exact hf
  have hnext : next (grid0.coords n 0).val (slab (held c f) ⟨n.val % 8, by omega⟩) (iblk W c 0 n) (iblk W c 1 n) (iblk W c 2 n) (iblk W c 3 n)
      = acc W c ⟨n.val % 8, by omega⟩ (n.val / 8) (by omega) := by
    have h := next_eq W c ⟨n.val / 8, by omega⟩ ⟨n.val % 8, by omega⟩ (held c f) hP
    rw [← hpt] at h
    rw [e0]; exact h
  iapply (body_run c (grid0.coords n) ⟨n.val % 8, by omega⟩ e1 _ _ _ _ _ _ _ _ _ _ (iblk W c 0 n) (iblk W c 1 n) (iblk W c 2 n) (iblk W c 3 n) Y f Set.univ _)
  isplitl [H0]; · iapply (owns_of_eq (before_0 a W c n d0)); iexact H0
  isplitl [H1]; · iapply (owns_of_eq (before_1 a W c n d1)); iexact H1
  isplitl [H2]; · iapply (owns_of_eq (before_2 a W c n d2)); iexact H2
  isplitl [H3]; · iapply (owns_of_eq (before_3 a W c n d3)); iexact H3
  isplitl [H4]; · iexact H4
  isplitl [HS]; · iexact HS
  iintro ⟨H0, H1, H2, H3, ⟨%y, %hy, H4⟩, ⟨%g, %hg, HS⟩⟩
  isplitl [HS Hr]
  · isplitl [HS]
    · iexists g; isplitr; swap
      · iexact HS
      ipureintro
      have h := Part.step W c ⟨n.val / 8, by omega⟩ ⟨n.val % 8, by omega⟩ (held c f) (held c g) hP
        (fun q => (hg.1 (by rw [e0]; exact q)).trans hnext) hg.2
      rw [← hsum]; exact h
    iexact Hr
  isplitl [Ho]; · iexact Ho
  isplitl [H0]; · iexact H0
  isplitl [H1]; · iexact H1
  isplitl [H2]; · iexact H2
  isplitl [H3]; · iexact H3
  iexists y; isplitr; swap
  · iexact H4
  ipureintro
  intro t ht
  have h3 : n.val / 8 = 3 := by have := t.isLt; omega
  have ht8 : (⟨n.val % 8, by omega⟩ : Fin 8) = t := Fin.ext (by show n.val % 8 = t.val; have := t.isLt; omega)
  refine (hy (by rw [e0]; exact h3)).trans (hnext.trans ?_)
  exact acc_congr W c ht8 h3 _ _

/-- Before the first point the scratch may hold anything, -/
theorem inv_in (c : Dev nD) : (Pipeline.scopedRest spec0 c : sProp 𝕄) ⊢ Inv W c 0 := by
  unfold Inv Others
  rw [scopedRest0_eq]
  iintro ⟨⟨%f, H⟩, Hr⟩
  isplitl [H]
  · iexists f; isplitr; swap
    · iexact H
    ipureintro
    intro t j hj h; omega
  iexact Hr

/-- and after the last what it holds is forgotten. -/
theorem inv_out (c : Dev nD) (n : ℕ) : Inv W c n ⊢ (Pipeline.scopedRest spec0 c : sProp 𝕄) := by
  unfold Inv Others
  rw [scopedRest0_eq]
  iintro ⟨⟨%f, -, H⟩, Hr⟩
  isplitl [H]
  · iexists f; iexact H
  iexact Hr

/-! ## The array the region leaves -/

/-- The whole result: row `r` is row `r % 512` of token block `r / 512`'s sum. -/
def total (c : Dev nD) : S4096x1024.Idx → F .f32 := fun i =>
  acc W c ⟨(i 0).val / 512, by have : (i 0).val < 4096 := (i 0).isLt; omega⟩ 3 (by decide)
    (ix2 (⟨(i 0).val % 512, Nat.mod_lt _ (by decide)⟩ : Fin 512) (⟨(i 1).val, (i 1).isLt⟩ : Fin 1024))

/-- The result's block index at a point. -/
theorem index4 : ∀ n : Fin grid0.N, (win0 4).index n 0 = n.val % 8 ∧ (win0 4).index n 1 = 0 := by decide +kernel

/-- Contents the grid may leave are the whole sums, and the inputs unchanged. -/
theorem total_of_arrAt (c : Dev nD) (G : (w : Fin cfg0.W) → Buf (Elt F) ((cfg0.win w).arr.view.loc (c.tc : Thread nD τ)))
    (hG : ∀ w, ((dats a W 0 c).toRRel fgt (Rl W c)).ArrAt w cfg0.N (G w)) :
    G 4 = total W c ∧ ∀ w, (cfg0.win w).isOut = false → G w = W c (Proc.devRef .tc (Pipeline.arrRef spec0 w)) := by
  obtain ⟨after, hL, hA⟩ := RDat.ArrAt.exists_exact_all hG
  refine ⟨?_, fun w h => (hA w).trans (Dat.arrAt_in (((dats a W 0 c).toRRel fgt (Rl W c)).withAfter after) w h cfg0.N)⟩
  refine (hA 4).trans (funext fun (i : S4096x1024.Idx) => ?_)
  have h0 : (i 0).val < 4096 := (i 0).isLt
  let t : Fin 8 := ⟨(i 0).val / 512, by omega⟩
  let y : S512x1024.Idx := ix2 (⟨(i 0).val % 512, Nat.mod_lt _ (by decide)⟩ : Fin 512) (⟨(i 1).val, (i 1).isLt⟩ : Fin 1024)
  have hy : ((win0 4).blk (pt 3 t)).view.emb y = i := by
    funext b
    apply Fin.ext
    refine (Window.rect_emb_val (win0 4) (pt 3 t) y b).trans ?_
    match b with
    | ⟨0, _⟩ =>
      have e : (win0 4).index (pt 3 t) 0 = t.val := (index4 (pt 3 t)).1.trans (by have h3 : (pt 3 t).val = 24 + t.val := rfl; have := t.isLt; omega)
      have ht : t.val = (i 0).val / 512 := rfl
      show (win0 4).index (pt 3 t) 0 * 512 + (i 0).val % 512 = (i 0).val
      rw [e]; omega
    | ⟨1, _⟩ =>
      have e : (win0 4).index (pt 3 t) 1 = 0 := (index4 (pt 3 t)).2
      show (win0 4).index (pt 3 t) 1 * 1024 + (i 1).val = (i 1).val
      rw [e]; omega
  have hlast := Cert.Proof.Shared.arrAt_of_last (((dats a W 0 c).toRRel fgt (Rl W c)).withAfter after) 4 rfl (pt 3 t) (flush0_4 _) (fun u' hu' e => by
    have h := congrFun e (0 : Fin 2)
    have h1 : u'.val < 32 := by have := u'.isLt; have e : cfg0.N = 32 := N_0; exact this.trans_eq e
    have h2 : u'.val % 8 = (pt 3 t).val % 8 := ((index4 u').1.symm.trans h).trans (index4 (pt 3 t)).1
    have h3 : (pt 3 t).val = 24 + t.val := rfl
    have := t.isLt
    omega) y cfg0.N (pt 3 t).isLt
  have hy' : (((Pipeline.pin (pcfgs (F := F)) a 0).win 4).blk (pt 3 t)).view.emb y = i := hy
  rw [hy'] at hlast
  refine hlast.trans ?_
  have hl : Rl W c 4 (pt 3 t) (after 4 (pt 3 t)) := (dats a W 0 c).toRRel_leaves rfl (hL 4 (pt 3 t) (pt 3 t).isLt (flush0_4 _))
  exact congrFun (hl t rfl) y

/-! ## The region -/

/-- The data read relationally. -/
abbrev rdats (p : Fin 2) (c : Dev nD) : RDat τ (Elt F) (HIx 2) ℕ UU ℕ (Pipeline.pin (pcfgs (F := F)) a p) c :=
  match p with
  | 0 => (dats a W 0 c).toRRel fgt (Rl W c)
  | 1 => (dats a W 1 c).toRRel (fun _ => false) (fun _ _ _ => True)

/-- What the core's arrays hold after the region: the result's the whole sums. -/
def left (c : Dev nD) : Valuation τ sig (Elt F) := Function.update (W c) (Proc.devRef .tc main_v0) (total W c)

theorem arr_sub : arrRefs (τ := τ) spec0 ⊆ ucRefs τ sig := Pipeline.arrRefs_sub_ucRefs spec0 winFacts0.arr_unscoped

theorem res_mem : (Proc.devRef .tc main_v0 : DevRef τ sig) ∈ arrRefs (τ := τ) spec0 :=
  Finset.mem_map.mpr ⟨main_v0, Finset.mem_image.mpr ⟨4, Finset.mem_univ _, rfl⟩, rfl⟩

/-- The arrays out of the core's buffers, -/
theorem split_in (c : Dev nD) :
    (StableHlo.held (c.tc : Thread nD τ) (ucRefs τ sig) (W c) : sProp 𝕄)
      = iprop((dats a W 0 c).arrays (dats a W 0 c).A ∗ StableHlo.held (c.tc : Thread nD τ) (ucRefs τ sig \ arrRefs spec0) (W c)) := by
  rw [StableHlo.held_sub_split (c.tc : Thread nD τ) arr_sub (W c),
    Pipeline.arrays_held (pcfgs (F := F)) a (dats a W) 0 launch0 c ((dats a W 0 c).share_full fun _ => rfl) (dats a W 0 c).A (W c) (fun _ => rfl)]
  rfl

/-- and back, the result's contents changed. -/
theorem split_out (c : Dev nD) (G : (w : Fin cfg0.W) → Buf (Elt F) ((cfg0.win w).arr.view.loc (c.tc : Thread nD τ)))
    (h4 : G 4 = total W c) (hG : ∀ w, (cfg0.win w).isOut = false → G w = W c (Proc.devRef .tc (Pipeline.arrRef spec0 w))) :
    (StableHlo.held (c.tc : Thread nD τ) (ucRefs τ sig) (left W c) : sProp 𝕄)
      = iprop((dats a W 0 c).arrays G ∗ StableHlo.held (c.tc : Thread nD τ) (ucRefs τ sig \ arrRefs spec0) (W c)) := by
  have hne : ∀ w : Fin 5, w ≠ 4 → (Proc.devRef .tc (Pipeline.arrRef spec0 w) : DevRef τ sig) ≠ Proc.devRef .tc main_v0 :=
    fun w hw e => hw (winFacts0.arr_inj (Proc.devRef_injective _ e))
  have hup : ∀ b : DevRef τ sig, b ≠ Proc.devRef .tc main_v0 → left W c b = W c b := fun b h => Function.update_of_ne h _ _
  rw [StableHlo.held_sub_split (c.tc : Thread nD τ) arr_sub,
    Pipeline.arrays_held (pcfgs (F := F)) a (dats a W) 0 launch0 c ((dats a W 0 c).share_full fun _ => rfl) G
      (left W c) (fun w => by
        by_cases e4 : w = 4
        · subst e4; exact h4.trans (Function.update_self (Proc.devRef .tc main_v0 : DevRef τ sig) (total W c) (W c)).symm
        · refine Eq.trans (hG w ?_) (hup _ (hne w e4)).symm
          match w, e4 with
          | ⟨0, _⟩, _ => rfl
          | ⟨1, _⟩, _ => rfl
          | ⟨2, _⟩, _ => rfl
          | ⟨3, _⟩, _ => rfl
          | ⟨4, _⟩, h => exact absurd rfl h),
    StableHlo.held_congr (c.tc : Thread nD τ) (S := ucRefs τ sig \ arrRefs spec0) (V' := W c) (fun b hb => by
      refine hup b fun e => ?_
      rw [e] at hb
      exact (Finset.mem_sdiff.mp hb).2 res_mem)]
  rfl

/-- What the grid leaves, with what is known of each array, as one family of contents. -/
theorem arrays_left (c : Dev nD) :
    (((dats a W 0 c).toRRel fgt (Rl W c)).arraysAt cfg0.N : sProp 𝕄)
      ⊢ iprop(∃ G : (w : Fin cfg0.W) → Buf (Elt F) ((cfg0.win w).arr.view.loc (c.tc : Thread nD τ)),
          ⌜∀ w, ((dats a W 0 c).toRRel fgt (Rl W c)).ArrAt w cfg0.N (G w)⌝ ∗ (dats a W 0 c).arrays G) := by
  unfold RDat.arraysAt
  iintro H
  ihave H := (BI.bigSep_exists_pi Finset.univ _) $$ H
  icases H with ⟨%G, H⟩
  ihave H := (BI.bigSep_pure_sep Finset.univ (fun w => ((dats a W 0 c).toRRel fgt (Rl W c)).ArrAt w cfg0.N (G w)) _) $$ H
  icases H with ⟨%hG, H⟩
  iexists G
  isplitr; · ipureintro; exact fun w => hG w (Finset.mem_univ w)
  unfold Dat.arrays
  iexact H

/-- The call has no table. -/
theorem no_tables (c : Dev nD) (v : (pcfgs (F := F) 0).pre.Contents (Elt F)) :
    (prefHeld (pcfgs (F := F) 0).pre c (fun _ => fullShare) v : sProp 𝕄) = iprop(emp) := by
  exact Pipeline.prefHeld_of_none _ rfl c _ v

/-- The region: entered with every buffer of the core as `W` says, left with the result's buffer at the whole sums. -/
def region : RDat.RegionSeg (pcfgs (F := F)) a (rdats a W) none (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := (body_obligation a W c).toRRel
  hwaits c := RDat.cellsWaits_intro (Pipeline.pin (pcfgs (F := F)) a) (rdats a W) none 0 c
    fun w s t => (K (F := F)).mayWait_none (thr := T c) _ (otc_none 0 c)
  pre c := iprop(StableHlo.held (c.tc : Thread nD τ) (ucRefs τ sig) (W c) ∗ debt 0 c)
  post c := iprop(StableHlo.held (c.tc : Thread nD τ) (ucRefs τ sig) (left W c) ∗ debt 0 c)
  X _ := iprop(emp)
  Y _ := iprop(emp)
  Z c := StableHlo.held (c.tc : Thread nD τ) (ucRefs τ sig \ arrRefs spec0) (W c)
  hentry c := by
    show _ ⊢ |={Set.univ}=> iprop((dats a W 0 c).arrays (dats a W 0 c).A ∗ prefHeld (pcfgs (F := F) 0).pre c (fun _ => fullShare) (a 0).1
        ∗ (dats a W 0 c).owesAt none 0 ∗ _ ∗ _)
    rw [split_in a W c, no_tables]
    unfold debt
    iintro ⟨⟨⟨Ha, Hz⟩, ⟨%Wd, %hW, HO⟩⟩, -, -⟩
    imodintro
    isplitl [Ha]; · iexact Ha
    isplitr; · iempintro
    isplitl [HO]
    · unfold Dat.owesAt Pipeline.owesWithin Dat.bound
      iexists Wd; isplitr; · ipureintro; exact fun q hq => Or.inl (hW q hq)
      iexact HO
    isplitr; · iempintro
    iexact Hz
  hin c := by
    show _ ⊢ Inv W c 0
    refine BI.Entails.trans ?_ (inv_in W c)
    show (_ : sProp 𝕄) ⊢ _
    iintro ⟨-, -, Hs⟩
    iexact Hs
  hout c := by
    show Inv W c _ ⊢ _
    refine (inv_out W c _).trans ?_
    rw [Pipeline.ownSems0_none]
    iintro Hs
    isplitr; · iempintro
    isplitr; · iempintro
    iexact Hs
  hexit c := by
    show iprop(((dats a W 0 c).toRRel fgt (Rl W c)).arraysAt cfg0.N ∗ (dats a W 0 c).owesAt none (Fin.last cfg0.N) ∗ _ ∗ _) ⊢ _
    unfold Dat.owesAt Pipeline.owesWithin debt
    iintro ⟨Ha, ⟨%Wd, %hW, HO⟩, -, Hz⟩
    ihave Ha := (arrays_left a W c) $$ Ha
    icases Ha with ⟨%G, %hA, Ha⟩
    imodintro
    obtain ⟨h4, hG⟩ := total_of_arrAt a W c G hA
    isplitl [Ha Hz]
    · iapply (Entails.of_eq (split_out a W c G h4 hG).symm)
      isplitl [Ha]; · iexact Ha
      iexact Hz
    iexists Wd; isplitr; swap
    · iexact HO
    ipureintro
    intro q hq
    rcases hW hq with h | ⟨w, s, rfl⟩
    · exact h
    · exact Nat.zero_le _

end Cert.Proof.SharedCall

end
-- ==== Proof.Shared.Reference.lean ====
/-
  The shared expert at the ideal float values: the kernel's sum over the four blocks of hidden columns and the reference's
  sum over all of them are one sum.
-/
module

public import proofs.«01_k».proof.Proof.Shared.Value
public import proofs.«01_k».proof.Proof.Gen.SharedReferenceIdeal.Run
public import Idealize.ShloMosaic.Lib.MatmulPlain
public import Idealize.ShloMosaic.Lib.StackMember
public import Idealize.ShloMosaic.Lib.IdealHost
public import Idealize.ShloMosaic.Lib.Pointwise.Sums

@[expose] public section

set_option maxRecDepth 16384

noncomputable section

namespace Cert.Proof.Shared

open Idealize.ShloMosaic hiding ix2
open Idealize.ShloMosaic.TcCoe
open Idealize.SL.Sem
open Idealize.ShloMosaic.ValueIdx
open scoped BigOperators

abbrev M4096x1024 : Shape := ⟨2, ![4096, 1024]⟩
abbrev M1024x4096 : Shape := ⟨2, ![1024, 4096]⟩

/-! ## The mathematics -/

/-- A token's product with a row of weights. -/
def row (x w : M4096x1024.Idx → EReal) (r h : Fin 4096) : EReal := ∑ k : Fin 1024, x (ix2 r k) * w (ix2 h k)

/-- A token's hidden value: the gate through the sigmoid-weighted unit, times the other product. -/
def hidden (x w1 w2 : M4096x1024.Idx → EReal) (r h : Fin 4096) : EReal :=
  row x w1 r h * Ideal.logistic (row x w1 r h) * row x w2 r h

/-- The shared expert. -/
def expert (x w1 w2 : M4096x1024.Idx → EReal) (w3 : M1024x4096.Idx → EReal) (r : Fin 4096) (d : Fin 1024) : EReal :=
  ∑ h : Fin 4096, hidden x w1 w2 r h * w3 (ix2 d h)

/-! ## The kernel's side -/

section Kernel

open Cert.SharedExpertIdeal Cert.SharedExpertIdeal.Gen

/-- The product of a point's blocks, at an index. -/
theorem pay1_apply (x2 : Vec Ideal S512x1024 .f32) (x3 x4 x5 : Vec Ideal S1024x1024 .f32) (r : Fin 512) (d : Fin 1024) :
    k0_pay1 (F := Ideal) x2 x3 x4 x5 (ix2 r d)
      = ∑ h : Fin 1024, ((∑ k : Fin 1024, x2 (ix2 r k) * x3 (ix2 h k)) * Ideal.logistic (∑ k : Fin 1024, x2 (ix2 r k) * x3 (ix2 h k))
          * (∑ k : Fin 1024, x2 (ix2 r k) * x4 (ix2 h k))) * x5 (ix2 d h) := by
  have hz : ∀ j : S512x1024.Idx, constant (F := Ideal) S512x1024 .f32 0x00000000#32 j = 0 := fun j => Ideal.ofBits_zero_f32
  have hm : ∀ (a : FVec Ideal S512x1024 .f32) (b : FVec Ideal S1024x1024 .f32) (r : Fin 512) (h : Fin 1024),
      matmul (F := Ideal) dot_S512x1024_S1024x1024_S512x1024_1_1_0_0_n_n none a b (constant (F := Ideal) S512x1024 .f32 0x00000000#32) (ix2 r h)
        = ∑ k : Fin 1024, a (ix2 r k) * b (ix2 h k) := fun a b r h =>
    (Ideal.matmul_transposedRhs_apply (M := 512) (K := 1024) (N := 1024) none a b _ r h).trans (by rw [hz]; exact zero_add _)
  refine (hm _ x5 r d).trans (Finset.sum_congr rfl fun h _ => congrArg (· * x5 (ix2 d h)) ?_)
  show matmul (F := Ideal) dot_S512x1024_S1024x1024_S512x1024_1_1_0_0_n_n none x2 x3 (constant (F := Ideal) S512x1024 .f32 0x00000000#32) (ix2 r h)
      * Ideal.logistic (matmul (F := Ideal) dot_S512x1024_S1024x1024_S512x1024_1_1_0_0_n_n none x2 x3 (constant (F := Ideal) S512x1024 .f32 0x00000000#32) (ix2 r h))
      * matmul (F := Ideal) dot_S512x1024_S1024x1024_S512x1024_1_1_0_0_n_n none x2 x4 (constant (F := Ideal) S512x1024 .f32 0x00000000#32) (ix2 r h) = _
  rw [hm, hm]

variable (m : (ℓ : Loc nD τ sig) → Buf (Elt Ideal) ℓ)

/-- The arguments' arrays. -/
abbrev argX (c : Dev nD) : M4096x1024.Idx → EReal := m ((c : Thread nD τ).loc main_arg0)
abbrev argW1 (c : Dev nD) : M4096x1024.Idx → EReal := m ((c : Thread nD τ).loc main_arg1)
abbrev argW2 (c : Dev nD) : M4096x1024.Idx → EReal := m ((c : Thread nD τ).loc main_arg2)
abbrev argW3 (c : Dev nD) : M1024x4096.Idx → EReal := m ((c : Thread nD τ).loc main_arg3)

/-- The token's row in the whole array, -/
def tokRow (t : Fin 8) (r : Fin 512) : Fin 4096 := ⟨512 * t.val + r.val, by have := t.isLt; have := r.isLt; omega⟩
/-- and the hidden column. -/
def hidCol (j : Fin 4) (h : Fin 1024) : Fin 4096 := ⟨j.val * 1024 + h.val, by have := j.isLt; have := h.isLt; omega⟩

theorem index0 : ∀ n : Fin grid0.N, (win0 0).index n 0 = n.val % 8 ∧ (win0 0).index n 1 = 0 := by decide +kernel
theorem index1 : ∀ n : Fin grid0.N, (win0 1).index n 0 = n.val / 8 ∧ (win0 1).index n 1 = 0 := by decide +kernel
theorem index2 : ∀ n : Fin grid0.N, (win0 2).index n 0 = n.val / 8 ∧ (win0 2).index n 1 = 0 := by decide +kernel
theorem index3 : ∀ n : Fin grid0.N, (win0 3).index n 0 = 0 ∧ (win0 3).index n 1 = n.val / 8 := by decide +kernel

theorem pt_div (j : Fin 4) (t : Fin 8) : (pt j t).val / 8 = j.val := by show (8 * j.val + t.val) / 8 = _; have := t.isLt; omega
theorem pt_mod (j : Fin 4) (t : Fin 8) : (pt j t).val % 8 = t.val := by show (8 * j.val + t.val) % 8 = _; have := t.isLt; omega

/-- The blocks at a point, at an index. -/
theorem blk0 (c : Dev nD) (j : Fin 4) (t : Fin 8) (r : Fin 512) (k : Fin 1024) :
    iblk m c 0 (pt j t) (ix2 r k : S512x1024.Idx) = argX m c (ix2 (tokRow t r) k) := by
  refine congrArg (argX m c) (funext fun a => Fin.ext ?_)
  refine (Pipeline.Window.rect_emb_val (win0 0) (pt j t) (ix2 r k : S512x1024.Idx) a).trans ?_
  match a with
  | ⟨0, _⟩ =>
    show (win0 0).index (pt j t) 0 * 512 + r.val = 512 * t.val + r.val
    rw [(index0 (pt j t)).1, pt_mod]; omega
  | ⟨1, _⟩ =>
    show (win0 0).index (pt j t) 1 * 1024 + k.val = k.val
    rw [(index0 (pt j t)).2]; omega
theorem blk1 (c : Dev nD) (j : Fin 4) (t : Fin 8) (h : Fin 1024) (k : Fin 1024) :
    iblk m c 1 (pt j t) (ix2 h k : S1024x1024.Idx) = argW1 m c (ix2 (hidCol j h) k) := by
  refine congrArg (argW1 m c) (funext fun a => Fin.ext ?_)
  refine (Pipeline.Window.rect_emb_val (win0 1) (pt j t) (ix2 h k : S1024x1024.Idx) a).trans ?_
  match a with
  | ⟨0, _⟩ =>
    show (win0 1).index (pt j t) 0 * 1024 + h.val = j.val * 1024 + h.val
    rw [(index1 (pt j t)).1, pt_div]
  | ⟨1, _⟩ =>
    show (win0 1).index (pt j t) 1 * 1024 + k.val = k.val
    rw [(index1 (pt j t)).2]; omega
theorem blk2 (c : Dev nD) (j : Fin 4) (t : Fin 8) (h : Fin 1024) (k : Fin 1024) :
    iblk m c 2 (pt j t) (ix2 h k : S1024x1024.Idx) = argW2 m c (ix2 (hidCol j h) k) := by
  refine congrArg (argW2 m c) (funext fun a => Fin.ext ?_)
  refine (Pipeline.Window.rect_emb_val (win0 2) (pt j t) (ix2 h k : S1024x1024.Idx) a).trans ?_
  match a with
  | ⟨0, _⟩ =>
    show (win0 2).index (pt j t) 0 * 1024 + h.val = j.val * 1024 + h.val
    rw [(index2 (pt j t)).1, pt_div]
  | ⟨1, _⟩ =>
    show (win0 2).index (pt j t) 1 * 1024 + k.val = k.val
    rw [(index2 (pt j t)).2]; omega
theorem blk3 (c : Dev nD) (j : Fin 4) (t : Fin 8) (d : Fin 1024) (h : Fin 1024) :
    iblk m c 3 (pt j t) (ix2 d h : S1024x1024.Idx) = argW3 m c (ix2 d (hidCol j h)) := by
  refine congrArg (argW3 m c) (funext fun a => Fin.ext ?_)
  refine (Pipeline.Window.rect_emb_val (win0 3) (pt j t) (ix2 d h : S1024x1024.Idx) a).trans ?_
  match a with
  | ⟨0, _⟩ =>
    show (win0 3).index (pt j t) 0 * 1024 + d.val = d.val
    rw [(index3 (pt j t)).1]; omega
  | ⟨1, _⟩ =>
    show (win0 3).index (pt j t) 1 * 1024 + h.val = j.val * 1024 + h.val
    rw [(index3 (pt j t)).2, pt_div]

/-- A point's contribution: the hidden columns of its block. -/
theorem contrib_apply (c : Dev nD) (j : Fin 4) (t : Fin 8) (r : Fin 512) (d : Fin 1024) :
    contrib m c (pt j t) (ix2 r d) = ∑ h : Fin 1024, hidden (argX m c) (argW1 m c) (argW2 m c) (tokRow t r) (hidCol j h) * argW3 m c (ix2 d (hidCol j h)) := by
  unfold contrib
  rw [pay1_apply]
  refine Finset.sum_congr rfl fun h _ => ?_
  rw [blk3]
  let b0 : S512x1024.Idx → EReal := iblk m c 0 (pt j t)
  let b1 : S1024x1024.Idx → EReal := iblk m c 1 (pt j t)
  let b2 : S1024x1024.Idx → EReal := iblk m c 2 (pt j t)
  have e1 : (∑ k : Fin 1024, b0 (ix2 r k) * b1 (ix2 h k)) = row (argX m c) (argW1 m c) (tokRow t r) (hidCol j h) :=
    Finset.sum_congr rfl fun k _ => congrArg₂ (fun a b : EReal => a * b) (blk0 m c j t r k) (blk1 m c j t h k)
  have e2 : (∑ k : Fin 1024, b0 (ix2 r k) * b2 (ix2 h k)) = row (argX m c) (argW2 m c) (tokRow t r) (hidCol j h) :=
    Finset.sum_congr rfl fun k _ => congrArg₂ (fun a b : EReal => a * b) (blk0 m c j t r k) (blk2 m c j t h k)
  exact congrArg₂ (fun a b : EReal => a * Ideal.logistic a * b * argW3 m c (ix2 d (hidCol j h))) e1 e2

/-- The four contributions of a token block together are the expert. -/
theorem acc_apply (c : Dev nD) (t : Fin 8) (r : Fin 512) (d : Fin 1024) :
    acc m c t 3 (by decide) (ix2 r d) = expert (argX m c) (argW1 m c) (argW2 m c) (argW3 m c) (tokRow t r) d := by
  unfold expert
  rw [Fin.sum_univ_tiles 4 1024 rfl, Fin.sum_univ_four]
  show contrib m c (pt 0 t) (ix2 r d) + contrib m c (pt 1 t) (ix2 r d) + contrib m c (pt 2 t) (ix2 r d) + contrib m c (pt 3 t) (ix2 r d) = _
  rw [contrib_apply, contrib_apply, contrib_apply, contrib_apply]; rfl

/-- The kernel's result. -/
theorem total_apply (c : Dev nD) (r : Fin 4096) (d : Fin 1024) :
    total m c (ix2 r d) = expert (argX m c) (argW1 m c) (argW2 m c) (argW3 m c) r d := by
  refine (acc_apply m c _ _ _).trans ?_
  congr 1
  exact Fin.ext (by show 512 * (r.val / 512) + r.val % 512 = r.val; omega)

end Kernel

/-! ## The reference's side -/

section Reference

open Cert.SharedReferenceIdeal Cert.SharedReferenceIdeal.Gen

/-- The reference's expression of its four arguments. -/
def refExpr (x w1 w2 : FVec Ideal S4096x1024 .f32) (w3 : FVec Ideal S1024x4096 .f32) : FVec Ideal S4096x1024 .f32 :=
  Host.dotGeneral dot_S4096x4096_S4096x1024_S4096x1024_1_0_0_1_n_n none
    (mulf (mulf (Host.dotGeneral dot_S4096x1024_S1024x4096_S4096x4096_1_0_0_1_n_n none x (transpose S1024x4096 [1, 0] w1 transposes_S4096x1024_S1024x4096_1_0))
      (Host.divf (broadcastInDim S4096x4096 ![] bcast_S_S4096x4096 (constant S_ .f32 0x3F800000#32))
        (addf (broadcastInDim S4096x4096 ![] bcast_S_S4096x4096 (constant S_ .f32 0x3F800000#32))
          (Host.exp (Host.negf (Host.dotGeneral dot_S4096x1024_S1024x4096_S4096x4096_1_0_0_1_n_n none x (transpose S1024x4096 [1, 0] w1 transposes_S4096x1024_S1024x4096_1_0)))))))
      (Host.dotGeneral dot_S4096x1024_S1024x4096_S4096x4096_1_0_0_1_n_n none x (transpose S1024x4096 [1, 0] w2 transposes_S4096x1024_S1024x4096_1_0)))
    (transpose S4096x1024 [1, 0] w3 transposes_S1024x4096_S4096x1024_1_0)

/-- A product with transposed weights, at an index. -/
theorem first_apply (x w : FVec Ideal S4096x1024 .f32) (r h : Fin 4096) :
    Host.dotGeneral dot_S4096x1024_S1024x4096_S4096x4096_1_0_0_1_n_n none x (transpose S1024x4096 [1, 0] w transposes_S4096x1024_S1024x4096_1_0) (ix2 r h)
      = row x w r h := by
  refine (StackMember.dotGeneral_plain_apply (m := 4096) (k := 1024) (n := 4096) none x _ r h).trans (Finset.sum_congr rfl fun k _ => ?_)
  refine congrArg (x (ix2 r k) * ·) (transpose_apply [1, 0] w transposes_S4096x1024_S1024x4096_1_0 (ix2 k h) (ix2 h k) fun b => ?_)
  match b with
  | ⟨0, _⟩ => rfl
  | ⟨1, _⟩ => rfl

/-- The reference's result is the expert. -/
theorem refExpr_apply (x w1 w2 : FVec Ideal S4096x1024 .f32) (w3 : FVec Ideal S1024x4096 .f32) (r : Fin 4096) (d : Fin 1024) :
    refExpr x w1 w2 w3 (ix2 r d) = expert x w1 w2 w3 r d := by
  refine (StackMember.dotGeneral_plain_apply (m := 4096) (k := 4096) (n := 1024) none _ _ r d).trans (Finset.sum_congr rfl fun h _ => ?_)
  have hone : broadcastInDim S4096x4096 ![] bcast_S_S4096x4096 (constant (F := Ideal) S_ .f32 0x3F800000#32) (ix2 r h) = (1 : EReal) := Ideal.ofBits_one_f32
  have e3 : transpose S4096x1024 [1, 0] w3 transposes_S1024x4096_S4096x1024_1_0 (ix2 h d) = w3 (ix2 d h) :=
    transpose_apply [1, 0] w3 transposes_S1024x4096_S4096x1024_1_0 (ix2 h d) (ix2 d h) fun b => by
      match b with
      | ⟨0, _⟩ => rfl
      | ⟨1, _⟩ => rfl
  rw [e3]
  refine congrArg (· * w3 (ix2 d h)) ?_
  show Host.dotGeneral dot_S4096x1024_S1024x4096_S4096x4096_1_0_0_1_n_n none x (transpose S1024x4096 [1, 0] w1 transposes_S4096x1024_S1024x4096_1_0) (ix2 r h)
      * Ideal.div (broadcastInDim S4096x4096 ![] bcast_S_S4096x4096 (constant (F := Ideal) S_ .f32 0x3F800000#32) (ix2 r h))
          (broadcastInDim S4096x4096 ![] bcast_S_S4096x4096 (constant (F := Ideal) S_ .f32 0x3F800000#32) (ix2 r h)
            + Ideal.exp (-(Host.dotGeneral dot_S4096x1024_S1024x4096_S4096x4096_1_0_0_1_n_n none x (transpose S1024x4096 [1, 0] w1 transposes_S4096x1024_S1024x4096_1_0) (ix2 r h))))
      * Host.dotGeneral dot_S4096x1024_S1024x4096_S4096x4096_1_0_0_1_n_n none x (transpose S1024x4096 [1, 0] w2 transposes_S4096x1024_S1024x4096_1_0) (ix2 r h) = _
  rw [first_apply, first_apply, hone]; rfl

/-- The reference's run. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = refExpr (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Cert.SharedReferenceIdeal.Value.run m ρ

end Reference

/-- The two results are one array. -/
theorem total_eq (m : (ℓ : Loc Cert.SharedExpertIdeal.nD Cert.SharedExpertIdeal.τ Cert.SharedExpertIdeal.sig) → Buf (Elt Ideal) ℓ) (c : Dev Cert.SharedExpertIdeal.nD) :
    refExpr (argX m c) (argW1 m c) (argW2 m c) (argW3 m c) = total m c := by
  funext i
  rw [ValueIdx.eq_ix2 i]
  exact (refExpr_apply _ _ _ _ _ _).trans (total_apply m c _ _).symm

end Cert.Proof.Shared

end
-- ==== Proof.SharedCall.Value.lean ====
/-
  The shared expert's call at the ideal float values: what it writes is the expert of its four arguments, each token's entry one
  sum over all the hidden columns; and so is the reference's.
-/
module

public import proofs.«01_k».proof.Proof.SharedCall.Region
public import proofs.«01_k».proof.Proof.Shared.Reference
public import Idealize.ShloMosaic.Lib.MatmulPlain
public import Idealize.ShloMosaic.Lib.StackMember
public import Idealize.ShloMosaic.Lib.IdealHost
public import Idealize.ShloMosaic.Lib.Pointwise.Sums

@[expose] public section

set_option maxRecDepth 16384

noncomputable section

namespace Cert.Proof.SharedCall

open Cert.KernelIdeal hiding ix2
open Cert.KernelIdeal.Gen
open Idealize.ShloMosaic hiding ix2
open Idealize.ShloMosaic.TcCoe
open Idealize.SL.Sem
open Idealize.ShloMosaic.ValueIdx
open Cert.Proof.Shared (M4096x1024 M1024x4096 row hidden expert tokRow hidCol refExpr refExpr_apply)
open scoped BigOperators

/-- The product of a point's blocks, at an index. -/
theorem pay1_apply (x2 : Vec Ideal S512x1024 .f32) (x3 x4 x5 : Vec Ideal S1024x1024 .f32) (r : Fin 512) (d : Fin 1024) :
    k0_pay1 (F := Ideal) x2 x3 x4 x5 (ix2 r d)
      = ∑ h : Fin 1024, ((∑ k : Fin 1024, x2 (ix2 r k) * x3 (ix2 h k)) * Ideal.logistic (∑ k : Fin 1024, x2 (ix2 r k) * x3 (ix2 h k))
          * (∑ k : Fin 1024, x2 (ix2 r k) * x4 (ix2 h k))) * x5 (ix2 d h) :=
  Shared.pay1_apply x2 x3 x4 x5 r d

variable (W : Dev nD → Valuation τ sig (Elt Ideal))

/-- The arguments' arrays. -/
abbrev argX (c : Dev nD) : M4096x1024.Idx → EReal := W c (Proc.devRef .tc main_arg8)
abbrev argW1 (c : Dev nD) : M4096x1024.Idx → EReal := W c (Proc.devRef .tc main_arg9)
abbrev argW2 (c : Dev nD) : M4096x1024.Idx → EReal := W c (Proc.devRef .tc main_arg10)
abbrev argW3 (c : Dev nD) : M1024x4096.Idx → EReal := W c (Proc.devRef .tc main_arg11)

/-! ## The blocks a point shows -/

theorem index0 : ∀ n : Fin grid0.N, (win0 0).index n 0 = n.val % 8 ∧ (win0 0).index n 1 = 0 := by decide +kernel
theorem index1 : ∀ n : Fin grid0.N, (win0 1).index n 0 = n.val / 8 ∧ (win0 1).index n 1 = 0 := by decide +kernel
theorem index2 : ∀ n : Fin grid0.N, (win0 2).index n 0 = n.val / 8 ∧ (win0 2).index n 1 = 0 := by decide +kernel
theorem index3 : ∀ n : Fin grid0.N, (win0 3).index n 0 = 0 ∧ (win0 3).index n 1 = n.val / 8 := by decide +kernel

theorem pt_div (j : Fin 4) (t : Fin 8) : (pt j t).val / 8 = j.val := by show (8 * j.val + t.val) / 8 = _; have := t.isLt; omega
theorem pt_mod (j : Fin 4) (t : Fin 8) : (pt j t).val % 8 = t.val := by show (8 * j.val + t.val) % 8 = _; have := t.isLt; omega

/-- The blocks at a point, at an index. -/
theorem blk0 (c : Dev nD) (j : Fin 4) (t : Fin 8) (r : Fin 512) (k : Fin 1024) :
    iblk W c 0 (pt j t) (ix2 r k : S512x1024.Idx) = argX W c (ix2 (tokRow t r) k) := by
  refine congrArg (argX W c) (funext fun a => Fin.ext ?_)
  refine (Pipeline.Window.rect_emb_val (win0 0) (pt j t) (ix2 r k : S512x1024.Idx) a).trans ?_
  match a with
  | ⟨0, _⟩ =>
    show (win0 0).index (pt j t) 0 * 512 + r.val = 512 * t.val + r.val
    rw [(index0 (pt j t)).1, pt_mod]; omega
  | ⟨1, _⟩ =>
    show (win0 0).index (pt j t) 1 * 1024 + k.val = k.val
    rw [(index0 (pt j t)).2]; omega
theorem blk1 (c : Dev nD) (j : Fin 4) (t : Fin 8) (h : Fin 1024) (k : Fin 1024) :
    iblk W c 1 (pt j t) (ix2 h k : S1024x1024.Idx) = argW1 W c (ix2 (hidCol j h) k) := by
  refine congrArg (argW1 W c) (funext fun a => Fin.ext ?_)
  refine (Pipeline.Window.rect_emb_val (win0 1) (pt j t) (ix2 h k : S1024x1024.Idx) a).trans ?_
  match a with
  | ⟨0, _⟩ =>
    show (win0 1).index (pt j t) 0 * 1024 + h.val = j.val * 1024 + h.val
    rw [(index1 (pt j t)).1, pt_div]
  | ⟨1, _⟩ =>
    show (win0 1).index (pt j t) 1 * 1024 + k.val = k.val
    rw [(index1 (pt j t)).2]; omega
theorem blk2 (c : Dev nD) (j : Fin 4) (t : Fin 8) (h : Fin 1024) (k : Fin 1024) :
    iblk W c 2 (pt j t) (ix2 h k : S1024x1024.Idx) = argW2 W c (ix2 (hidCol j h) k) := by
  refine congrArg (argW2 W c) (funext fun a => Fin.ext ?_)
  refine (Pipeline.Window.rect_emb_val (win0 2) (pt j t) (ix2 h k : S1024x1024.Idx) a).trans ?_
  match a with
  | ⟨0, _⟩ =>
    show (win0 2).index (pt j t) 0 * 1024 + h.val = j.val * 1024 + h.val
    rw [(index2 (pt j t)).1, pt_div]
  | ⟨1, _⟩ =>
    show (win0 2).index (pt j t) 1 * 1024 + k.val = k.val
    rw [(index2 (pt j t)).2]; omega
theorem blk3 (c : Dev nD) (j : Fin 4) (t : Fin 8) (d : Fin 1024) (h : Fin 1024) :
    iblk W c 3 (pt j t) (ix2 d h : S1024x1024.Idx) = argW3 W c (ix2 d (hidCol j h)) := by
  refine congrArg (argW3 W c) (funext fun a => Fin.ext ?_)
  refine (Pipeline.Window.rect_emb_val (win0 3) (pt j t) (ix2 d h : S1024x1024.Idx) a).trans ?_
  match a with
  | ⟨0, _⟩ =>
    show (win0 3).index (pt j t) 0 * 1024 + d.val = d.val
    rw [(index3 (pt j t)).1]; omega
  | ⟨1, _⟩ =>
    show (win0 3).index (pt j t) 1 * 1024 + h.val = j.val * 1024 + h.val
    rw [(index3 (pt j t)).2, pt_div]

/-- A point's contribution: the hidden columns of its block. -/
theorem contrib_apply (c : Dev nD) (j : Fin 4) (t : Fin 8) (r : Fin 512) (d : Fin 1024) :
    contrib W c (pt j t) (ix2 r d) = ∑ h : Fin 1024, hidden (argX W c) (argW1 W c) (argW2 W c) (tokRow t r) (hidCol j h) * argW3 W c (ix2 d (hidCol j h)) := by
  unfold contrib
  rw [pay1_apply]
  refine Finset.sum_congr rfl fun h _ => ?_
  rw [blk3]
  let b0 : S512x1024.Idx → EReal := iblk W c 0 (pt j t)
  let b1 : S1024x1024.Idx → EReal := iblk W c 1 (pt j t)
  let b2 : S1024x1024.Idx → EReal := iblk W c 2 (pt j t)
  have e1 : (∑ k : Fin 1024, b0 (ix2 r k) * b1 (ix2 h k)) = row (argX W c) (argW1 W c) (tokRow t r) (hidCol j h) :=
    Finset.sum_congr rfl fun k _ => congrArg₂ (fun a b : EReal => a * b) (blk0 W c j t r k) (blk1 W c j t h k)
  have e2 : (∑ k : Fin 1024, b0 (ix2 r k) * b2 (ix2 h k)) = row (argX W c) (argW2 W c) (tokRow t r) (hidCol j h) :=
    Finset.sum_congr rfl fun k _ => congrArg₂ (fun a b : EReal => a * b) (blk0 W c j t r k) (blk2 W c j t h k)
  exact congrArg₂ (fun a b : EReal => a * Ideal.logistic a * b * argW3 W c (ix2 d (hidCol j h))) e1 e2

/-- The four contributions of a token block together are the expert. -/
theorem acc_apply (c : Dev nD) (t : Fin 8) (r : Fin 512) (d : Fin 1024) :
    acc W c t 3 (by decide) (ix2 r d) = expert (argX W c) (argW1 W c) (argW2 W c) (argW3 W c) (tokRow t r) d := by
  unfold expert
  rw [Fin.sum_univ_tiles 4 1024 rfl, Fin.sum_univ_four]
  show contrib W c (pt 0 t) (ix2 r d) + contrib W c (pt 1 t) (ix2 r d) + contrib W c (pt 2 t) (ix2 r d) + contrib W c (pt 3 t) (ix2 r d) = _
  rw [contrib_apply, contrib_apply, contrib_apply, contrib_apply]; rfl

/-- The kernel's result. -/
theorem total_apply (c : Dev nD) (r : Fin 4096) (d : Fin 1024) :
    total W c (ix2 r d) = expert (argX W c) (argW1 W c) (argW2 W c) (argW3 W c) r d := by
  refine (acc_apply W c _ _ _).trans ?_
  congr 1
  exact Fin.ext (by show 512 * (r.val / 512) + r.val % 512 = r.val; omega)

/-- The reference's expression of the arguments is what the call writes. -/
theorem total_eq (c : Dev nD) : refExpr (argX W c) (argW1 W c) (argW2 W c) (argW3 W c) = total W c := by
  funext i
  rw [ValueIdx.eq_ix2 i]
  exact (refExpr_apply _ _ _ _ _ _).trans (total_apply W c _ _).symm

end Cert.Proof.SharedCall

end
-- ==== Proof.Scatter.Setup.lean ====
/-
  The scatter call as the launch theorem sees it: the configuration, the ghost state, and what the two sorted arrays hold
  after the first updates. Everything is stated over any float values `F`: the run is proved once and read at both
  instances.
-/
module

public import proofs.«01_k».proof.Defs
public import proofs.«01_k».proof.Proof.Gen.ScatterIdeal
public import proofs.«01_k».proof.Proof.Gen.ScatterIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.WritesUnit

@[expose] public section

noncomputable section

namespace Cert.Proof.Scatter

open Cert.ScatterIdeal Cert.ScatterIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's static facts: its semaphores and their scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

/-- The logic's resources for this program. -/
abbrev MM (F : FTy → Type) : Type := MT nD τ sig (HIx 1) (Elt F) ℕ UU ℕ

abbrev EH : Emb UH (MM F) := embL

/-- What a tile's program may do. -/
abbrev Eff (F : FTy → Type) (i : grid0.Coords) := TpuEff nD τ sig (Elt F) Λ₀ (.scVector ((i 0).castLE hcore0) ((i 1).castLE hsub0))

/-- The tile's thread. -/
abbrev tile (d : Dev nD) (i : grid0.Coords) : Thread nD τ := V d ((i 0).castLE hcore0) ((i 1).castLE hsub0)

/-! ## What the sorted arrays hold -/

/-- An array of 12288 entries after its first `n` updates in order: update `k` writes `v k` at place `p k`. -/
def put {β : Type} (z : β) (p : ℕ → ℕ) (v : ℕ → β) (n : ℕ) : S12288.Idx → β :=
  fun j => (List.range n).foldl (fun b k => if (j 0).val = p k then v k else b) z

/-- No update yet. -/
theorem put_zero {β : Type} (z : β) (p : ℕ → ℕ) (v : ℕ → β) : put z p v 0 = fun _ => z := rfl

/-- One more update. -/
theorem put_succ {β : Type} (z : β) (p : ℕ → ℕ) (v : ℕ → β) (n : ℕ) (j : S12288.Idx) :
    put z p v (n + 1) j = if (j 0).val = p n then v n else put z p v n j := by
  unfold put
  rw [List.range_succ, List.foldl_append]
  rfl

/-- The place of assignment `k`: the `k`-th entry of the list of positions. -/
def placeOf (p : S8192.Idx → BitVec 32) (k : ℕ) : ℕ := (p (ix1 (⟨k % 8192, Nat.mod_lt _ (by decide)⟩ : Fin 8192))).toNat

/-- The gate of assignment `k`. -/
def gateOf {β : Type} (g : S8192.Idx → β) (k : ℕ) : β := g (ix1 (⟨k % 8192, Nat.mod_lt _ (by decide)⟩ : Fin 8192))

/-- The tokens in sorted order: assignment `k` is token `k / 2`'s, and places no assignment names hold zero. -/
def tokens (p : S8192.Idx → BitVec 32) : S12288.Idx → BitVec 32 := put 0#32 (placeOf p) (fun k => BitVec.ofNat 32 (k / 2)) 8192

variable [FloatOps F]

/-- The gates in sorted order: places no assignment names hold zero. -/
def gates (p : S8192.Idx → BitVec 32) (g : S8192.Idx → F .f32) : S12288.Idx → F .f32 :=
  put (Scalar.ofBits .f32 0x00000000#32) (placeOf p) (gateOf g) 8192

end Cert.Proof.Scatter

end
-- ==== Proof.Chain.Loops.lean ====
/-
  The scatter call's two loops: the first sets both sorted arrays to zero, sixteen entries a trip; the second writes
  sixteen assignments a trip, their tokens and their gates, at their places.
-/
module

public import proofs.«01_k».proof.Proof.Scatter.Setup
public import proofs.«01_k».proof.Proof.Combine.Setup
public import Idealize.ShloMosaic.Lib.VecWindow
public import Idealize.ShloMosaic.Lib.WritesUnit

@[expose] public section

set_option maxRecDepth 16384

noncomputable section

namespace Cert.Proof.Chain

open Cert.KernelIdeal hiding ix2
open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Combine (MM K D 𝒱₀ 𝒱 facts)
open Cert.Proof.Scatter (put placeOf gateOf tokens gates)

variable {F : FTy → Type} [FloatOps F]

local notation "𝕄" => MM F

/-- What a tile's program may do. -/
abbrev Eff (F : FTy → Type) (i : grid1.Coords) := TpuEff nD τ sig (Elt F) Λ₀ (.scVector ((i 0).castLE hcore1) ((i 1).castLE hsub1))

/-- The tile's thread. -/
abbrev tile (d : Dev nD) (i : grid1.Coords) : Thread nD τ := V d ((i 0).castLE hcore1) ((i 1).castLE hsub1)

local notation "pV" => (Memref.whole Cert.KernelIdeal.main_arg2_scv : Memref Cert.KernelIdeal.sig Kind.scVector Space.hbm Cert.KernelIdeal.S8192 EltTy.i32)
local notation "gV" => (Memref.whole Cert.KernelIdeal.main_arg3_scv : Memref Cert.KernelIdeal.sig Kind.scVector Space.hbm Cert.KernelIdeal.S8192 EltTy.f32)
local notation "tO" => (Memref.whole Cert.KernelIdeal.main_v1_0_scv : Memref Cert.KernelIdeal.sig Kind.scVector Space.hbm Cert.KernelIdeal.S12288 EltTy.i32)
local notation "gO" => (Memref.whole Cert.KernelIdeal.main_v1_1_scv : Memref Cert.KernelIdeal.sig Kind.scVector Space.hbm Cert.KernelIdeal.S12288 EltTy.f32)
local notation "pB" => (Memref.whole Cert.KernelIdeal.cc1_scratch0 : Memref Cert.KernelIdeal.sig Kind.scVector Space.vmem Cert.KernelIdeal.S8192 EltTy.i32)
local notation "gB" => (Memref.whole Cert.KernelIdeal.cc1_scratch1 : Memref Cert.KernelIdeal.sig Kind.scVector Space.vmem Cert.KernelIdeal.S8192 EltTy.f32)
local notation "tB" => (Memref.whole Cert.KernelIdeal.cc1_scratch2 : Memref Cert.KernelIdeal.sig Kind.scVector Space.vmem Cert.KernelIdeal.S12288 EltTy.i32)
local notation "sB" => (Memref.whole Cert.KernelIdeal.cc1_scratch3 : Memref Cert.KernelIdeal.sig Kind.scVector Space.vmem Cert.KernelIdeal.S12288 EltTy.f32)

/-- The first loop's trips. -/
theorem trips1 : k1_t1_loop.trips = 768 := by decide +kernel
/-- The second loop's trips. -/
theorem trips2 : k1_t2_loop.trips = 512 := by decide +kernel
/-- Where a trip of the first loop stores. -/
theorem off1_eq : ∀ t : Fin k1_t1_loop.trips, k1_off1 t = ![16 * t.val] := by decide +kernel
/-- Where a trip of the second loop loads. -/
theorem off2_eq : ∀ t : Fin k1_t2_loop.trips, k1_off2 t = ![16 * t.val] := by decide +kernel

/-! ## What a trip stores -/

/-- One lane's update. -/
def lanePut {e : EltTy} (idx : IVec S16 32) (V : Vec F S16 e) (g : Vec F S12288 e) (k : Fin 16) : Vec F S12288 e :=
  fun j => if (j 0).val = (idx (Shape.ofLane (d := ![16]) k)).toNat then V (Shape.ofLane (d := ![16]) k) else g j

/-- An indexed store of sixteen lanes is the lanes' updates in order. -/
theorem storeIdx_eq {e : EltTy} (A : Vec F S12288 e) (idx : IVec S16 32) (V : Vec F S16 e)
    (h : ∀ a x, ((![idx] : Fin 1 → IVec S16 32) a x).toNat < S12288.size a) :
    storeIdx A (![idx] : Fin 1 → IVec S16 32) V (fun _ => 1#1) false h = (List.finRange 16).foldl (lanePut idx V) A := by
  unfold storeIdx
  show List.foldl _ A (List.finRange 16) = _
  refine congrArg (fun s => List.foldl s A (List.finRange 16)) ?_
  funext g k j
  refine (congrFun (if_pos (rfl : (1#1 : BitVec 1) = 1)) j).trans ?_
  unfold lanePut
  by_cases H : (j 0).val = (idx (Shape.ofLane (d := ![16]) k)).toNat
  · exact (if_pos fun a => by rw [Subsingleton.elim a (0 : Fin 1)]; exact H).trans (if_pos H).symm
  · exact (if_neg fun H' => H (H' 0)).trans (if_neg H).symm

/-- The lanes' updates, read at one entry. -/
theorem lanes_at {e : EltTy} (idx : IVec S16 32) (V : Vec F S16 e) (pl : ℕ → ℕ) (v : ℕ → Elt F e) (n : ℕ)
    (hidx : ∀ l : Fin 16, (idx (ix1 l)).toNat = pl (n + l.val)) (hV : ∀ l : Fin 16, V (ix1 l) = v (n + l.val)) (j : S12288.Idx) :
    ∀ (l : List (Fin 16)) (B : Vec F S12288 e), (l.foldl (lanePut idx V) B) j
      = l.foldl (fun b k => if (j 0).val = pl (n + k.val) then v (n + k.val) else b) (B j)
  | [], _ => rfl
  | k :: l, B => by
    rw [List.foldl_cons, List.foldl_cons, lanes_at idx V pl v n hidx hV j l]
    refine congrArg (fun b => l.foldl (fun b (k : Fin 16) => if (j 0).val = pl (n + k.val) then v (n + k.val) else b) b) ?_
    have hk : (Shape.ofLane (d := ![16]) k : S16.Idx) = ix1 k := by
      rw [eq_ix1 (Shape.ofLane (d := ![16]) k : S16.Idx)]; rfl
    unfold lanePut
    rw [hk, hidx, hV]

/-- Sixteen indexed updates in lane order are the next sixteen updates of the sorted array. -/
theorem store_put {e : EltTy} (A : Vec F S12288 e) (z : Elt F e) (pl : ℕ → ℕ) (v : ℕ → Elt F e) (n : ℕ) (idx : IVec S16 32) (V : Vec F S16 e)
    (h : ∀ a x, ((![idx] : Fin 1 → IVec S16 32) a x).toNat < S12288.size a) (hA : A = put z pl v n)
    (hidx : ∀ l : Fin 16, (idx (ix1 l)).toNat = pl (n + l.val)) (hV : ∀ l : Fin 16, V (ix1 l) = v (n + l.val)) :
    storeIdx A (![idx] : Fin 1 → IVec S16 32) V (fun _ => 1#1) false h = put z pl v (n + 16) := by
  funext j
  have hr : List.range 16 = (List.finRange 16).map Fin.val := by decide
  rw [storeIdx_eq, lanes_at idx V pl v n hidx hV j, hA]
  unfold put
  rw [List.range_add, List.foldl_append, List.foldl_map, hr, List.foldl_map]

/-- A whole load reads what the view reads. -/
theorem readAt_all {e : EltTy} (v : View sig .scVector .vmem S12288 e) (f : v.ty.Contents (Elt F)) :
    v.readAt (Elt F) (LoadRect.whole S12288) f = v.read (Elt F) f :=
  funext fun x => congrArg (v.read (Elt F) f) (funext fun a => Fin.ext (show 0 + 1 * (x a).val = (x a).val by omega))

/-- An entry of the sixteen loaded at a trip's place. -/
theorem load_at {e : EltTy} (v : View sig .scVector .vmem S8192 e) (f : v.ty.Contents (Elt F)) (t : Fin k1_t2_loop.trips)
    (inb : ∀ a, k1_off2 t a + S16.size a ≤ S8192.size a) (l : Fin 16) :
    v.readAt (Elt F) (Rect.unit (s := S8192) (k1_off2 t) S16.size inb).toLoadRect f (ix1 l)
      = v.read (Elt F) f (ix1 (⟨(16 * t.val + l.val) % 8192, Nat.mod_lt _ (by decide)⟩ : Fin 8192)) := by
  have ht : t.val < 512 := trips2 ▸ t.isLt
  rw [View.readAt_unit v f inb (off2_eq t) (off2_eq t ▸ inb)]
  refine congrArg (v.read (Elt F) f) (funext fun a => ?_)
  rw [Subsingleton.elim a (0 : Fin 1)]
  refine Fin.ext ?_
  show 16 * t.val + 1 * l.val = (16 * t.val + l.val) % 8192
  have := l.isLt; omega

/-- The tokens a trip writes: assignment `k` is token `k / 2`'s. -/
theorem pay3_at (t : Fin k1_t2_loop.trips) (l : Fin 16) : k1_pay3 t (ix1 l) = BitVec.ofNat 32 ((16 * t.val + l.val) / 2) := by
  have : ∀ (t : Fin k1_t2_loop.trips) (l : Fin 16), k1_pay3 t (ix1 l) = BitVec.ofNat 32 ((16 * t.val + l.val) / 2) := by
    decide +kernel
  exact this t l

/-- Sixteen more entries zero. -/
theorem zero_step {e : EltTy} (v : View sig .scVector .vmem S12288 e) (f : v.ty.Contents (Elt F)) (z : Elt F e) (t : Fin k1_t1_loop.trips)
    (inb : ∀ a, k1_off1 t a + S16.size a ≤ S12288.size a) (w : S16.Idx → Elt F e) (hw : ∀ x, w x = z)
    (hf : ∀ x : S12288.Idx, (x 0).val < 16 * t.val → v.read (Elt F) f x = z) (x : S12288.Idx) (hx : (x 0).val < 16 * (t.val + 1)) :
    v.read (Elt F) (v.writes (Elt F) f [⟨Rect.unit (k1_off1 t) S16.size inb, w⟩]) x = z := by
  by_cases h : (x 0).val < 16 * t.val
  · rw [View.read_writes_cons_unit_of_not_mem v f inb _ [] x (off1_eq t) 0 (.inl h)]
    exact hf x h
  · have hl : (x 0).val - 16 * t.val < 16 := by omega
    rw [View.read_writes_cons_unit_of_mem v f inb _ [] x (ix1 (⟨(x 0).val - 16 * t.val, hl⟩ : Fin 16)) (off1_eq t) fun a => ?_]
    · exact hw _
    rw [Subsingleton.elim a (0 : Fin 1)]
    show (x 0).val = 16 * t.val + ((x 0).val - 16 * t.val)
    omega

/-- The two sorted arrays' buffers, their first `n` groups of sixteen zero. -/
def zeroSt (d : Dev nD) (i : grid1.Coords) (n : ℕ) : sProp 𝕄 :=
  iprop(∃ f g, ⌜(∀ x : S12288.Idx, (x 0).val < 16 * n → (tB).view.read (Elt F) f x = 0#32)
      ∧ ∀ x : S12288.Idx, (x 0).val < 16 * n → (sB).view.read (Elt F) g x = Scalar.ofBits .f32 0x00000000#32⌝
    ∗ ((tB).view.loc (tile d i) ↦[(tB).view.set]{fullShare} f) ∗ ((sB).view.loc (tile d i) ↦[(sB).view.set]{fullShare} g))

/-- A trip of the first loop, as printed. -/
abbrev body1 (i : grid1.Coords) (h : k1_cond1 i = 1#1) : Fin k1_t1_loop.trips → Unit → Prog (Eff F i) Unit :=
  k1_t1_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc1_scoped0 cc1_scoped1 cc1_scoped2 cc1_scoped3 h

/-- A trip of the second loop, as printed. -/
abbrev body2 (i : grid1.Coords) (h : k1_cond1 i = 1#1) : Fin k1_t2_loop.trips → Unit → Prog (Eff F i) Unit :=
  k1_t2_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc1_scoped0 cc1_scoped1 cc1_scoped2 cc1_scoped3 h

/-- One trip of the first loop. -/
theorem zero_trip (d : Dev nD) (i : grid1.Coords) (h : k1_cond1 i = 1#1) (t : Fin k1_t1_loop.trips) (u : Unit) :
    zeroSt d i t.val ⊢ wp frame (wpE (defs₀ (F := F)) 𝒱₀ (tile d i) none) Set.univ (body1 i h t u) fun _ => zeroSt d i (t.val + 1) := by
  unfold zeroSt body1 k1_t1_body
  iintro ⟨%f, %g, %hfg, Ht, Hs⟩
  sl_exec
  sl_step
  iexists _; iexists _
  isplitr [Ht Hs]
  rotate_left
  · isplitl [Ht]; · iexact Ht
    iexact Hs
  ipureintro
  exact ⟨zero_step _ f _ t _ _ (fun _ => rfl) hfg.1, zero_step _ g _ t _ _ (fun _ => rfl) hfg.2⟩

/-- The buffers during the second loop: the first `n` groups of assignments written. -/
def putSt (d : Dev nD) (i : grid1.Coords) (p : S8192.Idx → BitVec 32) (w : S8192.Idx → F .f32)
    (fp : Buf (Elt F) ((pB).view.loc (tile d i))) (fg : Buf (Elt F) ((gB).view.loc (tile d i))) (n : ℕ) : sProp 𝕄 :=
  iprop(∃ f g, ⌜(tB).view.read (Elt F) f = put 0#32 (placeOf p) (fun k => BitVec.ofNat 32 (k / 2)) (16 * n)
      ∧ (sB).view.read (Elt F) g = put (Scalar.ofBits .f32 0x00000000#32) (placeOf p) (gateOf w) (16 * n)⌝
    ∗ ((pB).view.loc (tile d i) ↦[(pB).view.set]{fullShare} fp) ∗ ((gB).view.loc (tile d i) ↦[(gB).view.set]{fullShare} fg)
    ∗ ((tB).view.loc (tile d i) ↦[(tB).view.set]{fullShare} f) ∗ ((sB).view.loc (tile d i) ↦[(sB).view.set]{fullShare} g))

/-- One trip of the second loop. -/
theorem put_trip (d : Dev nD) (i : grid1.Coords) (h : k1_cond1 i = 1#1) (p : S8192.Idx → BitVec 32) (w : S8192.Idx → F .f32)
    (hp : ∀ x, (p x).toNat < 12288)
    (fp : Buf (Elt F) ((pB).view.loc (tile d i))) (fg : Buf (Elt F) ((gB).view.loc (tile d i)))
    (hfp : (pB).view.read (Elt F) fp = p) (hfg' : (gB).view.read (Elt F) fg = w)
    (t : Fin k1_t2_loop.trips) (u : Unit) :
    putSt d i p w fp fg t.val ⊢ wp frame (wpE (defs₀ (F := F)) 𝒱₀ (tile d i) none) Set.univ (body2 i h t u)
      fun _ => putSt d i p w fp fg (t.val + 1) := by
  unfold putSt body2 k1_t2_body SparseCore.vectorStoreIdx
  iintro ⟨%f, %g, %hfg, Hp, Hg, Ht, Hs⟩
  have hchk : k1_chk1 i ((pB).view.readAt (Elt F) (Rect.unit (s := S8192) (k1_off2 t) S16.size (k1_off2_inb i t h)).toLoadRect fp) := by
    have hin : ∀ (a : Fin 1) (x : S16.Idx), ((![(pB).view.readAt (Elt F) (Rect.unit (s := S8192) (k1_off2 t) S16.size (k1_off2_inb i t h)).toLoadRect fp] : Fin 1 → IVec S16 32) a x).toNat < S12288.size a := by
      intro a x
      rw [Subsingleton.elim a (0 : Fin 1), eq_ix1 x]
      show ((pB).view.readAt (Elt F) (Rect.unit (s := S8192) (k1_off2 t) S16.size (k1_off2_inb i t h)).toLoadRect fp (ix1 (x 0))).toNat < 12288
      rw [load_at (F := F) (pB).view fp t _ (x 0), hfp]
      exact hp _
    exact ⟨fun _ => hin, fun _ => hin⟩
  sl_exec
  sl_step
  iexists _; iexists _
  isplitr [Hp Hg Ht Hs]
  rotate_left
  · isplitl [Hp]; · iexact Hp
    isplitl [Hg]; · iexact Hg
    isplitl [Ht]; · iexact Ht
    iexact Hs
  ipureintro
  constructor
  · refine (View.read_writes_whole (Val := Elt F) (tB).view f _).trans ?_
    refine store_put (F := F) (e := .i32) _ _ _ _ (16 * t.val) _ _ _ ((readAt_all (tB).view _).trans hfg.1) (fun l => ?_) fun l => pay3_at t l
    rw [load_at (F := F) (pB).view fp t _ l, hfp]; rfl
  · refine (View.read_writes_whole (Val := Elt F) (sB).view g _).trans ?_
    refine store_put (F := F) (e := .f32) _ _ _ _ (16 * t.val) _ _ _ ((readAt_all (sB).view _).trans hfg.2) (fun l => ?_) fun l => ?_
    · rw [load_at (F := F) (pB).view fp t _ l, hfp]; rfl
    · rw [load_at (F := F) (gB).view fg t _ l, hfg']; rfl

end Cert.Proof.Chain

end
-- ==== Proof.Chain.Body.lean ====
/-
  The scatter call's body on a tile: the first tile of the first SparseCore copies the positions and the gates in, writes
  them to their places, and copies the two sorted arrays out; every other tile does nothing.
-/
module

public import proofs.«01_k».proof.Proof.Chain.Loops

@[expose] public section

set_option maxRecDepth 16384

noncomputable section

namespace Cert.Proof.Chain

open Cert.KernelIdeal hiding ix2
open Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Combine (MM K D 𝒱₀ 𝒱 facts)
open Cert.Proof.Scatter (put placeOf gateOf tokens gates)

variable {F : FTy → Type}

local notation "𝕄" => MM F

local notation "pV" => (Memref.whole Cert.KernelIdeal.main_arg2_scv : Memref Cert.KernelIdeal.sig Kind.scVector Space.hbm Cert.KernelIdeal.S8192 EltTy.i32)
local notation "gV" => (Memref.whole Cert.KernelIdeal.main_arg3_scv : Memref Cert.KernelIdeal.sig Kind.scVector Space.hbm Cert.KernelIdeal.S8192 EltTy.f32)
local notation "tO" => (Memref.whole Cert.KernelIdeal.main_v1_0_scv : Memref Cert.KernelIdeal.sig Kind.scVector Space.hbm Cert.KernelIdeal.S12288 EltTy.i32)
local notation "gO" => (Memref.whole Cert.KernelIdeal.main_v1_1_scv : Memref Cert.KernelIdeal.sig Kind.scVector Space.hbm Cert.KernelIdeal.S12288 EltTy.f32)
local notation "pB" => (Memref.whole Cert.KernelIdeal.cc1_scratch0 : Memref Cert.KernelIdeal.sig Kind.scVector Space.vmem Cert.KernelIdeal.S8192 EltTy.i32)
local notation "gB" => (Memref.whole Cert.KernelIdeal.cc1_scratch1 : Memref Cert.KernelIdeal.sig Kind.scVector Space.vmem Cert.KernelIdeal.S8192 EltTy.f32)
local notation "tB" => (Memref.whole Cert.KernelIdeal.cc1_scratch2 : Memref Cert.KernelIdeal.sig Kind.scVector Space.vmem Cert.KernelIdeal.S12288 EltTy.i32)
local notation "sB" => (Memref.whole Cert.KernelIdeal.cc1_scratch3 : Memref Cert.KernelIdeal.sig Kind.scVector Space.vmem Cert.KernelIdeal.S12288 EltTy.f32)

/-! ## A subcore's own buffers and semaphores, the ones the body names first -/

/-- The listed members of a set taken out of a separating conjunction over it, in order. -/
theorem bigSep_list {I : Type} [DecidableEq I] (Φ : I → sProp 𝕄) : ∀ (l : List I) (s : Finset I), l.Nodup → (∀ x ∈ l, x ∈ s) →
    bigSep s Φ = l.foldr (fun x A => iprop(Φ x ∗ A)) (bigSep (s \ l.toFinset) Φ)
  | [], s, _, _ => by rw [List.toFinset_nil, Finset.sdiff_empty]; rfl
  | x :: l, s, hn, hs => by
    obtain ⟨hx, hn⟩ := List.nodup_cons.mp hn
    rw [SparseCore.bigSep_erase' (hs x List.mem_cons_self),
      bigSep_list Φ l (s.erase x) hn fun y hy => Finset.mem_erase.mpr ⟨fun e => hx (e ▸ hy), hs y (List.mem_cons_of_mem _ hy)⟩,
      show s.erase x \ l.toFinset = s \ (x :: l).toFinset by
        ext y; simp only [Finset.mem_sdiff, Finset.mem_erase, List.mem_toFinset, List.mem_cons]; tauto]
    rfl

/-- The body's semaphores. -/
def semList : List (SemLoc sig) := [.dma cc1_scoped0.sem, .dma cc1_scoped1.sem, .dma cc1_scoped2.sem, .dma cc1_scoped3.sem]

/-- The body's scratch buffers. -/
def bufList : List (Ref sig .scVector) := [cc1_scratch0, cc1_scratch1, cc1_scratch2, cc1_scratch3]

/-- They are pairwise different. -/
theorem semList_nodup : semList.Nodup := by unfold semList; decide +kernel
/-- They are a subcore's own. -/
theorem semList_scoped : ∀ s ∈ semList, s.isScoped .scVector = true := by unfold semList; decide +kernel
/-- The scratch buffers are pairwise different. -/
theorem bufList_nodup : bufList.Nodup := by unfold bufList; decide +kernel
/-- The semaphores of a tile that its body names. -/
def cellsOf (thr : Thread nD τ) : List (GSem nD τ sig) := semList.map fun s => (thr, s)
/-- The tile's semaphores: the body's, and the rest. -/
theorem sems_eq (d : Dev nD) (i : grid1.Coords) :
    (ownSems0 (tile d i) : sProp 𝕄)
      = (cellsOf (tile d i)).foldr (fun g A => iprop(semVal g 0 ∗ A)) (bigSep (ownCells (tile d i) \ (cellsOf (tile d i)).toFinset) fun g => semVal g 0) := by
  unfold ownSems0
  refine bigSep_list _ _ _ (semList_nodup.map fun a b h => (Prod.mk.inj h).2) fun g hg => ?_
  obtain ⟨s, hs, rfl⟩ := List.mem_map.mp hg
  exact mem_ownCells.mpr ⟨rfl, semList_scoped s hs⟩

/-- The tile's buffers that its body names. -/
def refs (i : grid1.Coords) : List (DevRef τ sig) :=
  bufList.map fun b => (Proc.scVector ((i 0).castLE hcore1) ((i 1).castLE hsub1)).devRef b

/-- The tile's buffers: the body's, at whatever they hold, and the rest. -/
theorem bufs_eq (d : Dev nD) (i : grid1.Coords) :
    (ownBufs (tile d i) : sProp 𝕄)
      = (refs i).foldr (fun b A => iprop((∃ f, ((d, b) : Loc nD τ sig) ↦{fullShare} f) ∗ A))
          (bigSep (ownRefs (tile d i).2 \ (refs i).toFinset) fun b => iprop(∃ f, ((d, b) : Loc nD τ sig) ↦{fullShare} f)) := by
  unfold ownBufs
  refine bigSep_list _ _ _ (bufList_nodup.map (Proc.devRef_injective _)) fun g hg => ?_
  obtain ⟨b, hb, rfl⟩ := List.mem_map.mp hg
  refine SparseCore.Cfg.mem_ownRefs_of_owner ?_
  fin_cases hb <;> rfl

/-- What is left of the tile's semaphores. -/
def semRest (d : Dev nD) (i : grid1.Coords) : sProp 𝕄 :=
  bigSep (ownCells (tile d i) \ (cellsOf (tile d i)).toFinset) fun g => semVal g 0
/-- What is left of the tile's buffers. -/
def bufRest (d : Dev nD) (i : grid1.Coords) : sProp 𝕄 :=
  bigSep (ownRefs (tile d i).2 \ (refs i).toFinset) fun b => iprop(∃ f, ((d, b) : Loc nD τ sig) ↦{fullShare} f)

/-- A scratch buffer at whatever it holds. -/
abbrev some' (d : Dev nD) (i : grid1.Coords) (b : Ref sig .scVector) : sProp 𝕄 :=
  iprop(∃ f, ((tile d i).loc b) ↦{fullShare} f)

/-- A cell of the tile's at zero. -/
abbrev zero (d : Dev nD) (i : grid1.Coords) (r : DmaSems sig S_) : sProp 𝕄 := semVal (tile d i, SemLoc.dma r.sem) 0

/-- The tile's semaphores, spelled out. -/
theorem sems_open (d : Dev nD) (i : grid1.Coords) :
    (ownSems0 (tile d i) : sProp 𝕄)
      = iprop(zero d i cc1_scoped0 ∗ zero d i cc1_scoped1 ∗ zero d i cc1_scoped2 ∗ zero d i cc1_scoped3 ∗ semRest d i) := by
  rw [sems_eq]
  show List.foldr _ (semRest d i) (cellsOf (tile d i)) = _
  generalize semRest d i = R
  rfl

/-- The tile's buffers, spelled out. -/
theorem bufs_open (d : Dev nD) (i : grid1.Coords) :
    (ownBufs (tile d i) : sProp 𝕄)
      = iprop(some' d i cc1_scratch0 ∗ some' d i cc1_scratch1 ∗ some' d i cc1_scratch2 ∗ some' d i cc1_scratch3 ∗ bufRest d i) := by
  rw [bufs_eq]
  show List.foldr _ (bufRest d i) (refs i) = _
  generalize bufRest d i = R
  rfl

/-- A view written whole holds, on its own elements, whatever reads the same through it. -/
theorem pts_written {sp : Space} {s : Shape} {e : EltTy} (d : Dev nD) (i : grid1.Coords) (v : View sig .scVector sp s e)
    (f g : Buf (Elt F) (v.loc (tile d i))) (w : s.Idx → Elt F e) (h : ∀ x, w x = v.read (Elt F) g x) :
    (v.loc (tile d i) ↦[v.set]{fullShare} v.writes (Elt F) f [⟨Rect.whole s, w⟩] : sProp 𝕄) = v.loc (tile d i) ↦[v.set]{fullShare} g := by
  refine pointsTo_congr fun y hy => ?_
  obtain ⟨x, -, rfl⟩ := Finset.mem_map.mp hy
  have e := (congrFun (View.read_writes_whole (Val := Elt F) v f w) x).trans (h x)
  rw [View.read_apply, View.read_apply] at e
  exact (cast_inj _).mp e

/-- A wait of the tile's own keeps the record in shape. -/
theorem waits_insert {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with rfl | hp
  · exact .inr rfl
  · exact h p hp

/-- The four arrays of the call, whole. -/
def four (d : Dev nD) (i : grid1.Coords) (p : S8192.Idx → BitVec 32) (w : S8192.Idx → F .f32) (t : S12288.Idx → BitVec 32) (s : S12288.Idx → F .f32) : sProp 𝕄 :=
  iprop(((pV).view.loc (tile d i) ↦{fullShare} (p : Buf (Elt F) ((pV).view.loc (tile d i)))) ∗ ((gV).view.loc (tile d i) ↦{fullShare} (w : Buf (Elt F) ((gV).view.loc (tile d i))))
    ∗ ((tO).view.loc (tile d i) ↦[(tO).view.set]{fullShare} (t : Buf (Elt F) ((tO).view.loc (tile d i)))) ∗ ((gO).view.loc (tile d i) ↦[(gO).view.set]{fullShare} (s : Buf (Elt F) ((gO).view.loc (tile d i)))))

/-- What the call gives a tile and has back of it: the first tile the four arrays, the others nothing. -/
def tileRes (d : Dev nD) (i : grid1.Coords) (p : S8192.Idx → BitVec 32) (w : S8192.Idx → F .f32) (t : S12288.Idx → BitVec 32) (s : S12288.Idx → F .f32) : sProp 𝕄 :=
  if k1_cond1 i = 1#1 then four d i p w t s else iprop(emp)

variable [FloatOps F]

/-- The body on a tile, as the dispatch names it. -/
abbrev bodyAt (i : grid1.Coords) : Prog (Eff F i) PUnit :=
  cc1__sc_scatter_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc1_scoped0 cc1_scoped1 cc1_scoped2 cc1_scoped3

/-- The scratch buffers at whatever they hold and the copies' cells at zero. -/
def idle (d : Dev nD) (i : grid1.Coords) : sProp 𝕄 :=
  iprop((∃ f, (pB).view.loc (tile d i) ↦[(pB).view.set]{fullShare} f) ∗ (∃ f, (gB).view.loc (tile d i) ↦[(gB).view.set]{fullShare} f)
    ∗ (∃ f, (tB).view.loc (tile d i) ↦[(tB).view.set]{fullShare} f) ∗ (∃ f, (sB).view.loc (tile d i) ↦[(sB).view.set]{fullShare} f)
    ∗ zero d i cc1_scoped0 ∗ zero d i cc1_scoped1 ∗ zero d i cc1_scoped2 ∗ zero d i cc1_scoped3)

/-- The first loop: both sorted arrays zero. -/
theorem loop1 (d : Dev nD) (i : grid1.Coords) (h : k1_cond1 i = 1#1) (kk : Unit → Prog (Eff F i) PUnit) (Q : PUnit → sProp 𝕄) :
    zeroSt d i 0 ⊢ iprop((zeroSt d i k1_t1_loop.trips -∗ wp frame (wpE (defs₀ (F := F)) 𝒱₀ (tile d i) none) Set.univ (kk ⟨⟩) Q)
      -∗ wp frame (wpE (defs₀ (F := F)) 𝒱₀ (tile d i) none) Set.univ
        (Scf.Loop.for k1_t1_loop (k1_t1_ok i h) ⟨⟩ (body1 (F := F) i h) >>= kk) Q) := by
  refine (Scf.wp_for_bind _ _ _ _ _ _ (k1_t1_ok i h) ⟨⟩ (body1 (F := F) i h) (fun n _ => zeroSt d i n)
    (zero_trip d i h) (kk := kk) (Q := Q)).trans ?_
  iintro H Hk
  iapply H
  iintro %_ Hr
  iapply Hk
  iexact Hr

/-- The second loop: every assignment written. -/
theorem loop2 (d : Dev nD) (i : grid1.Coords) (h : k1_cond1 i = 1#1) (p : S8192.Idx → BitVec 32) (w : S8192.Idx → F .f32)
    (hp : ∀ x, (p x).toNat < 12288)
    (fp : Buf (Elt F) ((pB).view.loc (tile d i))) (fg : Buf (Elt F) ((gB).view.loc (tile d i)))
    (hfp : (pB).view.read (Elt F) fp = p) (hfg : (gB).view.read (Elt F) fg = w)
    (kk : Unit → Prog (Eff F i) PUnit) (Q : PUnit → sProp 𝕄) :
    putSt d i p w fp fg 0 ⊢ iprop((putSt d i p w fp fg k1_t2_loop.trips -∗ wp frame (wpE (defs₀ (F := F)) 𝒱₀ (tile d i) none) Set.univ (kk ⟨⟩) Q)
      -∗ wp frame (wpE (defs₀ (F := F)) 𝒱₀ (tile d i) none) Set.univ
        (Scf.Loop.for k1_t2_loop (k1_t2_ok i h) ⟨⟩ (body2 (F := F) i h) >>= kk) Q) := by
  refine (Scf.wp_for_bind _ _ _ _ _ _ (k1_t2_ok i h) ⟨⟩ (body2 (F := F) i h) (fun n _ => putSt d i p w fp fg n)
    (put_trip d i h p w hp fp fg hfp hfg) (kk := kk) (Q := Q)).trans ?_
  iintro H Hk
  iapply H
  iintro %_ Hr
  iapply Hk
  iexact Hr

/-- The first result's array reads what it holds. -/
theorem read_tO (G : S12288.Idx → BitVec 32) : (tO).view.read (Elt F) G = G := funext fun _ => rfl
/-- The second result's array reads what it holds. -/
theorem read_gO (G : S12288.Idx → F .f32) : (gO).view.read (Elt F) G = G := funext fun _ => rfl
/-- All trips are all updates. -/
theorem done_eq {β : Type} (z : β) (p : ℕ → ℕ) (v : ℕ → β) : put z p v (16 * 512) = put z p v 8192 :=
  congrArg (put z p v) (show 16 * 512 = 8192 by decide)

/-- The first tile's work. -/
theorem work (d : Dev nD) (i : grid1.Coords) (h : k1_cond1 i = 1#1)
    (p : S8192.Idx → BitVec 32) (w : S8192.Idx → F .f32) (t₀ : S12288.Idx → BitVec 32) (s₀ : S12288.Idx → F .f32)
    (hp : ∀ x, (p x).toNat < 12288) (O : CellTallies nD τ sig (HIx 2)) (W : Waits sig (HIx 2)) :
    iprop(Transfers.MayWaits (tile d i) (default : HIx 2) O ∗ four d i p w t₀ s₀ ∗ idle d i ∗ owes (tile d i) O W)
      ⊢ wp frame (wpE (defs₀ (F := F)) 𝒱₀ (tile d i) none) Set.univ (bodyAt i)
          fun _ => iprop(four d i p w (tokens p) (gates p w) ∗ idle d i ∗ ∃ W', ⌜∀ p ∈ W', p ∈ W ∨ p.2 = none⌝ ∗ owes (tile d i) O W') := by
  unfold bodyAt idle four
  rw [cc1__sc_scatter_body_eq_skeleton]
  unfold cc1__sc_scatter_body_skel
  rw [dif_pos h]
  iintro ⟨#Hmw, ⟨Hp, Hw, Ht, Hs⟩, ⟨⟨%f0, B0⟩, ⟨%f1, B1⟩, ⟨%f2, B2⟩, ⟨%f3, B3⟩, Z0, Z1, Z2, Z3⟩, HO⟩
  sl_exec
  iapply (loop1 d i h) $$ [B2 B3]
  · unfold zeroSt
    iexists f2; iexists f3
    isplitr
    · ipureintro; exact ⟨fun x hx => absurd hx (by omega), fun x hx => absurd hx (by omega)⟩
    isplitl [B2] <;> iassumption
  iintro HZ
  unfold zeroSt
  icases HZ with ⟨%f, %g, %hfg, B2, B3⟩
  have hf0 : (pB).view.read (Elt F) ((pB).view.writes (Elt F) (pB).view.junk [⟨Rect.whole cc1_scratch0.ty.shape, work.sl.dma0 (F := F) p⟩]) = p :=
    View.read_writes_whole (Val := Elt F) (pB).view _ _
  have hf1 : (gB).view.read (Elt F) ((gB).view.writes (Elt F) (gB).view.junk [⟨Rect.whole cc1_scratch1.ty.shape, work.sl.dma0_1 (F := F) w⟩]) = w :=
    View.read_writes_whole (Val := Elt F) (gB).view _ _
  iapply (loop2 d i h p w hp _ _ hf0 hf1) $$ [B0 B1 B2 B3]
  · unfold putSt
    iexists f; iexists g
    isplitr [B0 B1 B2 B3]
    · ipureintro
      exact ⟨funext fun x => hfg.1 x (by have := (x 0).isLt; rw [trips1]; exact this),
        funext fun x => hfg.2 x (by have := (x 0).isLt; rw [trips1]; exact this)⟩
    isplitl [B0]; · iexact B0
    isplitl [B1]; · iexact B1
    isplitl [B2] <;> iassumption
  iintro HZ
  unfold putSt
  icases HZ with ⟨%f', %g', %hfg', B0, B1, B2, B3⟩
  sl_exec
  sl_step
  isplitl [Hp Hw Ht Hs]
  · isplitl [Hp]; · iexact Hp
    isplitl [Hw]; · iexact Hw
    isplitl [Ht]
    · ihave Ht' := (Entails.of_eq (pts_written d i (tO).view t₀ (tokens p) _ (fun x => by
        show (tB).view.read (Elt F) f' x = _
        rw [hfg'.1, trips2, read_tO]; exact congrFun (done_eq _ _ _) x))) $$ Ht
      iexact Ht'
    · ihave Hs' := (Entails.of_eq (pts_written d i (gO).view s₀ (gates p w) _ (fun x => by
        show (sB).view.read (Elt F) g' x = _
        rw [hfg'.2, trips2, read_gO]; exact congrFun (done_eq _ _ _) x))) $$ Hs
      iexact Hs'
  isplitr [HO]
  · isplitl [B0]; · iexists _; iexact B0
    isplitl [B1]; · iexists _; iexact B1
    isplitl [B2]; · iexists _; iexact B2
    isplitl [B3]; · iexists _; iexact B3
    isplitl [Z0]; · iexact Z0
    isplitl [Z1]; · iexact Z1
    isplitl [Z2]; · iexact Z2
    iexact Z3
  iexists _
  isplitr [HO]
  swap; · iexact HO
  ipureintro; exact waits_insert (waits_insert (waits_insert (waits_insert (fun p hp => .inl hp) _) _) _) _

/-- The scratch buffers by their tile's names. -/
theorem idle_eq (d : Dev nD) (i : grid1.Coords) :
    (idle d i : sProp 𝕄) = iprop(some' d i cc1_scratch0 ∗ some' d i cc1_scratch1 ∗ some' d i cc1_scratch2 ∗ some' d i cc1_scratch3
      ∗ zero d i cc1_scoped0 ∗ zero d i cc1_scoped1 ∗ zero d i cc1_scoped2 ∗ zero d i cc1_scoped3) := by
  unfold idle
  rw [show ((pB).view.set : Finset _) = Finset.univ from View.set_whole _, show ((gB).view.set : Finset _) = Finset.univ from View.set_whole _,
    show ((tB).view.set : Finset _) = Finset.univ from View.set_whole _, show ((sB).view.set : Finset _) = Finset.univ from View.set_whole _]

/-- Every tile's run: the first tile's work, nothing elsewhere. -/
theorem body_run (d : Dev nD) (i : grid1.Coords)
    (p : S8192.Idx → BitVec 32) (w : S8192.Idx → F .f32) (t₀ : S12288.Idx → BitVec 32) (s₀ : S12288.Idx → F .f32)
    (hp : ∀ x, (p x).toNat < 12288) (O : CellTallies nD τ sig (HIx 2)) (W : Waits sig (HIx 2)) :
    iprop(Transfers.MayWaits (tile d i) (default : HIx 2) O ∗ tileRes d i p w t₀ s₀ ∗ idle d i ∗ owes (tile d i) O W)
      ⊢ wp frame (wpE (defs₀ (F := F)) 𝒱₀ (tile d i) none) Set.univ (bodyAt i)
          fun _ => iprop(tileRes d i p w (tokens p) (gates p w) ∗ idle d i ∗ ∃ W', ⌜∀ p ∈ W', p ∈ W ∨ p.2 = none⌝ ∗ owes (tile d i) O W') := by
  by_cases h : k1_cond1 i = 1#1
  · simp only [tileRes, if_pos h]
    exact work d i h p w t₀ s₀ hp O W
  · simp only [tileRes, if_neg h]
    unfold bodyAt
    rw [cc1__sc_scatter_body_eq_skeleton]
    unfold cc1__sc_scatter_body_skel
    rw [dif_neg h]
    iintro ⟨#Hmw, He, Hi, HO⟩
    sl_step
    isplitl [He]; · iexact He
    isplitl [Hi]; · iexact Hi
    iexists W
    isplitr [HO]
    · ipureintro; exact fun p hp => .inl hp
    iexact HO

/-- The printed body on a tile: the first tile's two sorted arrays written, all else as it was. -/
theorem tile_body (d : Dev nD) (i : grid1.Coords)
    (p : S8192.Idx → BitVec 32) (w : S8192.Idx → F .f32) (t₀ : S12288.Idx → BitVec 32) (s₀ : S12288.Idx → F .f32)
    (hp : ∀ x, (p x).toNat < 12288)
    (O : CellTallies nD τ sig (HIx 2)) (W : Waits sig (HIx 2)) (hO : ∀ g, O g none = 0) :
    iprop(levAts (K (F := F)).L (K (F := F)).lev ∗ emp ∗ tileRes d i p w t₀ s₀
        ∗ scopedBufs (tile d i) ∗ scopedSems0 (tile d i) ∗ owes (tile d i) O W)
      ⊢ wp frame (wpE (defs₀ (F := F)) 𝒱₀ (tile d i) none) Set.univ (bodyAt i)
          fun _ => iprop(tileRes d i p w (tokens p) (gates p w) ∗ scopedBufs (tile d i) ∗ scopedSems0 (tile d i)
            ∗ ∃ W', ⌜∀ p ∈ W', p ∈ W ∨ p.2 = none⌝ ∗ owes (tile d i) O W') := by
  rw [(K (F := F)).scopedBufs_V facts d ((i 0).castLE hcore1) ((i 1).castLE hsub1),
    SparseCore.Cfg.scopedSems0_V (Val := Elt F) d ((i 0).castLE hcore1) ((i 1).castLE hsub1), sems_open, bufs_open]
  have hrun := body_run d i p w t₀ s₀ hp O W
  rw [idle_eq] at hrun
  refine BI.Entails.trans ?_ (BI.Entails.trans (BIClass.sep_mono hrun (BI.Entails.refl (iprop(semRest d i ∗ bufRest d i))))
    (BI.Entails.trans (wp_frame_r _ _ _) (wp_mono frame _ _ fun _ => ?_)))
  · show _ ⊢ iprop(_ ∗ semRest d i ∗ bufRest d i)
    iintro ⟨#Hlv, -, Ht, ⟨A0, A1, A2, A3, Hbr⟩, ⟨Z0, Z1, Z2, Z3, Hsr⟩, HO⟩
    ihave Hmw := (show levAts (K (F := F)).L (K (F := F)).lev ⊢ Transfers.MayWaits (tile d i) (default : HIx 2) O from
      (K (F := F)).mayWaits_none (thr := tile d i) hO) $$ Hlv
    isplitr [Hsr Hbr]
    swap
    · isplitl [Hsr] <;> iassumption
    isplitl [Hmw]; · iexact Hmw
    isplitl [Ht]; · iexact Ht
    isplitr [HO]
    swap; · iexact HO
    isplitl [A0]; · iexact A0
    isplitl [A1]; · iexact A1
    isplitl [A2]; · iexact A2
    isplitl [A3]; · iexact A3
    isplitl [Z0]; · iexact Z0
    isplitl [Z1]; · iexact Z1
    isplitl [Z2] <;> iassumption
  · show iprop(_ ∗ semRest d i ∗ bufRest d i) ⊢ _
    iintro ⟨⟨Ht, ⟨A0, A1, A2, A3, Z0, Z1, Z2, Z3⟩, HO⟩, Hsr, Hbr⟩
    isplitl [Ht]; · iexact Ht
    isplitl [A0 A1 A2 A3 Hbr]
    · isplitl [A0]; · iexact A0
      isplitl [A1]; · iexact A1
      isplitl [A2]; · iexact A2
      isplitl [A3] <;> iassumption
    isplitr [HO]
    swap; · iexact HO
    isplitl [Z0]; · iexact Z0
    isplitl [Z1]; · iexact Z1
    isplitl [Z2]; · iexact Z2
    isplitl [Z3] <;> iassumption

end Cert.Proof.Chain

end
-- ==== Proof.Chain.Call.lean ====
/-
  The scatter call as the first call of the whole program: its tiles, what the call takes and hands back, and what its tiles
  do with their parts.
-/
module

public import proofs.«01_k».proof.Proof.Chain.Body

@[expose] public section

set_option maxRecDepth 16384

noncomputable section

namespace Cert.Proof.Chain

open Cert.KernelIdeal hiding ix2
open Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Combine (MM K D 𝒱₀ 𝒱 facts)
open Cert.Proof.Scatter (put placeOf gateOf tokens gates)

variable {F : FTy → Type} [FloatOps F]

local notation "𝕄" => MM F

/-! ## The tiles -/

/-- Tile `s` of SparseCore `c`. -/
def at' (c : Fin 2) (s : Fin 16) : grid1.Coords :=
  fun | 0 => c | 1 => s | ⟨_ + 2, h⟩ => absurd h (Nat.not_lt.2 (Nat.le_add_left _ _))

/-- The launch runs on both cores. -/
theorem nCore_eq : (K (F := F)).nCore 0 = 2 := rfl
/-- And on sixteen tiles of each. -/
theorem nSub_eq : (K (F := F)).nSub 0 = 16 := rfl

/-- Only the first tile of the first SparseCore works. -/
theorem cond_iff : ∀ (c : Fin 2) (s : Fin 16), k1_cond1 (at' c s) = 1#1 ↔ c = 0 ∧ s = 0 := by decide +kernel

/-- The positions. -/
abbrev pLoc (d : Dev nD) : Loc nD τ sig := (SparseCore.T d).loc main_arg2
/-- The gates. -/
abbrev gLoc (d : Dev nD) : Loc nD τ sig := (SparseCore.T d).loc main_arg3
/-- The sorted tokens. -/
abbrev tLoc (d : Dev nD) : Loc nD τ sig := (SparseCore.T d).loc main_v1_0
/-- The sorted gates. -/
abbrev sLoc (d : Dev nD) : Loc nD τ sig := (SparseCore.T d).loc main_v1_1

/-- The four arrays whole. -/
def whole (d : Dev nD) (p : S8192.Idx → BitVec 32) (w : S8192.Idx → F .f32) (t : S12288.Idx → BitVec 32) (s : S12288.Idx → F .f32) : sProp 𝕄 :=
  iprop((pLoc d ↦{fullShare} p) ∗ (gLoc d ↦{fullShare} w) ∗ (tLoc d ↦{fullShare} t) ∗ (sLoc d ↦{fullShare} s))

/-- The first tile's four arrays are the call's. -/
theorem four_eq (d : Dev nD) (i : grid1.Coords) (p : S8192.Idx → BitVec 32) (w : S8192.Idx → F .f32) (t : S12288.Idx → BitVec 32) (s : S12288.Idx → F .f32) :
    (four d i p w t s : sProp 𝕄) = whole d p w t s := by
  unfold four
  rw [show ((Memref.whole main_v1_0_scv : Memref sig Kind.scVector Space.hbm S12288 EltTy.i32).view.set : Finset _) = Finset.univ from View.set_whole _,
    show ((Memref.whole main_v1_1_scv : Memref sig Kind.scVector Space.hbm S12288 EltTy.f32).view.set : Finset _) = Finset.univ from View.set_whole _]
  rfl

/-- A conjunction empty but at one place. -/
theorem bigSep_one {n : ℕ} (Φ : Fin (n + 1) → sProp 𝕄) (R : sProp 𝕄) (h0 : Φ 0 = R) (h : ∀ k, k ≠ 0 → Φ k = iprop(emp)) : bigSep Finset.univ Φ = R := by
  rw [SparseCore.bigSep_erase' (Finset.mem_univ 0), h0,
    show bigSep (Finset.univ.erase 0) Φ = (iprop(emp) : sProp 𝕄) from
      (bigSep_congr fun k hk => h k (Finset.ne_of_mem_erase hk)).trans (bigSep_emp_const _)]
  exact BI.equiv_iff.mp sep_emp

/-- What one SparseCore's tiles are given and hand back. -/
def coreRes (d : Dev nD) (c : Fin 2) (p : S8192.Idx → BitVec 32) (w : S8192.Idx → F .f32) (t : S12288.Idx → BitVec 32) (s : S12288.Idx → F .f32) : sProp 𝕄 :=
  bigSep Finset.univ fun k : Fin 16 => tileRes d (at' c k) p w t s

/-- The four arrays whole are what the two SparseCores are given. -/
theorem cores_eq (d : Dev nD) (p : S8192.Idx → BitVec 32) (w : S8192.Idx → F .f32) (t : S12288.Idx → BitVec 32) (s : S12288.Idx → F .f32) :
    (bigSep Finset.univ fun c : Fin 2 => coreRes d c p w t s) = (whole d p w t s : sProp 𝕄) := by
  unfold coreRes
  refine bigSep_one _ _ (bigSep_one _ _ ?_ fun k hk => ?_) fun c hc => ?_
  · exact (if_pos ((cond_iff 0 0).mpr ⟨rfl, rfl⟩)).trans (four_eq d _ p w t s)
  · exact if_neg fun h => hk ((cond_iff 0 k).mp h).2
  · exact (bigSep_congr fun k _ => if_neg fun h => hc ((cond_iff c k).mp h).1).trans (bigSep_emp_const _)

/-- A tile's resources may be carried by a handshake. -/
theorem tileRes_storable' (d : Dev nD) (i : grid1.Coords) (p : S8192.Idx → BitVec 32) (w : S8192.Idx → F .f32) (t : S12288.Idx → BitVec 32) (s : S12288.Idx → F .f32) :
    BI.Storable (upEmb : UEmb _ 𝕄) (tileRes d i p w t s) := by
  unfold tileRes
  split
  · unfold four; infer_instance
  · infer_instance

instance tileRes_storable (d : Dev nD) (i : grid1.Coords) (p : S8192.Idx → BitVec 32) (w : S8192.Idx → F .f32) (t : S12288.Idx → BitVec 32) (s : S12288.Idx → F .f32) :
    BI.Storable (upEmb : UEmb _ 𝕄) (tileRes d i p w t s) := tileRes_storable' d i p w t s

/-- A SparseCore's resources may be carried by a handshake. -/
instance coreRes_storable (d : Dev nD) (c : Fin 2) (p : S8192.Idx → BitVec 32) (w : S8192.Idx → F .f32) (t : S12288.Idx → BitVec 32) (s : S12288.Idx → F .f32) :
    BI.Storable (upEmb : UEmb _ 𝕄) (coreRes d c p w t s) := by
  unfold coreRes; infer_instance

/-- A SparseCore's part, opened. -/
theorem coreRes_eq (d : Dev nD) (c : Fin 2) (p : S8192.Idx → BitVec 32) (w : S8192.Idx → F .f32) (t : S12288.Idx → BitVec 32) (s : S12288.Idx → F .f32) :
    (coreRes d c p w t s : sProp 𝕄) = bigSep Finset.univ fun k : Fin 16 => tileRes d (at' c k) p w t s := rfl

/-- The dispatch runs the printed body at the tile's coordinates. -/
theorem defs₀_vector (c : Fin τ.nSC) (s : Fin τ.nSub) :
    defs₀ (F := F) (.scVector c s) 1 () = SparseCore.onTile hcore1 hsub1 (fun c s => bodyAt (at' c s)) ⟨⟩ c s := rfl

/-- A SparseCore's part is its sixteen tiles'. -/
theorem bigSep_tiles (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- Both SparseCores' parts. -/
theorem bigSep_cores (Φ : Fin 2 → sProp 𝕄) :
    (bigSep Finset.univ fun i : Fin ((K (F := F)).nCore 0) => Φ (Fin.cast nCore_eq i)) = bigSep Finset.univ Φ :=
  bigSep_congr fun _ _ => congrArg Φ (Fin.ext rfl)

/-! ## The arrays of the call among the TensorCore's -/

/-- The call's four arrays. -/
def arrays : List (DevRef τ sig) := [Proc.devRef .tc main_arg2, Proc.devRef .tc main_arg3, Proc.devRef .tc main_v1_0, Proc.devRef .tc main_v1_1]

/-- They are pairwise different. -/
theorem arrays_nodup : arrays.Nodup := by unfold arrays; decide +kernel
/-- They are the TensorCore's, whole. -/
theorem arrays_mem : ∀ b ∈ arrays, b ∈ Pipeline.ucRefs τ sig := by
  intro b hb
  unfold arrays at hb
  refine Finset.mem_filter.mpr ⟨?_, ?_⟩
  · fin_cases hb <;> exact StableHlo.devRef_mem_tcRefs _
  · fin_cases hb <;> decide +kernel

/-- The TensorCore's arrays at a valuation: the call's four, and the rest. -/
theorem held_open (d : Dev nD) (W : Valuation τ sig (Elt F)) :
    (StableHlo.held (SparseCore.T d) (Pipeline.ucRefs τ sig) W : sProp 𝕄)
      = iprop((pLoc d ↦{fullShare} W (Proc.devRef .tc main_arg2)) ∗ (gLoc d ↦{fullShare} W (Proc.devRef .tc main_arg3))
          ∗ (tLoc d ↦{fullShare} W (Proc.devRef .tc main_v1_0)) ∗ (sLoc d ↦{fullShare} W (Proc.devRef .tc main_v1_1))
          ∗ bigSep (Pipeline.ucRefs τ sig \ arrays.toFinset) fun b => ((d, b) : Loc nD τ sig) ↦{fullShare} W b) := by
  unfold StableHlo.held
  rw [bigSep_list (fun b => (((SparseCore.T d).1, b) : Loc nD τ sig) ↦{fullShare} W b) arrays _ arrays_nodup arrays_mem]
  generalize (bigSep (Pipeline.ucRefs τ sig \ arrays.toFinset) fun b => ((d, b) : Loc nD τ sig) ↦{fullShare} W b : sProp 𝕄) = R
  rfl

/-- A valuation after the call: the two sorted arrays written. -/
def sorted (W : Valuation τ sig (Elt F)) : Valuation τ sig (Elt F) :=
  Function.update (Function.update W (Proc.devRef .tc main_v1_0) (tokens (W (Proc.devRef .tc main_arg2)) : S12288.Idx → BitVec 32))
    (Proc.devRef .tc main_v1_1) (gates (W (Proc.devRef .tc main_arg2)) (W (Proc.devRef .tc main_arg3)) : S12288.Idx → F .f32)

/-- Of the two sorted arrays alone the contents change. -/
theorem sorted_ne (W : Valuation τ sig (Elt F)) (b : DevRef τ sig) (h0 : b ≠ Proc.devRef .tc main_v1_0) (h1 : b ≠ Proc.devRef .tc main_v1_1) :
    sorted W b = W b := (Function.update_of_ne h1 _ _).trans (Function.update_of_ne h0 _ _)
/-- The tokens in sorted order, -/
theorem sorted_tok (W : Valuation τ sig (Elt F)) : sorted W (Proc.devRef .tc main_v1_0) = tokens (W (Proc.devRef .tc main_arg2)) :=
  (Function.update_of_ne (by decide +kernel) _ _).trans (Function.update_self (Proc.devRef .tc main_v1_0 : DevRef τ sig) _ W)
/-- and the gates. -/
theorem sorted_gate (W : Valuation τ sig (Elt F)) :
    sorted W (Proc.devRef .tc main_v1_1) = gates (W (Proc.devRef .tc main_arg2)) (W (Proc.devRef .tc main_arg3)) :=
  Function.update_self (Proc.devRef .tc main_v1_1 : DevRef τ sig) _ _

/-- What the call is given and hands back, and the rest, are the TensorCore's arrays before it, -/
theorem held_before (d : Dev nD) (W : Valuation τ sig (Elt F)) :
    (StableHlo.held (SparseCore.T d) (Pipeline.ucRefs τ sig) W : sProp 𝕄)
      ⊢ iprop(whole d (W (Proc.devRef .tc main_arg2)) (W (Proc.devRef .tc main_arg3)) (W (Proc.devRef .tc main_v1_0)) (W (Proc.devRef .tc main_v1_1))
          ∗ bigSep (Pipeline.ucRefs τ sig \ arrays.toFinset) fun b => ((d, b) : Loc nD τ sig) ↦{fullShare} W b) := by
  rw [held_open]
  unfold whole
  iintro ⟨H0, H1, H2, H3, H⟩
  isplitr [H]; swap; · iexact H
  isplitl [H0]; · iexact H0
  isplitl [H1]; · iexact H1
  isplitl [H2] <;> iassumption

/-- and after it. -/
theorem held_after (d : Dev nD) (W : Valuation τ sig (Elt F)) :
    iprop(whole d (W (Proc.devRef .tc main_arg2)) (W (Proc.devRef .tc main_arg3)) (tokens (W (Proc.devRef .tc main_arg2)))
          (gates (W (Proc.devRef .tc main_arg2)) (W (Proc.devRef .tc main_arg3)))
        ∗ bigSep (Pipeline.ucRefs τ sig \ arrays.toFinset) fun b => ((d, b) : Loc nD τ sig) ↦{fullShare} W b)
      ⊢ (StableHlo.held (SparseCore.T d) (Pipeline.ucRefs τ sig) (sorted W) : sProp 𝕄) := by
  have hr : (bigSep (Pipeline.ucRefs τ sig \ arrays.toFinset) fun b => ((d, b) : Loc nD τ sig) ↦{fullShare} W b : sProp 𝕄)
      = bigSep (Pipeline.ucRefs τ sig \ arrays.toFinset) fun b => ((d, b) : Loc nD τ sig) ↦{fullShare} sorted W b :=
    bigSep_congr fun b hb => by
      have hn := (Finset.mem_sdiff.mp hb).2
      rw [sorted_ne W b (fun e => hn (by subst e; decide +kernel)) (fun e => hn (by subst e; decide +kernel))]
  rw [held_open d (sorted W), hr, sorted_tok, sorted_gate, sorted_ne W (Proc.devRef .tc main_arg2) (by decide +kernel) (by decide +kernel),
    sorted_ne W (Proc.devRef .tc main_arg3) (by decide +kernel) (by decide +kernel)]
  unfold whole
  iintro ⟨⟨H0, H1, H2, H3⟩, H⟩
  isplitl [H0]; · iexact H0
  isplitl [H1]; · iexact H1
  isplitl [H2]; · iexact H2
  isplitl [H3] <;> iassumption

end Cert.Proof.Chain

end
-- ==== Proof.Combine.BodyEq.lean ====
/- The printed body of the combine call is the structured program of `Proof.Combine.Prog`. -/
module

public import proofs.«01_k».proof.Proof.Combine.Prog

@[expose] public section

noncomputable section

namespace Cert.Proof.Combine

open Cert.KernelIdeal hiding ix2
open Cert.KernelIdeal.Gen
open Idealize.ShloMosaic Idealize.SL.Sem

variable {F : FTy → Type} [FloatOps F]

set_option maxRecDepth 65536 in
set_option maxHeartbeats 40000000 in
/-- The printed body, its windows joined, is `prog`: the same operations in the same order. -/
theorem body_eq (i : grid3.Coords) (y : Memref sig .scVector .hbm S98304x128 .f32) (hy : y.IsWhole)
    (p : Memref sig .scVector .hbm S65536 .i32) (hp : p.IsWhole)
    (sh : Memref sig .scVector .hbm S4096x1024 .f32) (hsh : sh.IsWhole) (o : Memref sig .scVector .hbm S4096x1024 .f32) (ho : o.IsWhole)
    (a b : Slot) (r0 r1 r2 r3 r4 r5 r6 r7 r8 r9 r10 r11 r12 r13 r14 r15 : DmaSems sig S_) :
    cc3__sc_combine_body (F := F) i y hy p hp sh hsh o ho a.idx a.hidx b.idx b.hidx a.yb a.hyb b.yb b.hyb a.acc a.hacc b.acc b.hacc
        a.g b.g a.s b.s r0 r1 r2 r3 r4 r5 r6 r7 r8 r9 r10 r11 r12 r13 r14 r15
      = prog i y p sh o a b r0 r1 r2 r3 r4 r5 r6 r7 r8 r9 r10 r11 r12 r13 r14 r15 := by
  rw [cc3__sc_combine_body_eq_skeleton]
  simp only [cc3__sc_combine_body_skel, k3_part1_eq_skeleton, k3_part2_eq_skeleton, k3_part3_eq_skeleton, k3_part4_eq_skeleton,
    k3_part5_eq_skeleton, k3_part6_eq_skeleton, k3_part7_eq_skeleton, k3_part8_eq_skeleton, k3_part9_eq_skeleton,
    k3_part10_eq_skeleton, k3_part11_eq_skeleton, k3_part12_eq_skeleton, k3_part13_eq_skeleton, k3_part14_eq_skeleton,
    k3_part15_eq_skeleton, k3_part16_eq_skeleton, k3_part17_eq_skeleton, k3_part18_eq_skeleton, k3_part19_eq_skeleton,
    k3_part20_eq_skeleton]
  simp only [k3_part1_skel, k3_part2_skel, k3_part3_skel, k3_part4_skel, k3_part5_skel, k3_part6_skel, k3_part7_skel,
    k3_part8_skel, k3_part9_skel, k3_part10_skel, k3_part11_skel, k3_part12_skel, k3_part13_skel, k3_part14_skel, k3_part15_skel,
    k3_part16_skel, k3_part17_skel, k3_part18_skel, k3_part19_skel, k3_part20_skel, bind_assoc, pure_bind]
  simp only [prog, start, await, sums, rows]
  rfl

end Cert.Proof.Combine

end
-- ==== Proof.Combine.Rows.lean ====
/-
  The sixteen rows of a chunk, each sixty-four trips: a trip adds sixteen lanes of the token's two gathered rows to the
  accumulator's. The accumulator's state is the number of lane groups summed.
-/
module

public import proofs.«01_k».proof.Proof.Combine.Setup
public import Idealize.ShloMosaic.Lib.VecWindow

@[expose] public section

set_option maxRecDepth 16384

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MM F

/-- The gathered rows at known contents and the accumulator with `n` lane groups summed. -/
def rowSt (d : Dev nD) (i : grid3.Coords) (sl : Slot) (B : S16x1024.Idx → F .f32) (gf : Buf (Elt F) (sl.yb.view.loc (tile d i))) (n : ℕ) : sProp 𝕄 :=
  iprop((sl.yb.view.loc (tile d i) ↦[sl.yb.view.set]{fullShare} gf)
    ∗ ∃ f, ⌜sl.acc.view.read (Elt F) f = mix B (sl.yb.view.read (Elt F) gf) n⌝ ∗ (sl.acc.view.loc (tile d i) ↦[sl.acc.view.set]{fullShare} f))

/-- What a trip stores is the entrywise sum of its three loads. -/
theorem pay_apply (a b c : Vec F S1x16 .f32) (x : S1x16.Idx) :
    pay a b c x = FloatOps.addf (FloatOps.addf (a x) (b x)) (c x) := by
  have e : ∀ v : Vec F S1x16 .f32, v (Shape.reshapeEquiv shapeCasts_S1x16_S16 (Shape.reshapeEquiv shapeCasts_S16_S1x16 x)) = v x := by
    intro v; rw [Shape.reshapeEquiv_reshapeEquiv, Shape.reshapeEquiv_self]
  show FloatOps.addf (FloatOps.addf (a (Shape.reshapeEquiv shapeCasts_S1x16_S16 (Shape.reshapeEquiv shapeCasts_S16_S1x16 x)))
    (b (Shape.reshapeEquiv shapeCasts_S1x16_S16 (Shape.reshapeEquiv shapeCasts_S16_S1x16 x))))
    (c (Shape.reshapeEquiv shapeCasts_S1x16_S16 (Shape.reshapeEquiv shapeCasts_S16_S1x16 x))) = _
  rw [e a, e b, e c]

/-- A load of one row's sixteen lanes, entry by entry. -/
theorem load_acc (v : View sig .scVector .vmem S16x1024 .f32) (f : v.ty.Contents (Elt F)) (r : Fin 16) (t : Fin k3_t1_loop.trips)
    (x : S1x16.Idx) (y : S16x1024.Idx) (h0 : (y 0).val = r.val) (h1 : (y 1).val = 16 * t.val + (x 1).val) :
    v.readAt (Elt F) (Rect.unit (s := S16x1024) (accOff r t) S1x16.size (accOff_inb r t)).toLoadRect f x = v.read (Elt F) f y := by
  rw [View.readAt_unit v f (accOff_inb r t) (accOff_eq r t) (accOff_eq r t ▸ accOff_inb r t)]
  refine congrArg (v.read (Elt F) f) (funext fun a => Fin.ext ?_)
  have hx : (x 0).val < 1 := (x 0).isLt
  match a with
  | ⟨0, _⟩ => show r.val + 1 * (x 0).val = (y 0).val; omega
  | ⟨1, _⟩ => show 16 * t.val + 1 * (x 1).val = (y 1).val; omega

/-- A load of the gathered rows' sixteen lanes that a trip adds, entry by entry. -/
theorem load_yb (v : View sig .scVector .vmem S256x128 .f32) (f : v.ty.Contents (Elt F)) (r : Fin 16) (h : Fin 2) (t : Fin k3_t1_loop.trips)
    (x : S1x16.Idx) (y : S16x1024.Idx) (h0 : (y 0).val = r.val) (h1 : (y 1).val = 16 * t.val + (x 1).val) :
    v.readAt (Elt F) (Rect.unit (s := S256x128) (ybOff r h t) S1x16.size (ybOff_inb r h t)).toLoadRect f x = v.read (Elt F) f (src h y) := by
  rw [View.readAt_unit v f (ybOff_inb r h t) (ybOff_eq r h t) (ybOff_eq r h t ▸ ybOff_inb r h t)]
  refine congrArg (v.read (Elt F) f) (funext fun a => Fin.ext ?_)
  have hx : (x 0).val < 1 := (x 0).isLt
  have hx1 : (x 1).val < 16 := (x 1).isLt
  match a with
  | ⟨0, _⟩ => show 16 * r.val + 8 * h.val + t.val / 8 + 1 * (x 0).val = 16 * (y 0).val + 8 * h.val + (y 1).val / 128; omega
  | ⟨1, _⟩ => show 16 * (t.val % 8) + 1 * (x 1).val = (y 1).val % 128; omega

/-- What the accumulator holds after a trip. -/
theorem mix_step (v : View sig .scVector .vmem S16x1024 .f32) (f : v.ty.Contents (Elt F)) (w : View sig .scVector .vmem S256x128 .f32)
    (g : w.ty.Contents (Elt F)) (r : Fin 16) (t : Fin k3_t1_loop.trips) (B : S16x1024.Idx → F .f32)
    (hf : v.read (Elt F) f = mix B (w.read (Elt F) g) (64 * r.val + t.val)) :
    v.read (Elt F) (v.writes (Elt F) f
      [⟨Rect.unit (s := S16x1024) (accOff r t) S1x16.size (accOff_inb r t),
          pay (v.readAt (Elt F) (Rect.unit (s := S16x1024) (accOff r t) S1x16.size (accOff_inb r t)).toLoadRect f)
            (w.readAt (Elt F) (Rect.unit (s := S256x128) (ybOff r 0 t) S1x16.size (ybOff_inb r 0 t)).toLoadRect g)
            (w.readAt (Elt F) (Rect.unit (s := S256x128) (ybOff r 1 t) S1x16.size (ybOff_inb r 1 t)).toLoadRect g)⟩])
      = mix B (w.read (Elt F) g) (64 * r.val + (t.val + 1)) := by
  funext y
  have hy0 : (y 0).val < 16 := (y 0).isLt
  have hy1 : (y 1).val < 1024 := (y 1).isLt
  have ht := t.isLt.trans_eq trips_eq
  by_cases hin : (y 0).val = r.val ∧ (y 1).val / 16 = t.val
  · obtain ⟨h0, h1⟩ := hin
    have hm : (y 1).val % 16 < 16 := Nat.mod_lt _ (by decide)
    have h1' : (y 1).val = 16 * t.val + (y 1).val % 16 := by omega
    rw [View.read_writes_cons_unit_of_mem v f (accOff_inb r t) _ [] y (ix2 (0 : Fin 1) (⟨(y 1).val % 16, hm⟩ : Fin 16)) (accOff_eq r t)
      (fun a => match a with
        | ⟨0, _⟩ => h0
        | ⟨1, _⟩ => h1')]
    rw [pay_apply, load_acc v f r t _ y h0 h1', load_yb w g r 0 t _ y h0 h1', load_yb w g r 1 t _ y h0 h1', hf]
    have g0 : group y = 64 * r.val + t.val := by unfold group; omega
    unfold mix
    rw [if_neg (by omega), if_pos (by omega)]
  · have hg : group y ≠ 64 * r.val + t.val := by unfold group; omega
    have hlt : group y < 64 * r.val + t.val ↔ group y < 64 * r.val + (t.val + 1) := by omega
    have hrest : v.read (Elt F) f y = mix B (w.read (Elt F) g) (64 * r.val + (t.val + 1)) y := by
      rw [hf]; unfold mix; simp only [hlt]
    rw [← hrest]
    by_cases h0 : (y 0).val = r.val
    · refine (View.read_writes_cons_unit_of_not_mem v f (accOff_inb r t) _ [] y (accOff_eq r t) 1 ?_).trans rfl
      show (y 1).val < 16 * t.val ∨ 16 * t.val + 16 ≤ (y 1).val
      omega
    · refine (View.read_writes_cons_unit_of_not_mem v f (accOff_inb r t) _ [] y (accOff_eq r t) 0 ?_).trans rfl
      show (y 0).val < r.val ∨ r.val + 1 ≤ (y 0).val
      omega

set_option maxHeartbeats 1000000 in
/-- One trip: one more lane group. -/
theorem row_trip (d : Dev nD) (i : grid3.Coords) (sl : Slot) (r : Fin 16) (B : S16x1024.Idx → F .f32)
    (gf : Buf (Elt F) (sl.yb.view.loc (tile d i))) (t : Fin k3_t1_loop.trips) (u : Unit) :
    rowSt d i sl B gf (64 * r.val + t.val) ⊢ wp frame (wpE (defs₀ (F := F)) 𝒱₀ (tile d i) none) Set.univ (rowBody i sl r t u)
      fun _ => rowSt d i sl B gf (64 * r.val + (t.val + 1)) := by
  unfold rowSt rowBody
  iintro ⟨Hy, %f, %hf, Ha⟩
  sl_exec
  sl_step
  isplitl [Hy]; · iexact Hy
  iexists _
  isplitr [Ha]
  · ipureintro; exact mix_step sl.acc.view f sl.yb.view gf r t B hf
  iexact Ha

/-- A row: sixty-four trips. -/
theorem row (d : Dev nD) (i : grid3.Coords) (sl : Slot) (r : Fin 16) (B : S16x1024.Idx → F .f32)
    (gf : Buf (Elt F) (sl.yb.view.loc (tile d i))) (k : Prog (Eff F i) PUnit) (Q : PUnit → sProp 𝕄) :
    rowSt d i sl B gf (64 * r.val)
      ⊢ iprop((rowSt d i sl B gf (64 * (r.val + 1)) -∗ wp frame (wpE (defs₀ (F := F)) 𝒱₀ (tile d i) none) Set.univ k Q)
        -∗ wp frame (wpE (defs₀ (F := F)) 𝒱₀ (tile d i) none) Set.univ
            (Scf.Loop.for k3_t1_loop k3_t1_ok ⟨⟩ (rowBody (F := F) i sl r) >>= fun _ => k) Q) := by
  refine (Scf.wp_for_bind _ _ _ _ _ _ k3_t1_ok ⟨⟩ (rowBody (F := F) i sl r) (fun n _ => rowSt d i sl B gf (64 * r.val + n))
    (row_trip d i sl r B gf) (kk := fun _ => k) (Q := Q)).trans ?_
  iintro H Hk
  iapply H
  iintro %_ Hr
  iapply Hk
  ihave Hr' := (Entails.of_eq (show rowSt d i sl B gf (64 * r.val + k3_t1_loop.trips) = rowSt d i sl B gf (64 * (r.val + 1)) by
    rw [trips_eq, Nat.mul_add])) $$ Hr
  iexact Hr'

/-- The rows listed, from the first to the one after the last. -/
theorem rows_run (d : Dev nD) (i : grid3.Coords) (sl : Slot) (B : S16x1024.Idx → F .f32)
    (gf : Buf (Elt F) (sl.yb.view.loc (tile d i))) (k : Prog (Eff F i) PUnit) (Q : PUnit → sProp 𝕄) :
    ∀ (rs : List (Fin 16)) (n : ℕ), rs.map Fin.val = List.range' n rs.length →
      (rowSt d i sl B gf (64 * n)
        ⊢ iprop((rowSt d i sl B gf (64 * (n + rs.length)) -∗ wp frame (wpE (defs₀ (F := F)) 𝒱₀ (tile d i) none) Set.univ k Q)
          -∗ wp frame (wpE (defs₀ (F := F)) 𝒱₀ (tile d i) none) Set.univ (rows i sl rs k) Q))
  | [], n, _ => by
    iintro H Hk
    iapply Hk
    iexact H
  | r :: rs, n, h => by
    rw [List.map_cons, List.length_cons, List.range'_succ, List.cons.injEq] at h
    obtain ⟨h0, h1⟩ := h
    subst h0
    refine (row d i sl r B gf (rows i sl rs k) Q).trans ?_
    iintro H Hk
    iapply H
    iintro Hr
    iapply (rows_run d i sl B gf k Q rs (r.val + 1) h1) $$ Hr
    iintro Hr
    iapply Hk
    ihave Hr' := (Entails.of_eq (show rowSt d i sl B gf (64 * (r.val + 1 + rs.length)) = rowSt d i sl B gf (64 * (r.val + (r :: rs).length)) by
      rw [List.length_cons, Nat.add_assoc, Nat.add_comm 1])) $$ Hr
    iexact Hr'

/-- The accumulator once all the rows are done. -/
theorem mix_all (B : S16x1024.Idx → F .f32) (G : S256x128.Idx → F .f32) (x : S16x1024.Idx) :
    mix B G (64 * 16) x = FloatOps.addf (FloatOps.addf (B x) (G (src 0 x))) (G (src 1 x)) := by
  have h0 : (x 0).val < 16 := (x 0).isLt
  have h1 : (x 1).val < 1024 := (x 1).isLt
  exact if_pos (by unfold group; omega)

/-- Before the first row it is the shared part's block. -/
theorem mix_none (B : S16x1024.Idx → F .f32) (G : S256x128.Idx → F .f32) : mix B G 0 = B :=
  funext fun _ => if_neg (Nat.not_lt_zero _)

end Cert.Proof.Combine

end
-- ==== Proof.Combine.Chunk.lean ====
/-
  A chunk: its list of rows fetched, its rows gathered beside the copy of its shared part, its sums taken and its block
  of the result written. While one chunk's sums run the next chunk's transfers are in the air, in the other set of buffers.
-/
module

public import proofs.«01_k».proof.Proof.Combine.Rows

@[expose] public section

set_option maxRecDepth 16384

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MM F

local notation "yV" => (Memref.whole Cert.KernelIdeal.main_v5_scv : Memref Cert.KernelIdeal.sig Kind.scVector Space.hbm Cert.KernelIdeal.S98304x128 EltTy.f32)
local notation "pV" => (Memref.whole Cert.KernelIdeal.main_v14_scv : Memref Cert.KernelIdeal.sig Kind.scVector Space.hbm Cert.KernelIdeal.S65536 EltTy.i32)
local notation "shV" => (Memref.whole Cert.KernelIdeal.main_v0_scv : Memref Cert.KernelIdeal.sig Kind.scVector Space.hbm Cert.KernelIdeal.S4096x1024 EltTy.f32)
local notation "oV" => (Memref.whole Cert.KernelIdeal.main_v15_scv : Memref Cert.KernelIdeal.sig Kind.scVector Space.hbm Cert.KernelIdeal.S4096x1024 EltTy.f32)

/-! ## The values -/

/-- Row `n` of the table, entry `j`. -/
def rowAt (Y : S98304x128.Idx → F .f32) (n : ℕ) (j : Fin 128) : F .f32 :=
  Y (ix2 (⟨n % 98304, Nat.mod_lt _ (by decide)⟩ : Fin 98304) j)

/-- Where the list keeps the row of a token's entry, the `h`-th of its two. -/
def listIx (h : Fin 2) (x : S4096x1024.Idx) : S65536.Idx :=
  ix1 (⟨16 * (x 0).val + 8 * h.val + (x 1).val / 128, by
    have h0 : (x 0).val < 4096 := (x 0).isLt
    have h1 : (x 1).val < 1024 := (x 1).isLt
    have := h.isLt; omega⟩ : Fin 65536)

/-- The `h`-th row's contribution to an entry of the result. -/
def part (Y : S98304x128.Idx → F .f32) (L : S65536.Idx → BitVec 32) (h : Fin 2) (x : S4096x1024.Idx) : F .f32 :=
  rowAt Y (L (listIx h x)).toNat ⟨(x 1).val % 128, Nat.mod_lt _ (by decide)⟩

/-- The result: the shared part's entry, and to it the two rows' added. -/
def res (Y : S98304x128.Idx → F .f32) (L : S65536.Idx → BitVec 32) (SH : S4096x1024.Idx → F .f32) : S4096x1024.Idx → F .f32 :=
  fun x => FloatOps.addf (FloatOps.addf (SH x) (part Y L 0 x)) (part Y L 1 x)

/-- A chunk's gathered rows. -/
def gath (i : grid3.Coords) (c : Fin 8) (Y : S98304x128.Idx → F .f32) (L : S65536.Idx → BitVec 32) : S256x128.Idx → F .f32 :=
  fun x => rowAt Y ((listAt i pV c).view.read (Elt F) L (ix1 (x 0)) : BitVec 32).toNat (x 1)

/-- A chunk's block of the shared part. -/
def shr (i : grid3.Coords) (c : Fin 8) (SH : S4096x1024.Idx → F .f32) : S16x1024.Idx → F .f32 :=
  (blockAt i shV c).view.read (Elt F) SH

/-- Every word of a chunk's list names a row of the table. -/
theorem list_in_range (i : grid3.Coords) (v : View sig .scVector .vmem S256 .i32) (c : Fin 8) (f : v.ty.Contents (Elt F)) (L : S65536.Idx → BitVec 32)
    (hL : ∀ x : S65536.Idx, (L x).toNat < 98304) :
    ∀ x, (v.read (Elt F) (v.writes (Elt F) f [⟨Rect.whole S256, (listAt i pV c).view.read (Elt F) L⟩]) x : BitVec 32).toNat
      < S98304x128.size gathers_S98304x128_S256x128.axis := by
  intro x
  rw [View.read_writes_whole]
  exact hL _

/-! ## The states -/

/-- A set of buffers with nothing in the air. -/
def idle (d : Dev nD) (i : grid3.Coords) (sl : Slot) : sProp 𝕄 :=
  iprop((∃ f, sl.idx.view.loc (tile d i) ↦[sl.idx.view.set]{fullShare} f)
    ∗ (∃ f, sl.yb.view.loc (tile d i) ↦[sl.yb.view.set]{fullShare} f)
    ∗ (∃ f, sl.acc.view.loc (tile d i) ↦[sl.acc.view.set]{fullShare} f)
    ∗ semVal (tile d i, SemLoc.dma sl.g.sem) 0 ∗ semVal (tile d i, SemLoc.dma sl.s.sem) 0)

/-- A set of buffers with a chunk's rows gathered and its shared part copied. -/
def loaded (d : Dev nD) (i : grid3.Coords) (sl : Slot) (B : S16x1024.Idx → F .f32) (G : S256x128.Idx → F .f32) : sProp 𝕄 :=
  iprop((∃ f, sl.idx.view.loc (tile d i) ↦[sl.idx.view.set]{fullShare} f)
    ∗ (∃ f, ⌜sl.yb.view.read (Elt F) f = G⌝ ∗ sl.yb.view.loc (tile d i) ↦[sl.yb.view.set]{fullShare} f)
    ∗ (∃ f, ⌜sl.acc.view.read (Elt F) f = B⌝ ∗ sl.acc.view.loc (tile d i) ↦[sl.acc.view.set]{fullShare} f)
    ∗ semVal (tile d i, SemLoc.dma sl.g.sem) 0 ∗ semVal (tile d i, SemLoc.dma sl.s.sem) 0)

/-- The read shares of the three arrays a tile reads. -/
def tbl (d : Dev nD) (i : grid3.Coords) (q : PosShare TreeShare) (Y : S98304x128.Idx → F .f32) (L : S65536.Idx → BitVec 32)
    (SH : S4096x1024.Idx → F .f32) : sProp 𝕄 :=
  iprop(((yV).view.loc (tile d i) ↦{q} (Y : Buf (Elt F) ((yV).view.loc (tile d i))))
    ∗ ((pV).view.loc (tile d i) ↦{q} (L : Buf (Elt F) ((pV).view.loc (tile d i))))
    ∗ ((shV).view.loc (tile d i) ↦{q} (SH : Buf (Elt F) ((shV).view.loc (tile d i)))))

/-- A chunk's block of the result. -/
def blk (d : Dev nD) (i : grid3.Coords) (c : Fin 8) (f : S4096x1024.Idx → F .f32) : sProp 𝕄 :=
  ((blockAt i oV c).view.loc (tile d i) ↦[(blockAt i oV c).view.set]{fullShare} (f : Buf (Elt F) ((blockAt i oV c).view.loc (tile d i))))

/-- What the tile owes, its own waits added. -/
def ow (d : Dev nD) (i : grid3.Coords) (O : CellTallies nD τ sig (HIx 2)) (W : Waits sig (HIx 2)) : sProp 𝕄 :=
  iprop(∃ W', ⌜∀ p ∈ W', p ∈ W ∨ p.2 = none⌝ ∗ owes (tile d i) O W')

/-- A wait of the tile's own keeps the record in shape. -/
theorem waits_insert {W W' : Waits sig (HIx 2)} (h : ∀ p ∈ W', p ∈ W ∨ p.2 = none) (s : SemLoc sig) :
    ∀ p ∈ insert (s, (default : HIx 2)) W', p ∈ W ∨ p.2 = none := by
  intro p hp
  rcases Finset.mem_insert.mp hp with hp | hp
  · exact .inr (hp ▸ rfl)
  · exact h p hp

/-! ## The sums -/

/-- A view written whole holds, on its own elements, whatever reads the same through it. -/
theorem pts_written {sp : Space} {s : Shape} {e : EltTy} (d : Dev nD) (i : grid3.Coords) (v : View sig .scVector sp s e)
    (f g : Buf (Elt F) (v.loc (tile d i))) (w : s.Idx → Elt F e) (h : ∀ x, w x = v.read (Elt F) g x) :
    (v.loc (tile d i) ↦[v.set]{fullShare} v.writes (Elt F) f [⟨Rect.whole s, w⟩] : sProp 𝕄) = v.loc (tile d i) ↦[v.set]{fullShare} g := by
  refine pointsTo_congr fun y hy => ?_
  obtain ⟨x, -, rfl⟩ := Finset.mem_map.mp hy
  have e := (congrFun (View.read_writes_whole (Val := Elt F) v f w) x).trans (h x)
  rw [View.read_apply, View.read_apply] at e
  exact (cast_inj _).mp e

/-- The gather's payload is the chunk's rows. -/
theorem gath_eq (i : grid3.Coords) (v : View sig .scVector .vmem S256 .i32) (c : Fin 8) (f : v.ty.Contents (Elt F))
    (Y : S98304x128.Idx → F .f32) (L : S65536.Idx → BitVec 32)
    (hn : S256x128.size gathers_S98304x128_S256x128.axis' = S256.numel)
    (hin : ∀ x, (v.read (Elt F) (v.writes (Elt F) f [⟨Rect.whole S256, (listAt i pV c).view.read (Elt F) L⟩]) x : BitVec 32).toNat
      < S98304x128.size gathers_S98304x128_S256x128.axis) :
    SparseCore.gatherPayload gathers_S98304x128_S256x128 ((tableAt yV).view.read (Elt F) Y)
      (SparseCore.rows (v.read (Elt F) (v.writes (Elt F) f [⟨Rect.whole S256, (listAt i pV c).view.read (Elt F) L⟩])) hn hin) = gath i c Y L := by
  funext x
  unfold SparseCore.gatherPayload gath rowAt
  show (Y : S98304x128.Idx → F .f32) ((tableAt yV).view.emb _) = _
  refine congrArg Y (funext fun b => Fin.ext ?_)
  match b with
  | ⟨0, _⟩ =>
    show 0 + 1 * (gathers_S98304x128_S256x128.idx _ x (gathers_S98304x128_S256x128.axis)).val = _
    rw [Shape.Gathers.idx_axis, Nat.zero_add, Nat.one_mul]
    have h0 := hin (S256.rowMajor.symm (Fin.cast hn (x 0)))
    have e : S256.rowMajor.symm (Fin.cast hn (x 0)) = (ix1 (x 0) : S256.Idx) :=
      (Equiv.symm_apply_eq _).mpr (Fin.ext (Shape.rowMajor_val_one (d := ![256]) (ix1 (x 0))).symm)
    show (v.read (Elt F) _ (S256.rowMajor.symm (Fin.cast hn (x 0))) : BitVec 32).toNat = _
    rw [e, View.read_writes_whole] at h0 ⊢
    exact (Nat.mod_eq_of_lt h0).symm
  | ⟨1, h1⟩ =>
    show 0 + 1 * (gathers_S98304x128_S256x128.idx _ x ⟨1, h1⟩).val = (x 1).val
    rw [Shape.Gathers.idx_of_ne _ _ _ _ (show (1 : ℕ) ≠ 0 by decide), Nat.zero_add, Nat.one_mul]
    rfl

/-- A block's row, in the whole array. -/
theorem blk_row (i : grid3.Coords) (m : Memref sig .scVector .hbm S4096x1024 .f32) (c : Fin 8) (x : S16x1024.Idx) :
    ((Rect.unit (s := S4096x1024) (k3_off2 i (cw c)) S16x1024.size (k3_off2_inb i c)).emb x 0).val
      = 256 * (i 1).val + 128 * (i 0).val + 16 * c.val + (x 0).val := by
  show k3_off2 i (cw c) 0 + 1 * (x 0).val = _
  rw [k3_off2_eq]
  show 256 * (i 1).val + 128 * (i 0).val + 16 * c.val + 1 * (x 0).val = _
  omega

/-- A block's column, in the whole array. -/
theorem blk_col (i : grid3.Coords) (m : Memref sig .scVector .hbm S4096x1024 .f32) (c : Fin 8) (x : S16x1024.Idx) :
    ((Rect.unit (s := S4096x1024) (k3_off2 i (cw c)) S16x1024.size (k3_off2_inb i c)).emb x 1).val = (x 1).val := by
  show k3_off2 i (cw c) 1 + 1 * (x 1).val = _
  rw [k3_off2_eq]
  show 0 + 1 * (x 1).val = _
  omega

/-- A gathered row's entry is the part of the result it is added to. -/
theorem gath_part (i : grid3.Coords) (c : Fin 8) (Y : S98304x128.Idx → F .f32) (L : S65536.Idx → BitVec 32) (h : Fin 2) (x : S16x1024.Idx) :
    gath i c Y L (src h x) = part Y L h ((blockAt i oV c).view.emb x) := by
  have r := blk_row i oV c x
  have k := blk_col i oV c x
  have e : (listAt i pV c).view.emb (ix1 (src h x 0)) = listIx h ((blockAt i oV c).view.emb x) := by
    refine funext fun b => Fin.ext ?_
    match b with
    | ⟨0, _⟩ =>
      show k3_off1 i (cw c) 0 + 1 * (16 * (x 0).val + 8 * h.val + (x 1).val / 128) = 16 * _ + 8 * h.val + _ / 128
      rw [k3_off1_eq]
      refine Eq.trans ?_ (congrArg₂ (fun a b => 16 * a + 8 * h.val + b / 128) r.symm k.symm)
      show 4096 * (i 1).val + 2048 * (i 0).val + 256 * c.val + 1 * (16 * (x 0).val + 8 * h.val + (x 1).val / 128) = _
      omega
  unfold gath part
  show rowAt Y (L ((listAt i pV c).view.emb (ix1 (src h x 0)))).toNat (src h x 1) = _
  rw [e]
  refine congrArg (rowAt Y _) (Fin.ext ?_)
  exact (congrArg (· % 128) k).symm

/-- What a chunk's sums come to is the result's block. -/
theorem sums_value (i : grid3.Coords) (c : Fin 8) (Y : S98304x128.Idx → F .f32) (L : S65536.Idx → BitVec 32) (SH : S4096x1024.Idx → F .f32)
    (x : S16x1024.Idx) :
    mix (shr i c SH) (gath i c Y L) (64 * 16) x = res Y L SH ((blockAt i oV c).view.emb x) := by
  rw [mix_all, gath_part, gath_part]
  rfl

set_option maxHeartbeats 4000000 in
theorem sums_run (d : Dev nD) (i : grid3.Coords) (a : Slot) (rg : DmaSems sig S_) (c : Fin 8)
    (Y : S98304x128.Idx → F .f32) (L : S65536.Idx → BitVec 32) (SH : S4096x1024.Idx → F .f32) (f₀ : S4096x1024.Idx → F .f32)
    (O : CellTallies nD τ sig (HIx 2)) (W : Waits sig (HIx 2)) (k : Prog (Eff F i) PUnit) (Q : PUnit → sProp 𝕄) :
    iprop(Transfers.MayWaits (tile d i) (default : HIx 2) O ∗ loaded d i a (shr i c SH) (gath i c Y L) ∗ blk d i c f₀
        ∗ semVal (tile d i, SemLoc.dma rg.sem) 0 ∗ ow d i O W)
      ⊢ iprop((iprop(idle d i a ∗ blk d i c (res Y L SH) ∗ semVal (tile d i, SemLoc.dma rg.sem) 0 ∗ ow d i O W)
          -∗ wp frame (wpE (defs₀ (F := F)) 𝒱₀ (tile d i) none) Set.univ k Q)
        -∗ wp frame (wpE (defs₀ (F := F)) 𝒱₀ (tile d i) none) Set.univ (sums i oV a rg c k) Q) := by
  unfold loaded blk sums
  iintro ⟨#Hmw, ⟨⟨%fi, Hi⟩, ⟨%fy, %hy, Hy⟩, ⟨%fa, %ha, Ha⟩, Hg, Hs⟩, Ho, Hr, Hw⟩ Hk
  ihave Hw' := (Entails.of_eq (show (ow d i O W : sProp 𝕄) = iprop(∃ W', ⌜∀ p ∈ W', p ∈ W ∨ p.2 = none⌝ ∗ owes (tile d i) O W') from rfl)) $$ Hw
  icases Hw' with ⟨%W', %hW', HO⟩
  ihave Hrow := (show iprop((a.yb.view.loc (tile d i) ↦[a.yb.view.set]{fullShare} fy) ∗ (a.acc.view.loc (tile d i) ↦[a.acc.view.set]{fullShare} fa))
      ⊢ rowSt d i a (shr i c SH) fy (64 * 0) by
    unfold rowSt
    iintro ⟨Hy, Ha⟩
    isplitl [Hy]; · iexact Hy
    iexists fa
    isplitr [Ha]
    · ipureintro; rw [ha, Nat.mul_zero, mix_none]
    iexact Ha) $$ [Hy Ha]
  · isplitl [Hy] <;> iassumption
  iapply (rows_run d i a (shr i c SH) fy _ Q [0, 1, 2, 3, 4, 5, 6, 7, 8, 9, 10, 11, 12, 13, 14, 15] 0 rfl) $$ Hrow
  unfold rowSt
  iintro ⟨Hy, %fa', %ha', Ha⟩
  sl_exec
  iapply Hk
  isplitl [Hi Hy Ha Hg Hs]
  · unfold idle
    isplitl [Hi]; · iexists _; iexact Hi
    isplitl [Hy]; · iexists _; iexact Hy
    isplitl [Ha]; · iexists _; iexact Ha
    isplitl [Hg]; · iexact Hg
    iexact Hs
  isplitl [Ho]
  · ihave Ho' := (Entails.of_eq (pts_written d i (blockAt i oV c).view f₀ (res Y L SH) _ (fun x => by
      show a.acc.view.read (Elt F) fa' x = _
      rw [ha', hy]; exact sums_value i c Y L SH x))) $$ Ho
    iexact Ho'
  isplitl [Hr]; · iexact Hr
  unfold ow
  iexists _
  isplitr [HO]
  swap; · iexact HO
  ipureintro; exact waits_insert hW' _

set_option maxHeartbeats 4000000 in
theorem turn (d : Dev nD) (i : grid3.Coords) (a b : Slot) (rg rg' : DmaSems sig S_) (c c' : Fin 8) (q : PosShare TreeShare)
    (Y : S98304x128.Idx → F .f32) (L : S65536.Idx → BitVec 32) (SH : S4096x1024.Idx → F .f32) (f₀ : S4096x1024.Idx → F .f32)
    (hL : ∀ x : S65536.Idx, (L x).toNat < 98304)
    (O : CellTallies nD τ sig (HIx 2)) (W : Waits sig (HIx 2)) (k : Prog (Eff F i) PUnit) (Q : PUnit → sProp 𝕄) :
    iprop(Transfers.MayWaits (tile d i) (default : HIx 2) O ∗ tbl d i q Y L SH ∗ loaded d i a (shr i c SH) (gath i c Y L) ∗ idle d i b ∗ blk d i c f₀
        ∗ semVal (tile d i, SemLoc.dma rg.sem) 0 ∗ semVal (tile d i, SemLoc.dma rg'.sem) 0 ∗ ow d i O W)
      ⊢ iprop((iprop(tbl d i q Y L SH ∗ idle d i a ∗ loaded d i b (shr i c' SH) (gath i c' Y L) ∗ blk d i c (res Y L SH)
            ∗ semVal (tile d i, SemLoc.dma rg.sem) 0 ∗ semVal (tile d i, SemLoc.dma rg'.sem) 0 ∗ ow d i O W)
          -∗ wp frame (wpE (defs₀ (F := F)) 𝒱₀ (tile d i) none) Set.univ k Q)
        -∗ wp frame (wpE (defs₀ (F := F)) 𝒱₀ (tile d i) none) Set.univ
            (start i yV pV shV b rg c' <| sums i oV a rg' c <| await i yV shV b c' k) Q) := by
  iintro ⟨#Hmw, Htbl, Hla, Hb, Ho, Hr, Hr', Hw⟩ Hk
  ihave Hw' := (Entails.of_eq (show (ow d i O W : sProp 𝕄) = iprop(∃ W', ⌜∀ p ∈ W', p ∈ W ∨ p.2 = none⌝ ∗ owes (tile d i) O W') from rfl)) $$ Hw
  ihave Hb' := (Entails.of_eq (show (idle d i b : sProp 𝕄) = iprop((∃ f, b.idx.view.loc (tile d i) ↦[b.idx.view.set]{fullShare} f)
    ∗ (∃ f, b.yb.view.loc (tile d i) ↦[b.yb.view.set]{fullShare} f)
    ∗ (∃ f, b.acc.view.loc (tile d i) ↦[b.acc.view.set]{fullShare} f)
    ∗ semVal (tile d i, SemLoc.dma b.g.sem) 0 ∗ semVal (tile d i, SemLoc.dma b.s.sem) 0) from rfl)) $$ Hb
  ihave Ht' := (Entails.of_eq (show (tbl d i q Y L SH : sProp 𝕄) = iprop(((yV).view.loc (tile d i) ↦{q} (Y : Buf (Elt F) ((yV).view.loc (tile d i))))
    ∗ ((pV).view.loc (tile d i) ↦{q} (L : Buf (Elt F) ((pV).view.loc (tile d i))))
    ∗ ((shV).view.loc (tile d i) ↦{q} (SH : Buf (Elt F) ((shV).view.loc (tile d i))))) from rfl)) $$ Htbl
  icases Hb' with ⟨⟨%fi, Hi⟩, ⟨%fy, Hy⟩, ⟨%fa, Ha⟩, Hg, Hs⟩
  icases Ht' with ⟨HY, HL, HSH⟩
  icases Hw' with ⟨%W', %hW', HO⟩
  have hin := list_in_range (F := F) i b.idx.view c' b.idx.view.junk L hL
  generalize hk : sums i oV a rg' c (await i yV shV b c' k) = kk
  unfold start
  sl_exec
  subst hk
  ihave Hw := (show owes (tile d i) O (insert (SemLoc.dma rg.sem, default) W') ⊢ (ow d i O W : sProp 𝕄) by
    unfold ow
    iintro HO
    iexists (insert (SemLoc.dma rg.sem, default) W')
    isplitr [HO]
    · ipureintro; exact waits_insert hW' _
    iexact HO) $$ HO
  iapply (sums_run d i a rg' c Y L SH f₀ O W) $$ [Hla Ho Hr' Hw]
  · isplitr; · iexact Hmw
    isplitl [Hla]; · iexact Hla
    isplitl [Ho]; · iexact Ho
    isplitl [Hr']; · iexact Hr'
    iexact Hw
  iintro ⟨Hia, Ho, Hr', Hw⟩
  ihave Hw' := (Entails.of_eq (show (ow d i O W : sProp 𝕄) = iprop(∃ W', ⌜∀ p ∈ W', p ∈ W ∨ p.2 = none⌝ ∗ owes (tile d i) O W') from rfl)) $$ Hw
  icases Hw' with ⟨%W₂, %hW₂, HO⟩
  unfold await
  sl_exec
  iapply Hk
  isplitl [HY HL HSH]
  · unfold tbl
    isplitl [HY]; · iexact HY
    isplitl [HL]; · iexact HL
    iexact HSH
  isplitl [Hia]; · iexact Hia
  isplitl [Hi Hy Ha Hg Hs]
  · unfold loaded
    isplitl [Hi]; · iexists _; iexact Hi
    isplitl [Hy]
    · iexists _
      isplitr [Hy]
      swap; · iexact Hy
      ipureintro
      exact (View.read_writes_whole (Val := Elt F) b.yb.view fy _).trans (gath_eq i b.idx.view c' b.idx.view.junk Y L rfl hin)
    isplitl [Ha]
    · iexists _
      isplitr [Ha]
      swap; · iexact Ha
      ipureintro
      exact View.read_writes_whole (Val := Elt F) b.acc.view fa _
    isplitl [Hg]; · iexact Hg
    iexact Hs
  isplitl [Ho]; · iexact Ho
  isplitl [Hr]; · iexact Hr
  isplitl [Hr']; · iexact Hr'
  unfold ow
  iexists _
  isplitr [HO]
  swap; · iexact HO
  ipureintro; exact waits_insert (waits_insert hW₂ _) _

end Cert.Proof.Combine

end
-- ==== Proof.Combine.Tile.lean ====
/-
  A tile: the first chunk's transfers, seven turns (the next chunk's transfers started, this chunk's sums taken and its
  block written, the next chunk's transfers waited for), the last chunk's sums.
-/
module

public import proofs.«01_k».proof.Proof.Combine.Chunk

@[expose] public section

set_option maxRecDepth 16384

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MM F

local notation "yV" => (Memref.whole Cert.KernelIdeal.main_v5_scv : Memref Cert.KernelIdeal.sig Kind.scVector Space.hbm Cert.KernelIdeal.S98304x128 EltTy.f32)
local notation "pV" => (Memref.whole Cert.KernelIdeal.main_v14_scv : Memref Cert.KernelIdeal.sig Kind.scVector Space.hbm Cert.KernelIdeal.S65536 EltTy.i32)
local notation "shV" => (Memref.whole Cert.KernelIdeal.main_v0_scv : Memref Cert.KernelIdeal.sig Kind.scVector Space.hbm Cert.KernelIdeal.S4096x1024 EltTy.f32)
local notation "oV" => (Memref.whole Cert.KernelIdeal.main_v15_scv : Memref Cert.KernelIdeal.sig Kind.scVector Space.hbm Cert.KernelIdeal.S4096x1024 EltTy.f32)

/-- The first chunk's transfers. -/
theorem first (d : Dev nD) (i : grid3.Coords) (b : Slot) (rg : DmaSems sig S_) (c' : Fin 8) (q : PosShare TreeShare)
    (Y : S98304x128.Idx → F .f32) (L : S65536.Idx → BitVec 32) (SH : S4096x1024.Idx → F .f32)
    (hL : ∀ x : S65536.Idx, (L x).toNat < 98304)
    (O : CellTallies nD τ sig (HIx 2)) (W : Waits sig (HIx 2)) (k : Prog (Eff F i) PUnit) (Q : PUnit → sProp 𝕄) :
    iprop(Transfers.MayWaits (tile d i) (default : HIx 2) O ∗ tbl d i q Y L SH ∗ idle d i b
        ∗ semVal (tile d i, SemLoc.dma rg.sem) 0 ∗ ow d i O W)
      ⊢ iprop((iprop(tbl d i q Y L SH ∗ loaded d i b (shr i c' SH) (gath i c' Y L)
            ∗ semVal (tile d i, SemLoc.dma rg.sem) 0 ∗ ow d i O W)
          -∗ wp frame (wpE (defs₀ (F := F)) 𝒱₀ (tile d i) none) Set.univ k Q)
        -∗ wp frame (wpE (defs₀ (F := F)) 𝒱₀ (tile d i) none) Set.univ
            (start i yV pV shV b rg c' <| await i yV shV b c' k) Q) := by
  unfold idle tbl ow loaded
  iintro ⟨#Hmw, ⟨HY, HL, HSH⟩, ⟨⟨%fi, Hi⟩, ⟨%fy, Hy⟩, ⟨%fa, Ha⟩, Hg, Hs⟩, Hr, %W', %hW', HO⟩ Hk
  have hin := list_in_range (F := F) i b.idx.view c' b.idx.view.junk L hL
  unfold start await
  sl_exec
  iapply Hk
  isplitl [HY HL HSH]
  · isplitl [HY]; · iexact HY
    isplitl [HL]; · iexact HL
    iexact HSH
  isplitl [Hi Hy Ha Hg Hs]
  · isplitl [Hi]; · iexists _; iexact Hi
    isplitl [Hy]
    · iexists _
      isplitr [Hy]
      swap; · iexact Hy
      ipureintro
      exact (View.read_writes_whole (Val := Elt F) b.yb.view fy _).trans (gath_eq i b.idx.view c' b.idx.view.junk Y L rfl hin)
    isplitl [Ha]
    · iexists _
      isplitr [Ha]
      swap; · iexact Ha
      ipureintro
      exact View.read_writes_whole (Val := Elt F) b.acc.view fa _
    isplitl [Hg]; · iexact Hg
    iexact Hs
  isplitl [Hr]; · iexact Hr
  iexists _
  isplitr [HO]
  swap; · iexact HO
  ipureintro; exact waits_insert (waits_insert (waits_insert hW' _) _) _

/-- The tile's eight blocks of the result. -/
def blks (d : Dev nD) (i : grid3.Coords) (f : S4096x1024.Idx → F .f32) : sProp 𝕄 :=
  iprop(blk d i 0 f ∗ blk d i 1 f ∗ blk d i 2 f ∗ blk d i 3 f ∗ blk d i 4 f ∗ blk d i 5 f ∗ blk d i 6 f ∗ blk d i 7 f)

/-- A cell of the tile's at zero. -/
abbrev zero (d : Dev nD) (i : grid3.Coords) (r : DmaSems sig S_) : sProp 𝕄 := semVal (tile d i, SemLoc.dma r.sem) 0

/-- The sixteen cells of the tile's short copies, at zero. -/
def zeros (d : Dev nD) (i : grid3.Coords) (r0 r1 r2 r3 r4 r5 r6 r7 r8 r9 r10 r11 r12 r13 r14 r15 : DmaSems sig S_) : sProp 𝕄 :=
  iprop(zero d i r0 ∗ zero d i r1 ∗ zero d i r2 ∗ zero d i r3 ∗ zero d i r4 ∗ zero d i r5 ∗ zero d i r6 ∗ zero d i r7 ∗ zero d i r8 ∗ zero d i r9 ∗ zero d i r10 ∗ zero d i r11 ∗ zero d i r12 ∗ zero d i r13 ∗ zero d i r14 ∗ zero d i r15)

set_option maxHeartbeats 4000000 in
/-- A tile's program: its blocks of the result are the result's, everything else as it was. -/
theorem prog_run (d : Dev nD) (i : grid3.Coords) (a b : Slot) (r0 r1 r2 r3 r4 r5 r6 r7 r8 r9 r10 r11 r12 r13 r14 r15 : DmaSems sig S_) (q : PosShare TreeShare)
    (Y : S98304x128.Idx → F .f32) (L : S65536.Idx → BitVec 32) (SH f₀ : S4096x1024.Idx → F .f32)
    (hL : ∀ x : S65536.Idx, (L x).toNat < 98304)
    (O : CellTallies nD τ sig (HIx 2)) (W : Waits sig (HIx 2)) :
    iprop(Transfers.MayWaits (tile d i) (default : HIx 2) O ∗ tbl d i q Y L SH ∗ idle d i a ∗ idle d i b ∗ blks d i f₀
        ∗ zeros d i r0 r1 r2 r3 r4 r5 r6 r7 r8 r9 r10 r11 r12 r13 r14 r15 ∗ ow d i O W)
      ⊢ wp frame (wpE (defs₀ (F := F)) 𝒱₀ (tile d i) none) Set.univ (prog i yV pV shV oV a b r0 r1 r2 r3 r4 r5 r6 r7 r8 r9 r10 r11 r12 r13 r14 r15)
          fun _ => iprop(tbl d i q Y L SH ∗ idle d i a ∗ idle d i b ∗ blks d i (res Y L SH) ∗ zeros d i r0 r1 r2 r3 r4 r5 r6 r7 r8 r9 r10 r11 r12 r13 r14 r15 ∗ ow d i O W) := by
  unfold blks zeros prog
  iintro ⟨#Hmw, Ht, Ha, Hb, ⟨B0, B1, B2, B3, B4, B5, B6, B7⟩, ⟨Z0, Z1, Z2, Z3, Z4, Z5, Z6, Z7, Z8, Z9, Z10, Z11, Z12, Z13, Z14, Z15⟩, Hw⟩
  iapply (first d i a r0 0 q Y L SH hL O W) $$ [Ht Ha Z0 Hw]
  · isplitr; · iexact Hmw
    isplitl [Ht]; · iexact Ht
    isplitl [Ha]; · iexact Ha
    isplitl [Z0] <;> iassumption
  iintro ⟨Ht, Ha, Z0, Hw⟩
  iapply (turn d i a b r1 r2 0 1 q Y L SH f₀ hL O W) $$ [Ht Ha Hb B0 Z1 Z2 Hw]
  · isplitr; · iexact Hmw
    isplitl [Ht]; · iexact Ht
    isplitl [Ha]; · iexact Ha
    isplitl [Hb]; · iexact Hb
    isplitl [B0]; · iexact B0
    isplitl [Z1]; · iexact Z1
    isplitl [Z2] <;> iassumption
  iintro ⟨Ht, Ha, Hb, B0, Z1, Z2, Hw⟩
  iapply (turn d i b a r3 r4 1 2 q Y L SH f₀ hL O W) $$ [Ht Hb Ha B1 Z3 Z4 Hw]
  · isplitr; · iexact Hmw
    isplitl [Ht]; · iexact Ht
    isplitl [Hb]; · iexact Hb
    isplitl [Ha]; · iexact Ha
    isplitl [B1]; · iexact B1
    isplitl [Z3]; · iexact Z3
    isplitl [Z4] <;> iassumption
  iintro ⟨Ht, Hb, Ha, B1, Z3, Z4, Hw⟩
  iapply (turn d i a b r5 r6 2 3 q Y L SH f₀ hL O W) $$ [Ht Ha Hb B2 Z5 Z6 Hw]
  · isplitr; · iexact Hmw
    isplitl [Ht]; · iexact Ht
    isplitl [Ha]; · iexact Ha
    isplitl [Hb]; · iexact Hb
    isplitl [B2]; · iexact B2
    isplitl [Z5]; · iexact Z5
    isplitl [Z6] <;> iassumption
  iintro ⟨Ht, Ha, Hb, B2, Z5, Z6, Hw⟩
  iapply (turn d i b a r7 r8 3 4 q Y L SH f₀ hL O W) $$ [Ht Hb Ha B3 Z7 Z8 Hw]
  · isplitr; · iexact Hmw
    isplitl [Ht]; · iexact Ht
    isplitl [Hb]; · iexact Hb
    isplitl [Ha]; · iexact Ha
    isplitl [B3]; · iexact B3
    isplitl [Z7]; · iexact Z7
    isplitl [Z8] <;> iassumption
  iintro ⟨Ht, Hb, Ha, B3, Z7, Z8, Hw⟩
  iapply (turn d i a b r9 r10 4 5 q Y L SH f₀ hL O W) $$ [Ht Ha Hb B4 Z9 Z10 Hw]
  · isplitr; · iexact Hmw
    isplitl [Ht]; · iexact Ht
    isplitl [Ha]; · iexact Ha
    isplitl [Hb]; · iexact Hb
    isplitl [B4]; · iexact B4
    isplitl [Z9]; · iexact Z9
    isplitl [Z10] <;> iassumption
  iintro ⟨Ht, Ha, Hb, B4, Z9, Z10, Hw⟩
  iapply (turn d i b a r11 r12 5 6 q Y L SH f₀ hL O W) $$ [Ht Hb Ha B5 Z11 Z12 Hw]
  · isplitr; · iexact Hmw
    isplitl [Ht]; · iexact Ht
    isplitl [Hb]; · iexact Hb
    isplitl [Ha]; · iexact Ha
    isplitl [B5]; · iexact B5
    isplitl [Z11]; · iexact Z11
    isplitl [Z12] <;> iassumption
  iintro ⟨Ht, Hb, Ha, B5, Z11, Z12, Hw⟩
  iapply (turn d i a b r13 r14 6 7 q Y L SH f₀ hL O W) $$ [Ht Ha Hb B6 Z13 Z14 Hw]
  · isplitr; · iexact Hmw
    isplitl [Ht]; · iexact Ht
    isplitl [Ha]; · iexact Ha
    isplitl [Hb]; · iexact Hb
    isplitl [B6]; · iexact B6
    isplitl [Z13]; · iexact Z13
    isplitl [Z14] <;> iassumption
  iintro ⟨Ht, Ha, Hb, B6, Z13, Z14, Hw⟩
  iapply (sums_run d i b r15 7 Y L SH f₀ O W) $$ [Hb B7 Z15 Hw]
  · isplitr; · iexact Hmw
    isplitl [Hb]; · iexact Hb
    isplitl [B7]; · iexact B7
    isplitl [Z15] <;> iassumption
  iintro ⟨Hb, B7, Z15, Hw⟩
  sl_step
  isplitl [Ht]; · iexact Ht
  isplitl [Ha]; · iexact Ha
  isplitl [Hb]; · iexact Hb
  isplitl [B0 B1 B2 B3 B4 B5 B6 B7]
  · iframe
  isplitr [Hw]
  · iframe
  iexact Hw

end Cert.Proof.Combine

end
-- ==== Proof.Combine.Body.lean ====
/-
  The tile as the launch theorem asks for it: its scratch buffers and its semaphores taken out of the subcore's own, the
  printed body run (`prog_run` through `body_eq`), everything handed back; and the obligation of the call's tiles.
-/
module

public import proofs.«01_k».proof.Proof.Combine.BodyEq
public import proofs.«01_k».proof.Proof.Combine.Tile
public import Idealize.ShloMosaic.Lib.ShareLeaves

@[expose] public section

set_option maxRecDepth 16384

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

local notation "yV" => (Memref.whole Cert.KernelIdeal.main_v5_scv : Memref Cert.KernelIdeal.sig Kind.scVector Space.hbm Cert.KernelIdeal.S98304x128 EltTy.f32)
local notation "pV" => (Memref.whole Cert.KernelIdeal.main_v14_scv : Memref Cert.KernelIdeal.sig Kind.scVector Space.hbm Cert.KernelIdeal.S65536 EltTy.i32)
local notation "shV" => (Memref.whole Cert.KernelIdeal.main_v0_scv : Memref Cert.KernelIdeal.sig Kind.scVector Space.hbm Cert.KernelIdeal.S4096x1024 EltTy.f32)
local notation "oV" => (Memref.whole Cert.KernelIdeal.main_v15_scv : Memref Cert.KernelIdeal.sig Kind.scVector Space.hbm Cert.KernelIdeal.S4096x1024 EltTy.f32)

/-! ## A subcore's own buffers and semaphores, the ones the body names first -/

/-- The listed members of a set taken out of a separating conjunction over it, in order. -/
theorem bigSep_list {I : Type} [DecidableEq I] (Φ : I → sProp 𝕄) : ∀ (l : List I) (s : Finset I), l.Nodup → (∀ x ∈ l, x ∈ s) →
    bigSep s Φ = l.foldr (fun x A => iprop(Φ x ∗ A)) (bigSep (s \ l.toFinset) Φ)
  | [], s, _, _ => by rw [List.toFinset_nil, Finset.sdiff_empty]; rfl
  | x :: l, s, hn, hs => by
    obtain ⟨hx, hn⟩ := List.nodup_cons.mp hn
    rw [SparseCore.bigSep_erase' (hs x List.mem_cons_self),
      bigSep_list Φ l (s.erase x) hn fun y hy => Finset.mem_erase.mpr ⟨fun e => hx (e ▸ hy), hs y (List.mem_cons_of_mem _ hy)⟩,
      show s.erase x \ l.toFinset = s \ (x :: l).toFinset by
        ext y; simp only [Finset.mem_sdiff, Finset.mem_erase, List.mem_toFinset, List.mem_cons]; tauto]
    rfl

/-- The first set of buffers. -/
abbrev slotA : Slot where
  idx := Memref.whole cc3_scratch0
  hidx := Memref.isWhole_whole _
  yb := Memref.whole cc3_scratch2
  hyb := Memref.isWhole_whole _
  acc := Memref.whole cc3_scratch4
  hacc := Memref.isWhole_whole _
  g := cc3_scratch6
  s := cc3_scratch8

/-- The second set of buffers. -/
abbrev slotB : Slot where
  idx := Memref.whole cc3_scratch1
  hidx := Memref.isWhole_whole _
  yb := Memref.whole cc3_scratch3
  hyb := Memref.isWhole_whole _
  acc := Memref.whole cc3_scratch5
  hacc := Memref.isWhole_whole _
  g := cc3_scratch7
  s := cc3_scratch9

/-- The body's semaphores. -/
def semList : List (SemLoc sig) :=
  [.dma cc3_scratch6.sem, .dma cc3_scratch8.sem, .dma cc3_scratch7.sem, .dma cc3_scratch9.sem,
    .dma cc3_scoped0.sem, .dma cc3_scoped1.sem, .dma cc3_scoped2.sem, .dma cc3_scoped3.sem,
    .dma cc3_scoped4.sem, .dma cc3_scoped5.sem, .dma cc3_scoped6.sem, .dma cc3_scoped7.sem,
    .dma cc3_scoped8.sem, .dma cc3_scoped9.sem, .dma cc3_scoped10.sem, .dma cc3_scoped11.sem,
    .dma cc3_scoped12.sem, .dma cc3_scoped13.sem, .dma cc3_scoped14.sem, .dma cc3_scoped15.sem]

/-- The body's scratch buffers. -/
def bufList : List (Ref sig .scVector) := [cc3_scratch0, cc3_scratch2, cc3_scratch4, cc3_scratch1, cc3_scratch3, cc3_scratch5]

/-- They are pairwise different. -/
theorem semList_nodup : semList.Nodup := by unfold semList; decide +kernel
/-- They are a subcore's own. -/
theorem semList_scoped : ∀ s ∈ semList, s.isScoped .scVector = true := by unfold semList; decide +kernel
/-- The scratch buffers are pairwise different. -/
theorem bufList_nodup : bufList.Nodup := by unfold bufList; decide +kernel
/-- The semaphores of a tile that its body names. -/
def cellsOf (thr : Thread nD τ) : List (GSem nD τ sig) := semList.map fun s => (thr, s)
/-- The tile's semaphores: the body's, and the rest. -/
theorem sems_eq (d : Dev nD) (i : grid3.Coords) :
    (ownSems0 (tile d i) : sProp 𝕄)
      = (cellsOf (tile d i)).foldr (fun g A => iprop(semVal g 0 ∗ A)) (bigSep (ownCells (tile d i) \ (cellsOf (tile d i)).toFinset) fun g => semVal g 0) := by
  unfold ownSems0
  refine bigSep_list _ _ _ (semList_nodup.map fun a b h => (Prod.mk.inj h).2) fun g hg => ?_
  obtain ⟨s, hs, rfl⟩ := List.mem_map.mp hg
  exact mem_ownCells.mpr ⟨rfl, semList_scoped s hs⟩

/-- The tile's buffers that its body names. -/
def refs (i : grid3.Coords) : List (DevRef τ sig) :=
  bufList.map fun b => (Proc.scVector ((i 0).castLE hcore3) ((i 1).castLE hsub3)).devRef b

/-- The tile's buffers: the body's, at whatever they hold, and the rest. -/
theorem bufs_eq (d : Dev nD) (i : grid3.Coords) :
    (ownBufs (tile d i) : sProp 𝕄)
      = (refs i).foldr (fun b A => iprop((∃ f, ((d, b) : Loc nD τ sig) ↦{fullShare} f) ∗ A))
          (bigSep (ownRefs (tile d i).2 \ (refs i).toFinset) fun b => iprop(∃ f, ((d, b) : Loc nD τ sig) ↦{fullShare} f)) := by
  unfold ownBufs
  refine bigSep_list _ _ _ (bufList_nodup.map (Proc.devRef_injective _)) fun g hg => ?_
  obtain ⟨b, hb, rfl⟩ := List.mem_map.mp hg
  refine SparseCore.Cfg.mem_ownRefs_of_owner ?_
  fin_cases hb <;> rfl

/-- What is left of the tile's semaphores. -/
def semRest (d : Dev nD) (i : grid3.Coords) : sProp 𝕄 :=
  bigSep (ownCells (tile d i) \ (cellsOf (tile d i)).toFinset) fun g => semVal g 0
/-- What is left of the tile's buffers. -/
def bufRest (d : Dev nD) (i : grid3.Coords) : sProp 𝕄 :=
  bigSep (ownRefs (tile d i).2 \ (refs i).toFinset) fun b => iprop(∃ f, ((d, b) : Loc nD τ sig) ↦{fullShare} f)

/-- A scratch buffer at whatever it holds. -/
abbrev some' (d : Dev nD) (i : grid3.Coords) (b : Ref sig .scVector) : sProp 𝕄 :=
  iprop(∃ f, ((tile d i).loc b) ↦{fullShare} f)

/-- The tile's semaphores, spelled out. -/
theorem sems_open (d : Dev nD) (i : grid3.Coords) :
    (ownSems0 (tile d i) : sProp 𝕄)
      = iprop(zero d i cc3_scratch6 ∗ zero d i cc3_scratch8 ∗ zero d i cc3_scratch7 ∗ zero d i cc3_scratch9
          ∗ zero d i cc3_scoped0 ∗ zero d i cc3_scoped1 ∗ zero d i cc3_scoped2 ∗ zero d i cc3_scoped3
          ∗ zero d i cc3_scoped4 ∗ zero d i cc3_scoped5 ∗ zero d i cc3_scoped6 ∗ zero d i cc3_scoped7
          ∗ zero d i cc3_scoped8 ∗ zero d i cc3_scoped9 ∗ zero d i cc3_scoped10 ∗ zero d i cc3_scoped11
          ∗ zero d i cc3_scoped12 ∗ zero d i cc3_scoped13 ∗ zero d i cc3_scoped14 ∗ zero d i cc3_scoped15 ∗ semRest d i) := by
  rw [sems_eq]
  show List.foldr _ (semRest d i) (cellsOf (tile d i)) = _
  generalize semRest d i = R
  rfl

/-- The tile's buffers, spelled out. -/
theorem bufs_open (d : Dev nD) (i : grid3.Coords) :
    (ownBufs (tile d i) : sProp 𝕄)
      = iprop(some' d i cc3_scratch0 ∗ some' d i cc3_scratch2 ∗ some' d i cc3_scratch4
          ∗ some' d i cc3_scratch1 ∗ some' d i cc3_scratch3 ∗ some' d i cc3_scratch5 ∗ bufRest d i) := by
  rw [bufs_eq]
  show List.foldr _ (bufRest d i) (refs i) = _
  generalize bufRest d i = R
  rfl

/-- The first set of buffers, idle. -/
theorem idle_A (d : Dev nD) (i : grid3.Coords) :
    (idle d i slotA : sProp 𝕄) = iprop(some' d i cc3_scratch0 ∗ some' d i cc3_scratch2 ∗ some' d i cc3_scratch4
      ∗ zero d i cc3_scratch6 ∗ zero d i cc3_scratch8) := by
  unfold idle
  rw [show (slotA.idx.view.set : Finset _) = Finset.univ from View.set_whole _, show (slotA.yb.view.set : Finset _) = Finset.univ from View.set_whole _,
    show (slotA.acc.view.set : Finset _) = Finset.univ from View.set_whole _]
/-- The second set of buffers, idle. -/
theorem idle_B (d : Dev nD) (i : grid3.Coords) :
    (idle d i slotB : sProp 𝕄) = iprop(some' d i cc3_scratch1 ∗ some' d i cc3_scratch3 ∗ some' d i cc3_scratch5
      ∗ zero d i cc3_scratch7 ∗ zero d i cc3_scratch9) := by
  unfold idle
  rw [show (slotB.idx.view.set : Finset _) = Finset.univ from View.set_whole _, show (slotB.yb.view.set : Finset _) = Finset.univ from View.set_whole _,
    show (slotB.acc.view.set : Finset _) = Finset.univ from View.set_whole _]

variable [FloatOps F]

/-! ## The printed body -/

/-- The body on a tile, as the dispatch names it. -/
abbrev bodyAt (i : grid3.Coords) : Prog (Eff F i) PUnit :=
  cc3__sc_combine_body i yV (Memref.isWhole_whole _) pV (Memref.isWhole_whole _) shV (Memref.isWhole_whole _) oV (Memref.isWhole_whole _)
    (Memref.whole cc3_scratch0) (Memref.isWhole_whole _) (Memref.whole cc3_scratch1) (Memref.isWhole_whole _)
    (Memref.whole cc3_scratch2) (Memref.isWhole_whole _) (Memref.whole cc3_scratch3) (Memref.isWhole_whole _)
    (Memref.whole cc3_scratch4) (Memref.isWhole_whole _) (Memref.whole cc3_scratch5) (Memref.isWhole_whole _)
    cc3_scratch6 cc3_scratch7 cc3_scratch8 cc3_scratch9
    cc3_scoped0 cc3_scoped1 cc3_scoped2 cc3_scoped3 cc3_scoped4 cc3_scoped5 cc3_scoped6 cc3_scoped7
    cc3_scoped8 cc3_scoped9 cc3_scoped10 cc3_scoped11 cc3_scoped12 cc3_scoped13 cc3_scoped14 cc3_scoped15

/-- It is the structured program over the two sets of buffers. -/
theorem bodyAt_eq (i : grid3.Coords) : bodyAt (F := F) i = prog i yV pV shV oV slotA slotB
    cc3_scoped0 cc3_scoped1 cc3_scoped2 cc3_scoped3 cc3_scoped4 cc3_scoped5 cc3_scoped6 cc3_scoped7
    cc3_scoped8 cc3_scoped9 cc3_scoped10 cc3_scoped11 cc3_scoped12 cc3_scoped13 cc3_scoped14 cc3_scoped15 :=
  body_eq i yV (Memref.isWhole_whole _) pV (Memref.isWhole_whole _) shV (Memref.isWhole_whole _) oV (Memref.isWhole_whole _) slotA slotB
    cc3_scoped0 cc3_scoped1 cc3_scoped2 cc3_scoped3 cc3_scoped4 cc3_scoped5 cc3_scoped6 cc3_scoped7
    cc3_scoped8 cc3_scoped9 cc3_scoped10 cc3_scoped11 cc3_scoped12 cc3_scoped13 cc3_scoped14 cc3_scoped15

/-- What the call gives a tile and has back of it: the read shares of the three arrays, its eight blocks of the result. -/
def tileRes (d : Dev nD) (i : grid3.Coords) (q : PosShare TreeShare) (Y : S98304x128.Idx → F .f32) (L : S65536.Idx → BitVec 32)
    (SH f : S4096x1024.Idx → F .f32) : sProp 𝕄 :=
  iprop(tbl d i q Y L SH ∗ blks d i f)

set_option maxHeartbeats 4000000 in
/-- The printed body on a tile: its blocks of the result are the result's, all else as it was. -/
theorem tile_body (d : Dev nD) (i : grid3.Coords) (q : PosShare TreeShare)
    (Y : S98304x128.Idx → F .f32) (L : S65536.Idx → BitVec 32) (SH f₀ : S4096x1024.Idx → F .f32)
    (hL : ∀ x : S65536.Idx, (L x).toNat < 98304)
    (O : CellTallies nD τ sig (HIx 2)) (W : Waits sig (HIx 2)) (hO : ∀ g, O g none = 0) :
    iprop(levAts (K (F := F)).L (K (F := F)).lev ∗ emp ∗ tileRes d i q Y L SH f₀
        ∗ scopedBufs (tile d i) ∗ scopedSems0 (tile d i) ∗ owes (tile d i) O W)
      ⊢ wp frame (wpE (defs₀ (F := F)) 𝒱₀ (tile d i) none) Set.univ (bodyAt i)
          fun _ => iprop(tileRes d i q Y L SH (res Y L SH) ∗ scopedBufs (tile d i) ∗ scopedSems0 (tile d i)
            ∗ ∃ W', ⌜∀ p ∈ W', p ∈ W ∨ p.2 = none⌝ ∗ owes (tile d i) O W') := by
  rw [bodyAt_eq, (K (F := F)).scopedBufs_V facts d ((i 0).castLE hcore3) ((i 1).castLE hsub3),
    SparseCore.Cfg.scopedSems0_V (Val := Elt F) d ((i 0).castLE hcore3) ((i 1).castLE hsub3), sems_open, bufs_open]
  have hrun := prog_run d i slotA slotB cc3_scoped0 cc3_scoped1 cc3_scoped2 cc3_scoped3 cc3_scoped4 cc3_scoped5 cc3_scoped6 cc3_scoped7
    cc3_scoped8 cc3_scoped9 cc3_scoped10 cc3_scoped11 cc3_scoped12 cc3_scoped13 cc3_scoped14 cc3_scoped15 q Y L SH f₀ hL O W
  rw [idle_A, idle_B] at hrun
  refine BI.Entails.trans ?_ (BI.Entails.trans (BIClass.sep_mono hrun (BI.Entails.refl (iprop(semRest d i ∗ bufRest d i))))
    (BI.Entails.trans (wp_frame_r _ _ _) (wp_mono frame _ _ fun _ => ?_)))
  · show _ ⊢ iprop(_ ∗ semRest d i ∗ bufRest d i)
    unfold tileRes zeros ow
    iintro ⟨#Hlv, -, ⟨Ht, Hbl⟩, ⟨A0, A2, A4, B1, B3, B5, Hbr⟩, ⟨G6, G8, G7, G9, Z0, Z1, Z2, Z3, Z4, Z5, Z6, Z7, Z8, Z9, Z10, Z11, Z12, Z13, Z14, Z15, Hsr⟩, HO⟩
    ihave Hmw := (show levAts (K (F := F)).L (K (F := F)).lev ⊢ Transfers.MayWaits (tile d i) (default : HIx 2) O from
      (K (F := F)).mayWaits_none (thr := tile d i) hO) $$ Hlv
    isplitr [Hsr Hbr]
    swap
    · isplitl [Hsr] <;> iassumption
    isplitl [Hmw]; · iexact Hmw
    isplitl [Ht]; · iexact Ht
    isplitl [A0 A2 A4 G6 G8]
    · isplitl [A0]; · iexact A0
      isplitl [A2]; · iexact A2
      isplitl [A4]; · iexact A4
      isplitl [G6] <;> iassumption
    isplitl [B1 B3 B5 G7 G9]
    · isplitl [B1]; · iexact B1
      isplitl [B3]; · iexact B3
      isplitl [B5]; · iexact B5
      isplitl [G7] <;> iassumption
    isplitl [Hbl]; · iexact Hbl
    isplitr [HO]
    swap
    · iexists W
      isplitr [HO]; · ipureintro; exact fun p hp => .inl hp
      iexact HO
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14] <;> iassumption
  · show iprop(_ ∗ semRest d i ∗ bufRest d i) ⊢ _
    unfold tileRes zeros ow
    iintro ⟨⟨Ht, ⟨A0, A2, A4, G6, G8⟩, ⟨B1, B3, B5, G7, G9⟩, Hbl, ⟨Z0, Z1, Z2, Z3, Z4, Z5, Z6, Z7, Z8, Z9, Z10, Z11, Z12, Z13, Z14, Z15⟩, HO⟩, Hsr, Hbr⟩
    isplitl [Ht Hbl]; · isplitl [Ht] <;> iassumption
    isplitl [A0 A2 A4 B1 B3 B5 Hbr]
    · isplitl [A0]; · iexact A0
      isplitl [A2]; · iexact A2
      isplitl [A4]; · iexact A4
      isplitl [B1]; · iexact B1
      isplitl [B3]; · iexact B3
      isplitl [B5] <;> iassumption
    isplitr [HO]
    swap; · iexact HO
    isplitl [G6]; · iexact G6
    isplitl [G8]; · iexact G8
    isplitl [G7]; · iexact G7
    isplitl [G9]; · iexact G9
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15] <;> iassumption

end Cert.Proof.Combine

end
-- ==== Proof.Experts.Body.lean ====
/-
  The experts' grouped product at one grid point, on any staging buffers: where the tile is used the result's buffer is
  left at the tile's product, and where it is not the buffer is left alone.
-/
module

public import proofs.«01_k».proof.Proof.Combine.Setup
public import proofs.«01_k».proof.Proof.Gen.KernelIdeal.Launch
public import Idealize.ShloMosaic.Lib.VecWindow
public import Idealize.ShloMosaic.Lib.ValueIdxCore

@[expose] public section

set_option maxRecDepth 16384

noncomputable section

namespace Cert.Proof.Experts

open Cert.KernelIdeal hiding ix2
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.Proof.Combine (MM UU)

variable {F : FTy → Type} [FloatOps F]

local notation "𝕄" => MM F

/-- No recursion: no variants. -/
abbrev 𝒱₀ : Variants := Variants.none

/-- A tile's entry of a table of one word for each tile. -/
def word (u : S48.Idx → BitVec 32) (i : grid2.Coords) : BitVec 32 := u (ix1 (⟨(i 0).val, (i 0).isLt⟩ : Fin 48))

/-- The body at a point, on whole staging buffers holding the operands' blocks: of a used tile the result's buffer ends at the
    tile's product. -/
theorem body_run (c : Dev nD) (i : grid2.Coords)
    (M3 : Memref sig .tc .vmem S256x1 .i32) (h3 : M3.IsWhole) (M4 : Memref sig .tc .vmem S4096x1024 .bf16) (h4 : M4.IsWhole)
    (M5 : Memref sig .tc .vmem S1x1024x1024 .f32) (h5 : M5.IsWhole) (M6 : Memref sig .tc .vmem S1x1024x1024 .f32) (h6 : M6.IsWhole)
    (M7 : Memref sig .tc .vmem S1x1024x1024 .f32) (h7 : M7.IsWhole) (M8 : Memref sig .tc .vmem S256x1 .f32) (h8 : M8.IsWhole)
    (M9 : Memref sig .tc .vmem S256x1024 .f32) (h9 : M9.IsWhole)
    (x3 : Vec F S256x1 .i32) (x4 : Vec F S4096x1024 .bf16) (x5 x6 x7 : Vec F S1x1024x1024 .f32) (x8 : Vec F S256x1 .f32)
    (x9 : Vec F S256x1024 .f32) (u : Buf (Elt F) ((c : Thread nD τ).loc main_arg1))
    (E : Set ℕ) (K : PUnit → sProp 𝕄) :
    iprop(owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare x9 ∗ ((Memref.whole main_arg1).view.loc (c : Thread nD τ) ↦{fullShare} u)
        ∗ (iprop(owns (c : Thread nD τ) M3 fullShare x3 ∗ owns (c : Thread nD τ) M4 fullShare x4 ∗ owns (c : Thread nD τ) M5 fullShare x5
            ∗ owns (c : Thread nD τ) M6 fullShare x6 ∗ owns (c : Thread nD τ) M7 fullShare x7 ∗ owns (c : Thread nD τ) M8 fullShare x8
            ∗ (∃ y, ⌜k2_cond1 (word u i) = 1#1 → y = k2_pay1 x3 x4 x5 x6 x7 x8⌝ ∗ owns (c : Thread nD τ) M9 fullShare y)
            ∗ ((Memref.whole main_arg1).view.loc (c : Thread nD τ) ↦{fullShare} u)) -∗ K ⟨⟩))
      ⊢ wp frame (wpE (defs₀ (F := F)) 𝒱₀ c none) E
          (cc2__gmm_body i (Memref.whole main_arg0) (Memref.isWhole_whole _) (Memref.whole main_arg1) (Memref.isWhole_whole _)
            M3 h3 M4 h4 M5 h5 M6 h6 M7 h7 M8 h8 M9 h9) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HU, Hk⟩
  sl_unfold [cc2__gmm_body]
  sl_exec!
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  isplitl [H7]; · iexists _; isplitr; · ipureintro; exact hf7
                  iexact H7
  isplitl [H8]; · iexists _; isplitr; · ipureintro; exact hf8
                  iexact H8
  isplitl [H9]
  · iexists _; isplitr; swap
    · iexists _; isplitr; swap
      · iexact H9
      ipureintro; rfl
    ipureintro; intro hc
    have hr : body_run.sl.r c i u = word u i := by
      unfold body_run.sl.r word
      refine congrArg u (funext fun a => Fin.ext ?_)
      match a with
      | ⟨0, _⟩ => exact congrFun (k2_off1_eq i) 0
    rw [dif_pos (by rw [hr]; exact hc)]
    refine (View.read_writes_full _ _ _ _ _).trans ?_
    rw [View.readAt_full, View.readAt_full, View.readAt_full, View.readAt_full, View.readAt_full, View.readAt_full, hf3, hf4, hf5, hf6, hf7, hf8]
  iexact HU

end Cert.Proof.Experts

end
-- ==== Proof.Experts.Region.lean ====
/-
  The experts' grouped product as a region of the program: every tile's blocks, what its grid leaves, and the region from
  the arrays it finds to the arrays it leaves.
-/
module

public import proofs.«01_k».proof.Proof.Experts.Body
public import Idealize.ShloMosaic.Lib.Pipeline.DatRel
public import Idealize.ShloMosaic.Lib.Pipeline.ArrRel
public import Idealize.ShloMosaic.Lib.Pipeline.Frame
public import Idealize.ShloMosaic.Lib.Pipeline.Regions
public import Idealize.ShloMosaic.Lib.Pipeline.RegionArraysT
public import proofs.«01_k».proof.Proof.Shared.Value
public import proofs.«01_k».proof.Proof.Combine.Debt

@[expose] public section

set_option maxRecDepth 16384

noncomputable section

namespace Cert.Proof.Experts

open Cert.KernelIdeal hiding ix2
open Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat RDat Cfg Window BodyObligationRel ucRefs arrRefs tblRefs prefHeld)
open Cert.Proof.Combine (MM UU K debt otc_none)

variable {F : FTy → Type} [FloatOps F]

local notation "𝕄" => MM F

/-! ## The blocks -/

variable (a : (p : Fin 2) → (pcfgs (F := F) p).Adm) (W : Dev nD → Valuation τ sig (Elt F))

/-- The block of its array that window `w` shows at a point. -/
def iblk (c : Dev nD) (w : Fin (cfg2 (a 1)).W) (t : Fin (cfg2 (a 1)).N) :
    ((cfg2 (a 1)).win w).block.Idx → Elt F ((cfg2 (a 1)).win w).elt :=
  (((cfg2 (a 1)).win w).blk t).view.read (Elt F) (W c (Proc.devRef .tc (Pipeline.arrRef spec2 w)))

/-- The product of the point's blocks: its tile's rows of expert outputs. -/
def prod (c : Dev nD) (t : Fin (cfg2 (a 1)).N) : S256x1024.Idx → F .f32 :=
  k2_pay1 (iblk a W c 0 t) (iblk a W c 1 t) (iblk a W c 2 t) (iblk a W c 3 t) (iblk a W c 4 t) (iblk a W c 5 t)

/-- The table of used tiles. -/
def used (c : Dev nD) : S48.Idx → BitVec 32 := W c (Proc.devRef .tc main_arg1)

/-! ## The proof data -/

/-- Filler contents for the other region's buffers. -/
def fill (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What every point passes on unchanged: the two tables, and the core's other scoped buffers. -/
def Stay (c : Dev nD) : sProp 𝕄 :=
  iprop(prefHeld pre2 c (fun _ => fullShare) (a 1).1 ∗ Pipeline.scopedRest (pcfgs (F := F) 1).spec c)

/-- The second region's data; the first region's, which runs on its own data, is a filler here. The arrays as the region finds them;
    each input's buffer stays at its block; the result's is described below. The core meanwhile owes the second call its start. -/
def dats (p : Fin 2) (c : Dev nD) : Dat τ (Elt F) (HIx 2) ℕ UU ℕ (Pipeline.pin (pcfgs (F := F)) a p) c :=
  match p with
  | 0 =>
  { A := fun w => W c (Proc.devRef .tc (Pipeline.arrRef spec0 w))
    after := fun w t => match w with
      | ⟨0, _⟩ => fill W c 0 t
      | ⟨1, _⟩ => fill W c 1 t
      | ⟨2, _⟩ => fill W c 2 t
      | ⟨3, _⟩ => fill W c 3 t
      | ⟨4, _⟩ => fill W c 4 t
    Φ := fun _ => iprop(emp)
    q := fun _ => fullShare
    owed := fun _ => 0 }
  | 1 =>
  { A := fun w => W c (Proc.devRef .tc (Pipeline.arrRef spec2 w))
    after := fun w t => match w with
      | ⟨0, _⟩ => iblk a W c 0 t
      | ⟨1, _⟩ => iblk a W c 1 t
      | ⟨2, _⟩ => iblk a W c 2 t
      | ⟨3, _⟩ => iblk a W c 3 t
      | ⟨4, _⟩ => iblk a W c 4 t
      | ⟨5, _⟩ => iblk a W c 5 t
      | ⟨6, _⟩ => prod a W c t
    Φ := fun _ => Stay a c
    q := fun _ => fullShare
    owed := fun _ => (K (F := F)).Otc c 1
    recorded := fun _ => {p | (K (F := F)).lev (T c, p.1) p.2 ≤ 8 * 1} }

/-- The result's window is described by a predicate, -/
def fgt : Fin 7 → Bool := ![false, false, false, false, false, false, true]
/-- which speaks of the used tiles only. -/
def Rl (c : Dev nD) : (w : Fin (cfg2 (a 1)).W) → Fin (cfg2 (a 1)).N → (((cfg2 (a 1)).win w).block.Idx → Elt F ((cfg2 (a 1)).win w).elt) → Prop
  | ⟨6, _⟩, t, X => k2_cond1 (word (used W c) (grid2.coords t)) = 1#1 → X = prod a W c t
  | _, _, _ => True

theorem A_eq (c : Dev nD) (w : Fin (cfg2 (a 1)).W) : (dats a W 1 c).A w = W c (Proc.devRef .tc (Pipeline.arrRef spec2 w)) := rfl
theorem after_0 (c : Dev nD) (t : Fin (cfg2 (a 1)).N) : (dats a W 1 c).after 0 t = iblk a W c 0 t := by dsimp only [dats]; rfl
theorem after_1 (c : Dev nD) (t : Fin (cfg2 (a 1)).N) : (dats a W 1 c).after 1 t = iblk a W c 1 t := by dsimp only [dats]; rfl
theorem after_2 (c : Dev nD) (t : Fin (cfg2 (a 1)).N) : (dats a W 1 c).after 2 t = iblk a W c 2 t := by dsimp only [dats]; rfl
theorem after_3 (c : Dev nD) (t : Fin (cfg2 (a 1)).N) : (dats a W 1 c).after 3 t = iblk a W c 3 t := by dsimp only [dats]; rfl
theorem after_4 (c : Dev nD) (t : Fin (cfg2 (a 1)).N) : (dats a W 1 c).after 4 t = iblk a W c 4 t := by dsimp only [dats]; rfl
theorem after_5 (c : Dev nD) (t : Fin (cfg2 (a 1)).N) : (dats a W 1 c).after 5 t = iblk a W c 5 t := by dsimp only [dats]; rfl

/-- An input's buffer holds its block when the body runs. -/
theorem before_of (c : Dev nD) (w : Fin (cfg2 (a 1)).W) (hw : ((cfg2 (a 1)).win w).isOut = false) (hlive : ∀ i, (cfg2 (a 1)).idle w i = false)
    (hclip : ∀ t t' : Fin (cfg2 (a 1)).N, ((cfg2 (a 1)).win w).index t = ((cfg2 (a 1)).win w).index t' →
      ((cfg2 (a 1)).win w).clip ((cfg2 (a 1)).grid.coords t) = ((cfg2 (a 1)).win w).clip ((cfg2 (a 1)).grid.coords t'))
    (hkeep : ∀ t, ((cfg2 (a 1)).win w).cut ((cfg2 (a 1)).grid.coords t) ((dats a W 1 c).after w t) = (dats a W 1 c).blockOf w t)
    (hfull : ∀ t d, (dats a W 1 c).fetched w t d = iblk a W c w t) (t : Fin (cfg2 (a 1)).N) (d) :
    (dats a W 1 c).before w t d = iblk a W c w t :=
  ((dats a W 1 c).before_in_eq_fetched w hw hlive hclip hkeep t d).trans (hfull t d)

theorem before_0 (c : Dev nD) (t : Fin (cfg2 (a 1)).N) (d) : (dats a W 1 c).before 0 t d = iblk a W c 0 t :=
  before_of a W c 0 rfl (fun _ => rfl) (fun _ _ _ => rfl) (fun t => by rw [after_0]; rfl) (fun t d => rfl) t d
theorem before_1 (c : Dev nD) (t : Fin (cfg2 (a 1)).N) (d) : (dats a W 1 c).before 1 t d = iblk a W c 1 t :=
  before_of a W c 1 rfl (fun _ => rfl) (fun _ _ _ => rfl) (fun t => by rw [after_1]; rfl) (fun t d => rfl) t d
theorem before_2 (c : Dev nD) (t : Fin (cfg2 (a 1)).N) (d) : (dats a W 1 c).before 2 t d = iblk a W c 2 t :=
  before_of a W c 2 rfl (fun _ => rfl) (fun _ _ _ => rfl) (fun t => by rw [after_2]; rfl) (fun t d => rfl) t d
theorem before_3 (c : Dev nD) (t : Fin (cfg2 (a 1)).N) (d) : (dats a W 1 c).before 3 t d = iblk a W c 3 t :=
  before_of a W c 3 rfl (fun _ => rfl) (fun _ _ _ => rfl) (fun t => by rw [after_3]; rfl) (fun t d => rfl) t d
theorem before_4 (c : Dev nD) (t : Fin (cfg2 (a 1)).N) (d) : (dats a W 1 c).before 4 t d = iblk a W c 4 t :=
  before_of a W c 4 rfl (fun _ => rfl) (fun _ _ _ => rfl) (fun t => by rw [after_4]; rfl) (fun t d => rfl) t d
theorem before_5 (c : Dev nD) (t : Fin (cfg2 (a 1)).N) (d) : (dats a W 1 c).before 5 t d = iblk a W c 5 t :=
  before_of a W c 5 rfl (fun _ => rfl) (fun _ _ _ => rfl) (fun t => by rw [after_5]; rfl) (fun t d => rfl) t d

/-- The two tables, one by one. -/
theorem tables_pair (c : Dev nD) (v : pre2.Contents (Elt F)) :
    (prefHeld pre2 c (fun _ => fullShare) v : sProp 𝕄)
      = iprop(((Memref.whole main_arg0).view.loc (c : Thread nD τ) ↦{fullShare} v 0) ∗ ((Memref.whole main_arg1).view.loc (c : Thread nD τ) ↦{fullShare} v 1)) := by
  unfold prefHeld
  exact bigSep_univ_eq_bigSepL [(0 : Fin 2), (1 : Fin 2)] (by decide) (by decide) _

variable (hT : ∀ c k, (a 1).1 k = W c (Proc.devRef .tc (pre2.ref k)))

/-- A buffer's contents by an equal value. -/
theorem owns_of_eq {c : Dev nD} {sh : Shape} {e : EltTy} {M : Memref sig .tc .vmem sh e} {x y : Vec F sh e} (h : x = y) :
    (owns (c : Thread nD τ) M fullShare x : sProp 𝕄) ⊢ owns (c : Thread nD τ) M fullShare y := by rw [h]

include hT in
/-- The library's body obligation: the body leaves in the result's buffer, of a used tile, the tile's product. -/
theorem body_obligation (c : Dev nD) :
    BodyObligationRel (dats a W 1 c) (defs₀ (F := F)) 𝒱₀ none Set.univ fgt (Rl a W c) := fun n => by
  rw [bigSep_W2, bigSep_W2]
  sl_whnfR [defs₀, Defs.onTc]
  rw [show (dats a W 1 c).Φ n.succ = Stay a c from rfl, show (dats a W 1 c).Φ n.castSucc = Stay a c from rfl,
    show (dats a W 1 c).owesAt none n.succ = (dats a W 1 c).owesAt none n.castSucc from rfl, after_0, after_1, after_2, after_3, after_4, after_5]
  rw [show fgt 0 = false from rfl, show fgt 1 = false from rfl, show fgt 2 = false from rfl, show fgt 3 = false from rfl,
    show fgt 4 = false from rfl, show fgt 5 = false from rfl, show fgt 6 = true from rfl]
  dsimp only
  unfold Stay
  rw [tables_pair]
  iintro ⟨⟨⟨Ht, Hu⟩, Hs⟩, Ho, ⟨%d0, H0⟩, ⟨%d1, H1⟩, ⟨%d2, H2⟩, ⟨%d3, H3⟩, ⟨%d4, H4⟩, ⟨%d5, H5⟩, ⟨%Y, -, H6⟩⟩
  iapply (body_run c (grid2.coords n) _ _ _ _ _ _ _ _ _ _ _ _ _ _ (iblk a W c 0 n) (iblk a W c 1 n) (iblk a W c 2 n) (iblk a W c 3 n)
    (iblk a W c 4 n) (iblk a W c 5 n) Y ((a 1).1 1) Set.univ _)
  isplitl [H0]; · iapply (owns_of_eq (before_0 a W c n d0)); iexact H0
  isplitl [H1]; · iapply (owns_of_eq (before_1 a W c n d1)); iexact H1
  isplitl [H2]; · iapply (owns_of_eq (before_2 a W c n d2)); iexact H2
  isplitl [H3]; · iapply (owns_of_eq (before_3 a W c n d3)); iexact H3
  isplitl [H4]; · iapply (owns_of_eq (before_4 a W c n d4)); iexact H4
  isplitl [H5]; · iapply (owns_of_eq (before_5 a W c n d5)); iexact H5
  isplitl [H6]; · iexact H6
  isplitl [Hu]; · iexact Hu
  iintro ⟨H0, H1, H2, H3, H4, H5, ⟨%y, %hy, H6⟩, Hu⟩
  isplitl [Ht Hu Hs]
  · isplitr [Hs]; swap; · iexact Hs
    isplitl [Ht]; · iexact Ht
    iexact Hu
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists y; isplitr; swap
  · iexact H6
  ipureintro
  intro hc
  refine hy ?_
  rw [show (a 1).1 1 = used W c from hT c 1]
  exact hc

/-! ## The array the region leaves -/

/-- The point of a tile. -/
def pt (t : ℕ) (h : t < 48) : Fin (cfg2 (a 1)).N := ⟨t, by show t < grid2.N; rw [N_2]; exact h⟩

/-- A result's row belongs to the tile of its 256 rows: that row of the tile's product. -/
def star (c : Dev nD) : S12288x1024.Idx → F .f32 := fun i =>
  prod a W c (pt a ((i 0).val / 256) (by have : (i 0).val < 12288 := (i 0).isLt; omega))
    (ix2 (⟨(i 0).val % 256, Nat.mod_lt _ (by decide)⟩ : Fin 256) (⟨(i 1).val, (i 1).isLt⟩ : Fin 1024))

/-- The rows of the used tiles hold their products. -/
def Good (c : Dev nD) (Y : S12288x1024.Idx → F .f32) : Prop :=
  ∀ i, k2_cond1 (used W c (ix1 (⟨(i 0).val / 256, by have : (i 0).val < 12288 := (i 0).isLt; omega⟩ : Fin 48))) = 1#1 → Y i = star a W c i

/-- The result's block index at a point. -/
theorem index6 : ∀ n : Fin grid2.N, cc2_transform_6 (grid2.coords n) 0 = n.val ∧ cc2_transform_6 (grid2.coords n) 1 = 0 := by decide +kernel

/-- The point's coordinate. -/
theorem coord0 : ∀ n : Fin grid2.N, (grid2.coords n 0).val = n.val := by decide +kernel

theorem N48 : (cfg2 (a 1)).N = 48 := N_2
theorem lt48 (t : Fin (cfg2 (a 1)).N) : t.val < 48 := t.isLt.trans_eq (N48 a)
/-- The window's block index at a point, an axis at a time. -/
theorem win6_0 (t : Fin (cfg2 (a 1)).N) : ((cfg2 (a 1)).win 6).index t (0 : Fin 2) = t.val := (index6 t).1
theorem win6_1 (t : Fin (cfg2 (a 1)).N) : ((cfg2 (a 1)).win 6).index t (1 : Fin 2) = 0 := (index6 t).2

/-- Every tile's block is written back. -/
theorem flush6 (t : Fin (cfg2 (a 1)).N) : ((cfg2 (a 1)).win 6).flush t = true := by
  unfold Window.flush
  simp only [Bool.and_eq_true, Bool.or_eq_true, decide_eq_true_eq]
  refine ⟨rfl, ?_⟩
  by_cases h : t.val + 1 = 48
  · exact .inl (h.trans (N48 a).symm)
  · have hlt : t.val + 1 < (cfg2 (a 1)).N := lt_of_lt_of_eq (b := 48) (by have := lt48 a t; omega) (N48 a).symm
    refine .inr ⟨hlt, fun e => ?_⟩
    have h0 := congrFun e (0 : Fin 2)
    have := ((win6_0 a ⟨t.val + 1, hlt⟩).symm.trans h0).trans (win6_0 a t)
    exact absurd this (by show t.val + 1 ≠ t.val; omega)

/-- Contents the grid may leave hold the used tiles' products. -/
theorem good_of_arrAt (c : Dev nD)
    (G : (w : Fin (cfg2 (a 1)).W) → Buf (Elt F) (((cfg2 (a 1)).win w).arr.view.loc (c.tc : Thread nD τ)))
    (hG : ∀ w, ((dats a W 1 c).toRRel fgt (Rl a W c)).ArrAt w (cfg2 (a 1)).N (G w)) :
    Good a W c (G 6) ∧ ∀ w, ((cfg2 (a 1)).win w).isOut = false → G w = W c (Proc.devRef .tc (Pipeline.arrRef spec2 w)) := by
  obtain ⟨after, hL, hA⟩ := RDat.ArrAt.exists_exact_all hG
  refine ⟨fun i hc => ?_, fun w h => (hA w).trans (Dat.arrAt_in (((dats a W 1 c).toRRel fgt (Rl a W c)).withAfter after) w h (cfg2 (a 1)).N)⟩
  have h0 : (i 0).val < 12288 := (i 0).isLt
  have ht : (i 0).val / 256 < 48 := by omega
  let y : S256x1024.Idx := ix2 (⟨(i 0).val % 256, Nat.mod_lt _ (by decide)⟩ : Fin 256) (⟨(i 1).val, (i 1).isLt⟩ : Fin 1024)
  have hy : (((cfg2 (a 1)).win 6).blk (pt a _ ht)).view.emb y = i := by
    funext b
    apply Fin.ext
    refine (Window.rect_emb_val ((cfg2 (a 1)).win 6) (pt a _ ht) y b).trans ?_
    match b with
    | ⟨0, _⟩ =>
      have e := win6_0 a (pt a _ ht)
      show ((cfg2 (a 1)).win 6).index (pt a _ ht) (0 : Fin 2) * 256 + (i 0).val % 256 = (i 0).val
      rw [e]; show (i 0).val / 256 * 256 + (i 0).val % 256 = (i 0).val; omega
    | ⟨1, _⟩ =>
      have e := win6_1 a (pt a _ ht)
      show ((cfg2 (a 1)).win 6).index (pt a _ ht) (1 : Fin 2) * 1024 + (i 1).val = (i 1).val
      rw [e]; omega
  have hlast := Cert.Proof.Shared.arrAt_of_last (((dats a W 1 c).toRRel fgt (Rl a W c)).withAfter after) 6 rfl (pt a _ ht) (flush6 a _) (fun u' hu' e => by
    have h := congrFun e (0 : Fin 2)
    have := ((win6_0 a u').symm.trans h).trans (win6_0 a (pt a _ ht))
    omega) y (cfg2 (a 1)).N (pt a _ ht).isLt
  have hy' : (((Pipeline.pin (pcfgs (F := F)) a 1).win 6).blk (pt a _ ht)).view.emb y = i := hy
  rw [hy'] at hlast
  refine (congrFun (hA 6) i).trans (hlast.trans ?_)
  have hl : Rl a W c 6 (pt a _ ht) (after 6 (pt a _ ht)) := (dats a W 1 c).toRRel_leaves rfl (hL 6 (pt a _ ht) (pt a _ ht).isLt (flush6 a _))
  refine congrFun (hl ?_) y
  have hw : word (used W c) (grid2.coords (pt a _ ht)) = used W c (ix1 (⟨(i 0).val / 256, ht⟩ : Fin 48)) := by
    unfold word
    exact congrArg (fun k : Fin 48 => used W c (ix1 k)) (Fin.ext (coord0 (pt a _ ht)))
  rw [hw]; exact hc

/-! ## The region -/

/-- The data read relationally. -/
abbrev rdats (p : Fin 2) (c : Dev nD) : RDat τ (Elt F) (HIx 2) ℕ UU ℕ (Pipeline.pin (pcfgs (F := F)) a p) c :=
  match p with
  | 0 => (dats a W 0 c).toRRel (fun _ => false) (fun _ _ _ => True)
  | 1 => (dats a W 1 c).toRRel fgt (Rl a W c)

/-- What the core holds after the region: the rows of the used tiles hold their products. -/
def leaves (c : Dev nD) : sProp 𝕄 :=
  iprop(∃ Y, ⌜Good a W c Y⌝ ∗ StableHlo.held (c.tc : Thread nD τ) (ucRefs τ sig) (Function.update (W c) (Proc.devRef .tc main_v4) Y))

theorem arr_sub : arrRefs (τ := τ) spec2 ⊆ ucRefs τ sig := Pipeline.arrRefs_sub_ucRefs spec2 winFacts2.arr_unscoped
theorem tbl_sub : tblRefs (τ := τ) pre2 ⊆ ucRefs τ sig \ arrRefs spec2 :=
  Pipeline.tblRefs_sub_ucRefs_sdiff spec2 pre2 preFacts2.unscoped preFacts2.disj

/-- Of the result's array alone the contents change. -/
theorem upd_ne (c : Dev nD) (Y : S12288x1024.Idx → F .f32) {b : DevRef τ sig} (h : b ≠ Proc.devRef .tc main_v4) :
    Function.update (W c) (Proc.devRef .tc main_v4) Y b = W c b := Function.update_of_ne h _ _

theorem v2_mem : (Proc.devRef .tc main_v4 : DevRef τ sig) ∈ arrRefs (τ := τ) spec2 :=
  Finset.mem_map.mpr ⟨main_v4, Finset.mem_image.mpr ⟨6, Finset.mem_univ _, rfl⟩, rfl⟩

include hT in
/-- The arrays and the tables out of the core's buffers, -/
theorem split_in (c : Dev nD) :
    (StableHlo.held (c.tc : Thread nD τ) (ucRefs τ sig) (W c) : sProp 𝕄)
      = iprop((dats a W 1 c).arrays (dats a W 1 c).A ∗ prefHeld pre2 c (fun _ => fullShare) (a 1).1
          ∗ StableHlo.held (c.tc : Thread nD τ) ((ucRefs τ sig \ arrRefs spec2) \ tblRefs pre2) (W c)) := by
  rw [StableHlo.held_sub_split (c.tc : Thread nD τ) arr_sub (W c), StableHlo.held_sub_split (c.tc : Thread nD τ) tbl_sub (W c),
    Pipeline.arrays_held (pcfgs (F := F)) a (dats a W) 1 launch2 c ((dats a W 1 c).share_full fun _ => rfl) (dats a W 1 c).A (W c) (fun _ => rfl),
    Pipeline.prefHeld_held pre2 preFacts2.inj c (a 1).1 (W c) (hT c)]
  rfl

include hT in
/-- and back, the result's contents changed. -/
theorem split_out (c : Dev nD) (Y : S12288x1024.Idx → F .f32)
    (G : (w : Fin (cfg2 (a 1)).W) → Buf (Elt F) (((cfg2 (a 1)).win w).arr.view.loc (c.tc : Thread nD τ)))
    (hG : ∀ w, ((cfg2 (a 1)).win w).isOut = false → G w = W c (Proc.devRef .tc (Pipeline.arrRef spec2 w))) :
    (StableHlo.held (c.tc : Thread nD τ) (ucRefs τ sig) (Function.update (W c) (Proc.devRef .tc main_v4) (G 6)) : sProp 𝕄)
      = iprop((dats a W 1 c).arrays G ∗ prefHeld pre2 c (fun _ => fullShare) (a 1).1
          ∗ StableHlo.held (c.tc : Thread nD τ) ((ucRefs τ sig \ arrRefs spec2) \ tblRefs pre2) (W c)) := by
  have hne : ∀ w : Fin 7, w ≠ 6 → (Proc.devRef .tc (Pipeline.arrRef spec2 w) : DevRef τ sig) ≠ Proc.devRef .tc main_v4 :=
    fun w hw e => hw (winFacts2.arr_inj (Proc.devRef_injective _ e))
  rw [StableHlo.held_sub_split (c.tc : Thread nD τ) arr_sub, StableHlo.held_sub_split (c.tc : Thread nD τ) tbl_sub,
    Pipeline.arrays_held (pcfgs (F := F)) a (dats a W) 1 launch2 c ((dats a W 1 c).share_full fun _ => rfl) G
      (Function.update (W c) (Proc.devRef .tc main_v4) (G 6)) (fun w => by
        by_cases h6 : w = 6
        · subst h6; exact (Function.update_self (Proc.devRef .tc main_v4 : DevRef τ sig) (G 6) (W c)).symm
        · refine Eq.trans (hG w ?_) (upd_ne W c (G 6) (hne w h6)).symm
          match w, h6 with
          | ⟨0, _⟩, _ => rfl
          | ⟨1, _⟩, _ => rfl
          | ⟨2, _⟩, _ => rfl
          | ⟨3, _⟩, _ => rfl
          | ⟨4, _⟩, _ => rfl
          | ⟨5, _⟩, _ => rfl
          | ⟨6, _⟩, h => exact absurd rfl h),
    Pipeline.prefHeld_held pre2 preFacts2.inj c (a 1).1 (Function.update (W c) (Proc.devRef .tc main_v4) (G 6)) (fun k => by
      rw [upd_ne W c (G 6) (fun e => preFacts2.disj k 6 (Proc.devRef_injective _ e))]
      exact hT c k),
    StableHlo.held_congr (c.tc : Thread nD τ) (S := (ucRefs τ sig \ arrRefs spec2) \ tblRefs pre2) (V' := W c) (fun b hb => by
      refine upd_ne W c (G 6) fun e => ?_
      rw [e] at hb
      exact (Finset.mem_sdiff.mp (Finset.mem_sdiff.mp hb).1).2 v2_mem)]
  rfl

/-- What the grid leaves, with what is known of each array, as one family of contents. -/
theorem arrays_left (c : Dev nD) :
    (((dats a W 1 c).toRRel fgt (Rl a W c)).arraysAt (cfg2 (a 1)).N : sProp 𝕄)
      ⊢ iprop(∃ G : (w : Fin (cfg2 (a 1)).W) → Buf (Elt F) (((cfg2 (a 1)).win w).arr.view.loc (c.tc : Thread nD τ)),
          ⌜∀ w, ((dats a W 1 c).toRRel fgt (Rl a W c)).ArrAt w (cfg2 (a 1)).N (G w)⌝ ∗ (dats a W 1 c).arrays G) := by
  unfold RDat.arraysAt
  iintro H
  ihave H := (BI.bigSep_exists_pi Finset.univ _) $$ H
  icases H with ⟨%G, H⟩
  ihave H := (BI.bigSep_pure_sep Finset.univ (fun w => ((dats a W 1 c).toRRel fgt (Rl a W c)).ArrAt w (cfg2 (a 1)).N (G w)) _) $$ H
  icases H with ⟨%hG, H⟩
  iexists G
  isplitr; · ipureintro; exact fun w => hG w (Finset.mem_univ w)
  unfold Dat.arrays
  iexact H

/-- The region: entered with every buffer of the core as `W` says, left with the result's buffer changed and its used tiles'
    rows at their products. -/
def region : RDat.RegionSeg (pcfgs (F := F)) a (rdats a W) none (defs₀ (F := F)) 𝒱₀ (K (F := F)).L (K (F := F)).lev 1 where
  win := winFacts2.to₀
  block_pos := block_pos2
  stage_whole := stage_whole2
  K := PEmpty
  osem k := k.elim
  ho := Pipeline.OwnSemFacts.none _
  hbody c := (body_obligation a W hT c).toRRel
  hwaits c := RDat.cellsWaits_intro (Pipeline.pin (pcfgs (F := F)) a) (rdats a W) none 1 c
    fun w s t => (K (F := F)).mayWait_none (thr := T c) _ (otc_none 1 c)
  pre c := iprop(StableHlo.held (c.tc : Thread nD τ) (ucRefs τ sig) (W c) ∗ debt 1 c)
  post c := iprop(leaves a W c ∗ debt 1 c)
  X _ := iprop(emp)
  Y c := prefHeld pre2 c (fun _ => fullShare) (a 1).1
  Z c := StableHlo.held (c.tc : Thread nD τ) ((ucRefs τ sig \ arrRefs spec2) \ tblRefs pre2) (W c)
  hentry c := by
    show _ ⊢ |={Set.univ}=> iprop((dats a W 1 c).arrays (dats a W 1 c).A ∗ prefHeld pre2 c (fun _ => fullShare) (a 1).1
        ∗ (dats a W 1 c).owesAt none 0 ∗ _ ∗ _)
    rw [split_in a W hT c]
    unfold debt
    iintro ⟨⟨⟨Ha, Hp, Hz⟩, ⟨%Wd, %hW, HO⟩⟩, -, -⟩
    imodintro
    isplitl [Ha]; · iexact Ha
    isplitl [Hp]; · iexact Hp
    isplitl [HO]
    · unfold Dat.owesAt Pipeline.owesWithin Dat.bound
      iexists Wd; isplitr; · ipureintro; exact fun q hq => Or.inl (hW q hq)
      iexact HO
    isplitr; · iempintro
    iexact Hz
  hin c := by
    show _ ⊢ Stay a c
    unfold Stay
    iintro ⟨-, Hp, Hs⟩
    isplitl [Hp]; · iexact Hp
    iexact Hs
  hout c := by
    show Stay a c ⊢ _
    unfold Stay
    rw [Pipeline.ownSems0_none]
    iintro ⟨Hp, Hs⟩
    isplitl [Hp]; · iexact Hp
    isplitr; · iempintro
    iexact Hs
  hexit c := by
    show iprop(((dats a W 1 c).toRRel fgt (Rl a W c)).arraysAt (cfg2 (a 1)).N ∗ (dats a W 1 c).owesAt none (Fin.last (cfg2 (a 1)).N) ∗ _ ∗ _) ⊢ _
    unfold Dat.owesAt Pipeline.owesWithin leaves debt
    iintro ⟨Ha, ⟨%Wd, %hW, HO⟩, Hp, Hz⟩
    ihave Ha := (arrays_left a W c) $$ Ha
    icases Ha with ⟨%G, %hA, Ha⟩
    imodintro
    obtain ⟨hgood, hG⟩ := good_of_arrAt a W c G hA
    isplitl [Ha Hp Hz]
    · iexists (G 6)
      isplitr; · ipureintro; exact hgood
      iapply (Entails.of_eq (split_out a W hT c (G 6) G hG).symm)
      isplitl [Ha]; · iexact Ha
      isplitl [Hp]; · iexact Hp
      iexact Hz
    iexists Wd; isplitr; swap
    · iexact HO
    ipureintro
    intro q hq
    rcases hW hq with h | ⟨w, s, rfl⟩
    · exact h
    · exact Nat.zero_le _

end Cert.Proof.Experts

end
-- ==== Proof.Combine.Launch.lean ====
/-
  The run of the whole program: the shared expert's call, the scatter call, the experts' call and the combine call. What the scatter call and the combine call hand each tile and have back, the split of the
  whole arrays over the thirty-two tiles, @main's two stretches of host operations and the regions of the two calls on the TensorCore: the
  arguments unchanged, the result the one that every table the region may leave gives.
-/
module

public import proofs.«01_k».proof.Proof.Chain.Call
public import proofs.«01_k».proof.Proof.Combine.Body
public import proofs.«01_k».proof.Proof.Experts.Region
public import proofs.«01_k».proof.Proof.SharedCall.Region
public import Idealize.ShloMosaic.Lib.Pipeline.Frame

@[expose] public section

set_option maxRecDepth 16384

noncomputable section

namespace Cert.Proof.Combine

open Cert.KernelIdeal hiding ix2
open Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves

variable {F : FTy → Type} [FloatOps F]

local notation "𝕄" => MM F

local notation "yV" => (Memref.whole Cert.KernelIdeal.main_v5_scv : Memref Cert.KernelIdeal.sig Kind.scVector Space.hbm Cert.KernelIdeal.S98304x128 EltTy.f32)
local notation "pV" => (Memref.whole Cert.KernelIdeal.main_v14_scv : Memref Cert.KernelIdeal.sig Kind.scVector Space.hbm Cert.KernelIdeal.S65536 EltTy.i32)
local notation "shV" => (Memref.whole Cert.KernelIdeal.main_v0_scv : Memref Cert.KernelIdeal.sig Kind.scVector Space.hbm Cert.KernelIdeal.S4096x1024 EltTy.f32)
local notation "oV" => (Memref.whole Cert.KernelIdeal.main_v15_scv : Memref Cert.KernelIdeal.sig Kind.scVector Space.hbm Cert.KernelIdeal.S4096x1024 EltTy.f32)

/-! ## The tiles -/

/-- Tile `s` of SparseCore `c`. -/
def at' (c : Fin 2) (s : Fin 16) : grid3.Coords :=
  fun | 0 => c | 1 => s | ⟨_ + 2, h⟩ => absurd h (Nat.not_lt.2 (Nat.le_add_left _ _))

/-- Its read share of the arrays: the full share halved once and then four times. -/
def share (c : Fin 2) (s : Fin 16) : PosShare TreeShare := leaf 4 (leaf 1 fullShare c) s

theorem nCore_eq : (K (F := F)).nCore 1 = 2 := rfl
theorem nSub_eq : (K (F := F)).nSub 1 = 16 := rfl

/-! ## The result's blocks -/

/-- The tokens of a chunk of a tile, as indices of the result. -/
def blkSet (t : (Fin 2 × Fin 16) × Fin 8) : Finset S4096x1024.Idx :=
  (Rect.unit (s := S4096x1024) (k3_off2 (at' t.1.1 t.1.2) (cw t.2)) S16x1024.size (k3_off2_inb (at' t.1.1 t.1.2) t.2)).set

/-- An index is a chunk's when its row is one of the chunk's sixteen. -/
theorem mem_blkSet (t : (Fin 2 × Fin 16) × Fin 8) (x : S4096x1024.Idx) :
    x ∈ blkSet t ↔ 256 * t.1.2.val + 128 * t.1.1.val + 16 * t.2.val ≤ (x 0).val
      ∧ (x 0).val < 256 * t.1.2.val + 128 * t.1.1.val + 16 * t.2.val + 16 := by
  have h0 : k3_off2 (at' t.1.1 t.1.2) (cw t.2) 0 = 256 * t.1.2.val + 128 * t.1.1.val + 16 * t.2.val := by rw [k3_off2_eq]; rfl
  have h1 : k3_off2 (at' t.1.1 t.1.2) (cw t.2) 1 = 0 := by rw [k3_off2_eq]; rfl
  have s0 : S16x1024.size 0 = 16 := rfl
  have s1 : S16x1024.size 1 = 1024 := rfl
  have x1 : (x 1).val < 1024 := (x 1).isLt
  unfold blkSet
  rw [Rect.mem_set_unit]
  constructor
  · intro h
    have := h 0
    rw [h0, s0] at this
    exact this
  · intro h a
    match a with
    | ⟨0, _⟩ =>
      show k3_off2 _ _ 0 ≤ (x 0).val ∧ (x 0).val < k3_off2 _ _ 0 + S16x1024.size 0
      rw [h0, s0]; exact h
    | ⟨1, _⟩ =>
      show k3_off2 _ _ 1 ≤ (x 1).val ∧ (x 1).val < k3_off2 _ _ 1 + S16x1024.size 1
      rw [h1, s1]; omega

/-- Different chunks share no index. -/
theorem blkSet_disjoint : ∀ t ∈ (Finset.univ : Finset ((Fin 2 × Fin 16) × Fin 8)), ∀ t' ∈ (Finset.univ : Finset ((Fin 2 × Fin 16) × Fin 8)),
    t ≠ t' → Disjoint (blkSet t) (blkSet t') := by
  intro t _ t' _ hne
  refine Finset.disjoint_left.mpr fun x hx hx' => hne ?_
  obtain ⟨⟨⟨c, hc⟩, ⟨s, hs⟩⟩, ⟨k, hk⟩⟩ := t
  obtain ⟨⟨⟨c', hc'⟩, ⟨s', hs'⟩⟩, ⟨k', hk'⟩⟩ := t'
  have h := (mem_blkSet _ x).mp hx
  have h' := (mem_blkSet _ x).mp hx'
  simp only at h h'
  have e1 : c = c' := by omega
  have e2 : s = s' := by omega
  have e3 : k = k' := by omega
  subst e1 e2 e3
  rfl

/-- Every index is some chunk's. -/
theorem blkSet_cover : (Finset.univ : Finset ((Fin 2 × Fin 16) × Fin 8)).biUnion blkSet = Finset.univ := by
  refine Finset.eq_univ_iff_forall.mpr fun x => Finset.mem_biUnion.mpr ?_
  have hx : (x 0).val < 4096 := (x 0).isLt
  refine ⟨((⟨(x 0).val / 128 % 2, by omega⟩, ⟨(x 0).val / 256, by omega⟩), ⟨(x 0).val / 16 % 8, by omega⟩), Finset.mem_univ _, ?_⟩
  rw [mem_blkSet]
  show 256 * ((x 0).val / 256) + 128 * ((x 0).val / 128 % 2) + 16 * ((x 0).val / 16 % 8) ≤ _ ∧ _
  constructor
  · omega
  · show _ < 256 * ((x 0).val / 256) + 128 * ((x 0).val / 128 % 2) + 16 * ((x 0).val / 16 % 8) + 16
    omega

abbrev yLoc (d : Dev nD) : Loc nD τ sig := (SparseCore.T d).loc main_v5
abbrev pLoc (d : Dev nD) : Loc nD τ sig := (SparseCore.T d).loc main_v14
abbrev shLoc (d : Dev nD) : Loc nD τ sig := (SparseCore.T d).loc main_v0
abbrev oLoc (d : Dev nD) : Loc nD τ sig := (SparseCore.T d).loc main_v15

/-- A chunk's block of the result, by its indices. -/
theorem blk_eq (d : Dev nD) (c : Fin 2) (s : Fin 16) (k : Fin 8) (f : S4096x1024.Idx → F .f32) :
    (blk d (at' c s) k f : sProp 𝕄) = oLoc d ↦[blkSet ((c, s), k)]{fullShare} f := by
  unfold blk
  rw [show ((blockAt (at' c s) oV k).view.set : Finset _) = blkSet ((c, s), k) from View.set_slice_whole _ _]

/-- A tile's eight blocks, as a conjunction over its chunks. -/
theorem blks_eq (d : Dev nD) (c : Fin 2) (s : Fin 16) (f : S4096x1024.Idx → F .f32) :
    (blks d (at' c s) f : sProp 𝕄) = bigSep Finset.univ fun k : Fin 8 => oLoc d ↦[blkSet ((c, s), k)]{fullShare} f := by
  unfold blks
  rw [bigSep_list (fun k : Fin 8 => (oLoc d ↦[blkSet ((c, s), k)]{fullShare} f : sProp 𝕄)) [0, 1, 2, 3, 4, 5, 6] Finset.univ (by decide) (by simp),
    show (Finset.univ \ ([0, 1, 2, 3, 4, 5, 6] : List (Fin 8)).toFinset : Finset (Fin 8)) = {7} by decide, bigSep_singleton]
  simp only [blk_eq]
  rfl

/-- The result whole is its blocks, tile by tile. -/
theorem out_split (d : Dev nD) (f : S4096x1024.Idx → F .f32) :
    (oLoc d ↦{fullShare} f : sProp 𝕄) = bigSep Finset.univ fun c : Fin 2 => bigSep Finset.univ fun s : Fin 16 => blks d (at' c s) f := by
  have h := pointsTo_biUnion (Ix := HIx 2) (Val := Elt F) (Name := ℕ) (U := UU) (Lvl := ℕ) (ℓ := oLoc d) (q := fullShare) (f := f) Finset.univ blkSet blkSet_disjoint
  rw [blkSet_cover] at h
  rw [h, bigSep_univ_prod, bigSep_univ_prod]
  simp only [blks_eq]

/-- An array whole is its read shares, tile by tile. -/
theorem share_split (ℓ : Loc nD τ sig) (f : Buf (Elt F) ℓ) :
    (ℓ ↦{fullShare} f : sProp 𝕄) = bigSep Finset.univ fun c : Fin 2 => bigSep Finset.univ fun s : Fin 16 => ℓ ↦{share c s} f := by
  rw [pointsTo_leaves Finset.univ f 1 fullShare]
  exact bigSep_congr fun c _ => pointsTo_leaves Finset.univ f 4 (leaf 1 fullShare c)

/-- What one SparseCore's tiles are given and hand back. -/
def coreRes (d : Dev nD) (c : Fin 2) (Y : S98304x128.Idx → F .f32) (L : S65536.Idx → BitVec 32) (SH f : S4096x1024.Idx → F .f32) : sProp 𝕄 :=
  bigSep Finset.univ fun s : Fin 16 => tileRes d (at' c s) (share c s) Y L SH f

/-- The four arrays whole are what the two SparseCores are given. -/
theorem cores_eq (d : Dev nD) (Y : S98304x128.Idx → F .f32) (L : S65536.Idx → BitVec 32) (SH f : S4096x1024.Idx → F .f32) :
    (bigSep Finset.univ fun c : Fin 2 => coreRes d c Y L SH f)
      = (iprop(((yLoc d ↦{fullShare} Y) ∗ (pLoc d ↦{fullShare} L) ∗ (shLoc d ↦{fullShare} SH)) ∗ oLoc d ↦{fullShare} f) : sProp 𝕄) := by
  unfold coreRes tileRes tbl
  rw [share_split (yLoc d), share_split (pLoc d), share_split (shLoc d), out_split]
  simp only [bigSep_sep']

/-! ## What the handshakes carry -/

/-- A tile's part, the table such that the call's result is `R`. -/
def tileIn (d : Dev nD) (i : grid3.Coords) (q : PosShare TreeShare) (L : S65536.Idx → BitVec 32) (SH R f : S4096x1024.Idx → F .f32) : sProp 𝕄 :=
  iprop(∃ Y : S98304x128.Idx → F .f32, ⌜res Y L SH = R⌝ ∗ tileRes d i q Y L SH f)

/-- A SparseCore's part: its tiles'. -/
def coreIn (d : Dev nD) (c : Fin 2) (L : S65536.Idx → BitVec 32) (SH R f : S4096x1024.Idx → F .f32) : sProp 𝕄 :=
  bigSep Finset.univ fun s : Fin 16 => tileIn d (at' c s) (share c s) L SH R f

/-- What a tile hands back that is still wanted: the list, the shared part and its blocks. -/
def tileOut (d : Dev nD) (c : Fin 2) (s : Fin 16) (L : S65536.Idx → BitVec 32) (SH f : S4096x1024.Idx → F .f32) : sProp 𝕄 :=
  iprop(((pLoc d ↦{share c s} L) ∗ (shLoc d ↦{share c s} SH)) ∗ blks d (at' c s) f)

/-- The whole arrays, from a table that gives `R`, are the SparseCores' parts. -/
theorem cores_in (d : Dev nD) (Y : S98304x128.Idx → F .f32) (L : S65536.Idx → BitVec 32) (SH R f : S4096x1024.Idx → F .f32) (h : res Y L SH = R) :
    (iprop(((yLoc d ↦{fullShare} Y) ∗ (pLoc d ↦{fullShare} L) ∗ (shLoc d ↦{fullShare} SH)) ∗ oLoc d ↦{fullShare} f) : sProp 𝕄)
      ⊢ bigSep Finset.univ fun c : Fin 2 => coreIn d c L SH R f := by
  rw [← cores_eq]
  refine bigSep_mono fun c _ => bigSep_mono fun s _ => ?_
  unfold tileIn
  show (_ : sProp 𝕄) ⊢ _
  iintro H
  iexists Y
  isplitr; · ipureintro; exact h
  iexact H

/-- The list, the shared part and the result whole out of the SparseCores' parts. -/
theorem cores_out (d : Dev nD) (L : S65536.Idx → BitVec 32) (SH R f : S4096x1024.Idx → F .f32) :
    (bigSep Finset.univ fun c : Fin 2 => coreIn d c L SH R f)
      ⊢ (iprop(((pLoc d ↦{fullShare} L) ∗ (shLoc d ↦{fullShare} SH)) ∗ oLoc d ↦{fullShare} f) : sProp 𝕄) := by
  refine BI.Entails.trans (bigSep_mono (Ψ := fun c => bigSep Finset.univ fun s : Fin 16 => tileOut d c s L SH f) fun c _ => bigSep_mono fun s _ => ?_) ?_
  · unfold tileIn tileOut tileRes tbl
    show (_ : sProp 𝕄) ⊢ _
    iintro ⟨%Y, -, ⟨-, HL, HS⟩, HB⟩
    isplitl [HL HS]
    · isplitl [HL]; · iexact HL
      iexact HS
    iexact HB
  · unfold tileOut
    rw [share_split (pLoc d), share_split (shLoc d), out_split]
    simp only [bigSep_sep']
    exact BI.Entails.refl _

section Pay

variable (p : Dev nD → S8192.Idx → BitVec 32) (w : Dev nD → S8192.Idx → F .f32) (t₀ : Dev nD → S12288.Idx → BitVec 32) (s₀ : Dev nD → S12288.Idx → F .f32)
variable (L : Dev nD → S65536.Idx → BitVec 32) (SH R f₀ : Dev nD → S4096x1024.Idx → F .f32)

/-- The first call takes the positions, the gates and the two sorted arrays whole, the first tile has them, and the two sorted
    arrays come back written. The second takes the table's rows, the list, the shared part and the result whole; each tile its
    read shares and its eight blocks; the blocks come back holding the result. -/
def P : (K (F := F)).Pay (nD := nD) (Val := Elt F) (Name := ℕ) (U := UU) where
  st := fun q d c => match q with
    | 0 => Chain.coreRes d (Fin.cast Chain.nCore_eq c) (p d) (w d) (t₀ d) (s₀ d)
    | 1 => coreIn d (Fin.cast nCore_eq c) (L d) (SH d) (R d) (f₀ d)
  dn := fun q d c => match q with
    | 0 => Chain.coreRes d (Fin.cast Chain.nCore_eq c) (p d) (w d) (Scatter.tokens (p d)) (Scatter.gates (p d) (w d))
    | 1 => coreIn d (Fin.cast nCore_eq c) (L d) (SH d) (R d) (R d)
  go := fun q d c i => match q with
    | 0 => Chain.tileRes d (Chain.at' (Fin.cast Chain.nCore_eq c) (Fin.cast Chain.nSub_eq i)) (p d) (w d) (t₀ d) (s₀ d)
    | 1 => tileIn d (at' (Fin.cast nCore_eq c) (Fin.cast nSub_eq i)) (share (Fin.cast nCore_eq c) (Fin.cast nSub_eq i)) (L d) (SH d) (R d) (f₀ d)
  td := fun q d c i => match q with
    | 0 => Chain.tileRes d (Chain.at' (Fin.cast Chain.nCore_eq c) (Fin.cast Chain.nSub_eq i)) (p d) (w d) (Scatter.tokens (p d)) (Scatter.gates (p d) (w d))
    | 1 => tileIn d (at' (Fin.cast nCore_eq c) (Fin.cast nSub_eq i)) (share (Fin.cast nCore_eq c) (Fin.cast nSub_eq i)) (L d) (SH d) (R d) (R d)
  x := fun _ _ => iprop(emp)

/-- A tile's resources may be carried by a handshake. -/
instance tileIn_storable (d : Dev nD) (i : grid3.Coords) (q : PosShare TreeShare) (L : S65536.Idx → BitVec 32)
    (SH R f : S4096x1024.Idx → F .f32) : BI.Storable (upEmb : UEmb _ 𝕄) (tileIn d i q L SH R f) := by
  unfold tileIn tileRes tbl blks blk; infer_instance

/-- A SparseCore's resources may be carried by a handshake. -/
instance coreIn_storable (d : Dev nD) (c : Fin 2) (L : S65536.Idx → BitVec 32)
    (SH R f : S4096x1024.Idx → F .f32) : BI.Storable (upEmb : UEmb _ 𝕄) (coreIn d c L SH R f) := by
  unfold coreIn; infer_instance

/-- A SparseCore's part, opened. -/
theorem coreIn_eq (d : Dev nD) (c : Fin 2) (L : S65536.Idx → BitVec 32) (SH R f : S4096x1024.Idx → F .f32) :
    coreIn d c L SH R f = bigSep Finset.univ fun s : Fin 16 => tileIn d (at' c s) (share c s) L SH R f := rfl

/-- A tile's part, opened. -/
theorem tileIn_open (d : Dev nD) (i : grid3.Coords) (q : PosShare TreeShare) (L : S65536.Idx → BitVec 32) (SH R f : S4096x1024.Idx → F .f32) :
    tileIn d i q L SH R f = (iprop(∃ Y : S98304x128.Idx → F .f32, ⌜res Y L SH = R⌝ ∗ tileRes d i q Y L SH f) : sProp 𝕄) := rfl

attribute [local irreducible] tileRes coreRes tileIn coreIn res share Chain.tileRes Chain.coreRes Scatter.tokens Scatter.gates Chain.whole

instance P_storable : (P (F := F) p w t₀ s₀ L SH R f₀).IsStorable where
  st q d c := match q with
    | 0 => Chain.coreRes_storable d (Fin.cast Chain.nCore_eq c) (p d) (w d) (t₀ d) (s₀ d)
    | 1 => coreIn_storable d (Fin.cast nCore_eq c) (L d) (SH d) (R d) (f₀ d)
  dn q d c := match q with
    | 0 => Chain.coreRes_storable d (Fin.cast Chain.nCore_eq c) (p d) (w d) (Scatter.tokens (p d)) (Scatter.gates (p d) (w d))
    | 1 => coreIn_storable d (Fin.cast nCore_eq c) (L d) (SH d) (R d) (R d)
  go q d c i := match q with
    | 0 => Chain.tileRes_storable d (Chain.at' (Fin.cast Chain.nCore_eq c) (Fin.cast Chain.nSub_eq i)) (p d) (w d) (t₀ d) (s₀ d)
    | 1 => tileIn_storable d (at' (Fin.cast nCore_eq c) (Fin.cast nSub_eq i)) (share (Fin.cast nCore_eq c) (Fin.cast nSub_eq i)) (L d) (SH d) (R d) (f₀ d)
  td q d c i := match q with
    | 0 => Chain.tileRes_storable d (Chain.at' (Fin.cast Chain.nCore_eq c) (Fin.cast Chain.nSub_eq i)) (p d) (w d) (Scatter.tokens (p d)) (Scatter.gates (p d) (w d))
    | 1 => tileIn_storable d (at' (Fin.cast nCore_eq c) (Fin.cast nSub_eq i)) (share (Fin.cast nCore_eq c) (Fin.cast nSub_eq i)) (L d) (SH d) (R d) (R d)

/-! ## The tiles' obligation -/

/-- The dispatch runs the printed body at the tile's coordinates. -/
theorem defs₀_vector (c : Fin τ.nSC) (s : Fin τ.nSub) :
    defs₀ (F := F) (.scVector c s) 3 () = SparseCore.onTile hcore3 hsub3 (fun c s => bodyAt (at' c s)) ⟨⟩ c s := rfl

/-- The tile's record of waits, as the launch theorem asks for it. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The printed body on a tile whose table gives `R`: its blocks hold `R`. -/
theorem tile_in (d : Dev nD) (i : grid3.Coords) (q : PosShare TreeShare) (L : S65536.Idx → BitVec 32) (SH R f₀ : S4096x1024.Idx → F .f32)
    (hL : ∀ x : S65536.Idx, (L x).toNat < 98304)
    (O : CellTallies nD τ sig (HIx 2)) (W : Waits sig (HIx 2)) (hO : ∀ g, O g none = 0) :
    iprop(levAts (K (F := F)).L (K (F := F)).lev ∗ emp ∗ tileIn d i q L SH R f₀
        ∗ scopedBufs (tile d i) ∗ scopedSems0 (tile d i) ∗ owes (tile d i) O W)
      ⊢ wp frame (wpE (defs₀ (F := F)) 𝒱₀ (tile d i) none) Set.univ (bodyAt i)
          fun _ => iprop(tileIn d i q L SH R R ∗ scopedBufs (tile d i) ∗ scopedSems0 (tile d i)
            ∗ ∃ W', ⌜∀ p ∈ W', p ∈ W ∨ p.2 = none⌝ ∗ owes (tile d i) O W') := by
  rw [tileIn_open, tileIn_open]
  iintro ⟨Hl, -, ⟨%Y, %hY, Ht⟩, Hb, Hs, HO⟩
  have hb := tile_body d i q Y L SH f₀ hL O W hO
  rw [hY] at hb
  have hp : ∀ _ : PUnit, (iprop(tileRes d i q Y L SH R ∗ scopedBufs (tile d i) ∗ scopedSems0 (tile d i)
            ∗ ∃ W', ⌜∀ p ∈ W', p ∈ W ∨ p.2 = none⌝ ∗ owes (tile d i) O W') : sProp 𝕄)
      ⊢ iprop((∃ Y : S98304x128.Idx → F .f32, ⌜res Y L SH = R⌝ ∗ tileRes d i q Y L SH R) ∗ scopedBufs (tile d i) ∗ scopedSems0 (tile d i)
            ∗ ∃ W', ⌜∀ p ∈ W', p ∈ W ∨ p.2 = none⌝ ∗ owes (tile d i) O W') := fun _ => by
    iintro ⟨Ht, H⟩
    isplitl [Ht]
    · iexists Y
      isplitr; · ipureintro; exact hY
      iexact Ht
    iexact H
  iapply (wp_mono frame _ _ hp)
  iapply hb
  isplitl [Hl]; · iexact Hl
  isplitr; · iempintro
  isplitl [Ht]; · iexact Ht
  isplitl [Hb]; · iexact Hb
  isplitl [Hs]; · iexact Hs
  iexact HO

/-- Every tile of the first call does its part. -/
theorem tileObl0 (hp : ∀ (d : Dev nD) (x : S8192.Idx), (p d x).toNat < 12288) :
    (K (F := F)).TileObl (D (F := F)) 𝒱 (P p w t₀ s₀ L SH R f₀) v₀ 0 := by
  intro d c i O W hO _ _
  simp only [show (P p w t₀ s₀ L SH R f₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [Chain.defs₀_vector]; simp only [SparseCore.onTile, hci, and_self, ↓reduceDIte]
  exact (Chain.tile_body d (Chain.at' ⟨_, hci.1⟩ ⟨_, hci.2⟩) (p d) (w d) (t₀ d) (s₀ d) (hp d) O W hO).trans
    (wp_mono frame _ _ fun _ => obl_post)

/-- Every tile of the second call does its part. -/
theorem tileObl1 (hL : ∀ (d : Dev nD) (x : S65536.Idx), (L d x).toNat < 98304) :
    (K (F := F)).TileObl (D (F := F)) 𝒱 (P p w t₀ s₀ L SH R f₀) v₀ 1 := by
  intro d c i O W hO _ _
  simp only [show (P p w t₀ s₀ L SH R f₀).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_in d (at' ⟨_, hci.1⟩ ⟨_, hci.2⟩) (share (Fin.cast nCore_eq c) (Fin.cast nSub_eq i)) (L d) (SH d) (R d) (f₀ d) (hL d) O W hO).trans
    (wp_mono frame _ _ fun _ => obl_post)

/-- A SparseCore's part is its sixteen tiles'. -/
theorem bigSep_tiles (Φ : Fin 16 → sProp 𝕄) :
    (bigSep Finset.univ fun i : Fin ((K (F := F)).nSub 1) => Φ (Fin.cast nSub_eq i)) = bigSep Finset.univ Φ :=
  bigSep_congr fun _ _ => congrArg Φ (Fin.ext rfl)

/-- Both SparseCores' parts. -/
theorem bigSep_cores (Φ : Fin 2 → sProp 𝕄) :
    (bigSep Finset.univ fun i : Fin ((K (F := F)).nCore 1) => Φ (Fin.cast nCore_eq i)) = bigSep Finset.univ Φ :=
  bigSep_congr fun _ _ => congrArg Φ (Fin.ext rfl)

/-- The split of a SparseCore's part of the first call over its tiles, and the joining of what they hand back. -/
theorem vecSplit0 : (K (F := F)).VecSplit' (P p w t₀ s₀ L SH R f₀) 0 := by
  intro d c
  show Chain.coreRes d (Fin.cast Chain.nCore_eq c) (p d) (w d) (t₀ d) (s₀ d) ⊢ |={Set.univ}=> iprop(
      (bigSep Finset.univ fun i : Fin ((K (F := F)).nSub 0) =>
        Chain.tileRes d (Chain.at' (Fin.cast Chain.nCore_eq c) (Fin.cast Chain.nSub_eq i)) (p d) (w d) (t₀ d) (s₀ d))
      ∗ ((bigSep Finset.univ fun i : Fin ((K (F := F)).nSub 0) =>
          Chain.tileRes d (Chain.at' (Fin.cast Chain.nCore_eq c) (Fin.cast Chain.nSub_eq i)) (p d) (w d) (Scatter.tokens (p d)) (Scatter.gates (p d) (w d)))
          -∗ Chain.coreRes d (Fin.cast Chain.nCore_eq c) (p d) (w d) (Scatter.tokens (p d)) (Scatter.gates (p d) (w d))))
  rw [Chain.bigSep_tiles (fun i => Chain.tileRes d (Chain.at' (Fin.cast Chain.nCore_eq c) i) (p d) (w d) (t₀ d) (s₀ d)),
    Chain.bigSep_tiles (fun i => Chain.tileRes d (Chain.at' (Fin.cast Chain.nCore_eq c) i) (p d) (w d) (Scatter.tokens (p d)) (Scatter.gates (p d) (w d)))]
  rw [Chain.coreRes_eq, Chain.coreRes_eq]
  iintro H; imodintro
  isplitl [H]; · iexact H
  iintro H; iexact H

/-- What the first call takes, whole. -/
theorem st0_eq (d : Dev nD) : (bigSep Finset.univ fun c : Fin ((K (F := F)).nCore 0) => (P p w t₀ s₀ L SH R f₀).st 0 d c)
    = Chain.whole d (p d) (w d) (t₀ d) (s₀ d) :=
  (Chain.bigSep_cores fun c => Chain.coreRes d c (p d) (w d) (t₀ d) (s₀ d)).trans (Chain.cores_eq d (p d) (w d) (t₀ d) (s₀ d))

/-- What the first call hands back, whole. -/
theorem dn0_eq (d : Dev nD) : (bigSep Finset.univ fun c : Fin ((K (F := F)).nCore 0) => (P p w t₀ s₀ L SH R f₀).dn 0 d c)
    = Chain.whole d (p d) (w d) (Scatter.tokens (p d)) (Scatter.gates (p d) (w d)) :=
  (Chain.bigSep_cores fun c => Chain.coreRes d c (p d) (w d) (Scatter.tokens (p d)) (Scatter.gates (p d) (w d))).trans
    (Chain.cores_eq d (p d) (w d) (Scatter.tokens (p d)) (Scatter.gates (p d) (w d)))

/-- The split of a SparseCore's part over its tiles, and the joining of what they hand back. -/
theorem vecSplit1 : (K (F := F)).VecSplit' (P p w t₀ s₀ L SH R f₀) 1 := by
  intro d c
  show coreIn d (Fin.cast nCore_eq c) (L d) (SH d) (R d) (f₀ d) ⊢ |={Set.univ}=> iprop(
      (bigSep Finset.univ fun i : Fin ((K (F := F)).nSub 1) =>
        tileIn d (at' (Fin.cast nCore_eq c) (Fin.cast nSub_eq i)) (share (Fin.cast nCore_eq c) (Fin.cast nSub_eq i)) (L d) (SH d) (R d) (f₀ d))
      ∗ ((bigSep Finset.univ fun i : Fin ((K (F := F)).nSub 1) =>
          tileIn d (at' (Fin.cast nCore_eq c) (Fin.cast nSub_eq i)) (share (Fin.cast nCore_eq c) (Fin.cast nSub_eq i)) (L d) (SH d) (R d) (R d))
          -∗ coreIn d (Fin.cast nCore_eq c) (L d) (SH d) (R d) (R d)))
  rw [bigSep_tiles (fun i => tileIn d (at' (Fin.cast nCore_eq c) i) (share (Fin.cast nCore_eq c) i) (L d) (SH d) (R d) (f₀ d)),
    bigSep_tiles (fun i => tileIn d (at' (Fin.cast nCore_eq c) i) (share (Fin.cast nCore_eq c) i) (L d) (SH d) (R d) (R d))]
  rw [coreIn_eq, coreIn_eq]
  iintro H; imodintro
  isplitl [H]; · iexact H
  iintro H; iexact H

/-- What the second call takes, from the whole arrays. -/
theorem st1 (d : Dev nD) (Y : S98304x128.Idx → F .f32) (h : res Y (L d) (SH d) = R d) :
    iprop(((yLoc d ↦{fullShare} Y) ∗ (pLoc d ↦{fullShare} L d) ∗ (shLoc d ↦{fullShare} SH d)) ∗ oLoc d ↦{fullShare} f₀ d)
      ⊢ bigSep Finset.univ fun c : Fin ((K (F := F)).nCore 1) => (P p w t₀ s₀ L SH R f₀).st 1 d c :=
  (cores_in d Y (L d) (SH d) (R d) (f₀ d) h).trans (Entails.of_eq (bigSep_cores fun c => coreIn d c (L d) (SH d) (R d) (f₀ d)).symm)

/-- What the second call hands back, whole. -/
theorem dn1 (d : Dev nD) : (bigSep Finset.univ fun c : Fin ((K (F := F)).nCore 1) => (P p w t₀ s₀ L SH R f₀).dn 1 d c)
    ⊢ iprop(((pLoc d ↦{fullShare} L d) ∗ (shLoc d ↦{fullShare} SH d)) ∗ oLoc d ↦{fullShare} R d) :=
  (Entails.of_eq (bigSep_cores fun c => coreIn d c (L d) (SH d) (R d) (R d))).trans (cores_out d (L d) (SH d) (R d) (R d))

/-! ## The ghost state at launch -/

variable (a : (p : Fin 2) → (pcfgs (F := F) p).Adm)

/-- The handshakes' cells and tokens and the staging buffers'; no counter. -/
def u₀ : UU := ((initOf (K (F := F)).hsCells (K (F := F)).hsToks,
  initOf (Pipeline.cells (Pipeline.pin (pcfgs (F := F)) a) (cellOf_inj a)) (Pipeline.launchToks (Pipeline.pin (pcfgs (F := F)) a) (cellOf_inj a))), 1)

/-- Nothing, however many times. -/
theorem bigSep_emp' {I : Type} (s : Finset I) : (bigSep s fun _ => iprop(emp)) = (iprop(emp) : sProp 𝕄) := bigSep_emp_const s

/-- A device's part of it, for one of the two calls on the TensorCore: its staging buffers' cells and tokens. -/
def Gp (p : Fin 2) (d : Dev nD) : sProp 𝕄 :=
  iprop(Pipeline.cellsGhost (Pipeline.pin (pcfgs (F := F)) a) (EP (F := F)) p d ∗ Pipeline.toksInit (Pipeline.pin (pcfgs (F := F)) a) (EP (F := F)) p d)

/-- And for both. -/
def G (d : Dev nD) : sProp 𝕄 := iprop(Gp a 0 d ∗ Gp a 1 d)

/-- A resource of both calls is one of the first and one of the second. -/
theorem bigSep_calls (Φ : Fin 2 → sProp 𝕄) : (bigSep Finset.univ Φ) = (iprop(Φ 0 ∗ Φ 1) : sProp 𝕄) :=
  bigSep_univ_eq_bigSepL [(0 : Fin 2), (1 : Fin 2)] (by decide) (by decide) _

/-- The pair of the two protocols' states, apart. -/
theorem own_apart (x : UH) (y : UP) : (BI.own ((embL : Emb (UH × UP) 𝕄) (x, y)) : sProp 𝕄) ⊢ iprop(BI.own ((EH (F := F)) x) ∗ BI.own ((EP (F := F)) y)) :=
  own_pair_emb embL x y

/-- The launch's ghost state is the handshakes' and the devices' parts. -/
theorem hu₀ : (ownU (u₀ a) : sProp 𝕄)
    ⊢ |={Set.univ}=> iprop(BI.own ((EH (F := F)) (initOf (K (F := F)).hsCells (K (F := F)).hsToks)) ∗ (bigSep Finset.univ fun d : Dev nD => G a d)
        ∗ bigSep Finset.univ fun thr : Thread nD τ => bigSep Finset.univ fun q : Fin 2 => (P p w t₀ s₀ L SH R f₀).x q thr) := by
  unfold u₀
  iintro Hu
  ihave H := (ownU_pair (initOf (K (F := F)).hsCells (K (F := F)).hsToks,
    initOf (Pipeline.cells (Pipeline.pin (pcfgs (F := F)) a) (cellOf_inj a)) (Pipeline.launchToks (Pipeline.pin (pcfgs (F := F)) a) (cellOf_inj a))) (1 : Counters)) $$ Hu
  icases H with ⟨H, -⟩
  ihave H := (own_apart _ _) $$ H
  icases H with ⟨HH, HP⟩
  ihave H := (Pipeline.fund_ghost (Pipeline.pin (pcfgs (F := F)) a) (EP (F := F)) (cellOf_inj a)) $$ HP
  imod H
  icases H with ⟨Hc, Ht⟩
  imodintro
  isplitl [HH]; · iexact HH
  isplitl [Hc Ht]
  · unfold G Gp
    simp only [bigSep_sep', bigSep_calls]
    icases Hc with ⟨Hc0, Hc1⟩
    icases Ht with ⟨Ht0, Ht1⟩
    isplitl [Hc0 Ht0]
    · isplitl [Hc0]; · iexact Hc0
      iexact Ht0
    isplitl [Hc1]; · iexact Hc1
    iexact Ht1
  rw [show (bigSep Finset.univ fun thr : Thread nD τ => bigSep Finset.univ fun q : Fin 2 => (P p w t₀ s₀ L SH R f₀).x q thr) = bigSep Finset.univ fun _ => iprop(emp) from
    bigSep_congr fun _ _ => bigSep_emp' _, bigSep_emp']
  iempintro

end Pay

/-! ## @main on the TensorCore -/

variable (m : (ℓ : Loc nD τ sig) → Buf (Elt F) ℓ) (ρ : Dev nD → PrngReg)

/-- The host operations before the region. -/
def hostOps1 : List (HloOp τ sig (Elt F)) :=
  [StableHlo.reshape main_v1_0 main_v2 (rfl : (.i32 : EltTy) = .i32) shapeCasts_S12288_S12288x1,
    StableHlo.reshape main_v1_1 main_v3 (rfl : (.f32 : EltTy) = .f32) shapeCasts_S12288_S12288x1]

/-- The host operations between the region and the call. -/
def hostOps2 : List (HloOp τ sig (Elt F)) :=
  [StableHlo.reshape main_v4 main_v5 (rfl : (.f32 : EltTy) = .f32) shapeCasts_S12288x1024_S98304x128,
    StableHlo.unary main_arg2 main_v6 (broadcastInDim S8192x1 ![0] bcast_S8192_S8192x1_0 : (⟨S8192, .i32⟩ : BufTy).Contents (Elt F) → (⟨S8192x1, .i32⟩ : BufTy).Contents (Elt F)),
    StableHlo.nullary main_c (constantI S_ 32 8#32),
    StableHlo.unary main_c main_v7 (broadcastInDim S8192x1 ![] bcast_S_S8192x1 : (⟨S_, .i32⟩ : BufTy).Contents (Elt F) → (⟨S8192x1, .i32⟩ : BufTy).Contents (Elt F)),
    StableHlo.binary main_v6 main_v7 main_v8 (muli : (⟨S8192x1, .i32⟩ : BufTy).Contents (Elt F) → (⟨S8192x1, .i32⟩ : BufTy).Contents (Elt F) → (⟨S8192x1, .i32⟩ : BufTy).Contents (Elt F)),
    StableHlo.nullary main_v9 (iotaInDim S8 32 0),
    StableHlo.unary main_v9 main_v10 (broadcastInDim S1x8 ![1] bcast_S8_S1x8_1 : (⟨S8, .i32⟩ : BufTy).Contents (Elt F) → (⟨S1x8, .i32⟩ : BufTy).Contents (Elt F)),
    StableHlo.unary main_v8 main_v11 (broadcastInDim S8192x8 ![0, 1] bcast_S8192x1_S8192x8_0_1 : (⟨S8192x1, .i32⟩ : BufTy).Contents (Elt F) → (⟨S8192x8, .i32⟩ : BufTy).Contents (Elt F)),
    StableHlo.unary main_v10 main_v12 (broadcastInDim S8192x8 ![0, 1] bcast_S1x8_S8192x8_0_1 : (⟨S1x8, .i32⟩ : BufTy).Contents (Elt F) → (⟨S8192x8, .i32⟩ : BufTy).Contents (Elt F)),
    StableHlo.binary main_v11 main_v12 main_v13 (addi : (⟨S8192x8, .i32⟩ : BufTy).Contents (Elt F) → (⟨S8192x8, .i32⟩ : BufTy).Contents (Elt F) → (⟨S8192x8, .i32⟩ : BufTy).Contents (Elt F)),
    StableHlo.reshape main_v13 main_v14 (rfl : (.i32 : EltTy) = .i32) shapeCasts_S8192x8_S65536]

/-- @main is the shared expert's region, the scatter call, the first operations, the experts' region, the other operations, and the
    combine call. -/
theorem main_eq (d : Dev nD) : main (F := F) d = Prog.lift (.customCall (SparseCore.inner (Pipeline.entry 0)) ()) >>= fun _ =>
    (sc (F := F)).run d 0 >>= fun _ => StableHlo.seq hostOps1 >>= fun _ =>
    (Prog.lift (.customCall (SparseCore.inner (Pipeline.entry 1)) ()) >>= fun _ => StableHlo.seq hostOps2 >>= fun _ => (sc (F := F)).run d 1 >>= fun _ => pure ⟨⟩) := rfl

/-- What the device's arrays hold at launch. -/
def V0 (d : Dev nD) : Valuation τ sig (Elt F) := fun b => m (d, b)

/-- What they hold at the scatter call: the shared part written. -/
def VS (d : Dev nD) : Valuation τ sig (Elt F) := SharedCall.left (V0 m) d

/-- What they hold at the experts' region. -/
def V1 (d : Dev nD) : Valuation τ sig (Elt F) := StableHlo.after hostOps1 (Chain.sorted (VS m d))

/-- The list of rows of 128 that positions give: each position times eight, and to it the numbers 0 to 7. -/
def listOf (p : S8192.Idx → BitVec 32) : S65536.Idx → BitVec 32 := shapeCast S65536
    (addi (broadcastInDim S8192x8 ![0, 1] bcast_S8192x1_S8192x8_0_1
        (muli (broadcastInDim S8192x1 ![0] bcast_S8192_S8192x1_0 p) (broadcastInDim S8192x1 ![] bcast_S_S8192x1 (constantI S_ 32 8#32))))
      (broadcastInDim S8192x8 ![0, 1] bcast_S1x8_S8192x8_0_1 (broadcastInDim S1x8 ![1] bcast_S8_S1x8_1 (iotaInDim S8 32 0))))
    shapeCasts_S8192x8_S65536

/-- The table cut into rows of 128. -/
def cutRows (Y : S12288x1024.Idx → F .f32) : S98304x128.Idx → F .f32 := shapeCast S98304x128 Y shapeCasts_S12288x1024_S98304x128

/-- The arguments. -/
def argRefs : List (Ref sig .tc) := [main_arg0, main_arg1, main_arg2, main_arg3, main_arg4, main_arg5, main_arg6, main_arg7, main_arg8, main_arg9,
  main_arg10, main_arg11]
/-- The arrays that nothing after the shared expert's region writes: the arguments and the shared part. -/
def keptRefs : List (Ref sig .tc) := [main_arg0, main_arg1, main_arg2, main_arg3, main_arg4, main_arg5, main_arg6, main_arg7, main_arg8, main_arg9,
  main_arg10, main_arg11, main_v0]
/-- The arguments are among them. -/
theorem kept_of_arg (b : Ref sig .tc) (hb : b ∈ argRefs) : b ∈ keptRefs := by
  unfold argRefs at hb; unfold keptRefs
  fin_cases hb <;> decide
theorem sh_kept : main_v0 ∈ keptRefs := by unfold keptRefs; decide

section After
variable (U : Valuation τ sig (Elt F))

/-- Before the region nothing is written but the two columns, -/
theorem after1_v1 : StableHlo.after hostOps1 U (Proc.devRef .tc main_v2) = shapeCast S12288x1 (U (Proc.devRef .tc main_v1_0)) shapeCasts_S12288_S12288x1 := by
  unfold hostOps1; after_results <;> rfl
theorem after1_v2 : StableHlo.after hostOps1 U (Proc.devRef .tc main_v3) = shapeCast S12288x1 (U (Proc.devRef .tc main_v1_1)) shapeCasts_S12288_S12288x1 := by
  unfold hostOps1; after_results <;> rfl
theorem after1_arg (b : Ref sig .tc) (hb : b ∈ keptRefs) : StableHlo.after hostOps1 U (Proc.devRef .tc b) = U (Proc.devRef .tc b) := by
  unfold keptRefs at hb
  fin_cases hb <;> (unfold hostOps1; after_results <;> rfl)
theorem after1_v14 : StableHlo.after hostOps1 U (Proc.devRef .tc main_v15) = U (Proc.devRef .tc main_v15) := by
  unfold hostOps1; after_results <;> rfl
/-- and between the region and the call only the table's rows and the list. -/
theorem after2_v4 : StableHlo.after hostOps2 U (Proc.devRef .tc main_v5) = cutRows (U (Proc.devRef .tc main_v4)) := by
  unfold hostOps2; after_results <;> rfl
theorem after2_v13 : StableHlo.after hostOps2 U (Proc.devRef .tc main_v14) = listOf (U (Proc.devRef .tc main_arg2)) := by
  unfold hostOps2; after_results <;> rfl
theorem after2_v14 : StableHlo.after hostOps2 U (Proc.devRef .tc main_v15) = U (Proc.devRef .tc main_v15) := by
  unfold hostOps2; after_results <;> rfl
theorem after2_arg (b : Ref sig .tc) (hb : b ∈ keptRefs) : StableHlo.after hostOps2 U (Proc.devRef .tc b) = U (Proc.devRef .tc b) := by
  unfold keptRefs at hb
  fin_cases hb <;> (unfold hostOps2; after_results <;> rfl)
end After

/-- What the first call is given, the positions, -/
abbrev Pof (d : Dev nD) : S8192.Idx → BitVec 32 := m ((SparseCore.T d).loc main_arg2)
/-- the gates, -/
abbrev Wof (d : Dev nD) : S8192.Idx → F .f32 := m ((SparseCore.T d).loc main_arg3)
/-- and what the sorted arrays hold before it. -/
abbrev Tof (d : Dev nD) : S12288.Idx → BitVec 32 := m ((SparseCore.T d).loc main_v1_0)
abbrev Sof (d : Dev nD) : S12288.Idx → F .f32 := m ((SparseCore.T d).loc main_v1_1)

/-- What the second call is given, the list of rows. -/
abbrev Lof (d : Dev nD) : S65536.Idx → BitVec 32 := listOf (m ((SparseCore.T d).loc main_arg2))
/-- What the second call is given, the shared part. -/
abbrev SHof (d : Dev nD) : S4096x1024.Idx → F .f32 := SharedCall.total (V0 m) d
/-- What the result's array holds before the call. -/
abbrev Oof (d : Dev nD) : S4096x1024.Idx → F .f32 := m ((SparseCore.T d).loc main_v15)

/-- What the device's arrays hold at the call, the region having left `Y`. -/
def V2 (d : Dev nD) (Y : S12288x1024.Idx → F .f32) : Valuation τ sig (Elt F) :=
  StableHlo.after hostOps2 (Function.update (V1 m d) (Proc.devRef .tc main_v4) Y)

/-- Of the shared part's array alone the contents are not the launch's. -/
theorem VS_ne (d : Dev nD) (b : DevRef τ sig) (h : b ≠ Proc.devRef .tc main_v0) : VS m d b = m (d, b) := Function.update_of_ne h _ _
theorem VS_sh (d : Dev nD) : VS m d (Proc.devRef .tc main_v0) = SHof m d := Function.update_self (Proc.devRef .tc main_v0 : DevRef τ sig) _ (V0 m d)
/-- An argument is the launch's still, -/
theorem VS_arg (d : Dev nD) (b : Ref sig .tc) (hb : b ∈ argRefs) : VS m d (Proc.devRef .tc b) = m ((SparseCore.T d).loc b) := by
  refine VS_ne m d _ ?_
  unfold argRefs at hb
  fin_cases hb <;> decide +kernel
theorem VS_pos (d : Dev nD) : VS m d (Proc.devRef .tc main_arg2) = Pof m d := VS_arg m d main_arg2 (by simp [argRefs])
theorem VS_gate (d : Dev nD) : VS m d (Proc.devRef .tc main_arg3) = Wof m d := VS_arg m d main_arg3 (by simp [argRefs])
theorem VS_tok (d : Dev nD) : VS m d (Proc.devRef .tc main_v1_0) = Tof m d := VS_ne m d _ (by decide +kernel)
theorem VS_sgate (d : Dev nD) : VS m d (Proc.devRef .tc main_v1_1) = Sof m d := VS_ne m d _ (by decide +kernel)
theorem sorted_kept (d : Dev nD) (b : Ref sig .tc) (hb : b ∈ keptRefs) : Chain.sorted (VS m d) (Proc.devRef .tc b) = VS m d (Proc.devRef .tc b) := by
  refine Chain.sorted_ne (VS m d) _ ?_ ?_ <;> unfold keptRefs at hb <;> fin_cases hb <;> decide +kernel
/-- at the experts' region, -/
theorem V1_kept (d : Dev nD) (b : Ref sig .tc) (hb : b ∈ keptRefs) : V1 m d (Proc.devRef .tc b) = VS m d (Proc.devRef .tc b) :=
  (after1_arg _ b hb).trans (sorted_kept m d b hb)
theorem V1_arg (d : Dev nD) (b : Ref sig .tc) (hb : b ∈ argRefs) : V1 m d (Proc.devRef .tc b) = m ((SparseCore.T d).loc b) :=
  (V1_kept m d b (kept_of_arg b hb)).trans (VS_arg m d b hb)
/-- The region's two columns are the sorted arrays. -/
theorem V1_v1 (d : Dev nD) : V1 m d (Proc.devRef .tc main_v2) = shapeCast S12288x1 (Scatter.tokens (Pof m d)) shapeCasts_S12288_S12288x1 :=
  (after1_v1 _).trans (congrArg (fun x => shapeCast S12288x1 x shapeCasts_S12288_S12288x1)
    ((Chain.sorted_tok (VS m d)).trans (congrArg Scatter.tokens (VS_pos m d))))
theorem V1_v2 (d : Dev nD) : V1 m d (Proc.devRef .tc main_v3) = shapeCast S12288x1 (Scatter.gates (Pof m d) (Wof m d)) shapeCasts_S12288_S12288x1 :=
  (after1_v2 _).trans (congrArg (fun x => shapeCast S12288x1 x shapeCasts_S12288_S12288x1)
    ((Chain.sorted_gate (VS m d)).trans (congrArg₂ Scatter.gates (VS_pos m d) (VS_gate m d))))
/-- And at the combine call. -/
theorem kept_ne (b : Ref sig .tc) (hb : b ∈ keptRefs) : (Proc.devRef .tc b : DevRef τ sig) ≠ Proc.devRef .tc main_v4 := by
  unfold keptRefs at hb
  fin_cases hb <;> decide +kernel
theorem V2_kept (d : Dev nD) (Y : S12288x1024.Idx → F .f32) (b : Ref sig .tc) (hb : b ∈ keptRefs) :
    V2 m d Y (Proc.devRef .tc b) = VS m d (Proc.devRef .tc b) :=
  (after2_arg _ b hb).trans ((Function.update_of_ne (kept_ne b hb) _ _).trans (V1_kept m d b hb))
theorem V2_arg (d : Dev nD) (Y : S12288x1024.Idx → F .f32) (b : Ref sig .tc) (hb : b ∈ argRefs) :
    V2 m d Y (Proc.devRef .tc b) = m ((SparseCore.T d).loc b) :=
  (V2_kept m d Y b (kept_of_arg b hb)).trans (VS_arg m d b hb)
theorem V2_sh (d : Dev nD) (Y : S12288x1024.Idx → F .f32) : V2 m d Y (Proc.devRef .tc main_v0) = SHof m d :=
  (V2_kept m d Y main_v0 sh_kept).trans (VS_sh m d)
theorem V2_v4 (d : Dev nD) (Y : S12288x1024.Idx → F .f32) : V2 m d Y (Proc.devRef .tc main_v5) = cutRows Y :=
  (after2_v4 _).trans (congrArg cutRows (Function.update_self (Proc.devRef .tc main_v4 : DevRef τ sig) Y (V1 m d)))
theorem V2_v13 (d : Dev nD) (Y : S12288x1024.Idx → F .f32) : V2 m d Y (Proc.devRef .tc main_v14) = Lof m d :=
  (after2_v13 _).trans (congrArg listOf ((Function.update_of_ne (kept_ne main_arg2 (by simp [keptRefs])) _ _).trans (V1_arg m d main_arg2 (by simp [argRefs]))))
theorem V2_v14 (d : Dev nD) (Y : S12288x1024.Idx → F .f32) : V2 m d Y (Proc.devRef .tc main_v15) = Oof m d :=
  (after2_v14 _).trans ((Function.update_of_ne (by decide +kernel) _ _).trans ((after1_v14 _).trans ((Chain.sorted_ne (VS m d) _ (by decide +kernel) (by decide +kernel)).trans
    (VS_ne m d _ (by decide +kernel)))))

/-- The arrays @main's claim is about. -/
def arrays : List (DevRef τ sig) := [Proc.devRef .tc main_arg0, Proc.devRef .tc main_arg1, Proc.devRef .tc main_arg2, Proc.devRef .tc main_arg3,
  Proc.devRef .tc main_arg4, Proc.devRef .tc main_arg5, Proc.devRef .tc main_arg6, Proc.devRef .tc main_arg7,
  Proc.devRef .tc main_arg8, Proc.devRef .tc main_arg9, Proc.devRef .tc main_arg10, Proc.devRef .tc main_arg11, Proc.devRef .tc main_v0, Proc.devRef .tc main_v5, Proc.devRef .tc main_v14, Proc.devRef .tc main_v15]

/-- They are pairwise different. -/
theorem arrays_nodup : arrays.Nodup := by unfold arrays; decide +kernel
/-- They are the TensorCore's, whole. -/
theorem arrays_mem : ∀ b ∈ arrays, b ∈ Pipeline.ucRefs τ sig := by
  intro b hb
  unfold arrays at hb
  refine Finset.mem_filter.mpr ⟨?_, ?_⟩
  · fin_cases hb <;> exact StableHlo.devRef_mem_tcRefs _
  · fin_cases hb <;> decide +kernel

/-- An argument of the device, whole, as at launch. -/
abbrev kept (d : Dev nD) (b : Ref sig .tc) : sProp 𝕄 := iprop((SparseCore.T d).loc b ↦{fullShare} m ((SparseCore.T d).loc b))

/-- The TensorCore's arrays at the call: the arguments, what the call takes, and the rest. -/
theorem held_open (d : Dev nD) (Y : S12288x1024.Idx → F .f32) :
    (StableHlo.held (SparseCore.T d) (Pipeline.ucRefs τ sig) (V2 m d Y) : sProp 𝕄)
      = iprop(kept m d main_arg0 ∗ kept m d main_arg1 ∗ kept m d main_arg2 ∗ kept m d main_arg3 ∗ kept m d main_arg4 ∗ kept m d main_arg5
          ∗ kept m d main_arg6 ∗ kept m d main_arg7 ∗ kept m d main_arg8 ∗ kept m d main_arg9 ∗ kept m d main_arg10 ∗ kept m d main_arg11 ∗ (shLoc d ↦{fullShare} SHof m d)
          ∗ (yLoc d ↦{fullShare} cutRows Y) ∗ (pLoc d ↦{fullShare} Lof m d) ∗ (oLoc d ↦{fullShare} Oof m d)
          ∗ bigSep (Pipeline.ucRefs τ sig \ arrays.toFinset) fun b => ((d, b) : Loc nD τ sig) ↦{fullShare} V2 m d Y b) := by
  have e := fun b hb => V2_arg m d Y b hb
  unfold StableHlo.held
  rw [bigSep_list (fun b => (((SparseCore.T d).1, b) : Loc nD τ sig) ↦{fullShare} V2 m d Y b) arrays _ arrays_nodup arrays_mem]
  generalize (bigSep (Pipeline.ucRefs τ sig \ arrays.toFinset) fun b => ((d, b) : Loc nD τ sig) ↦{fullShare} V2 m d Y b : sProp 𝕄) = R
  unfold arrays
  simp only [List.foldr]
  rw [e main_arg0 (by simp [argRefs]), e main_arg1 (by simp [argRefs]), e main_arg2 (by simp [argRefs]), e main_arg3 (by simp [argRefs]),
    e main_arg4 (by simp [argRefs]), e main_arg5 (by simp [argRefs]), e main_arg6 (by simp [argRefs]), e main_arg7 (by simp [argRefs]),
    e main_arg8 (by simp [argRefs]), e main_arg9 (by simp [argRefs]), e main_arg10 (by simp [argRefs]), e main_arg11 (by simp [argRefs]), V2_sh, V2_v4, V2_v13, V2_v14]

/-- What @main leaves: the arguments and the result. -/
def FIN (R : Dev nD → S4096x1024.Idx → F .f32) (d : Dev nD) : sProp 𝕄 :=
  iprop(kept m d main_arg0 ∗ kept m d main_arg1 ∗ kept m d main_arg2 ∗ kept m d main_arg3 ∗ kept m d main_arg4 ∗ kept m d main_arg5
    ∗ kept m d main_arg6 ∗ kept m d main_arg7 ∗ kept m d main_arg8 ∗ kept m d main_arg9 ∗ kept m d main_arg10 ∗ kept m d main_arg11 ∗ (oLoc d ↦{fullShare} R d))

/-- The host operations touch the TensorCore's whole arrays only. -/
theorem hostOps1_sub : ∀ op ∈ hostOps1 (F := F), op.bufs ⊆ Pipeline.ucRefs τ sig := by
  intro op hop
  refine Pipeline.sub_ucRefs op ?_
  unfold hostOps1 at hop
  simp only [List.mem_cons, List.not_mem_nil, or_false] at hop
  rcases hop with rfl | rfl
  all_goals exact StableHlo.reshape_bufs_sub ..
theorem hostOps2_sub : ∀ op ∈ hostOps2 (F := F), op.bufs ⊆ Pipeline.ucRefs τ sig := by
  intro op hop
  refine Pipeline.sub_ucRefs op ?_
  unfold hostOps2 at hop
  simp only [List.mem_cons, List.not_mem_nil, or_false] at hop
  rcases hop with rfl | rfl | rfl | rfl | rfl | rfl | rfl | rfl | rfl | rfl | rfl
  all_goals first | exact StableHlo.reshape_bufs_sub .. | exact StableHlo.unary_bufs_sub .. | exact StableHlo.nullary_bufs_sub .. | exact StableHlo.binary_bufs_sub ..

/-- None of them allocates. -/
theorem hostOps1_fresh : ∀ op ∈ hostOps1 (F := F), op.fresh = ∅ := by
  intro op hop
  unfold hostOps1 at hop
  simp only [List.mem_cons, List.not_mem_nil, or_false] at hop
  rcases hop with rfl | rfl <;> rfl
theorem hostOps2_fresh : ∀ op ∈ hostOps2 (F := F), op.fresh = ∅ := by
  intro op hop
  unfold hostOps2 at hop
  simp only [List.mem_cons, List.not_mem_nil, or_false] at hop
  rcases hop with rfl | rfl | rfl | rfl | rfl | rfl | rfl | rfl | rfl | rfl | rfl <;> rfl

section Main
variable (a : (p : Fin 2) → (pcfgs (F := F) p).Adm) (hT : ∀ c k, (a 1).1 k = V1 m c (Proc.devRef .tc (pre2.ref k)))
variable (R : Dev nD → S4096x1024.Idx → F .f32)

/-- The shared expert's call on the TensorCore: the region, its staging cells and tokens spent. -/
theorem shared_run [∀ e, Nonempty (Elt F e)] (d : Dev nD) (Φ : PUnit → sProp 𝕄) :
    iprop((iprop(boundary (SparseCore.T d) ∗ StableHlo.held (SparseCore.T d) (Pipeline.ucRefs τ sig) (VS m d) ∗ debt 0 d) -∗ Φ ⟨⟩)
        ∗ boundary (SparseCore.T d) ∗ (StableHlo.held (SparseCore.T d) (Pipeline.ucRefs τ sig) (V0 m d) ∗ debt 0 d)
        ∗ levAts (K (F := F)).L (K (F := F)).lev ∗ Gp a 0 d)
      ⊢ wp frame (wpE ((K (F := F)).defs (D (F := F))) 𝒱 (SparseCore.T d) none) Set.univ
          (Prog.lift (.customCall (SparseCore.inner (Pipeline.entry 0)) ())) Φ := by
  have h0 := (K (F := F)).wp_liftProg (D (F := F)) 𝒱 (SparseCore.T d) Set.univ none
    ((.op (.customCall (Pipeline.entry 0) ()) fun x => .ret x) : Prog (TpuEff nD τ sig (Elt F) (ΛP (F := F)) .tc) PUnit) Φ
  rw [show SparseCore.liftProg ((.op (.customCall (Pipeline.entry 0) ()) fun x => .ret x) : Prog (TpuEff nD τ sig (Elt F) (ΛP (F := F)) .tc) PUnit)
    = Prog.lift (.customCall (SparseCore.inner (Pipeline.entry 0)) ()) from rfl] at h0
  refine BI.Entails.trans ?_ h0
  have hv : ∀ u ∈ (none : Option (𝒱₀.lift).V), (𝒱₀.lift).lt (.inr ((Pipeline.pin (pcfgs (F := F)) a 0).tripCount + 1)) u := fun u hu => nomatch hu
  have h := Pipeline.RDat.RegionSeg.wp (pcfgs (F := F)) a (SharedCall.rdats a (V0 m)) none (cellOf_inj a) (EP (F := F)) (defs₀ (F := F)) 𝒱₀
    (K (F := F)).L (K (F := F)).lev (SharedCall.region a (V0 m)) d none hv (fun x => .ret x) Φ
  rw [wp_ret, show (SharedCall.region a (V0 m)).pre d = iprop(StableHlo.held (SparseCore.T d) (Pipeline.ucRefs τ sig) (V0 m d) ∗ debt 0 d) from rfl,
    show (SharedCall.region a (V0 m)).post d = iprop(StableHlo.held (SparseCore.T d) (Pipeline.ucRefs τ sig) (VS m d) ∗ debt 0 d) from rfl] at h
  refine BI.Entails.trans ?_ h
  unfold Gp
  show (_ : sProp 𝕄) ⊢ _
  iintro ⟨Hk, Hb, Hpre, Hl, Hc, Ht⟩
  isplitl [Hk]
  · iintro H
    imodintro
    iapply Hk
    iexact H
  isplitl [Hb]; · iexact Hb
  isplitl [Hpre]; · iexact Hpre
  isplitl [Hl]; · iexact Hl
  isplitl [Hc]; · iexact Hc
  iexact Ht

include hT in
/-- The experts' call on the TensorCore: the region, its staging cells and tokens spent. -/
theorem region_run [∀ e, Nonempty (Elt F e)] (d : Dev nD) (Φ : PUnit → sProp 𝕄) :
    iprop((iprop(boundary (SparseCore.T d) ∗ Experts.leaves a (V1 m) d ∗ debt 1 d) -∗ Φ ⟨⟩)
        ∗ boundary (SparseCore.T d) ∗ (StableHlo.held (SparseCore.T d) (Pipeline.ucRefs τ sig) (V1 m d) ∗ debt 1 d)
        ∗ levAts (K (F := F)).L (K (F := F)).lev ∗ Gp a 1 d)
      ⊢ wp frame (wpE ((K (F := F)).defs (D (F := F))) 𝒱 (SparseCore.T d) none) Set.univ
          (Prog.lift (.customCall (SparseCore.inner (Pipeline.entry 1)) ())) Φ := by
  have h0 := (K (F := F)).wp_liftProg (D (F := F)) 𝒱 (SparseCore.T d) Set.univ none
    ((.op (.customCall (Pipeline.entry 1) ()) fun x => .ret x) : Prog (TpuEff nD τ sig (Elt F) (ΛP (F := F)) .tc) PUnit) Φ
  rw [show SparseCore.liftProg ((.op (.customCall (Pipeline.entry 1) ()) fun x => .ret x) : Prog (TpuEff nD τ sig (Elt F) (ΛP (F := F)) .tc) PUnit)
    = Prog.lift (.customCall (SparseCore.inner (Pipeline.entry 1)) ()) from rfl] at h0
  refine BI.Entails.trans ?_ h0
  have hv : ∀ u ∈ (none : Option (𝒱₀.lift).V), (𝒱₀.lift).lt (.inr ((Pipeline.pin (pcfgs (F := F)) a 1).tripCount + 1)) u := fun u hu => nomatch hu
  have h := Pipeline.RDat.RegionSeg.wp (pcfgs (F := F)) a (Experts.rdats a (V1 m)) none (cellOf_inj a) (EP (F := F)) (defs₀ (F := F)) 𝒱₀
    (K (F := F)).L (K (F := F)).lev (Experts.region a (V1 m) hT) d none hv (fun x => .ret x) Φ
  rw [wp_ret, show (Experts.region a (V1 m) hT).pre d = iprop(StableHlo.held (SparseCore.T d) (Pipeline.ucRefs τ sig) (V1 m d) ∗ debt 1 d) from rfl,
    show (Experts.region a (V1 m) hT).post d = iprop(Experts.leaves a (V1 m) d ∗ debt 1 d) from rfl] at h
  refine BI.Entails.trans ?_ h
  unfold Gp
  show (_ : sProp 𝕄) ⊢ _
  iintro ⟨Hk, Hb, Hpre, Hl, Hc, Ht⟩
  isplitl [Hk]
  · iintro H
    imodintro
    iapply Hk
    iexact H
  isplitl [Hb]; · iexact Hb
  isplitl [Hpre]; · iexact Hpre
  isplitl [Hl]; · iexact Hl
  isplitl [Hc]; · iexact Hc
  iexact Ht

/-- The core's state between the calls: what it owes, and the rest. -/
theorem tcSt_open (n : ℕ) (d : Dev nD) : ∃ A : sProp 𝕄, (K (F := F)).tcSt EH d n = iprop(debt n d ∗ A) := ⟨_, rfl⟩

include hT in
/-- @main on the TensorCore: the shared expert's region, the scatter call, the host operations, the experts' region, the combine call, the arrays of the claim kept. -/
theorem hmain [∀ e, Nonempty (Elt F e)]
    (hG : ∀ d Y, Experts.Good a (V1 m) d Y → res (cutRows Y) (Lof m d) (SHof m d) = R d) (κ : GSem nD τ sig → ℕ) (d : Dev nD) :
    iprop((K (F := F)).ctx EH (P (Pof m) (Wof m) (Tof m) (Sof m) (Lof m) (SHof m) R (Oof m)) κ ∗ (K (F := F)).tcSt EH d 0 ∗ (K (F := F)).tcRes m ρ d ∗ G a d)
      ⊢ wp frame (wpE ((K (F := F)).defs (D (F := F))) 𝒱 (SparseCore.T d) none) Set.univ (main d)
          fun _ => iprop((K (F := F)).tcSt EH d 2 ∗ FIN m R d ∗ (K (F := F)).tcEnd d) := by
  obtain ⟨A₀, hA₀⟩ := tcSt_open (F := F) 0 d
  obtain ⟨A, hA⟩ := tcSt_open (F := F) 1 d
  have hb := Chain.held_before (F := F) d (VS m d)
  have ha := Chain.held_after (F := F) d (VS m d)
  rw [VS_pos, VS_gate, VS_tok, VS_sgate] at hb
  rw [VS_pos, VS_gate] at ha
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held (Ix := HIx 2) (Name := ℕ) (U := UU) (Lvl := ℕ) d (V0 m d), main_eq]
  iintro ⟨#Hctx, Hst, ⟨Hb, Hheld, Hts, -⟩, Hg⟩
  unfold G
  icases Hg with ⟨Hg0, Hg⟩
  ihave Hst := (Entails.of_eq hA₀) $$ Hst
  icases Hst with ⟨HW, Hst⟩
  ihave Hl := ((K (F := F)).ctx_levAts κ) $$ Hctx
  rw [wp_bind]
  iapply (shared_run m a d _)
  isplitl [Hts Hst Hg]
  swap
  · isplitl [Hb]; · iexact Hb
    isplitl [Hheld HW]
    · isplitl [Hheld]; · iexact Hheld
      iexact HW
    isplitl [Hl]; · iexact Hl
    iexact Hg0
  iintro ⟨Hb, Hheld, HW⟩
  ihave Hst := (Entails.of_eq hA₀.symm) $$ [HW Hst]
  · isplitl [HW]; · iexact HW
    iexact Hst
  ihave Hh := hb $$ Hheld
  icases Hh with ⟨Hw, Hrest⟩
  rw [wp_bind]
  iapply ((K (F := F)).wp_run (D (F := F)) 𝒱 (EH := EH) (P := P (Pof m) (Wof m) (Tof m) (Sof m) (Lof m) (SHof m) R (Oof m)) κ d 0) $$ [Hst Hw Hrest Hb Hts Hg]
  isplitr; · iexact Hctx
  isplitl [Hst]; · iexact Hst
  isplitl [Hw]
  · iapply (Entails.of_eq (st0_eq (Pof m) (Wof m) (Tof m) (Sof m) (Lof m) (SHof m) R (Oof m) d).symm)
    iexact Hw
  iintro ⟨Hst, Hdn⟩
  ihave Hw := (Entails.of_eq (dn0_eq (Pof m) (Wof m) (Tof m) (Sof m) (Lof m) (SHof m) R (Oof m) d)) $$ Hdn
  ihave Hheld := ha $$ [Hw Hrest]
  · isplitl [Hw]; · iexact Hw
    iexact Hrest
  ihave Hst := (show (K (F := F)).tcSt EH d ((0 : Fin 2).val + 1) ⊢ iprop(debt 1 d ∗ A) from Entails.of_eq hA) $$ Hst
  iapply (StableHlo.wp_seq 𝒱 none Set.univ d (Pipeline.ucRefs τ sig) _ hostOps1 hostOps1_sub hostOps1_fresh (Chain.sorted (VS m d))) $$ [Hb Hheld]
  · isplitl [Hb] <;> iassumption
  iintro ⟨Hb, Hheld⟩
  rw [wp_bind]
  icases Hst with ⟨HW, Hst⟩
  ihave Hl := ((K (F := F)).ctx_levAts κ) $$ Hctx
  iapply (region_run m a hT d _)
  isplitl [Hts Hst]
  swap
  · isplitl [Hb]; · iexact Hb
    isplitl [Hheld HW]
    · isplitl [Hheld]; · iexact Hheld
      iexact HW
    isplitl [Hl]; · iexact Hl
    iexact Hg
  unfold Experts.leaves
  iintro ⟨Hb, ⟨%Y, %hY, Hheld⟩, HW⟩
  iapply (StableHlo.wp_seq 𝒱 none Set.univ d (Pipeline.ucRefs τ sig) (fun _ => (sc (F := F)).run d 1 >>= fun _ => pure ⟨⟩) hostOps2 hostOps2_sub hostOps2_fresh
    (Function.update (V1 m d) (Proc.devRef .tc main_v4) Y)) $$ [Hb Hheld]
  · isplitl [Hb] <;> iassumption
  iintro ⟨Hb, Hheld⟩
  ihave Hh := (show StableHlo.held (d.tc : Thread nD τ) (Pipeline.ucRefs τ sig)
      (StableHlo.after hostOps2 (Function.update (V1 m d) (Proc.devRef .tc main_v4) Y)) ⊢ _ from Entails.of_eq (held_open m d Y)) $$ Hheld
  icases Hh with ⟨H0, H1, H2, H3, H4, H5, H6, H7, H8, H9, H10, H11, HS, HY, HL, HO, -⟩
  simp only [wp_bind, wp_pure]
  iapply ((K (F := F)).wp_run (D (F := F)) 𝒱 (EH := EH) (P := P (Pof m) (Wof m) (Tof m) (Sof m) (Lof m) (SHof m) R (Oof m)) κ d 1) $$ [Hst HW HS HY HL HO H0 H1 H2 H3 H4 H5 H6 H7 H8 H9 H10 H11 Hb Hts]
  isplitr; · iexact Hctx
  isplitl [Hst HW]
  · iapply (Entails.of_eq hA.symm)
    isplitl [HW]; · iexact HW
    iexact Hst
  isplitl [HS HY HL HO]
  · iapply (st1 (Pof m) (Wof m) (Tof m) (Sof m) (Lof m) (SHof m) R (Oof m) d (cutRows Y) (hG d Y hY))
    isplitr [HO]; swap; · iexact HO
    isplitl [HY]; · iexact HY
    isplitl [HL]; · iexact HL
    iexact HS
  iintro ⟨Hst, Hdn⟩
  ihave Hdn' := (dn1 (Pof m) (Wof m) (Tof m) (Sof m) (Lof m) (SHof m) R (Oof m) d) $$ Hdn
  icases Hdn' with ⟨-, HO⟩
  imodintro
  isplitl [Hst]; · iexact Hst
  unfold FIN
  isplitr [Hb Hts]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HO
  isplitl [Hb] <;> iassumption

end Main

/-- What the claim reads of the final memory. -/
def fq (R : Dev nD → S4096x1024.Idx → F .f32) (d : Dev nD) (s' : Phys nD τ sig (Elt F)) : Prop :=
  (∀ b ∈ argRefs, s'.mem.mem ((SparseCore.T d).loc b) = m ((SparseCore.T d).loc b)) ∧ s'.mem.mem (oLoc d) = R d

/-- An array held whole is what the memory holds. -/
theorem mem_of_held (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- The final memory holds what @main left. -/
theorem hfin (R : Dev nD → S4096x1024.Idx → F .f32) (d : Dev nD) (s' : Phys nD τ sig (Elt F)) : iprop(FIN m R d ∗ SI s') ⊢ (⌜fq m R d s'⌝ : sProp 𝕄) := by
  unfold FIN
  iintro ⟨⟨H0, H1, H2, H3, H4, H5, H6, H7, H8, H9, H10, H11, HO⟩, HSI⟩
  ihave H := (mem_of_held ((SparseCore.T d).loc main_arg0) _ s') $$ [H0 HSI]
  · isplitl [H0] <;> iassumption
  icases H with ⟨%h0, HSI⟩
  ihave H := (mem_of_held ((SparseCore.T d).loc main_arg1) _ s') $$ [H1 HSI]
  · isplitl [H1] <;> iassumption
  icases H with ⟨%h1, HSI⟩
  ihave H := (mem_of_held ((SparseCore.T d).loc main_arg2) _ s') $$ [H2 HSI]
  · isplitl [H2] <;> iassumption
  icases H with ⟨%h2, HSI⟩
  ihave H := (mem_of_held ((SparseCore.T d).loc main_arg3) _ s') $$ [H3 HSI]
  · isplitl [H3] <;> iassumption
  icases H with ⟨%h3, HSI⟩
  ihave H := (mem_of_held ((SparseCore.T d).loc main_arg4) _ s') $$ [H4 HSI]
  · isplitl [H4] <;> iassumption
  icases H with ⟨%h4, HSI⟩
  ihave H := (mem_of_held ((SparseCore.T d).loc main_arg5) _ s') $$ [H5 HSI]
  · isplitl [H5] <;> iassumption
  icases H with ⟨%h5, HSI⟩
  ihave H := (mem_of_held ((SparseCore.T d).loc main_arg6) _ s') $$ [H6 HSI]
  · isplitl [H6] <;> iassumption
  icases H with ⟨%h6, HSI⟩
  ihave H := (mem_of_held ((SparseCore.T d).loc main_arg7) _ s') $$ [H7 HSI]
  · isplitl [H7] <;> iassumption
  icases H with ⟨%h7, HSI⟩
  ihave H := (mem_of_held ((SparseCore.T d).loc main_arg8) _ s') $$ [H8 HSI]
  · isplitl [H8] <;> iassumption
  icases H with ⟨%h8, HSI⟩
  ihave H := (mem_of_held ((SparseCore.T d).loc main_arg9) _ s') $$ [H9 HSI]
  · isplitl [H9] <;> iassumption
  icases H with ⟨%h9, HSI⟩
  ihave H := (mem_of_held ((SparseCore.T d).loc main_arg10) _ s') $$ [H10 HSI]
  · isplitl [H10] <;> iassumption
  icases H with ⟨%h10, HSI⟩
  ihave H := (mem_of_held ((SparseCore.T d).loc main_arg11) _ s') $$ [H11 HSI]
  · isplitl [H11] <;> iassumption
  icases H with ⟨%h11, HSI⟩
  ihave H := (mem_of_held (oLoc d) _ s') $$ [HO HSI]
  · isplitl [HO] <;> iassumption
  icases H with ⟨%h, HSI⟩
  ipureintro
  refine ⟨fun b hb => ?_, h⟩
  unfold argRefs at hb
  fin_cases hb
  · exact h0
  · exact h1
  · exact h2
  · exact h3
  · exact h4
  · exact h5
  · exact h6
  · exact h7
  · exact h8
  · exact h9
  · exact h10
  · exact h11

/-! ## The program's run -/

/-- The end of the run: every device's arrays as `fq` says, every semaphore back at zero. -/
def QC (R : Dev nD → S4096x1024.Idx → F .f32) : PUnit × MemSt nD τ sig (Elt F) → Prop := fun r =>
  (∀ c : Dev nD, (∀ b ∈ argRefs, r.2.mem ((SparseCore.T c).loc b) = m ((SparseCore.T c).loc b)) ∧ r.2.mem (oLoc c) = R c) ∧ r.2.sem = fun _ => 0

/-- Every execution ends so, when every position and the list at the second call name rows of the table and every table the region may leave gives
    the result `R`. -/
theorem run_main [∀ e, Nonempty (Elt F e)] (a : (p : Fin 2) → (pcfgs (F := F) p).Adm)
    (hT : ∀ c k, (a 1).1 k = V1 m c (Proc.devRef .tc (pre2.ref k))) (R : Dev nD → S4096x1024.Idx → F .f32)
    (hp : ∀ (d : Dev nD) (x : S8192.Idx), (Pof m d x).toNat < 12288) (hL : ∀ (d : Dev nD) (x : S65536.Idx), (Lof m d x).toNat < 98304)
    (hG : ∀ d Y, Experts.Good a (V1 m) d Y → res (cutRows Y) (Lof m d) (SHof m d) = R d) :
    θ_run (Cert.KernelIdeal.defs (F := F)) (Cert.KernelIdeal.threads (F := F)) ⟨m, fun _ => 0, ρ⟩ (QC m R) :=
  SparseCore.Cfg.θ_run_sc_quiescent (K := K (F := F)) (D := D (F := F)) (𝒱 := 𝒱) (EH := EH) (P := P (Pof m) (Wof m) (Tof m) (Sof m) (Lof m) (SHof m) R (Oof m)) (A := ∅) facts v₀
    (fun q hq => match q with | 0 => nomatch hq | 1 => nomatch hq)
    (fun q _ => match q with | 0 => tileObl0 (Pof m) (Wof m) (Tof m) (Sof m) (Lof m) (SHof m) R (Oof m) hp | 1 => tileObl1 (Pof m) (Wof m) (Tof m) (Sof m) (Lof m) (SHof m) R (Oof m) hL)
    (fun q _ => match q with
      | 0 => SparseCore.Cfg.VecSplit.of_plain (vecSplit0 (Pof m) (Wof m) (Tof m) (Sof m) (Lof m) (SHof m) R (Oof m))
      | 1 => SparseCore.Cfg.VecSplit.of_plain (vecSplit1 (Pof m) (Wof m) (Tof m) (Sof m) (Lof m) (SHof m) R (Oof m)))
    m ρ main (G a) (FIN m R) (u₀ a) (sep_elim_left.trans (hu₀ (Pof m) (Wof m) (Tof m) (Sof m) (Lof m) (SHof m) R (Oof m) a)) (hmain m ρ a hT R hG) (fq m R) (hfin m R) (QC m R) (fun _ h hz => ⟨h, hz⟩)

end Cert.Proof.Combine

end
-- ==== Proof.Combine.Value.lean ====
/-
  The precondition read at a position, a tile and a token, the tables it admits, and the result of the whole program as a
  function of its arguments, over any float values.
-/
module

public import proofs.«01_k».proof.Proof.Combine.Launch
public import proofs.«01_k».proof.Proof.Gen.Pre_routed
public import Idealize.ShloMosaic.Lib.StableHlo.Run
public import Idealize.ShloMosaic.Lib.ReduceAll
public import Idealize.ShloMosaic.Lib.Routing.Ops

@[expose] public section

set_option maxRecDepth 16384

noncomputable section

namespace Cert.Proof.Combine

open Cert.KernelIdeal hiding ix2
open Cert.KernelIdeal.Gen
open Idealize.ShloMosaic Idealize.ShloMosaic.TcCoe
open Idealize.ShloMosaic.SparseCore (S V T)
open Idealize.SL.Sem
open Idealize.ShloMosaic.StableHlo
open Idealize.ShloMosaic.ValueIdx

variable {F : FTy → Type} [FloatOps F]
/-! ## The precondition -/

/-- Every position names a row of the table of expert outputs. -/
def InRows (p : S8192.Idx → BitVec 32) : Prop := ∀ i, (p i).toNat < 12288

/-- What the precondition says: every position names a row, every tile an expert, and every position lies in a tile marked as
    used. -/
structure Routed (te u : S48.Idx → BitVec 32) (p : S8192.Idx → BitVec 32) : Prop where
  rows : InRows p
  experts : ∀ i, (te i).toNat < 16
  marked : ∀ k : Fin 8192, u (ix1 (⟨(p (ix1 k)).toNat % 12288 / 256, by have := Nat.mod_lt (p (ix1 k)).toNat (show 0 < 12288 by decide); omega⟩ : Fin 48)) ≠ 0#32

/-- A word that is at least zero and below a bound, both read as signed. -/
theorem word_lt {w : BitVec 32} {n : ℕ} (hn : n < 2 ^ 31) (h : IntOp.andi (IntOp.cmpi .sge w 0#32) (IntOp.cmpi .slt w (BitVec.ofNat 32 n)) = 1#1) : w.toNat < n := by
  obtain ⟨e1, e2⟩ := IntOp.andi_eq_one.1 h
  have h1 := IntOp.cmpi_sge.1 e1
  have h2 := IntOp.cmpi_slt.1 e2
  rw [BitVec.toInt_eq_toNat_cond] at h1 h2
  rw [StableHlo.Predicate.toInt_ofNat_small n hn] at h2
  have h1' : (0 : Int) ≤ (if 2 * w.toNat < 2 ^ 32 then (w.toNat : Int) else (w.toNat : Int) - (2 ^ 32 : ℕ)) := h1
  have := w.isLt
  split at h1' <;> omega

/-- The precondition says so. -/
theorem routed_of_pre {te u : IVec S48 32} {p : IVec S8192 32} {g : FVec F S8192 .f32} {xb : FVec F S4096x1024 .bf16}
    {w1 w2 w3 : FVec F S16x1024x1024 .f32} {x2 s1 s2 : FVec F S4096x1024 .f32} {s3 : FVec F S1024x4096 .f32}
    (h : Cert.Pre_routed.fn (F := F) te u p g xb w1 w2 w3 x2 s1 s2 s3 = fun _ => 1#1) : Routed te u p := by
  have e := congrFun h ix0
  dsimp only [Cert.Pre_routed.fn, Cert.Pre_routed.fn_part1] at e
  haveI : Subsingleton Cert.Pre_routed.S_.Idx := ⟨fun a b => funext fun k => k.elim0⟩
  obtain ⟨e, e4⟩ := IntOp.andi_eq_one.1 e
  obtain ⟨e1, e2⟩ := IntOp.andi_eq_one.1 e
  have hp : InRows p := fun i => word_lt (by decide) (Host.reduce_andi_all _ _ _ _ ix0 e1 i)
  refine ⟨hp, fun i => word_lt (by decide) (Host.reduce_andi_all _ _ _ _ ix0 e2 i), fun k hu => ?_⟩
  have hk := hp (ix1 k)
  have hb := Nat.mod_eq_of_lt hk
  have e5 := Host.reduce_andi_all _ _ _ _ ix0 e4 (ix2 k (⟨(p (ix1 k)).toNat % 12288 / 256, by omega⟩ : Fin 48))
  have f1 := Routing.bcCols (α := BitVec 32) (n := 8192) (m := 48) Cert.Pre_routed.Gen.bcast_S48_S1x48_1 Cert.Pre_routed.Gen.bcast_S1x48_S8192x48_0_1 (iotaInDim Cert.Pre_routed.S48 32 0) k
    (⟨(p (ix1 k)).toNat % 12288 / 256, by omega⟩ : Fin 48)
  have f2 := Routing.bcRows (α := BitVec 32) (n := 8192) (m := 48) Cert.Pre_routed.Gen.bcast_S8192_S8192x1_0 Cert.Pre_routed.Gen.bcast_S8192x1_S8192x48_0_1
    (Host.shrui p (broadcastInDim Cert.Pre_routed.S8192 ![] Cert.Pre_routed.Gen.bcast_S_S8192 (constantI Cert.Pre_routed.S_ 32 8#32))) k
    (⟨(p (ix1 k)).toNat % 12288 / 256, by omega⟩ : Fin 48)
  have f3 : broadcastInDim Cert.Pre_routed.S8192x48 ![0, 1] Cert.Pre_routed.Gen.bcast_S1x48_S8192x48_0_1
      (cmpi .ne (broadcastInDim Cert.Pre_routed.S1x48 ![1] Cert.Pre_routed.Gen.bcast_S48_S1x48_1 u)
        (broadcastInDim Cert.Pre_routed.S1x48 ![] Cert.Pre_routed.Gen.bcast_S_S1x48 (constantI Cert.Pre_routed.S_ 32 0#32)))
      (ix2 k (⟨(p (ix1 k)).toNat % 12288 / 256, by omega⟩ : Fin 48)) = 0#1 := by
    refine (broadcastInDim_apply _ _ _ _ (ix2 (0 : Fin 1) (⟨(p (ix1 k)).toNat % 12288 / 256, by omega⟩ : Fin 48)) fun a => ?_).trans ?_
    · match a with
      | ⟨0, _⟩ => rfl
      | ⟨1, _⟩ => rfl
    have f4 : broadcastInDim Cert.Pre_routed.S1x48 ![1] Cert.Pre_routed.Gen.bcast_S48_S1x48_1 u (ix2 (0 : Fin 1) (⟨(p (ix1 k)).toNat % 12288 / 256, by omega⟩ : Fin 48)) = 0#32 := by
      refine (broadcastInDim_apply _ _ _ _ (ix1 (⟨(p (ix1 k)).toNat % 12288 / 256, by omega⟩ : Fin 48)) fun a => ?_).trans hu
      match a with
      | ⟨0, _⟩ => rfl
    show IntOp.cmpi .ne _ 0#32 = 0#1
    rw [f4]; rfl
  have f5 : IntOp.ori (IntOp.cmpi .ne (BitVec.ofNat 32 ((p (ix1 k)).toNat % 12288 / 256)) (IntOp.shrui .host (p (ix1 k)) 8#32)) 0#1 = 1#1 :=
    (congrArg₂ IntOp.ori (congrArg₂ (IntOp.cmpi .ne) f1 f2) f3).symm.trans e5
  have f6 : IntOp.shrui .host (p (ix1 k)) 8#32 = BitVec.ofNat 32 ((p (ix1 k)).toNat % 12288 / 256) := by
    unfold IntOp.shrui
    rw [if_pos (by decide)]
    apply BitVec.eq_of_toNat_eq
    rw [BitVec.ushiftRight_eq', BitVec.toNat_ushiftRight, Nat.shiftRight_eq_div_pow]
    refine Eq.trans ?_ (BitVec.toNat_ofNat _ _).symm
    show (p (ix1 k)).toNat / 256 = _
    omega
  rw [f6] at f5
  have f7 : ∀ x : BitVec 32, IntOp.ori (IntOp.cmpi .ne x x) 0#1 = 0#1 := fun x => by
    show (BitVec.ofBool (x != x)) ||| 0#1 = 0#1
    simp
  rw [f7] at f5
  exact absurd f5 (by decide)

/-! ## The list and the table at an entry -/

/-- A row of 128 of the table: its place in the row of 1024 it is cut from. -/
theorem Y_at (Y : S12288x1024.Idx → F .f32) (r : Fin 98304) (j : Fin 128) :
    cutRows Y (ix2 r j) = Y (ix2 (⟨r.val / 8, by have := r.isLt; omega⟩ : Fin 12288) (⟨128 * (r.val % 8) + j.val, by have := j.isLt; omega⟩ : Fin 1024)) := by
  refine shapeCast_apply _ _ _ _ ?_
  rw [Shape.rowMajor_val_two, Shape.rowMajor_val_two]
  show r.val / 8 * 1024 + (128 * (r.val % 8) + j.val) = r.val * 128 + j.val
  omega

/-- The list at an entry. -/
theorem L_at (p : S8192.Idx → BitVec 32) (k : Fin 65536) :
    listOf p (ix1 k) = p (ix1 (⟨k.val / 8, by have := k.isLt; omega⟩ : Fin 8192)) * 8#32 + BitVec.ofNat 32 (k.val % 8) := by
  have hk := k.isLt
  unfold listOf
  rw [Routing.cast21 _ _ (⟨k.val / 8, by omega⟩ : Fin 8192) (⟨k.val % 8, by omega⟩ : Fin 8) k (by show k.val = k.val / 8 * 8 + k.val % 8; omega)]
  show _ + _ = _ + _
  congr 1
  · refine (broadcastInDim_apply _ _ _ _ (ix2 (⟨k.val / 8, by omega⟩ : Fin 8192) (0 : Fin 1)) fun a => ?_).trans ?_
    · match a with
      | ⟨0, _⟩ => rfl
      | ⟨1, _⟩ => rfl
    show _ * _ = _ * _
    rw [Routing.bcCol]
    rfl

/-- Where the positions name rows, the list's entry is a number: eight times the position and the entry's place in its eight. -/
theorem L_toNat {p : S8192.Idx → BitVec 32} (h : InRows p) (k : Fin 65536) :
    (listOf p (ix1 k)).toNat = 8 * (p (ix1 (⟨k.val / 8, by have := k.isLt; omega⟩ : Fin 8192))).toNat + k.val % 8 := by
  rw [L_at]
  have := h (ix1 (⟨k.val / 8, by have := k.isLt; omega⟩ : Fin 8192))
  rw [BitVec.toNat_add, BitVec.toNat_mul, BitVec.toNat_ofNat]
  simp only [BitVec.toNat_ofNat]
  omega

/-- Every entry of the list names a row of 128. -/
theorem L_lt {p : S8192.Idx → BitVec 32} (h : InRows p) (x : S65536.Idx) : (listOf p x).toNat < 98304 := by
  obtain ⟨k, rfl⟩ : ∃ k : Fin 65536, x = ix1 k := ⟨x 0, eq_ix1 x⟩
  rw [L_toNat h]
  have := h (ix1 (⟨k.val / 8, by have := k.isLt; omega⟩ : Fin 8192))
  omega

/-! ## The sorted tokens -/

/-- Every sorted token is a token. -/
theorem tokens_lt (p : S8192.Idx → BitVec 32) (j : S12288.Idx) : (Scatter.tokens p j).toNat < 4096 := by
  have key : ∀ n, n ≤ 8192 → (Scatter.put 0#32 (Scatter.placeOf p) (fun k => BitVec.ofNat 32 (k / 2)) n j).toNat < 4096 := fun n => by
    induction n with
    | zero => intro _; exact (show (0#32 : BitVec 32).toNat < 4096 by decide)
    | succ n ih =>
      intro hn
      rw [Scatter.put_succ]
      split
      · rw [BitVec.toNat_ofNat]; omega
      · exact ih (by omega)
  exact key 8192 (le_refl _)

/-! ## The result -/

/-- The table's row at a position, one entry. -/
def rowOf (y : S12288x1024.Idx → F .f32) (p : S8192.Idx → BitVec 32) (k : Fin 8192) (j : Fin 1024) : F .f32 :=
  y (ix2 (⟨(p (ix1 k)).toNat % 12288, Nat.mod_lt _ (by decide)⟩ : Fin 12288) j)

/-- The token's `h`-th position in the list of positions. -/
def tokIx (t : Fin 4096) (h : Fin 2) : Fin 8192 := ⟨2 * t.val + h.val, by have := t.isLt; have := h.isLt; omega⟩

/-- A row's contribution to an entry of the result is the table's row at the token's position. -/
theorem part_eq (Y : S12288x1024.Idx → F .f32) {p : S8192.Idx → BitVec 32} (hp : InRows p) (h : Fin 2) (t : Fin 4096) (j : Fin 1024) :
    part (cutRows Y) (listOf p) h (ix2 t j) = rowOf Y p (tokIx t h) j := by
  have ht := t.isLt
  have hj := j.isLt
  have hh := h.isLt
  have hk : listIx h (ix2 t j) = ix1 (⟨16 * t.val + 8 * h.val + j.val / 128, by omega⟩ : Fin 65536) := rfl
  unfold part rowAt
  rw [hk, Y_at, L_toNat hp]
  have hq : (⟨(⟨16 * t.val + 8 * h.val + j.val / 128, by omega⟩ : Fin 65536).val / 8, by show (16 * t.val + 8 * h.val + j.val / 128) / 8 < 8192; omega⟩ : Fin 8192) = tokIx t h :=
    Fin.ext (by show (16 * t.val + 8 * h.val + j.val / 128) / 8 = 2 * t.val + h.val; omega)
  rw [hq]
  unfold rowOf
  have hb := hp (ix1 (tokIx t h))
  refine congrArg Y (congrArg₂ ix2 (Fin.ext ?_) (Fin.ext ?_))
  · show (8 * (p (ix1 (tokIx t h))).toNat + (16 * t.val + 8 * h.val + j.val / 128) % 8) % 98304 / 8 = (p (ix1 (tokIx t h))).toNat % 12288
    omega
  · show 128 * ((8 * (p (ix1 (tokIx t h))).toNat + (16 * t.val + 8 * h.val + j.val / 128) % 8) % 98304 % 8) + j.val % 128 = j.val
    omega

/-- The combined rows: the shared part, and to it the two rows of the token's positions added. -/
def combined (y : S12288x1024.Idx → F .f32) (p : S8192.Idx → BitVec 32) (sh : S4096x1024.Idx → F .f32) : S4096x1024.Idx → F .f32 :=
  fun x => FloatOps.addf (FloatOps.addf (sh x) (rowOf y p (tokIx (x 0) 0) (x 1))) (rowOf y p (tokIx (x 0) 1) (x 1))

/-- What the combine call leaves, from a table cut into rows and the list of the positions. -/
theorem res_eq (Y : S12288x1024.Idx → F .f32) {p : S8192.Idx → BitVec 32} (hp : InRows p) (sh : S4096x1024.Idx → F .f32) :
    res (cutRows Y) (listOf p) sh = combined Y p sh := by
  funext x
  obtain ⟨t, j, rfl⟩ : ∃ (t : Fin 4096) (j : Fin 1024), x = ix2 t j := ⟨x 0, x 1, eq_ix2 x⟩
  unfold res
  rw [part_eq Y hp 0 t j, part_eq Y hp 1 t j]
  rfl

/-- Tables with the same rows at the positions combine to the same. -/
theorem combined_congr {Y Z : S12288x1024.Idx → F .f32} {p : S8192.Idx → BitVec 32} (h : ∀ k j, rowOf Y p k j = rowOf Z p k j) (sh : S4096x1024.Idx → F .f32) :
    combined Y p sh = combined Z p sh := by
  funext x
  exact congrArg₂ (fun a b : F .f32 => FloatOps.addf (FloatOps.addf (sh x) a) b) (h (tokIx (x 0) 0) (x 1)) (h (tokIx (x 0) 1) (x 1))

/-! ## The tables -/

/-- Tables whose tiles name experts are admissible: every block of weights lies inside its array. -/
theorem ok_of_experts {pf : pre2.Contents (Elt F)} (h : ∀ i : S48.Idx, (pf 0 i : BitVec 32).toNat < 16) : ok2 pf := by
  have hb : ∀ (n : ℕ), n < 16 → ∀ a : Fin 3, ((![n, 0, 0] : Fin 3 → ℕ) a + 1) * S1x1024x1024.size a ≤ S16x1024x1024.size a := fun n hn a => by
    match a with
    | ⟨0, _⟩ => show (n + 1) * 1 ≤ 16; omega
    | ⟨1, _⟩ => show (0 + 1) * 1024 ≤ 1024; omega
    | ⟨2, _⟩ => show (0 + 1) * 1024 ≤ 1024; omega
  exact ⟨fun i => ⟨hb _ (h _), .inl rfl⟩, fun i => ⟨hb _ (h _), .inl rfl⟩, fun i => ⟨hb _ (h _), .inl rfl⟩⟩

variable (m : (ℓ : Loc nD τ sig) → Buf (Elt F) ℓ)

/-- The tiles' experts, the used tiles and the positions as given, and the tokens and gates in sorted order. -/
abbrev teOf (d : Dev nD) : S48.Idx → BitVec 32 := m ((SparseCore.T d).loc main_arg0)
abbrev usedOf (d : Dev nD) : S48.Idx → BitVec 32 := m ((SparseCore.T d).loc main_arg1)
abbrev posOf (d : Dev nD) : S8192.Idx → BitVec 32 := m ((SparseCore.T d).loc main_arg2)
abbrev tokOf (d : Dev nD) : S12288.Idx → BitVec 32 := Scatter.tokens (posOf m d)
abbrev gateOf (d : Dev nD) : S12288.Idx → F .f32 := Scatter.gates (posOf m d) (m ((SparseCore.T d).loc main_arg3))

/-- The arguments are as the precondition says. -/
abbrev AllRouted : Prop := ∀ d, Routed (teOf m d) (usedOf m d) (posOf m d)

variable {m}

/-- The two tables as the experts' region finds them; the shared expert's has none. -/
def tabs (hr : AllRouted m) : (p : Fin 2) → (pcfgs (F := F) p).Adm := fun
  | 0 => cfg0.toPCfg_adm
  | 1 => ⟨fun k => V1 m 0 (Proc.devRef .tc (pre2.ref k)), ok_of_experts fun i => by
      have e : V1 m 0 (Proc.devRef .tc (pre2.ref 0)) = teOf m 0 := V1_arg m 0 main_arg0 (by decide)
      rw [e]; exact (hr 0).experts i⟩

theorem tabs_eq (hr : AllRouted m) (c : Dev nD) (k) : (tabs hr 1).1 k = V1 m c (Proc.devRef .tc (pre2.ref k)) := by
  obtain rfl : c = 0 := Subsingleton.elim _ _
  rfl

/-- The table of expert outputs. -/
def outputs (hr : AllRouted m) (c : Dev nD) : S12288x1024.Idx → F .f32 := Experts.star (tabs hr) (V1 m) c

/-- The condition of a used tile. -/
theorem cond_of_ne {w : BitVec 32} (h : w ≠ 0#32) : k2_cond1 w = 1#1 := by
  have e : Scalar.cmpi .ne w 0#32 = 1#1 := by
    show BitVec.ofBool (w != 0#32) = 1#1
    rw [bne_iff_ne.2 h]; rfl
  show Scalar.cmpi .ne (Scalar.extui (Scalar.cmpi .ne w 0#32) : BitVec 32) 0#32 = 1#1
  rw [e]; rfl

/-- Whatever the region leaves in the tiles no position lies in, the combined rows are those of the expert outputs. -/
theorem combined_good (hr : AllRouted m) (d : Dev nD) (Y : S12288x1024.Idx → F .f32) (h : Experts.Good (tabs hr) (V1 m) d Y) (sh : S4096x1024.Idx → F .f32) :
    combined Y (posOf m d) sh = combined (outputs hr d) (posOf m d) sh := by
  refine combined_congr (fun k j => ?_) sh
  unfold rowOf
  refine h _ (cond_of_ne ?_)
  have e : Experts.used (V1 m) d = usedOf m d := V1_arg m d main_arg1 (by decide)
  rw [e]
  exact (hr d).marked k

variable (ρ : Dev nD → PrngReg)

/-- The whole program's run from arguments as the precondition says: the arguments unchanged, the result the combined rows of
    the expert outputs, every counter zero again. -/
theorem run_value [∀ e, Nonempty (Elt F e)] (hr : AllRouted m) :
    θ_run (Cert.KernelIdeal.defs (F := F)) (Cert.KernelIdeal.threads (F := F)) ⟨m, fun _ => 0, ρ⟩ fun r =>
      (∀ c : Dev nD, r.2.mem ((c.tc : Thread nD τ).loc main_v15) = combined (outputs hr c) (posOf m c) (SHof m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))
      ∧ r.2.sem = fun _ => 0 :=
  (θ_run _ _ _).mono (fun _ h => ⟨fun c => by
      obtain ⟨h0, h1⟩ := h.1 c
      exact ⟨h1, h0 main_arg0 (by decide), h0 main_arg1 (by decide), h0 main_arg2 (by decide), h0 main_arg3 (by decide), h0 main_arg4 (by decide),
        h0 main_arg5 (by decide), h0 main_arg6 (by decide), h0 main_arg7 (by decide), h0 main_arg8 (by decide), h0 main_arg9 (by decide),
        h0 main_arg10 (by decide), h0 main_arg11 (by decide)⟩, h.2⟩)
    (run_main m ρ (tabs hr) (tabs_eq hr) (fun d => combined (outputs hr d) (posOf m d) (SHof m d))
      (fun d => (hr d).rows) (fun d x => L_lt (hr d).rows x)
      (fun d Y h => (res_eq Y (hr d).rows _).trans (combined_good hr d Y h _)))

end Cert.Proof.Combine

end
-- ==== Proof.Experts.Value.lean ====
/-
  The experts' grouped product at the ideal float values: a row of a tile's product is the tile's expert at the row's token,
  scaled by the row's gate.
-/
module

public import proofs.«01_k».proof.Proof.Combine.Value
public import Idealize.ShloMosaic.Lib.MatmulPlain
public import Idealize.ShloMosaic.Lib.IdealHost
public import Idealize.ShloMosaic.Lib.KernelVsHost

@[expose] public section

set_option maxRecDepth 16384

noncomputable section

namespace Cert.Proof.Experts

open Idealize.ShloMosaic
open Idealize.ShloMosaic.TcCoe
open Idealize.SL.Sem
open Idealize.ShloMosaic.ValueIdx
open scoped BigOperators

abbrev MTok : Shape := ⟨2, ![4096, 1024]⟩
abbrev MW : Shape := ⟨3, ![16, 1024, 1024]⟩

/-! ## The mathematics -/

/-- A token's product with a row of an expert's weights. -/
def dotW (x : MTok.Idx → EReal) (w : MW.Idx → EReal) (e : Fin 16) (t : Fin 4096) (h : Fin 1024) : EReal :=
  ∑ k : Fin 1024, x (ix2 t k) * w (ix3 e h k)

/-- A token's hidden value at an expert: the gate product through the sigmoid-weighted unit, times the other product. -/
def hiddenW (x : MTok.Idx → EReal) (w1 w2 : MW.Idx → EReal) (e : Fin 16) (t : Fin 4096) (h : Fin 1024) : EReal :=
  dotW x w1 e t h * Ideal.logistic (dotW x w1 e t h) * dotW x w2 e t h

/-- The expert's output for the token. -/
def expertW (x : MTok.Idx → EReal) (w1 w2 w3 : MW.Idx → EReal) (e : Fin 16) (t : Fin 4096) (d : Fin 1024) : EReal :=
  ∑ h : Fin 1024, hiddenW x w1 w2 e t h * w3 (ix3 e d h)

/-- The expert a tile's word names, and the token a row's word names. -/
def expOf (te : (⟨1, ![48]⟩ : Shape).Idx → BitVec 32) (t : Fin 48) : Fin 16 := ⟨(te (ix1 t)).toNat % 16, Nat.mod_lt _ (by decide)⟩
def tokAt (tok : (⟨1, ![12288]⟩ : Shape).Idx → BitVec 32) (r : Fin 12288) : Fin 4096 := ⟨(tok (ix1 r)).toNat % 4096, Nat.mod_lt _ (by decide)⟩
/-- The tile of a row. -/
def tileOf (r : Fin 12288) : Fin 48 := ⟨r.val / 256, by have := r.isLt; omega⟩

/-- An entry of the table of expert outputs: the row's tile's expert at the row's token, scaled by the row's gate. -/
def outW (te : (⟨1, ![48]⟩ : Shape).Idx → BitVec 32) (tok : (⟨1, ![12288]⟩ : Shape).Idx → BitVec 32) (g : (⟨1, ![12288]⟩ : Shape).Idx → EReal)
    (x : MTok.Idx → EReal) (w1 w2 w3 : MW.Idx → EReal) (r : Fin 12288) (d : Fin 1024) : EReal :=
  expertW x w1 w2 w3 (expOf te (tileOf r)) (tokAt tok r) d * g (ix1 r)

/-! ## A tile's product -/

open Cert.KernelIdeal hiding ix2
open Cert.KernelIdeal.Gen
open Cert.Proof.Combine

/-- The rows the tokens' words pick, by a product with the matrix that has a one where the column is the row's token. -/
theorem picked (v5 : Vec Ideal S256x1 .i32) (v13 : FVec Ideal S4096x1024 .bf16) (r : Fin 256) (c : Fin 1024) (t : Fin 4096)
    (ht : (v5 (ix2 r (0 : Fin 1)) : BitVec 32).toNat = t.val) :
    matmul (F := Ideal) dot_S256x4096_S4096x1024_S256x1024_1_0_0_1_n_n none
      (truncf .bf16 (sitofp .f32 (extui 32 (cmpi .eq (iota .tc S256x4096 32 [1] iota_S256x4096_d1_w32)
        (broadcastTo S256x4096 (shapeCast S256x1 v5 shapeCasts_S256x1_S256x1) broadcasts_S256x1_S256x4096)) natLt_1_32)) bitsLt_bf16_f32)
      v13 (constant (F := Ideal) S256x1024 .f32 0x00000000#32) (ix2 r c) = v13 (ix2 t c) := by
  have hz : constant (F := Ideal) S256x1024 .f32 0x00000000#32 (ix2 r c) = 0 := Ideal.ofBits_zero_f32
  refine (Ideal.matmul_plain_apply (M := 256) (K := 4096) (N := 1024) none _ v13 _ r c).trans ?_
  rw [hz, zero_add]
  have hb : broadcastTo S256x4096 (shapeCast S256x1 v5 shapeCasts_S256x1_S256x1) broadcasts_S256x1_S256x4096 = fun i => v5 (ix2 (i 0 : Fin 256) (0 : Fin 1)) := by
    rw [shapeCast_self]
    funext i
    refine broadcastTo_apply _ _ _ _ fun a => ?_
    match a with
    | ⟨0, _⟩ => rfl
    | ⟨1, _⟩ => rfl
  rw [hb]
  have he : ∀ k : Fin 4096, (truncf .bf16 (sitofp .f32 (extui 32 (cmpi .eq (iota .tc S256x4096 32 [1] iota_S256x4096_d1_w32)
        (fun i => v5 (ix2 (i 0 : Fin 256) (0 : Fin 1)))) natLt_1_32)) bitsLt_bf16_f32 : FVec Ideal S256x4096 .bf16) (ix2 r k)
        = if k = t then (1 : EReal) else 0 := fun k => by
    have hi : iota .tc S256x4096 32 [1] iota_S256x4096_d1_w32 (ix2 r k) = BitVec.ofNat 32 k.val := iota_single_apply .tc S256x4096 32 1 iota_S256x4096_d1_w32 (ix2 r k)
    have hk := k.isLt
    show (((((IntOp.cmpi .eq (iota .tc S256x4096 32 [1] iota_S256x4096_d1_w32 (ix2 r k)) (v5 (ix2 r (0 : Fin 1)))).setWidth 32 : BitVec 32).toInt : ℤ) : ℝ) : EReal) = _
    rw [hi]
    by_cases h : k = t
    · have e : v5 (ix2 r (0 : Fin 1)) = BitVec.ofNat 32 k.val := BitVec.eq_of_toNat_eq (by rw [ht, h, BitVec.toNat_ofNat]; have := t.isLt; omega)
      rw [e, if_pos h]
      have e1 : IntOp.cmpi .eq (BitVec.ofNat 32 k.val) (BitVec.ofNat 32 k.val) = 1#1 := by show BitVec.ofBool (_ == _) = _; simp
      rw [e1, show ((1#1 : BitVec 1).setWidth 32).toInt = 1 from by decide]
      simp
    · have e1 : IntOp.cmpi .eq (BitVec.ofNat 32 k.val) (v5 (ix2 r (0 : Fin 1))) = 0#1 := by
        have hne : BitVec.ofNat 32 k.val ≠ v5 (ix2 r (0 : Fin 1)) := fun e => h (Fin.ext (by
          have := congrArg BitVec.toNat e
          rw [ht, BitVec.toNat_ofNat] at this
          omega))
        show BitVec.ofBool (_ == _) = _
        rw [beq_eq_false_iff_ne.2 hne]; rfl
      rw [e1, if_neg h, show ((0#1 : BitVec 1).setWidth 32).toInt = 0 from by decide]
      simp
  refine (Finset.sum_congr rfl fun k _ => congrArg (· * v13 (ix2 k c)) (he k)).trans ?_
  refine (Finset.sum_eq_single t (fun k _ hk => ?_) fun h => absurd (Finset.mem_univ t) h).trans ?_
  · show (if k = t then (1 : EReal) else 0) * _ = 0
    rw [if_neg hk, zero_mul]
  · show (if t = t then (1 : EReal) else 0) * _ = _
    rw [if_pos rfl, one_mul]

/-- A tile's product at an index: the expert's sum over its hidden columns, scaled by the row's gate. -/
theorem pay1_apply (v5 : Vec Ideal S256x1 .i32) (v13 : FVec Ideal S4096x1024 .bf16) (v15 v20 v24 : FVec Ideal S1x1024x1024 .f32) (v27 : FVec Ideal S256x1 .f32)
    (r : Fin 256) (d : Fin 1024) (t : Fin 4096) (ht : (v5 (ix2 r (0 : Fin 1)) : BitVec 32).toNat = t.val) :
    k2_pay1 (F := Ideal) v5 v13 v15 v20 v24 v27 (ix2 r d)
      = (∑ h : Fin 1024, ((∑ k : Fin 1024, v13 (ix2 t k) * v15 (ix3 (0 : Fin 1) h k)) * Ideal.logistic (∑ k : Fin 1024, v13 (ix2 t k) * v15 (ix3 (0 : Fin 1) h k))
          * (∑ k : Fin 1024, v13 (ix2 t k) * v20 (ix3 (0 : Fin 1) h k))) * v24 (ix3 (0 : Fin 1) d h)) * v27 (ix2 r (0 : Fin 1)) := by
  have hz : ∀ j : S256x1024.Idx, constant (F := Ideal) S256x1024 .f32 0x00000000#32 j = 0 := fun j => Ideal.ofBits_zero_f32
  have hm : ∀ (a : FVec Ideal S256x1024 .f32) (b : FVec Ideal S1x1024x1024 .f32) (r : Fin 256) (h : Fin 1024),
      matmul (F := Ideal) dot_S256x1024_S1024x1024_S256x1024_1_1_0_0_n_n none a (shapeCast S1024x1024 b shapeCasts_S1x1024x1024_S1024x1024) (constant (F := Ideal) S256x1024 .f32 0x00000000#32) (ix2 r h)
        = ∑ k : Fin 1024, a (ix2 r k) * b (ix3 (0 : Fin 1) h k) := fun a b r h => by
    refine (Ideal.matmul_transposedRhs_apply (M := 256) (K := 1024) (N := 1024) none a _ _ r h).trans ?_
    rw [hz, zero_add]
    refine Finset.sum_congr rfl fun k _ => congrArg (a (ix2 r k) * ·) ?_
    refine shapeCast_apply b _ _ _ ?_
    rw [Shape.rowMajor_val_three, Shape.rowMajor_val_two]
    show (0 * 1024 + h.val) * 1024 + k.val = h.val * 1024 + k.val
    omega
  have hg : broadcastTo S256x1024 (shapeCast S256x1 v27 shapeCasts_S256x1_S256x1) broadcasts_S256x1_S256x1024 (ix2 r d) = v27 (ix2 r (0 : Fin 1)) := by
    rw [shapeCast_self]
    refine broadcastTo_apply _ _ _ _ fun a => ?_
    match a with
    | ⟨0, _⟩ => rfl
    | ⟨1, _⟩ => rfl
  refine congrArg₂ (fun a b : EReal => a * b) ?_ hg
  refine (hm _ v24 r d).trans (Finset.sum_congr rfl fun h _ => congrArg (· * v24 (ix3 (0 : Fin 1) d h)) ?_)
  have hs : ∀ (b : FVec Ideal S1x1024x1024 .f32), matmul (F := Ideal) dot_S256x1024_S1024x1024_S256x1024_1_1_0_0_n_n none
      (matmul (F := Ideal) dot_S256x4096_S4096x1024_S256x1024_1_0_0_1_n_n none
      (truncf .bf16 (sitofp .f32 (extui 32 (cmpi .eq (iota .tc S256x4096 32 [1] iota_S256x4096_d1_w32)
        (broadcastTo S256x4096 (shapeCast S256x1 v5 shapeCasts_S256x1_S256x1) broadcasts_S256x1_S256x4096)) natLt_1_32)) bitsLt_bf16_f32)
      v13 (constant (F := Ideal) S256x1024 .f32 0x00000000#32))
      (shapeCast S1024x1024 b shapeCasts_S1x1024x1024_S1024x1024) (constant (F := Ideal) S256x1024 .f32 0x00000000#32) (ix2 r h)
      = ∑ k : Fin 1024, v13 (ix2 t k) * b (ix3 (0 : Fin 1) h k) := fun b =>
    (hm _ b r h).trans (Finset.sum_congr rfl fun k _ => congrArg (· * b (ix3 (0 : Fin 1) h k)) (picked v5 v13 r k t ht))
  exact congrArg₂ (fun a b : EReal => a * Ideal.logistic a * b) (hs v15) (hs v20)

/-! ## The blocks of a tile -/

section Blocks

variable (a : (p : Fin 2) → (pcfgs (F := Ideal) p).Adm) (W : Dev nD → Valuation τ sig (Elt Ideal))

theorem index0 : ∀ n : Fin grid2.N, cc2_transform_0 (grid2.coords n) 0 = n.val ∧ cc2_transform_0 (grid2.coords n) 1 = 0 := by decide +kernel
theorem index1 : ∀ n : Fin grid2.N, cc2_transform_1 (grid2.coords n) 0 = 0 ∧ cc2_transform_1 (grid2.coords n) 1 = 0 := by decide +kernel
theorem index5 : ∀ n : Fin grid2.N, cc2_transform_5 (grid2.coords n) 0 = n.val ∧ cc2_transform_5 (grid2.coords n) 1 = 0 := by decide +kernel
theorem win0_0 (t : Fin (cfg2 (a 1)).N) : ((cfg2 (a 1)).win 0).index t (0 : Fin 2) = t.val := (index0 t).1
theorem win0_1 (t : Fin (cfg2 (a 1)).N) : ((cfg2 (a 1)).win 0).index t (1 : Fin 2) = 0 := (index0 t).2
theorem win1_0 (t : Fin (cfg2 (a 1)).N) : ((cfg2 (a 1)).win 1).index t (0 : Fin 2) = 0 := (index1 t).1
theorem win1_1 (t : Fin (cfg2 (a 1)).N) : ((cfg2 (a 1)).win 1).index t (1 : Fin 2) = 0 := (index1 t).2
theorem win5_0 (t : Fin (cfg2 (a 1)).N) : ((cfg2 (a 1)).win 5).index t (0 : Fin 2) = t.val := (index5 t).1
theorem win5_1 (t : Fin (cfg2 (a 1)).N) : ((cfg2 (a 1)).win 5).index t (1 : Fin 2) = 0 := (index5 t).2

/-- The word of the tiles' experts an index map reads at a point. -/
theorem word_at (t : Fin (cfg2 (a 1)).N) :
    ((a 1).1 0 ((Rect.unit (s := S48) (k2_off1 (grid2.coords t)) S1.size (k2_off1_inb (grid2.coords t))).point numel1_S1) : BitVec 32)
      = ((a 1).1 0 : S48.Idx → BitVec 32) (ix1 (⟨t.val, lt48 a t⟩ : Fin 48)) := by
  refine congrArg ((a 1).1 0 : S48.Idx → BitVec 32) (funext fun b => Fin.ext ?_)
  match b with
  | ⟨0, _⟩ => exact (congrFun (k2_off1_eq (grid2.coords t)) 0).trans (coord0 t)
theorem win2_0 (t : Fin (cfg2 (a 1)).N) : ((cfg2 (a 1)).win 2).index t (0 : Fin 3) = (((a 1).1 0 : S48.Idx → BitVec 32) (ix1 (⟨t.val, lt48 a t⟩ : Fin 48))).toNat :=
  congrArg BitVec.toNat (word_at a t)
theorem win3_0 (t : Fin (cfg2 (a 1)).N) : ((cfg2 (a 1)).win 3).index t (0 : Fin 3) = (((a 1).1 0 : S48.Idx → BitVec 32) (ix1 (⟨t.val, lt48 a t⟩ : Fin 48))).toNat :=
  congrArg BitVec.toNat (word_at a t)
theorem win4_0 (t : Fin (cfg2 (a 1)).N) : ((cfg2 (a 1)).win 4).index t (0 : Fin 3) = (((a 1).1 0 : S48.Idx → BitVec 32) (ix1 (⟨t.val, lt48 a t⟩ : Fin 48))).toNat :=
  congrArg BitVec.toNat (word_at a t)
theorem win2_1 (t : Fin (cfg2 (a 1)).N) : ((cfg2 (a 1)).win 2).index t (1 : Fin 3) = 0 := rfl
theorem win2_2 (t : Fin (cfg2 (a 1)).N) : ((cfg2 (a 1)).win 2).index t (2 : Fin 3) = 0 := rfl
theorem win3_1 (t : Fin (cfg2 (a 1)).N) : ((cfg2 (a 1)).win 3).index t (1 : Fin 3) = 0 := rfl
theorem win3_2 (t : Fin (cfg2 (a 1)).N) : ((cfg2 (a 1)).win 3).index t (2 : Fin 3) = 0 := rfl
theorem win4_1 (t : Fin (cfg2 (a 1)).N) : ((cfg2 (a 1)).win 4).index t (1 : Fin 3) = 0 := rfl
theorem win4_2 (t : Fin (cfg2 (a 1)).N) : ((cfg2 (a 1)).win 4).index t (2 : Fin 3) = 0 := rfl

variable (c : Dev nD)

/-- A tile's rows of the tokens' words, -/
theorem blk0 (t : Fin (cfg2 (a 1)).N) (r : Fin 256) :
    iblk a W c 0 t (ix2 r (0 : Fin 1) : S256x1.Idx) = (W c (Proc.devRef .tc main_v2) : S12288x1.Idx → BitVec 32) (ix2 (⟨256 * t.val + r.val, by have := lt48 a t; have := r.isLt; omega⟩ : Fin 12288) (0 : Fin 1)) := by
  refine congrArg (W c (Proc.devRef .tc main_v2) : S12288x1.Idx → BitVec 32) (funext fun b => Fin.ext ?_)
  refine (Pipeline.Window.rect_emb_val ((cfg2 (a 1)).win 0) t (ix2 r (0 : Fin 1) : S256x1.Idx) b).trans ?_
  match b with
  | ⟨0, _⟩ =>
    have e := win0_0 a t
    show ((cfg2 (a 1)).win 0).index t (0 : Fin 2) * 256 + r.val = 256 * t.val + r.val
    rw [e]; omega
  | ⟨1, _⟩ =>
    have e := win0_1 a t
    show ((cfg2 (a 1)).win 0).index t (1 : Fin 2) * 1 + 0 = 0
    rw [e]
/-- all the tokens, -/
theorem blk1 (t : Fin (cfg2 (a 1)).N) (r : Fin 4096) (k : Fin 1024) :
    iblk a W c 1 t (ix2 r k : S4096x1024.Idx) = (W c (Proc.devRef .tc main_arg4) : S4096x1024.Idx → EReal) (ix2 r k) := by
  refine congrArg (W c (Proc.devRef .tc main_arg4) : S4096x1024.Idx → EReal) (funext fun b => Fin.ext ?_)
  refine (Pipeline.Window.rect_emb_val ((cfg2 (a 1)).win 1) t (ix2 r k : S4096x1024.Idx) b).trans ?_
  match b with
  | ⟨0, _⟩ =>
    have e := win1_0 a t
    show ((cfg2 (a 1)).win 1).index t (0 : Fin 2) * 4096 + r.val = r.val
    rw [e]; omega
  | ⟨1, _⟩ =>
    have e := win1_1 a t
    show ((cfg2 (a 1)).win 1).index t (1 : Fin 2) * 1024 + k.val = k.val
    rw [e]; omega
/-- its rows of the gates, -/
theorem blk5 (t : Fin (cfg2 (a 1)).N) (r : Fin 256) :
    iblk a W c 5 t (ix2 r (0 : Fin 1) : S256x1.Idx) = (W c (Proc.devRef .tc main_v3) : S12288x1.Idx → EReal) (ix2 (⟨256 * t.val + r.val, by have := lt48 a t; have := r.isLt; omega⟩ : Fin 12288) (0 : Fin 1)) := by
  refine congrArg (W c (Proc.devRef .tc main_v3) : S12288x1.Idx → EReal) (funext fun b => Fin.ext ?_)
  refine (Pipeline.Window.rect_emb_val ((cfg2 (a 1)).win 5) t (ix2 r (0 : Fin 1) : S256x1.Idx) b).trans ?_
  match b with
  | ⟨0, _⟩ =>
    have e := win5_0 a t
    show ((cfg2 (a 1)).win 5).index t (0 : Fin 2) * 256 + r.val = 256 * t.val + r.val
    rw [e]; omega
  | ⟨1, _⟩ =>
    have e := win5_1 a t
    show ((cfg2 (a 1)).win 5).index t (1 : Fin 2) * 1 + 0 = 0
    rw [e]
/-- and its expert's weights, of each of the three kinds. -/
theorem blk2 (t : Fin (cfg2 (a 1)).N) (e : Fin 16) (he : (((a 1).1 0 : S48.Idx → BitVec 32) (ix1 (⟨t.val, lt48 a t⟩ : Fin 48))).toNat = e.val) (h k : Fin 1024) :
    iblk a W c 2 t (ix3 (0 : Fin 1) h k : S1x1024x1024.Idx) = (W c (Proc.devRef .tc main_arg5) : S16x1024x1024.Idx → EReal) (ix3 e h k) := by
  refine congrArg (W c (Proc.devRef .tc main_arg5) : S16x1024x1024.Idx → EReal) (funext fun b => Fin.ext ?_)
  refine (Pipeline.Window.rect_emb_val ((cfg2 (a 1)).win 2) t (ix3 (0 : Fin 1) h k : S1x1024x1024.Idx) b).trans ?_
  match b with
  | ⟨0, _⟩ =>
    have e0 := (win2_0 a t).trans he
    show ((cfg2 (a 1)).win 2).index t (0 : Fin 3) * 1 + 0 = e.val
    rw [e0]; omega
  | ⟨1, _⟩ =>
    have e0 := win2_1 a t
    show ((cfg2 (a 1)).win 2).index t (1 : Fin 3) * 1024 + h.val = h.val
    rw [e0]; omega
  | ⟨2, _⟩ =>
    have e0 := win2_2 a t
    show ((cfg2 (a 1)).win 2).index t (2 : Fin 3) * 1024 + k.val = k.val
    rw [e0]; omega
theorem blk3 (t : Fin (cfg2 (a 1)).N) (e : Fin 16) (he : (((a 1).1 0 : S48.Idx → BitVec 32) (ix1 (⟨t.val, lt48 a t⟩ : Fin 48))).toNat = e.val) (h k : Fin 1024) :
    iblk a W c 3 t (ix3 (0 : Fin 1) h k : S1x1024x1024.Idx) = (W c (Proc.devRef .tc main_arg6) : S16x1024x1024.Idx → EReal) (ix3 e h k) := by
  refine congrArg (W c (Proc.devRef .tc main_arg6) : S16x1024x1024.Idx → EReal) (funext fun b => Fin.ext ?_)
  refine (Pipeline.Window.rect_emb_val ((cfg2 (a 1)).win 3) t (ix3 (0 : Fin 1) h k : S1x1024x1024.Idx) b).trans ?_
  match b with
  | ⟨0, _⟩ =>
    have e0 := (win3_0 a t).trans he
    show ((cfg2 (a 1)).win 3).index t (0 : Fin 3) * 1 + 0 = e.val
    rw [e0]; omega
  | ⟨1, _⟩ =>
    have e0 := win3_1 a t
    show ((cfg2 (a 1)).win 3).index t (1 : Fin 3) * 1024 + h.val = h.val
    rw [e0]; omega
  | ⟨2, _⟩ =>
    have e0 := win3_2 a t
    show ((cfg2 (a 1)).win 3).index t (2 : Fin 3) * 1024 + k.val = k.val
    rw [e0]; omega
theorem blk4 (t : Fin (cfg2 (a 1)).N) (e : Fin 16) (he : (((a 1).1 0 : S48.Idx → BitVec 32) (ix1 (⟨t.val, lt48 a t⟩ : Fin 48))).toNat = e.val) (h k : Fin 1024) :
    iblk a W c 4 t (ix3 (0 : Fin 1) h k : S1x1024x1024.Idx) = (W c (Proc.devRef .tc main_arg7) : S16x1024x1024.Idx → EReal) (ix3 e h k) := by
  refine congrArg (W c (Proc.devRef .tc main_arg7) : S16x1024x1024.Idx → EReal) (funext fun b => Fin.ext ?_)
  refine (Pipeline.Window.rect_emb_val ((cfg2 (a 1)).win 4) t (ix3 (0 : Fin 1) h k : S1x1024x1024.Idx) b).trans ?_
  match b with
  | ⟨0, _⟩ =>
    have e0 := (win4_0 a t).trans he
    show ((cfg2 (a 1)).win 4).index t (0 : Fin 3) * 1 + 0 = e.val
    rw [e0]; omega
  | ⟨1, _⟩ =>
    have e0 := win4_1 a t
    show ((cfg2 (a 1)).win 4).index t (1 : Fin 3) * 1024 + h.val = h.val
    rw [e0]; omega
  | ⟨2, _⟩ =>
    have e0 := win4_2 a t
    show ((cfg2 (a 1)).win 4).index t (2 : Fin 3) * 1024 + k.val = k.val
    rw [e0]; omega

/-- A tile's product, from the arrays the region finds. -/
theorem prod_apply (t : Fin (cfg2 (a 1)).N) (r : Fin 256) (d : Fin 1024) (e : Fin 16)
    (he : (((a 1).1 0 : S48.Idx → BitVec 32) (ix1 (⟨t.val, lt48 a t⟩ : Fin 48))).toNat = e.val) (k : Fin 4096)
    (hk : ((W c (Proc.devRef .tc main_v2) : S12288x1.Idx → BitVec 32) (ix2 (⟨256 * t.val + r.val, by have := lt48 a t; have := r.isLt; omega⟩ : Fin 12288) (0 : Fin 1))).toNat = k.val) :
    prod a W c t (ix2 r d) = (expertW (W c (Proc.devRef .tc main_arg4)) (W c (Proc.devRef .tc main_arg5)) (W c (Proc.devRef .tc main_arg6)) (W c (Proc.devRef .tc main_arg7)) e k d : EReal)
      * (W c (Proc.devRef .tc main_v3) : S12288x1.Idx → EReal) (ix2 (⟨256 * t.val + r.val, by have := lt48 a t; have := r.isLt; omega⟩ : Fin 12288) (0 : Fin 1)) := by
  unfold prod
  refine (pay1_apply (iblk a W c 0 t) (iblk a W c 1 t) (iblk a W c 2 t) (iblk a W c 3 t) (iblk a W c 4 t) (iblk a W c 5 t) r d k
    ((congrArg BitVec.toNat (blk0 a W c t r)).trans hk)).trans ?_
  refine congrArg₂ (fun x y : EReal => x * y) ?_ (blk5 a W c t r)
  refine Finset.sum_congr rfl fun h _ => ?_
  let b1 : S4096x1024.Idx → EReal := iblk a W c 1 t
  let b2 : S1x1024x1024.Idx → EReal := iblk a W c 2 t
  let b3 : S1x1024x1024.Idx → EReal := iblk a W c 3 t
  have e1 : (∑ j : Fin 1024, b1 (ix2 k j) * b2 (ix3 (0 : Fin 1) h j)) = dotW (W c (Proc.devRef .tc main_arg4)) (W c (Proc.devRef .tc main_arg5)) e k h :=
    Finset.sum_congr rfl fun j _ => congrArg₂ (fun x y : EReal => x * y) (blk1 a W c t k j) (blk2 a W c t e he h j)
  have e2 : (∑ j : Fin 1024, b1 (ix2 k j) * b3 (ix3 (0 : Fin 1) h j)) = dotW (W c (Proc.devRef .tc main_arg4)) (W c (Proc.devRef .tc main_arg6)) e k h :=
    Finset.sum_congr rfl fun j _ => congrArg₂ (fun x y : EReal => x * y) (blk1 a W c t k j) (blk3 a W c t e he h j)
  refine congrArg₂ (fun x y : EReal => x * y) ?_ (blk4 a W c t e he d h)
  exact congrArg₂ (fun x y : EReal => x * Ideal.logistic x * y) e1 e2

end Blocks

/-! ## The table of expert outputs -/

variable {m : (ℓ : Loc nD τ sig) → Buf (Elt Ideal) ℓ}

/-- The table of expert outputs, from the arguments. -/
theorem outputs_apply (hr : AllRouted m) (c : Dev nD) (r : Fin 12288) (d : Fin 1024) :
    outputs hr c (ix2 r d) = outW (teOf m c) (tokOf m c) (gateOf m c) (m ((SparseCore.T c).loc main_arg4))
      (m ((SparseCore.T c).loc main_arg5)) (m ((SparseCore.T c).loc main_arg6)) (m ((SparseCore.T c).loc main_arg7)) r d := by
  have hlt := r.isLt
  have hrow : (⟨256 * (r.val / 256) + r.val % 256, by omega⟩ : Fin 12288) = r := Fin.ext (by show 256 * (r.val / 256) + r.val % 256 = r.val; omega)
  have e0 : V1 m c (Proc.devRef .tc main_v2) = shapeCast S12288x1 (tokOf m c) shapeCasts_S12288_S12288x1 := V1_v1 m c
  have e1 : V1 m c (Proc.devRef .tc main_v3) = shapeCast S12288x1 (gateOf m c : S12288.Idx → EReal) shapeCasts_S12288_S12288x1 := V1_v2 m c
  have hcol : ∀ {α : Type} (v : S12288.Idx → α), shapeCast S12288x1 v shapeCasts_S12288_S12288x1 (ix2 r (0 : Fin 1)) = v (ix1 r) := fun v =>
    Routing.cast12 v _ r (0 : Fin 1) r (by show r.val = r.val * 1 + 0; omega)
  have ht : (tabs hr 1).1 0 = teOf m c := (tabs_eq hr c 0).trans (V1_arg m c main_arg0 (by decide))
  have hp := prod_apply (tabs hr) (V1 m) c (pt (tabs hr) (r.val / 256) (by omega)) (⟨r.val % 256, Nat.mod_lt _ (by decide)⟩ : Fin 256) d (expOf (teOf m c) (tileOf r))
    (by
      have e := congrFun ht (ix1 (tileOf r))
      refine (congrArg BitVec.toNat e).trans ?_
      exact (Nat.mod_eq_of_lt ((hr c).experts _)).symm)
    (tokAt (tokOf m c) r)
    (by
      have e := congrFun e0 (ix2 (⟨256 * (r.val / 256) + r.val % 256, by omega⟩ : Fin 12288) (0 : Fin 1))
      refine (congrArg BitVec.toNat e).trans ?_
      rw [hrow, hcol]
      exact (Nat.mod_eq_of_lt (tokens_lt _ _)).symm)
  refine Eq.trans ?_ (hp.trans ?_)
  · rfl
  unfold outW
  refine congrArg₂ (fun x y : EReal => x * y) ?_ ?_
  · rw [V1_arg m c main_arg4 (by decide), V1_arg m c main_arg5 (by decide), V1_arg m c main_arg6 (by decide), V1_arg m c main_arg7 (by decide)]
  · have e := congrFun e1 (ix2 (⟨256 * (r.val / 256) + r.val % 256, by omega⟩ : Fin 12288) (0 : Fin 1))
    refine e.trans ?_
    rw [hrow, hcol]

end Cert.Proof.Experts

end
-- ==== Proof.Combine.Reference.lean ====
/-
  The reference's combination at the ideal float values: from a table of expert outputs it is the combined rows, as the
  program's is.
-/
module

public import proofs.«01_k».proof.Proof.Combine.Value
public import proofs.«01_k».proof.Proof.Gen.ReferenceIdeal.Run
public import Idealize.ShloMosaic.Lib.IdealHost
public import Idealize.ShloMosaic.Lib.Routing.OpsPair

@[expose] public section

set_option maxRecDepth 16384

noncomputable section

namespace Cert.Proof.Combine

open Cert.ReferenceIdeal Cert.ReferenceIdeal.Gen
open Idealize.ShloMosaic Idealize.ShloMosaic.TcCoe
open Idealize.SL.Sem
open Idealize.ShloMosaic.ValueIdx

/-- Rows taken at a box of row numbers: where the box holds a row's number, the result holds the row. -/
theorem gather_box {α : Type} (x : S12288x1024.Idx → α) (idx : IVec S4096x2x1 32) (t : Fin 4096) (h : Fin 2) (j : Fin 1024) (r : Fin 12288)
    (hr : (idx (ix3 t h (0 : Fin 1))).toInt = r.val) :
    Host.gather gather_S12288x1024_S4096x2x1_S4096x2x1024_2_0_n_n_0_2_11024 x idx (ix3 t h j) = x (ix2 r j) := by
  have hlt := r.isLt
  have hs : gather_S12288x1024_S4096x2x1_S4096x2x1024_2_0_n_n_0_2_11024.start (ix3 t h j) idx 0 = r.val := by
    have e : gather_S12288x1024_S4096x2x1_S4096x2x1024_2_0_n_n_0_2_11024.start (ix3 t h j) idx 0
        = min (idx (ix3 t h (0 : Fin 1))).toInt.toNat 12287 := by
      refine congrArg (fun z => min (idx z).toInt.toNat 12287) (funext fun b => Fin.ext ?_)
      match b with
      | ⟨0, _⟩ => rfl
      | ⟨1, _⟩ => rfl
      | ⟨2, _⟩ => rfl
    rw [e, hr]
    omega
  refine congrArg x (funext fun a => Fin.ext ?_)
  match a with
  | ⟨0, _⟩ => exact hs
  | ⟨1, _⟩ => exact Nat.zero_add j.val

/-- The box of row numbers the reference gathers at: the positions, two to a token, a negative one wrapped round. -/
def boxOf (p : IVec S8192 32) : IVec S4096x2x1 32 :=
  broadcastInDim S4096x2x1 ![0, 1] bcast_S4096x2_S4096x2x1_0_1
    (select (cmpi .slt (shapeCast S4096x2 p shapeCasts_S8192_S4096x2) (broadcastInDim S4096x2 ![] bcast_S_S4096x2 (constantI S_ 32 0#32)))
      (addi (shapeCast S4096x2 p shapeCasts_S8192_S4096x2) (broadcastInDim S4096x2 ![] bcast_S_S4096x2 (constantI S_ 32 12288#32)))
      (shapeCast S4096x2 p shapeCasts_S8192_S4096x2))

/-- Where the positions name rows, the box holds them. -/
theorem box_at {p : IVec S8192 32} (hp : InRows p) (t : Fin 4096) (h : Fin 2) : boxOf p (ix3 t h (0 : Fin 1)) = p (ix1 (tokIx t h)) := by
  unfold boxOf
  refine (broadcastInDim_apply _ _ _ _ (ix2 t h) fun a => ?_).trans ?_
  · match a with
    | ⟨0, _⟩ => rfl
    | ⟨1, _⟩ => rfl
  have e : shapeCast S4096x2 p shapeCasts_S8192_S4096x2 (ix2 t h) = p (ix1 (tokIx t h)) :=
    Routing.cast12 p _ t h (tokIx t h) (by show 2 * t.val + h.val = t.val * 2 + h.val; omega)
  show Scalar.select (IntOp.cmpi .slt (shapeCast S4096x2 p shapeCasts_S8192_S4096x2 (ix2 t h)) 0#32) _ (shapeCast S4096x2 p shapeCasts_S8192_S4096x2 (ix2 t h)) = _
  rw [e]
  have := hp (ix1 (tokIx t h))
  exact Routing.wrap_of_lt _ _ (by omega)

/-- What the reference computes. -/
def refOf (y : FVec Ideal S12288x1024 .f32) (p : IVec S8192 32) (sh : FVec Ideal S4096x1024 .f32) : FVec Ideal S4096x1024 .f32 :=
  addf sh (Host.reduceAdd (Host.gather gather_S12288x1024_S4096x2x1_S4096x2x1024_2_0_n_n_0_2_11024 y (boxOf p)) (constant S_ .f32 0x00000000#32)
    reducesTo_S4096x2x1024_S4096x1024_d1 h_S_)

/-- The reference's gathered rows. -/
theorem gathered_at (y : FVec Ideal S12288x1024 .f32) {p : IVec S8192 32} (hp : InRows p) (t : Fin 4096) (h : Fin 2) (j : Fin 1024) :
    Host.gather gather_S12288x1024_S4096x2x1_S4096x2x1024_2_0_n_n_0_2_11024 y (boxOf p) (ix3 t h j) = rowOf (F := Ideal) y p (tokIx t h) j := by
  have hb := hp (ix1 (tokIx t h))
  refine gather_box y (boxOf p) t h j ⟨(p (ix1 (tokIx t h))).toNat % 12288, Nat.mod_lt _ (by decide)⟩ ?_
  rw [box_at hp, StableHlo.Predicate.toInt_eq_toNat_of_lt (by omega)]
  show ((p (ix1 (tokIx t h))).toNat : Int) = (((p (ix1 (tokIx t h))).toNat % 12288 : ℕ) : Int)
  rw [Nat.mod_eq_of_lt hb]

/-- The reference computes the combined rows. -/
theorem ref_eq (y : FVec Ideal S12288x1024 .f32) {p : IVec S8192 32} (hp : InRows p) (sh : FVec Ideal S4096x1024 .f32) :
    refOf y p sh = combined (F := Ideal) y p sh := by
  funext x
  obtain ⟨t, j, rfl⟩ : ∃ (t : Fin 4096) (j : Fin 1024), x = ix2 t j := ⟨x 0, x 1, eq_ix2 x⟩
  have hR : S4096x2x1024.Reduces [1] S4096x1024 := by decide
  have e : Host.reduceAdd (Host.gather gather_S12288x1024_S4096x2x1_S4096x2x1024_2_0_n_n_0_2_11024 y (boxOf p)) (constant S_ .f32 0x00000000#32)
      reducesTo_S4096x2x1024_S4096x1024_d1 h_S_ (ix2 t j)
      = (0 : EReal) + ∑ h : Fin 2, (rowOf (F := Ideal) y p (tokIx t h) j : EReal) := by
    rw [hostReduceAdd_apply, Ideal.hostReduceAdd_single _ hR]
    refine congrArg₂ (· + ·) ?_ (Finset.sum_congr rfl fun h _ => ?_)
    · exact Ideal.ofBits_zero_f32
    · refine (congrArg _ ?_).trans (gathered_at y hp t h j)
      funext a
      match a with
      | ⟨0, _⟩ => rfl
      | ⟨1, _⟩ => rfl
      | ⟨2, _⟩ => rfl
  show (sh (ix2 t j) : EReal) + _ = (sh (ix2 t j) + rowOf (F := Ideal) y p (tokIx t 0) j) + rowOf (F := Ideal) y p (tokIx t 1) j
  rw [e, Fin.sum_univ_two, zero_add, add_assoc]

end Cert.Proof.Combine

end
-- ==== Proof.Scatter.Loops.lean ====
/-
  The scatter call's two loops: the first sets both sorted arrays to zero, sixteen entries a trip; the second writes
  sixteen assignments a trip, their tokens and their gates, at their places.
-/
module

public import proofs.«01_k».proof.Proof.Scatter.Setup
public import Idealize.ShloMosaic.Lib.VecWindow
public import Idealize.ShloMosaic.Lib.WritesUnit

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MM F

local notation "pV" => (Memref.whole Cert.ScatterIdeal.main_arg0_scv : Memref Cert.ScatterIdeal.sig Kind.scVector Space.hbm Cert.ScatterIdeal.S8192 EltTy.i32)
local notation "gV" => (Memref.whole Cert.ScatterIdeal.main_arg1_scv : Memref Cert.ScatterIdeal.sig Kind.scVector Space.hbm Cert.ScatterIdeal.S8192 EltTy.f32)
local notation "tO" => (Memref.whole Cert.ScatterIdeal.main_v0_0_scv : Memref Cert.ScatterIdeal.sig Kind.scVector Space.hbm Cert.ScatterIdeal.S12288 EltTy.i32)
local notation "gO" => (Memref.whole Cert.ScatterIdeal.main_v0_1_scv : Memref Cert.ScatterIdeal.sig Kind.scVector Space.hbm Cert.ScatterIdeal.S12288 EltTy.f32)
local notation "pB" => (Memref.whole Cert.ScatterIdeal.cc0_scratch0 : Memref Cert.ScatterIdeal.sig Kind.scVector Space.vmem Cert.ScatterIdeal.S8192 EltTy.i32)
local notation "gB" => (Memref.whole Cert.ScatterIdeal.cc0_scratch1 : Memref Cert.ScatterIdeal.sig Kind.scVector Space.vmem Cert.ScatterIdeal.S8192 EltTy.f32)
local notation "tB" => (Memref.whole Cert.ScatterIdeal.cc0_scratch2 : Memref Cert.ScatterIdeal.sig Kind.scVector Space.vmem Cert.ScatterIdeal.S12288 EltTy.i32)
local notation "sB" => (Memref.whole Cert.ScatterIdeal.cc0_scratch3 : Memref Cert.ScatterIdeal.sig Kind.scVector Space.vmem Cert.ScatterIdeal.S12288 EltTy.f32)

/-- The first loop's trips. -/
theorem trips1 : k0_t1_loop.trips = 768 := by decide +kernel
/-- The second loop's trips. -/
theorem trips2 : k0_t2_loop.trips = 512 := by decide +kernel
/-- Where a trip of the first loop stores. -/
theorem off1_eq : ∀ t : Fin k0_t1_loop.trips, k0_off1 t = ![16 * t.val] := by decide +kernel
/-- Where a trip of the second loop loads. -/
theorem off2_eq : ∀ t : Fin k0_t2_loop.trips, k0_off2 t = ![16 * t.val] := by decide +kernel

/-! ## What a trip stores -/

/-- One lane's update. -/
def lanePut {e : EltTy} (idx : IVec S16 32) (V : Vec F S16 e) (g : Vec F S12288 e) (k : Fin 16) : Vec F S12288 e :=
  fun j => if (j 0).val = (idx (Shape.ofLane (d := ![16]) k)).toNat then V (Shape.ofLane (d := ![16]) k) else g j

/-- An indexed store of sixteen lanes is the lanes' updates in order. -/
theorem storeIdx_eq {e : EltTy} (A : Vec F S12288 e) (idx : IVec S16 32) (V : Vec F S16 e)
    (h : ∀ a x, ((![idx] : Fin 1 → IVec S16 32) a x).toNat < S12288.size a) :
    storeIdx A (![idx] : Fin 1 → IVec S16 32) V (fun _ => 1#1) false h = (List.finRange 16).foldl (lanePut idx V) A := by
  unfold storeIdx
  show List.foldl _ A (List.finRange 16) = _
  refine congrArg (fun s => List.foldl s A (List.finRange 16)) ?_
  funext g k j
  refine (congrFun (if_pos (rfl : (1#1 : BitVec 1) = 1)) j).trans ?_
  unfold lanePut
  by_cases H : (j 0).val = (idx (Shape.ofLane (d := ![16]) k)).toNat
  · exact (if_pos fun a => by rw [Subsingleton.elim a (0 : Fin 1)]; exact H).trans (if_pos H).symm
  · exact (if_neg fun H' => H (H' 0)).trans (if_neg H).symm

/-- The lanes' updates, read at one entry. -/
theorem lanes_at {e : EltTy} (idx : IVec S16 32) (V : Vec F S16 e) (pl : ℕ → ℕ) (v : ℕ → Elt F e) (n : ℕ)
    (hidx : ∀ l : Fin 16, (idx (ix1 l)).toNat = pl (n + l.val)) (hV : ∀ l : Fin 16, V (ix1 l) = v (n + l.val)) (j : S12288.Idx) :
    ∀ (l : List (Fin 16)) (B : Vec F S12288 e), (l.foldl (lanePut idx V) B) j
      = l.foldl (fun b k => if (j 0).val = pl (n + k.val) then v (n + k.val) else b) (B j)
  | [], _ => rfl
  | k :: l, B => by
    rw [List.foldl_cons, List.foldl_cons, lanes_at idx V pl v n hidx hV j l]
    refine congrArg (fun b => l.foldl (fun b (k : Fin 16) => if (j 0).val = pl (n + k.val) then v (n + k.val) else b) b) ?_
    have hk : (Shape.ofLane (d := ![16]) k : S16.Idx) = ix1 k := by
      rw [eq_ix1 (Shape.ofLane (d := ![16]) k : S16.Idx)]; rfl
    unfold lanePut
    rw [hk, hidx, hV]

/-- Sixteen indexed updates in lane order are the next sixteen updates of the sorted array. -/
theorem store_put {e : EltTy} (A : Vec F S12288 e) (z : Elt F e) (pl : ℕ → ℕ) (v : ℕ → Elt F e) (n : ℕ) (idx : IVec S16 32) (V : Vec F S16 e)
    (h : ∀ a x, ((![idx] : Fin 1 → IVec S16 32) a x).toNat < S12288.size a) (hA : A = put z pl v n)
    (hidx : ∀ l : Fin 16, (idx (ix1 l)).toNat = pl (n + l.val)) (hV : ∀ l : Fin 16, V (ix1 l) = v (n + l.val)) :
    storeIdx A (![idx] : Fin 1 → IVec S16 32) V (fun _ => 1#1) false h = put z pl v (n + 16) := by
  funext j
  have hr : List.range 16 = (List.finRange 16).map Fin.val := by decide
  rw [storeIdx_eq, lanes_at idx V pl v n hidx hV j, hA]
  unfold put
  rw [List.range_add, List.foldl_append, List.foldl_map, hr, List.foldl_map]

/-- A whole load reads what the view reads. -/
theorem readAt_all {e : EltTy} (v : View sig .scVector .vmem S12288 e) (f : v.ty.Contents (Elt F)) :
    v.readAt (Elt F) (LoadRect.whole S12288) f = v.read (Elt F) f :=
  funext fun x => congrArg (v.read (Elt F) f) (funext fun a => Fin.ext (show 0 + 1 * (x a).val = (x a).val by omega))

/-- An entry of the sixteen loaded at a trip's place. -/
theorem load_at {e : EltTy} (v : View sig .scVector .vmem S8192 e) (f : v.ty.Contents (Elt F)) (t : Fin k0_t2_loop.trips)
    (inb : ∀ a, k0_off2 t a + S16.size a ≤ S8192.size a) (l : Fin 16) :
    v.readAt (Elt F) (Rect.unit (s := S8192) (k0_off2 t) S16.size inb).toLoadRect f (ix1 l)
      = v.read (Elt F) f (ix1 (⟨(16 * t.val + l.val) % 8192, Nat.mod_lt _ (by decide)⟩ : Fin 8192)) := by
  have ht : t.val < 512 := trips2 ▸ t.isLt
  rw [View.readAt_unit v f inb (off2_eq t) (off2_eq t ▸ inb)]
  refine congrArg (v.read (Elt F) f) (funext fun a => ?_)
  rw [Subsingleton.elim a (0 : Fin 1)]
  refine Fin.ext ?_
  show 16 * t.val + 1 * l.val = (16 * t.val + l.val) % 8192
  have := l.isLt; omega

/-- The tokens a trip writes: assignment `k` is token `k / 2`'s. -/
theorem pay3_at (t : Fin k0_t2_loop.trips) (l : Fin 16) : k0_pay3 t (ix1 l) = BitVec.ofNat 32 ((16 * t.val + l.val) / 2) := by
  have : ∀ (t : Fin k0_t2_loop.trips) (l : Fin 16), k0_pay3 t (ix1 l) = BitVec.ofNat 32 ((16 * t.val + l.val) / 2) := by
    decide +kernel
  exact this t l

/-- Sixteen more entries zero. -/
theorem zero_step {e : EltTy} (v : View sig .scVector .vmem S12288 e) (f : v.ty.Contents (Elt F)) (z : Elt F e) (t : Fin k0_t1_loop.trips)
    (inb : ∀ a, k0_off1 t a + S16.size a ≤ S12288.size a) (w : S16.Idx → Elt F e) (hw : ∀ x, w x = z)
    (hf : ∀ x : S12288.Idx, (x 0).val < 16 * t.val → v.read (Elt F) f x = z) (x : S12288.Idx) (hx : (x 0).val < 16 * (t.val + 1)) :
    v.read (Elt F) (v.writes (Elt F) f [⟨Rect.unit (k0_off1 t) S16.size inb, w⟩]) x = z := by
  by_cases h : (x 0).val < 16 * t.val
  · rw [View.read_writes_cons_unit_of_not_mem v f inb _ [] x (off1_eq t) 0 (.inl h)]
    exact hf x h
  · have hl : (x 0).val - 16 * t.val < 16 := by omega
    rw [View.read_writes_cons_unit_of_mem v f inb _ [] x (ix1 (⟨(x 0).val - 16 * t.val, hl⟩ : Fin 16)) (off1_eq t) fun a => ?_]
    · exact hw _
    rw [Subsingleton.elim a (0 : Fin 1)]
    show (x 0).val = 16 * t.val + ((x 0).val - 16 * t.val)
    omega

/-- The two sorted arrays' buffers, their first `n` groups of sixteen zero. -/
def zeroSt (d : Dev nD) (i : grid0.Coords) (n : ℕ) : sProp 𝕄 :=
  iprop(∃ f g, ⌜(∀ x : S12288.Idx, (x 0).val < 16 * n → (tB).view.read (Elt F) f x = 0#32)
      ∧ ∀ x : S12288.Idx, (x 0).val < 16 * n → (sB).view.read (Elt F) g x = Scalar.ofBits .f32 0x00000000#32⌝
    ∗ ((tB).view.loc (tile d i) ↦[(tB).view.set]{fullShare} f) ∗ ((sB).view.loc (tile d i) ↦[(sB).view.set]{fullShare} g))

/-- A trip of the first loop, as printed. -/
abbrev body1 (i : grid0.Coords) (h : k0_cond1 i = 1#1) : Fin k0_t1_loop.trips → Unit → Prog (Eff F i) Unit :=
  k0_t1_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc0_scoped0 cc0_scoped1 cc0_scoped2 cc0_scoped3 h

/-- A trip of the second loop, as printed. -/
abbrev body2 (i : grid0.Coords) (h : k0_cond1 i = 1#1) : Fin k0_t2_loop.trips → Unit → Prog (Eff F i) Unit :=
  k0_t2_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc0_scoped0 cc0_scoped1 cc0_scoped2 cc0_scoped3 h

/-- One trip of the first loop. -/
theorem zero_trip (d : Dev nD) (i : grid0.Coords) (h : k0_cond1 i = 1#1) (t : Fin k0_t1_loop.trips) (u : Unit) :
    zeroSt d i t.val ⊢ wp frame (wpE (defs₀ (F := F)) 𝒱₀ (tile d i) none) Set.univ (body1 i h t u) fun _ => zeroSt d i (t.val + 1) := by
  unfold zeroSt body1 k0_t1_body
  iintro ⟨%f, %g, %hfg, Ht, Hs⟩
  sl_exec
  sl_step
  iexists _; iexists _
  isplitr [Ht Hs]
  rotate_left
  · isplitl [Ht]; · iexact Ht
    iexact Hs
  ipureintro
  exact ⟨zero_step _ f _ t _ _ (fun _ => rfl) hfg.1, zero_step _ g _ t _ _ (fun _ => rfl) hfg.2⟩

/-- The buffers during the second loop: the first `n` groups of assignments written. -/
def putSt (d : Dev nD) (i : grid0.Coords) (p : S8192.Idx → BitVec 32) (w : S8192.Idx → F .f32)
    (fp : Buf (Elt F) ((pB).view.loc (tile d i))) (fg : Buf (Elt F) ((gB).view.loc (tile d i))) (n : ℕ) : sProp 𝕄 :=
  iprop(∃ f g, ⌜(tB).view.read (Elt F) f = put 0#32 (placeOf p) (fun k => BitVec.ofNat 32 (k / 2)) (16 * n)
      ∧ (sB).view.read (Elt F) g = put (Scalar.ofBits .f32 0x00000000#32) (placeOf p) (gateOf w) (16 * n)⌝
    ∗ ((pB).view.loc (tile d i) ↦[(pB).view.set]{fullShare} fp) ∗ ((gB).view.loc (tile d i) ↦[(gB).view.set]{fullShare} fg)
    ∗ ((tB).view.loc (tile d i) ↦[(tB).view.set]{fullShare} f) ∗ ((sB).view.loc (tile d i) ↦[(sB).view.set]{fullShare} g))

/-- One trip of the second loop. -/
theorem put_trip (d : Dev nD) (i : grid0.Coords) (h : k0_cond1 i = 1#1) (p : S8192.Idx → BitVec 32) (w : S8192.Idx → F .f32)
    (hp : ∀ x, (p x).toNat < 12288)
    (fp : Buf (Elt F) ((pB).view.loc (tile d i))) (fg : Buf (Elt F) ((gB).view.loc (tile d i)))
    (hfp : (pB).view.read (Elt F) fp = p) (hfg' : (gB).view.read (Elt F) fg = w)
    (t : Fin k0_t2_loop.trips) (u : Unit) :
    putSt d i p w fp fg t.val ⊢ wp frame (wpE (defs₀ (F := F)) 𝒱₀ (tile d i) none) Set.univ (body2 i h t u)
      fun _ => putSt d i p w fp fg (t.val + 1) := by
  unfold putSt body2 k0_t2_body SparseCore.vectorStoreIdx
  iintro ⟨%f, %g, %hfg, Hp, Hg, Ht, Hs⟩
  have hchk : k0_chk1 i ((pB).view.readAt (Elt F) (Rect.unit (s := S8192) (k0_off2 t) S16.size (k0_off2_inb i t h)).toLoadRect fp) := by
    have hin : ∀ (a : Fin 1) (x : S16.Idx), ((![(pB).view.readAt (Elt F) (Rect.unit (s := S8192) (k0_off2 t) S16.size (k0_off2_inb i t h)).toLoadRect fp] : Fin 1 → IVec S16 32) a x).toNat < S12288.size a := by
      intro a x
      rw [Subsingleton.elim a (0 : Fin 1), eq_ix1 x]
      show ((pB).view.readAt (Elt F) (Rect.unit (s := S8192) (k0_off2 t) S16.size (k0_off2_inb i t h)).toLoadRect fp (ix1 (x 0))).toNat < 12288
      rw [load_at (F := F) (pB).view fp t _ (x 0), hfp]
      exact hp _
    exact ⟨fun _ => hin, fun _ => hin⟩
  sl_exec
  sl_step
  iexists _; iexists _
  isplitr [Hp Hg Ht Hs]
  rotate_left
  · isplitl [Hp]; · iexact Hp
    isplitl [Hg]; · iexact Hg
    isplitl [Ht]; · iexact Ht
    iexact Hs
  ipureintro
  constructor
  · refine (View.read_writes_whole (Val := Elt F) (tB).view f _).trans ?_
    refine store_put (F := F) (e := .i32) _ _ _ _ (16 * t.val) _ _ _ ((readAt_all (tB).view _).trans hfg.1) (fun l => ?_) fun l => pay3_at t l
    rw [load_at (F := F) (pB).view fp t _ l, hfp]; rfl
  · refine (View.read_writes_whole (Val := Elt F) (sB).view g _).trans ?_
    refine store_put (F := F) (e := .f32) _ _ _ _ (16 * t.val) _ _ _ ((readAt_all (sB).view _).trans hfg.2) (fun l => ?_) fun l => ?_
    · rw [load_at (F := F) (pB).view fp t _ l, hfp]; rfl
    · rw [load_at (F := F) (gB).view fg t _ l, hfg']; rfl

end Cert.Proof.Scatter

end
-- ==== Proof.Scatter.Body.lean ====
/-
  The scatter call's body on a tile: the first tile of the first SparseCore copies the positions and the gates in, writes
  them to their places, and copies the two sorted arrays out; every other tile does nothing.
-/
module

public import proofs.«01_k».proof.Proof.Scatter.Loops

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

local notation "pV" => (Memref.whole Cert.ScatterIdeal.main_arg0_scv : Memref Cert.ScatterIdeal.sig Kind.scVector Space.hbm Cert.ScatterIdeal.S8192 EltTy.i32)
local notation "gV" => (Memref.whole Cert.ScatterIdeal.main_arg1_scv : Memref Cert.ScatterIdeal.sig Kind.scVector Space.hbm Cert.ScatterIdeal.S8192 EltTy.f32)
local notation "tO" => (Memref.whole Cert.ScatterIdeal.main_v0_0_scv : Memref Cert.ScatterIdeal.sig Kind.scVector Space.hbm Cert.ScatterIdeal.S12288 EltTy.i32)
local notation "gO" => (Memref.whole Cert.ScatterIdeal.main_v0_1_scv : Memref Cert.ScatterIdeal.sig Kind.scVector Space.hbm Cert.ScatterIdeal.S12288 EltTy.f32)
local notation "pB" => (Memref.whole Cert.ScatterIdeal.cc0_scratch0 : Memref Cert.ScatterIdeal.sig Kind.scVector Space.vmem Cert.ScatterIdeal.S8192 EltTy.i32)
local notation "gB" => (Memref.whole Cert.ScatterIdeal.cc0_scratch1 : Memref Cert.ScatterIdeal.sig Kind.scVector Space.vmem Cert.ScatterIdeal.S8192 EltTy.f32)
local notation "tB" => (Memref.whole Cert.ScatterIdeal.cc0_scratch2 : Memref Cert.ScatterIdeal.sig Kind.scVector Space.vmem Cert.ScatterIdeal.S12288 EltTy.i32)
local notation "sB" => (Memref.whole Cert.ScatterIdeal.cc0_scratch3 : Memref Cert.ScatterIdeal.sig Kind.scVector Space.vmem Cert.ScatterIdeal.S12288 EltTy.f32)

/-! ## A subcore's own buffers and semaphores, the ones the body names first -/

/-- The listed members of a set taken out of a separating conjunction over it, in order. -/
theorem bigSep_list {I : Type} [DecidableEq I] (Φ : I → sProp 𝕄) : ∀ (l : List I) (s : Finset I), l.Nodup → (∀ x ∈ l, x ∈ s) →
    bigSep s Φ = l.foldr (fun x A => iprop(Φ x ∗ A)) (bigSep (s \ l.toFinset) Φ)
  | [], s, _, _ => by rw [List.toFinset_nil, Finset.sdiff_empty]; rfl
  | x :: l, s, hn, hs => by
    obtain ⟨hx, hn⟩ := List.nodup_cons.mp hn
    rw [SparseCore.bigSep_erase' (hs x List.mem_cons_self),
      bigSep_list Φ l (s.erase x) hn fun y hy => Finset.mem_erase.mpr ⟨fun e => hx (e ▸ hy), hs y (List.mem_cons_of_mem _ hy)⟩,
      show s.erase x \ l.toFinset = s \ (x :: l).toFinset by
        ext y; simp only [Finset.mem_sdiff, Finset.mem_erase, List.mem_toFinset, List.mem_cons]; tauto]
    rfl

/-- The body's semaphores. -/
def semList : List (SemLoc sig) := [.dma cc0_scoped0.sem, .dma cc0_scoped1.sem, .dma cc0_scoped2.sem, .dma cc0_scoped3.sem]

/-- The body's scratch buffers. -/
def bufList : List (Ref sig .scVector) := [cc0_scratch0, cc0_scratch1, cc0_scratch2, cc0_scratch3]

/-- They are pairwise different. -/
theorem semList_nodup : semList.Nodup := by unfold semList; decide +kernel
/-- They are a subcore's own. -/
theorem semList_scoped : ∀ s ∈ semList, s.isScoped .scVector = true := by unfold semList; decide +kernel
/-- The scratch buffers are pairwise different. -/
theorem bufList_nodup : bufList.Nodup := by unfold bufList; decide +kernel
/-- The semaphores of a tile that its body names. -/
def cellsOf (thr : Thread nD τ) : List (GSem nD τ sig) := semList.map fun s => (thr, s)
/-- The tile's semaphores: the body's, and the rest. -/
theorem sems_eq (d : Dev nD) (i : grid0.Coords) :
    (ownSems0 (tile d i) : sProp 𝕄)
      = (cellsOf (tile d i)).foldr (fun g A => iprop(semVal g 0 ∗ A)) (bigSep (ownCells (tile d i) \ (cellsOf (tile d i)).toFinset) fun g => semVal g 0) := by
  unfold ownSems0
  refine bigSep_list _ _ _ (semList_nodup.map fun a b h => (Prod.mk.inj h).2) fun g hg => ?_
  obtain ⟨s, hs, rfl⟩ := List.mem_map.mp hg
  exact mem_ownCells.mpr ⟨rfl, semList_scoped s hs⟩

/-- The tile's buffers that its body names. -/
def refs (i : grid0.Coords) : List (DevRef τ sig) :=
  bufList.map fun b => (Proc.scVector ((i 0).castLE hcore0) ((i 1).castLE hsub0)).devRef b

/-- The tile's buffers: the body's, at whatever they hold, and the rest. -/
theorem bufs_eq (d : Dev nD) (i : grid0.Coords) :
    (ownBufs (tile d i) : sProp 𝕄)
      = (refs i).foldr (fun b A => iprop((∃ f, ((d, b) : Loc nD τ sig) ↦{fullShare} f) ∗ A))
          (bigSep (ownRefs (tile d i).2 \ (refs i).toFinset) fun b => iprop(∃ f, ((d, b) : Loc nD τ sig) ↦{fullShare} f)) := by
  unfold ownBufs
  refine bigSep_list _ _ _ (bufList_nodup.map (Proc.devRef_injective _)) fun g hg => ?_
  obtain ⟨b, hb, rfl⟩ := List.mem_map.mp hg
  refine SparseCore.Cfg.mem_ownRefs_of_owner ?_
  fin_cases hb <;> rfl

/-- What is left of the tile's semaphores. -/
def semRest (d : Dev nD) (i : grid0.Coords) : sProp 𝕄 :=
  bigSep (ownCells (tile d i) \ (cellsOf (tile d i)).toFinset) fun g => semVal g 0
/-- What is left of the tile's buffers. -/
def bufRest (d : Dev nD) (i : grid0.Coords) : sProp 𝕄 :=
  bigSep (ownRefs (tile d i).2 \ (refs i).toFinset) fun b => iprop(∃ f, ((d, b) : Loc nD τ sig) ↦{fullShare} f)

/-- A scratch buffer at whatever it holds. -/
abbrev some' (d : Dev nD) (i : grid0.Coords) (b : Ref sig .scVector) : sProp 𝕄 :=
  iprop(∃ f, ((tile d i).loc b) ↦{fullShare} f)

/-- A cell of the tile's at zero. -/
abbrev zero (d : Dev nD) (i : grid0.Coords) (r : DmaSems sig S_) : sProp 𝕄 := semVal (tile d i, SemLoc.dma r.sem) 0

/-- The tile's semaphores, spelled out. -/
theorem sems_open (d : Dev nD) (i : grid0.Coords) :
    (ownSems0 (tile d i) : sProp 𝕄)
      = iprop(zero d i cc0_scoped0 ∗ zero d i cc0_scoped1 ∗ zero d i cc0_scoped2 ∗ zero d i cc0_scoped3 ∗ semRest d i) := by
  rw [sems_eq]
  show List.foldr _ (semRest d i) (cellsOf (tile d i)) = _
  generalize semRest d i = R
  rfl

/-- The tile's buffers, spelled out. -/
theorem bufs_open (d : Dev nD) (i : grid0.Coords) :
    (ownBufs (tile d i) : sProp 𝕄)
      = iprop(some' d i cc0_scratch0 ∗ some' d i cc0_scratch1 ∗ some' d i cc0_scratch2 ∗ some' d i cc0_scratch3 ∗ bufRest d i) := by
  rw [bufs_eq]
  show List.foldr _ (bufRest d i) (refs i) = _
  generalize bufRest d i = R
  rfl

/-- A view written whole holds, on its own elements, whatever reads the same through it. -/
theorem pts_written {sp : Space} {s : Shape} {e : EltTy} (d : Dev nD) (i : grid0.Coords) (v : View sig .scVector sp s e)
    (f g : Buf (Elt F) (v.loc (tile d i))) (w : s.Idx → Elt F e) (h : ∀ x, w x = v.read (Elt F) g x) :
    (v.loc (tile d i) ↦[v.set]{fullShare} v.writes (Elt F) f [⟨Rect.whole s, w⟩] : sProp 𝕄) = v.loc (tile d i) ↦[v.set]{fullShare} g := by
  refine pointsTo_congr fun y hy => ?_
  obtain ⟨x, -, rfl⟩ := Finset.mem_map.mp hy
  have e := (congrFun (View.read_writes_whole (Val := Elt F) v f w) x).trans (h x)
  rw [View.read_apply, View.read_apply] at e
  exact (cast_inj _).mp e

/-- A wait of the tile's own keeps the record in shape. -/
theorem waits_insert {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with rfl | hp
  · exact .inr rfl
  · exact h p hp

/-- The four arrays of the call, whole. -/
def four (d : Dev nD) (i : grid0.Coords) (p : S8192.Idx → BitVec 32) (w : S8192.Idx → F .f32) (t : S12288.Idx → BitVec 32) (s : S12288.Idx → F .f32) : sProp 𝕄 :=
  iprop(((pV).view.loc (tile d i) ↦{fullShare} (p : Buf (Elt F) ((pV).view.loc (tile d i)))) ∗ ((gV).view.loc (tile d i) ↦{fullShare} (w : Buf (Elt F) ((gV).view.loc (tile d i))))
    ∗ ((tO).view.loc (tile d i) ↦[(tO).view.set]{fullShare} (t : Buf (Elt F) ((tO).view.loc (tile d i)))) ∗ ((gO).view.loc (tile d i) ↦[(gO).view.set]{fullShare} (s : Buf (Elt F) ((gO).view.loc (tile d i)))))

/-- What the call gives a tile and has back of it: the first tile the four arrays, the others nothing. -/
def tileRes (d : Dev nD) (i : grid0.Coords) (p : S8192.Idx → BitVec 32) (w : S8192.Idx → F .f32) (t : S12288.Idx → BitVec 32) (s : S12288.Idx → F .f32) : sProp 𝕄 :=
  if k0_cond1 i = 1#1 then four d i p w t s else iprop(emp)

variable [FloatOps F]

/-- The body on a tile, as the dispatch names it. -/
abbrev bodyAt (i : grid0.Coords) : Prog (Eff F i) PUnit :=
  cc0__sc_scatter_body i pV (Memref.isWhole_whole _) gV (Memref.isWhole_whole _) tO (Memref.isWhole_whole _) gO (Memref.isWhole_whole _)
    pB (Memref.isWhole_whole _) gB (Memref.isWhole_whole _) tB (Memref.isWhole_whole _) sB (Memref.isWhole_whole _)
    cc0_scoped0 cc0_scoped1 cc0_scoped2 cc0_scoped3

/-- The scratch buffers at whatever they hold and the copies' cells at zero. -/
def idle (d : Dev nD) (i : grid0.Coords) : sProp 𝕄 :=
  iprop((∃ f, (pB).view.loc (tile d i) ↦[(pB).view.set]{fullShare} f) ∗ (∃ f, (gB).view.loc (tile d i) ↦[(gB).view.set]{fullShare} f)
    ∗ (∃ f, (tB).view.loc (tile d i) ↦[(tB).view.set]{fullShare} f) ∗ (∃ f, (sB).view.loc (tile d i) ↦[(sB).view.set]{fullShare} f)
    ∗ zero d i cc0_scoped0 ∗ zero d i cc0_scoped1 ∗ zero d i cc0_scoped2 ∗ zero d i cc0_scoped3)

/-- The first loop: both sorted arrays zero. -/
theorem loop1 (d : Dev nD) (i : grid0.Coords) (h : k0_cond1 i = 1#1) (kk : Unit → Prog (Eff F i) PUnit) (Q : PUnit → sProp 𝕄) :
    zeroSt d i 0 ⊢ iprop((zeroSt d i k0_t1_loop.trips -∗ wp frame (wpE (defs₀ (F := F)) 𝒱₀ (tile d i) none) Set.univ (kk ⟨⟩) Q)
      -∗ wp frame (wpE (defs₀ (F := F)) 𝒱₀ (tile d i) none) Set.univ
        (Scf.Loop.for k0_t1_loop (k0_t1_ok i h) ⟨⟩ (body1 (F := F) i h) >>= kk) Q) := by
  refine (Scf.wp_for_bind _ _ _ _ _ _ (k0_t1_ok i h) ⟨⟩ (body1 (F := F) i h) (fun n _ => zeroSt d i n)
    (zero_trip d i h) (kk := kk) (Q := Q)).trans ?_
  iintro H Hk
  iapply H
  iintro %_ Hr
  iapply Hk
  iexact Hr

/-- The second loop: every assignment written. -/
theorem loop2 (d : Dev nD) (i : grid0.Coords) (h : k0_cond1 i = 1#1) (p : S8192.Idx → BitVec 32) (w : S8192.Idx → F .f32)
    (hp : ∀ x, (p x).toNat < 12288)
    (fp : Buf (Elt F) ((pB).view.loc (tile d i))) (fg : Buf (Elt F) ((gB).view.loc (tile d i)))
    (hfp : (pB).view.read (Elt F) fp = p) (hfg : (gB).view.read (Elt F) fg = w)
    (kk : Unit → Prog (Eff F i) PUnit) (Q : PUnit → sProp 𝕄) :
    putSt d i p w fp fg 0 ⊢ iprop((putSt d i p w fp fg k0_t2_loop.trips -∗ wp frame (wpE (defs₀ (F := F)) 𝒱₀ (tile d i) none) Set.univ (kk ⟨⟩) Q)
      -∗ wp frame (wpE (defs₀ (F := F)) 𝒱₀ (tile d i) none) Set.univ
        (Scf.Loop.for k0_t2_loop (k0_t2_ok i h) ⟨⟩ (body2 (F := F) i h) >>= kk) Q) := by
  refine (Scf.wp_for_bind _ _ _ _ _ _ (k0_t2_ok i h) ⟨⟩ (body2 (F := F) i h) (fun n _ => putSt d i p w fp fg n)
    (put_trip d i h p w hp fp fg hfp hfg) (kk := kk) (Q := Q)).trans ?_
  iintro H Hk
  iapply H
  iintro %_ Hr
  iapply Hk
  iexact Hr

/-- The first result's array reads what it holds. -/
theorem read_tO (G : S12288.Idx → BitVec 32) : (tO).view.read (Elt F) G = G := funext fun _ => rfl
/-- The second result's array reads what it holds. -/
theorem read_gO (G : S12288.Idx → F .f32) : (gO).view.read (Elt F) G = G := funext fun _ => rfl
/-- All trips are all updates. -/
theorem done_eq {β : Type} (z : β) (p : ℕ → ℕ) (v : ℕ → β) : put z p v (16 * 512) = put z p v 8192 :=
  congrArg (put z p v) (show 16 * 512 = 8192 by decide)

/-- The first tile's work. -/
theorem work (d : Dev nD) (i : grid0.Coords) (h : k0_cond1 i = 1#1)
    (p : S8192.Idx → BitVec 32) (w : S8192.Idx → F .f32) (t₀ : S12288.Idx → BitVec 32) (s₀ : S12288.Idx → F .f32)
    (hp : ∀ x, (p x).toNat < 12288) (O : CellTallies nD τ sig (HIx 1)) (W : Waits sig (HIx 1)) :
    iprop(Transfers.MayWaits (tile d i) (default : HIx 1) O ∗ four d i p w t₀ s₀ ∗ idle d i ∗ owes (tile d i) O W)
      ⊢ wp frame (wpE (defs₀ (F := F)) 𝒱₀ (tile d i) none) Set.univ (bodyAt i)
          fun _ => iprop(four d i p w (tokens p) (gates p w) ∗ idle d i ∗ ∃ W', ⌜∀ p ∈ W', p ∈ W ∨ p.2 = none⌝ ∗ owes (tile d i) O W') := by
  unfold bodyAt idle four
  rw [cc0__sc_scatter_body_eq_skeleton]
  unfold cc0__sc_scatter_body_skel
  rw [dif_pos h]
  iintro ⟨#Hmw, ⟨Hp, Hw, Ht, Hs⟩, ⟨⟨%f0, B0⟩, ⟨%f1, B1⟩, ⟨%f2, B2⟩, ⟨%f3, B3⟩, Z0, Z1, Z2, Z3⟩, HO⟩
  sl_exec
  iapply (loop1 d i h) $$ [B2 B3]
  · unfold zeroSt
    iexists f2; iexists f3
    isplitr
    · ipureintro; exact ⟨fun x hx => absurd hx (by omega), fun x hx => absurd hx (by omega)⟩
    isplitl [B2] <;> iassumption
  iintro HZ
  unfold zeroSt
  icases HZ with ⟨%f, %g, %hfg, B2, B3⟩
  have hf0 : (pB).view.read (Elt F) ((pB).view.writes (Elt F) (pB).view.junk [⟨Rect.whole cc0_scratch0.ty.shape, work.sl.dma0 (F := F) p⟩]) = p :=
    View.read_writes_whole (Val := Elt F) (pB).view _ _
  have hf1 : (gB).view.read (Elt F) ((gB).view.writes (Elt F) (gB).view.junk [⟨Rect.whole cc0_scratch1.ty.shape, work.sl.dma0_1 (F := F) w⟩]) = w :=
    View.read_writes_whole (Val := Elt F) (gB).view _ _
  iapply (loop2 d i h p w hp _ _ hf0 hf1) $$ [B0 B1 B2 B3]
  · unfold putSt
    iexists f; iexists g
    isplitr [B0 B1 B2 B3]
    · ipureintro
      exact ⟨funext fun x => hfg.1 x (by have := (x 0).isLt; rw [trips1]; exact this),
        funext fun x => hfg.2 x (by have := (x 0).isLt; rw [trips1]; exact this)⟩
    isplitl [B0]; · iexact B0
    isplitl [B1]; · iexact B1
    isplitl [B2] <;> iassumption
  iintro HZ
  unfold putSt
  icases HZ with ⟨%f', %g', %hfg', B0, B1, B2, B3⟩
  sl_exec
  sl_step
  isplitl [Hp Hw Ht Hs]
  · isplitl [Hp]; · iexact Hp
    isplitl [Hw]; · iexact Hw
    isplitl [Ht]
    · ihave Ht' := (Entails.of_eq (pts_written d i (tO).view t₀ (tokens p) _ (fun x => by
        show (tB).view.read (Elt F) f' x = _
        rw [hfg'.1, trips2, read_tO]; exact congrFun (done_eq _ _ _) x))) $$ Ht
      iexact Ht'
    · ihave Hs' := (Entails.of_eq (pts_written d i (gO).view s₀ (gates p w) _ (fun x => by
        show (sB).view.read (Elt F) g' x = _
        rw [hfg'.2, trips2, read_gO]; exact congrFun (done_eq _ _ _) x))) $$ Hs
      iexact Hs'
  isplitr [HO]
  · isplitl [B0]; · iexists _; iexact B0
    isplitl [B1]; · iexists _; iexact B1
    isplitl [B2]; · iexists _; iexact B2
    isplitl [B3]; · iexists _; iexact B3
    isplitl [Z0]; · iexact Z0
    isplitl [Z1]; · iexact Z1
    isplitl [Z2]; · iexact Z2
    iexact Z3
  iexists _
  isplitr [HO]
  swap; · iexact HO
  ipureintro; exact waits_insert (waits_insert (waits_insert (waits_insert (fun p hp => .inl hp) _) _) _) _

/-- The scratch buffers by their tile's names. -/
theorem idle_eq (d : Dev nD) (i : grid0.Coords) :
    (idle d i : sProp 𝕄) = iprop(some' d i cc0_scratch0 ∗ some' d i cc0_scratch1 ∗ some' d i cc0_scratch2 ∗ some' d i cc0_scratch3
      ∗ zero d i cc0_scoped0 ∗ zero d i cc0_scoped1 ∗ zero d i cc0_scoped2 ∗ zero d i cc0_scoped3) := by
  unfold idle
  rw [show ((pB).view.set : Finset _) = Finset.univ from View.set_whole _, show ((gB).view.set : Finset _) = Finset.univ from View.set_whole _,
    show ((tB).view.set : Finset _) = Finset.univ from View.set_whole _, show ((sB).view.set : Finset _) = Finset.univ from View.set_whole _]

/-- Every tile's run: the first tile's work, nothing elsewhere. -/
theorem body_run (d : Dev nD) (i : grid0.Coords)
    (p : S8192.Idx → BitVec 32) (w : S8192.Idx → F .f32) (t₀ : S12288.Idx → BitVec 32) (s₀ : S12288.Idx → F .f32)
    (hp : ∀ x, (p x).toNat < 12288) (O : CellTallies nD τ sig (HIx 1)) (W : Waits sig (HIx 1)) :
    iprop(Transfers.MayWaits (tile d i) (default : HIx 1) O ∗ tileRes d i p w t₀ s₀ ∗ idle d i ∗ owes (tile d i) O W)
      ⊢ wp frame (wpE (defs₀ (F := F)) 𝒱₀ (tile d i) none) Set.univ (bodyAt i)
          fun _ => iprop(tileRes d i p w (tokens p) (gates p w) ∗ idle d i ∗ ∃ W', ⌜∀ p ∈ W', p ∈ W ∨ p.2 = none⌝ ∗ owes (tile d i) O W') := by
  by_cases h : k0_cond1 i = 1#1
  · simp only [tileRes, if_pos h]
    exact work d i h p w t₀ s₀ hp O W
  · simp only [tileRes, if_neg h]
    unfold bodyAt
    rw [cc0__sc_scatter_body_eq_skeleton]
    unfold cc0__sc_scatter_body_skel
    rw [dif_neg h]
    iintro ⟨#Hmw, He, Hi, HO⟩
    sl_step
    isplitl [He]; · iexact He
    isplitl [Hi]; · iexact Hi
    iexists W
    isplitr [HO]
    · ipureintro; exact fun p hp => .inl hp
    iexact HO

/-- The printed body on a tile: the first tile's two sorted arrays written, all else as it was. -/
theorem tile_body (d : Dev nD) (i : grid0.Coords)
    (p : S8192.Idx → BitVec 32) (w : S8192.Idx → F .f32) (t₀ : S12288.Idx → BitVec 32) (s₀ : S12288.Idx → F .f32)
    (hp : ∀ x, (p x).toNat < 12288)
    (O : CellTallies nD τ sig (HIx 1)) (W : Waits sig (HIx 1)) (hO : ∀ g, O g none = 0) :
    iprop(levAts (K (F := F)).L (K (F := F)).lev ∗ emp ∗ tileRes d i p w t₀ s₀
        ∗ scopedBufs (tile d i) ∗ scopedSems0 (tile d i) ∗ owes (tile d i) O W)
      ⊢ wp frame (wpE (defs₀ (F := F)) 𝒱₀ (tile d i) none) Set.univ (bodyAt i)
          fun _ => iprop(tileRes d i p w (tokens p) (gates p w) ∗ scopedBufs (tile d i) ∗ scopedSems0 (tile d i)
            ∗ ∃ W', ⌜∀ p ∈ W', p ∈ W ∨ p.2 = none⌝ ∗ owes (tile d i) O W') := by
  rw [(K (F := F)).scopedBufs_V facts d ((i 0).castLE hcore0) ((i 1).castLE hsub0),
    SparseCore.Cfg.scopedSems0_V (Val := Elt F) d ((i 0).castLE hcore0) ((i 1).castLE hsub0), sems_open, bufs_open]
  have hrun := body_run d i p w t₀ s₀ hp O W
  rw [idle_eq] at hrun
  refine BI.Entails.trans ?_ (BI.Entails.trans (BIClass.sep_mono hrun (BI.Entails.refl (iprop(semRest d i ∗ bufRest d i))))
    (BI.Entails.trans (wp_frame_r _ _ _) (wp_mono frame _ _ fun _ => ?_)))
  · show _ ⊢ iprop(_ ∗ semRest d i ∗ bufRest d i)
    iintro ⟨#Hlv, -, Ht, ⟨A0, A1, A2, A3, Hbr⟩, ⟨Z0, Z1, Z2, Z3, Hsr⟩, HO⟩
    ihave Hmw := (show levAts (K (F := F)).L (K (F := F)).lev ⊢ Transfers.MayWaits (tile d i) (default : HIx 1) O from
      (K (F := F)).mayWaits_none (thr := tile d i) hO) $$ Hlv
    isplitr [Hsr Hbr]
    swap
    · isplitl [Hsr] <;> iassumption
    isplitl [Hmw]; · iexact Hmw
    isplitl [Ht]; · iexact Ht
    isplitr [HO]
    swap; · iexact HO
    isplitl [A0]; · iexact A0
    isplitl [A1]; · iexact A1
    isplitl [A2]; · iexact A2
    isplitl [A3]; · iexact A3
    isplitl [Z0]; · iexact Z0
    isplitl [Z1]; · iexact Z1
    isplitl [Z2] <;> iassumption
  · show iprop(_ ∗ semRest d i ∗ bufRest d i) ⊢ _
    iintro ⟨⟨Ht, ⟨A0, A1, A2, A3, Z0, Z1, Z2, Z3⟩, HO⟩, Hsr, Hbr⟩
    isplitl [Ht]; · iexact Ht
    isplitl [A0 A1 A2 A3 Hbr]
    · isplitl [A0]; · iexact A0
      isplitl [A1]; · iexact A1
      isplitl [A2]; · iexact A2
      isplitl [A3] <;> iassumption
    isplitr [HO]
    swap; · iexact HO
    isplitl [Z0]; · iexact Z0
    isplitl [Z1]; · iexact Z1
    isplitl [Z2]; · iexact Z2
    isplitl [Z3] <;> iassumption

end Cert.Proof.Scatter

end
-- ==== Proof.Scatter.Launch.lean ====
/-
  The scatter program's run: the call at its tiles, @main on the TensorCore, and what every execution ends with.
-/
module

public import proofs.«01_k».proof.Proof.Scatter.Body

@[expose] public section

set_option maxRecDepth 16384

noncomputable section

namespace Cert.Proof.Scatter

open Cert.ScatterIdeal Cert.ScatterIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MM F

/-! ## The tiles -/

/-- Tile `s` of SparseCore `c`. -/
def at' (c : Fin 2) (s : Fin 16) : grid0.Coords :=
  fun | 0 => c | 1 => s | ⟨_ + 2, h⟩ => absurd h (Nat.not_lt.2 (Nat.le_add_left _ _))

/-- The launch runs on both cores. -/
theorem nCore_eq : (K (F := F)).nCore 0 = 2 := rfl
/-- And on sixteen tiles of each. -/
theorem nSub_eq : (K (F := F)).nSub 0 = 16 := rfl

/-- Only the first tile of the first SparseCore works. -/
theorem cond_iff : ∀ (c : Fin 2) (s : Fin 16), k0_cond1 (at' c s) = 1#1 ↔ c = 0 ∧ s = 0 := by decide +kernel

/-- The positions. -/
abbrev pLoc (d : Dev nD) : Loc nD τ sig := (SparseCore.T d).loc main_arg0
/-- The gates. -/
abbrev gLoc (d : Dev nD) : Loc nD τ sig := (SparseCore.T d).loc main_arg1
/-- The sorted tokens. -/
abbrev tLoc (d : Dev nD) : Loc nD τ sig := (SparseCore.T d).loc main_v0_0
/-- The sorted gates. -/
abbrev sLoc (d : Dev nD) : Loc nD τ sig := (SparseCore.T d).loc main_v0_1

/-- The four arrays whole. -/
def whole (d : Dev nD) (p : S8192.Idx → BitVec 32) (w : S8192.Idx → F .f32) (t : S12288.Idx → BitVec 32) (s : S12288.Idx → F .f32) : sProp 𝕄 :=
  iprop((pLoc d ↦{fullShare} p) ∗ (gLoc d ↦{fullShare} w) ∗ (tLoc d ↦{fullShare} t) ∗ (sLoc d ↦{fullShare} s))

/-- The first tile's four arrays are the call's. -/
theorem four_eq (d : Dev nD) (i : grid0.Coords) (p : S8192.Idx → BitVec 32) (w : S8192.Idx → F .f32) (t : S12288.Idx → BitVec 32) (s : S12288.Idx → F .f32) :
    (four d i p w t s : sProp 𝕄) = whole d p w t s := by
  unfold four
  rw [show ((Memref.whole main_v0_0_scv : Memref sig Kind.scVector Space.hbm S12288 EltTy.i32).view.set : Finset _) = Finset.univ from View.set_whole _,
    show ((Memref.whole main_v0_1_scv : Memref sig Kind.scVector Space.hbm S12288 EltTy.f32).view.set : Finset _) = Finset.univ from View.set_whole _]
  rfl

/-- A conjunction empty but at one place. -/
theorem bigSep_one {n : ℕ} (Φ : Fin (n + 1) → sProp 𝕄) (R : sProp 𝕄) (h0 : Φ 0 = R) (h : ∀ k, k ≠ 0 → Φ k = iprop(emp)) : bigSep Finset.univ Φ = R := by
  rw [SparseCore.bigSep_erase' (Finset.mem_univ 0), h0,
    show bigSep (Finset.univ.erase 0) Φ = (iprop(emp) : sProp 𝕄) from
      (bigSep_congr fun k hk => h k (Finset.ne_of_mem_erase hk)).trans (bigSep_emp_const _)]
  exact BI.equiv_iff.mp sep_emp

/-- What one SparseCore's tiles are given and hand back. -/
def coreRes (d : Dev nD) (c : Fin 2) (p : S8192.Idx → BitVec 32) (w : S8192.Idx → F .f32) (t : S12288.Idx → BitVec 32) (s : S12288.Idx → F .f32) : sProp 𝕄 :=
  bigSep Finset.univ fun k : Fin 16 => tileRes d (at' c k) p w t s

/-- The four arrays whole are what the two SparseCores are given. -/
theorem cores_eq (d : Dev nD) (p : S8192.Idx → BitVec 32) (w : S8192.Idx → F .f32) (t : S12288.Idx → BitVec 32) (s : S12288.Idx → F .f32) :
    (bigSep Finset.univ fun c : Fin 2 => coreRes d c p w t s) = (whole d p w t s : sProp 𝕄) := by
  unfold coreRes
  refine bigSep_one _ _ (bigSep_one _ _ ?_ fun k hk => ?_) fun c hc => ?_
  · exact (if_pos ((cond_iff 0 0).mpr ⟨rfl, rfl⟩)).trans (four_eq d _ p w t s)
  · exact if_neg fun h => hk ((cond_iff 0 k).mp h).2
  · exact (bigSep_congr fun k _ => if_neg fun h => hc ((cond_iff c k).mp h).1).trans (bigSep_emp_const _)

variable [FloatOps F]

/-! ## What the handshakes carry -/

section Pay

variable (p : Dev nD → S8192.Idx → BitVec 32) (w : Dev nD → S8192.Idx → F .f32) (t₀ : Dev nD → S12288.Idx → BitVec 32) (s₀ : Dev nD → S12288.Idx → F .f32)

/-- The call takes the four arrays whole, the first tile has them, and the two results come back written. -/
def P : (K (F := F)).Pay (nD := nD) (Val := Elt F) (Name := ℕ) (U := UU) where
  st := fun q d c => match q with | 0 => coreRes d (Fin.cast nCore_eq c) (p d) (w d) (t₀ d) (s₀ d)
  dn := fun q d c => match q with | 0 => coreRes d (Fin.cast nCore_eq c) (p d) (w d) (tokens (p d)) (gates (p d) (w d))
  go := fun q d c i => match q with
    | 0 => tileRes d (at' (Fin.cast nCore_eq c) (Fin.cast nSub_eq i)) (p d) (w d) (t₀ d) (s₀ d)
  td := fun q d c i => match q with
    | 0 => tileRes d (at' (Fin.cast nCore_eq c) (Fin.cast nSub_eq i)) (p d) (w d) (tokens (p d)) (gates (p d) (w d))
  x := fun _ _ => iprop(emp)

omit [FloatOps F] in
/-- A tile's resources may be carried by a handshake. -/
theorem tileRes_storable' (d : Dev nD) (i : grid0.Coords) (p : S8192.Idx → BitVec 32) (w : S8192.Idx → F .f32) (t : S12288.Idx → BitVec 32) (s : S12288.Idx → F .f32) :
    BI.Storable (upEmb : UEmb _ 𝕄) (tileRes d i p w t s) := by
  unfold tileRes
  split
  · unfold four; infer_instance
  · infer_instance

instance tileRes_storable (d : Dev nD) (i : grid0.Coords) (p : S8192.Idx → BitVec 32) (w : S8192.Idx → F .f32) (t : S12288.Idx → BitVec 32) (s : S12288.Idx → F .f32) :
    BI.Storable (upEmb : UEmb _ 𝕄) (tileRes d i p w t s) := tileRes_storable' d i p w t s

/-- A SparseCore's resources may be carried by a handshake. -/
instance coreRes_storable (d : Dev nD) (c : Fin 2) (p : S8192.Idx → BitVec 32) (w : S8192.Idx → F .f32) (t : S12288.Idx → BitVec 32) (s : S12288.Idx → F .f32) :
    BI.Storable (upEmb : UEmb _ 𝕄) (coreRes d c p w t s) := by
  unfold coreRes; infer_instance

/-- A SparseCore's part, opened. -/
theorem coreRes_eq (d : Dev nD) (c : Fin 2) (p : S8192.Idx → BitVec 32) (w : S8192.Idx → F .f32) (t : S12288.Idx → BitVec 32) (s : S12288.Idx → F .f32) :
    (coreRes d c p w t s : sProp 𝕄) = bigSep Finset.univ fun k : Fin 16 => tileRes d (at' c k) p w t s := rfl

attribute [local irreducible] tileRes coreRes tokens gates whole

instance P_storable : (P (F := F) p w t₀ s₀).IsStorable where
  st q d c := match q with | 0 => coreRes_storable d (Fin.cast nCore_eq c) (p d) (w d) (t₀ d) (s₀ d)
  dn q d c := match q with | 0 => coreRes_storable d (Fin.cast nCore_eq c) (p d) (w d) (tokens (p d)) (gates (p d) (w d))
  go q d c i := match q with
    | 0 => tileRes_storable d (at' (Fin.cast nCore_eq c) (Fin.cast nSub_eq i)) (p d) (w d) (t₀ d) (s₀ d)
  td q d c i := match q with
    | 0 => tileRes_storable d (at' (Fin.cast nCore_eq c) (Fin.cast nSub_eq i)) (p d) (w d) (tokens (p d)) (gates (p d) (w d))

/-! ## The tiles' obligation -/

/-- The dispatch runs the printed body at the tile's coordinates. -/
theorem defs₀_vector (c : Fin τ.nSC) (s : Fin τ.nSub) :
    defs₀ (F := F) (.scVector c s) 0 () = SparseCore.onTile hcore0 hsub0 (fun c s => bodyAt (at' c s)) ⟨⟩ c s := rfl

/-- The tile's record of waits, as the launch theorem asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call does its part. -/
theorem tileObl (hp : ∀ (d : Dev nD) (x : S8192.Idx), (p d x).toNat < 12288) :
    (K (F := F)).TileObl (D (F := F)) 𝒱 (P p w t₀ s₀) v₀ 0 := by
  intro d c i O W hO _ _
  simp only [show (P p w t₀ s₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at' ⟨_, hci.1⟩ ⟨_, hci.2⟩) (p d) (w d) (t₀ d) (s₀ d) (hp d) O W hO).trans
    (wp_mono frame _ _ fun _ => obl_post)

/-- A SparseCore's part is its sixteen tiles'. -/
theorem bigSep_tiles (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

/-- Both SparseCores' parts. -/
theorem bigSep_cores (Φ : Fin 2 → sProp 𝕄) :
    (bigSep Finset.univ fun i : Fin ((K (F := F)).nCore 0) => Φ (Fin.cast nCore_eq i)) = bigSep Finset.univ Φ :=
  bigSep_congr fun _ _ => congrArg Φ (Fin.ext rfl)

/-- The split of a SparseCore's part over its tiles, and the joining of what they hand back. -/
theorem vecSplit : (K (F := F)).VecSplit' (P p w t₀ s₀) 0 := by
  intro d c
  show coreRes d (Fin.cast nCore_eq c) (p d) (w d) (t₀ d) (s₀ d) ⊢ |={Set.univ}=> iprop(
      (bigSep Finset.univ fun i : Fin ((K (F := F)).nSub 0) =>
        tileRes d (at' (Fin.cast nCore_eq c) (Fin.cast nSub_eq i)) (p d) (w d) (t₀ d) (s₀ d))
      ∗ ((bigSep Finset.univ fun i : Fin ((K (F := F)).nSub 0) =>
          tileRes d (at' (Fin.cast nCore_eq c) (Fin.cast nSub_eq i)) (p d) (w d) (tokens (p d)) (gates (p d) (w d)))
          -∗ coreRes d (Fin.cast nCore_eq c) (p d) (w d) (tokens (p d)) (gates (p d) (w d))))
  rw [bigSep_tiles (fun i => tileRes d (at' (Fin.cast nCore_eq c) i) (p d) (w d) (t₀ d) (s₀ d)),
    bigSep_tiles (fun i => tileRes d (at' (Fin.cast nCore_eq c) i) (p d) (w d) (tokens (p d)) (gates (p d) (w d)))]
  rw [coreRes_eq, coreRes_eq]
  iintro H; imodintro
  isplitl [H]; · iexact H
  iintro H; iexact H

/-- What the call takes, whole. -/
theorem st0_eq (d : Dev nD) : (bigSep Finset.univ fun c : Fin ((K (F := F)).nCore 0) => (P p w t₀ s₀).st 0 d c)
    = whole d (p d) (w d) (t₀ d) (s₀ d) :=
  (bigSep_cores fun c => coreRes d c (p d) (w d) (t₀ d) (s₀ d)).trans (cores_eq d (p d) (w d) (t₀ d) (s₀ d))

/-- What the call hands back, whole. -/
theorem dn0_eq (d : Dev nD) : (bigSep Finset.univ fun c : Fin ((K (F := F)).nCore 0) => (P p w t₀ s₀).dn 0 d c)
    = whole d (p d) (w d) (tokens (p d)) (gates (p d) (w d)) :=
  (bigSep_cores fun c => coreRes d c (p d) (w d) (tokens (p d)) (gates (p d) (w d))).trans (cores_eq d (p d) (w d) (tokens (p d)) (gates (p d) (w d)))

/-! ## The ghost state at launch -/

/-- The handshakes' cells and tokens; no counter. -/
def u₀ : UU := (initOf (K (F := F)).hsCells (K (F := F)).hsToks, 1)

/-- Nothing, however many times. -/
theorem bigSep_emp' {I : Type} (s : Finset I) : (bigSep s fun _ => iprop(emp)) = (iprop(emp) : sProp 𝕄) := bigSep_emp_const s

/-- The launch's ghost state is the handshakes'. -/
theorem hu₀ : (ownU (u₀ (F := F)) : sProp 𝕄)
    ⊢ |={Set.univ}=> iprop(BI.own ((EH (F := F)) (initOf (K (F := F)).hsCells (K (F := F)).hsToks)) ∗ (bigSep Finset.univ fun _ : Dev nD => iprop(emp))
        ∗ bigSep Finset.univ fun thr : Thread nD τ => bigSep Finset.univ fun q : Fin 1 => (P p w t₀ s₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P p w t₀ s₀).x q thr) = bigSep Finset.univ fun _ => iprop(emp) from
    bigSep_congr fun _ _ => bigSep_univ_of_subsingleton (0 : Fin 1), bigSep_emp']
  iempintro

end Pay

/-! ## @main on the TensorCore -/

variable (m : (ℓ : Loc nD τ sig) → Buf (Elt F) ℓ) (ρ : Dev nD → PrngReg)

/-- What the device's arrays hold at launch. -/
def V0 (d : Dev nD) : Valuation τ sig (Elt F) := fun b => m (d, b)

/-- The positions. -/
abbrev Pof (d : Dev nD) : S8192.Idx → BitVec 32 := V0 m d (Proc.devRef .tc main_arg0)
/-- The gates. -/
abbrev Wof (d : Dev nD) : S8192.Idx → F .f32 := V0 m d (Proc.devRef .tc main_arg1)
/-- What the first result's array holds before the call. -/
abbrev T0of (d : Dev nD) : S12288.Idx → BitVec 32 := V0 m d (Proc.devRef .tc main_v0_0)
/-- What the second result's array holds before the call. -/
abbrev S0of (d : Dev nD) : S12288.Idx → F .f32 := V0 m d (Proc.devRef .tc main_v0_1)

/-- The arrays @main's claim is about. -/
def arrays : List (DevRef τ sig) := [Proc.devRef .tc main_arg0, Proc.devRef .tc main_arg1, Proc.devRef .tc main_v0_0, Proc.devRef .tc main_v0_1]

/-- They are pairwise different. -/
theorem arrays_nodup : arrays.Nodup := by unfold arrays; decide +kernel
/-- They are the TensorCore's, whole. -/
theorem arrays_mem : ∀ b ∈ arrays, b ∈ Pipeline.ucRefs τ sig := by
  intro b hb
  unfold arrays at hb
  refine Finset.mem_filter.mpr ⟨?_, ?_⟩
  · fin_cases hb <;> exact StableHlo.devRef_mem_tcRefs _
  · fin_cases hb <;> decide +kernel

/-- The TensorCore's arrays at a valuation: the claim's, and the rest. -/
theorem held_open (d : Dev nD) (W : Valuation τ sig (Elt F)) :
    (StableHlo.held (SparseCore.T d) (Pipeline.ucRefs τ sig) W : sProp 𝕄)
      = iprop((pLoc d ↦{fullShare} W (Proc.devRef .tc main_arg0)) ∗ (gLoc d ↦{fullShare} W (Proc.devRef .tc main_arg1))
          ∗ (tLoc d ↦{fullShare} W (Proc.devRef .tc main_v0_0)) ∗ (sLoc d ↦{fullShare} W (Proc.devRef .tc main_v0_1))
          ∗ bigSep (Pipeline.ucRefs τ sig \ arrays.toFinset) fun b => ((d, b) : Loc nD τ sig) ↦{fullShare} W b) := by
  unfold StableHlo.held
  rw [bigSep_list (fun b => (((SparseCore.T d).1, b) : Loc nD τ sig) ↦{fullShare} W b) arrays _ arrays_nodup arrays_mem]
  generalize (bigSep (Pipeline.ucRefs τ sig \ arrays.toFinset) fun b => ((d, b) : Loc nD τ sig) ↦{fullShare} W b : sProp 𝕄) = R
  rfl

/-- What @main leaves: the arguments as they were, and the two results. -/
def FIN (d : Dev nD) : sProp 𝕄 := whole d (Pof m d) (Wof m d) (tokens (Pof m d)) (gates (Pof m d) (Wof m d))

/-- @main is the call. -/
theorem main_eq (d : Dev nD) : main (F := F) d = (sc (F := F)).run d 0 >>= fun _ => pure ⟨⟩ := rfl

/-- @main on the TensorCore: the call. -/
theorem hmain (κ : GSem nD τ sig → ℕ) (d : Dev nD) :
    iprop((K (F := F)).ctx EH (P (Pof m) (Wof m) (T0of m) (S0of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V0 m d) from
    Pipeline.unscopedBufs_held (Ix := HIx 1) (Name := ℕ) (U := UU) (Lvl := ℕ) d (V0 m d), held_open (F := F) d (V0 m d)]
  rw [main_eq]
  iintro ⟨#Hctx, Hst, ⟨Hb, ⟨H0, H1, H2, H3, -⟩, Hts, -⟩, -⟩
  simp only [wp_bind, wp_pure]
  iapply ((K (F := F)).wp_run (D (F := F)) 𝒱 (EH := EH) (P := P (Pof m) (Wof m) (T0of m) (S0of m)) κ d 0) $$ [Hst H0 H1 H2 H3 Hb Hts]
  isplitr; · iexact Hctx
  isplitl [Hst]; · iexact Hst
  isplitl [H0 H1 H2 H3]
  · rw [st0_eq]
    unfold whole
    isplitl [H0]; · iexact H0
    isplitl [H1]; · iexact H1
    isplitl [H2]; · iexact H2
    iexact H3
  iintro ⟨Hst, Hdn⟩
  ihave Hdn' := (Entails.of_eq (dn0_eq (Pof m) (Wof m) (T0of m) (S0of m) d)) $$ Hdn
  imodintro
  isplitl [Hst]; · iexact Hst
  isplitl [Hdn']; · unfold FIN; iexact Hdn'
  isplitl [Hb] <;> iassumption

/-- What the claim reads of the final memory. -/
def fq (d : Dev nD) (s' : Phys nD τ sig (Elt F)) : Prop :=
  s'.mem.mem (pLoc d) = Pof m d ∧ s'.mem.mem (gLoc d) = Wof m d
    ∧ s'.mem.mem (tLoc d) = tokens (Pof m d) ∧ s'.mem.mem (sLoc d) = gates (Pof m d) (Wof m d)

/-- An array held whole is what the memory holds. -/
theorem mem_of_held (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- The final memory holds what @main left. -/
theorem hfin (d : Dev nD) (s' : Phys nD τ sig (Elt F)) : iprop(FIN m d ∗ SI s') ⊢ (⌜fq m d s'⌝ : sProp 𝕄) := by
  unfold FIN whole
  iintro ⟨⟨H0, H1, H2, HO⟩, HSI⟩
  ihave H := (mem_of_held (pLoc d) _ s') $$ [H0 HSI]
  · isplitl [H0] <;> iassumption
  icases H with ⟨%h0, HSI⟩
  ihave H := (mem_of_held (gLoc d) _ s') $$ [H1 HSI]
  · isplitl [H1] <;> iassumption
  icases H with ⟨%h1, HSI⟩
  ihave H := (mem_of_held (tLoc d) _ s') $$ [H2 HSI]
  · isplitl [H2] <;> iassumption
  icases H with ⟨%h2, HSI⟩
  ihave H := (mem_of_held (sLoc d) _ s') $$ [HO HSI]
  · isplitl [HO] <;> iassumption
  icases H with ⟨%h3, HSI⟩
  ipureintro; exact ⟨h0, h1, h2, h3⟩

/-! ## The program's run -/

/-- The end of the run: every device's arrays as `fq` says, every semaphore back at zero. -/
def QC : PUnit × MemSt nD τ sig (Elt F) → Prop := fun r =>
  (∀ c : Dev nD, r.2.mem (pLoc c) = Pof m c ∧ r.2.mem (gLoc c) = Wof m c
    ∧ r.2.mem (tLoc c) = tokens (Pof m c) ∧ r.2.mem (sLoc c) = gates (Pof m c) (Wof m c)) ∧ r.2.sem = fun _ => 0

/-- Every execution ends so, when the positions name places of the sorted arrays. -/
theorem run_main [∀ e, Nonempty (Elt F e)] (hp : ∀ (d : Dev nD) (x : S8192.Idx), (Pof m d x).toNat < 12288) :
    θ_run (Cert.ScatterIdeal.defs (F := F)) (Cert.ScatterIdeal.threads (F := F)) ⟨m, fun _ => 0, ρ⟩ (QC m) :=
  SparseCore.Cfg.θ_run_sc_quiescent (K := K (F := F)) (D := D (F := F)) (𝒱 := 𝒱) (EH := EH) (P := P (Pof m) (Wof m) (T0of m) (S0of m)) (A := ∅) facts v₀
    (fun q hq => match q with | 0 => nomatch hq)
    (fun q _ => match q with | 0 => tileObl (Pof m) (Wof m) (T0of m) (S0of m) hp)
    (fun q _ => match q with | 0 => SparseCore.Cfg.VecSplit.of_plain (vecSplit (Pof m) (Wof m) (T0of m) (S0of m)))
    m ρ main (fun _ => iprop(emp)) (FIN m) (u₀ (F := F)) (sep_elim_left.trans (hu₀ (Pof m) (Wof m) (T0of m) (S0of m))) (hmain m ρ) (fq m) (hfin m) (QC m) (fun _ h hz => ⟨h, hz⟩)

end Cert.Proof.Scatter

end
-- ==== Proof.Scatter.Reference.lean ====
/-
  The scatter call's precondition read at a position, its run in the terms of the claims, and the reference's two results:
  the same functions of the arguments.
-/
module

public import proofs.«01_k».proof.Proof.Scatter.Launch
public import proofs.«01_k».proof.Proof.Gen.ScatterReferenceIdeal.Run
public import proofs.«01_k».proof.Proof.Gen.Pre_places_in_rows
public import Idealize.ShloMosaic.Lib.IdealHost
public import Idealize.ShloMosaic.Lib.ReduceAll
public import Idealize.ShloMosaic.Lib.Routing.Ops
public import Idealize.ShloMosaic.Lib.Routing.OpsPair

@[expose] public section

set_option maxRecDepth 16384

noncomputable section

namespace Cert.Proof.Scatter

open Cert.ScatterReferenceIdeal Cert.ScatterReferenceIdeal.Gen
open Idealize.ShloMosaic Idealize.ShloMosaic.TcCoe
open Idealize.SL.Sem
open Idealize.ShloMosaic.ValueIdx

variable {F : FTy → Type}

/-! ## The precondition -/

/-- Every position is a place of the sorted arrays. -/
def InPlaces (p : IVec S8192 32) : Prop := ∀ i, (p i).toNat < 12288

/-- The precondition says so. -/
theorem inPlaces_of_pre [FloatOps F] {p : IVec S8192 32} {w : FVec F S8192 .f32} (h : Cert.Pre_places_in_rows.fn (F := F) p w = fun _ => 1#1) :
    InPlaces p := by
  intro i
  have e := congrFun h ix0
  dsimp only [Cert.Pre_places_in_rows.fn] at e
  haveI : Subsingleton Cert.Pre_places_in_rows.S_.Idx := ⟨fun a b => funext fun k => k.elim0⟩
  have e' := Host.reduce_andi_all _ _ _ _ ix0 e i
  obtain ⟨e1, e2⟩ := IntOp.andi_eq_one.1 e'
  have h1 := IntOp.cmpi_sge.1 e1
  have h2 := IntOp.cmpi_slt.1 e2
  have h1' : (0 : Int) ≤ (p i).toInt := h1
  have h2' : (p i).toInt < 12288 := h2
  rw [BitVec.toInt_eq_toNat_cond] at h1' h2'
  split at h1' <;> omega

/-- The scatter's run from positions that are places: the arguments unchanged, the two results the sorted arrays, every
    counter zero again. -/
theorem run_value [FloatOps F] [∀ e, Nonempty (Elt F e)]
    (m : (ℓ : Loc Cert.ScatterIdeal.nD Cert.ScatterIdeal.τ Cert.ScatterIdeal.sig) → Buf (Elt F) ℓ) (ρ : Dev Cert.ScatterIdeal.nD → PrngReg)
    (hp : ∀ d, InPlaces (Pof m d)) :
    θ_run (Cert.ScatterIdeal.defs (F := F)) (Cert.ScatterIdeal.threads (F := F)) ⟨m, fun _ => 0, ρ⟩ fun r =>
      (∀ c : Dev Cert.ScatterIdeal.nD,
        r.2.mem ((c.tc : Thread Cert.ScatterIdeal.nD Cert.ScatterIdeal.τ).loc Cert.ScatterIdeal.main_v0_0)
            = tokens (m ((c.tc : Thread Cert.ScatterIdeal.nD Cert.ScatterIdeal.τ).loc Cert.ScatterIdeal.main_arg0))
        ∧ r.2.mem ((c.tc : Thread Cert.ScatterIdeal.nD Cert.ScatterIdeal.τ).loc Cert.ScatterIdeal.main_v0_1)
            = gates (m ((c.tc : Thread Cert.ScatterIdeal.nD Cert.ScatterIdeal.τ).loc Cert.ScatterIdeal.main_arg0))
                (m ((c.tc : Thread Cert.ScatterIdeal.nD Cert.ScatterIdeal.τ).loc Cert.ScatterIdeal.main_arg1))
        ∧ r.2.mem ((c.tc : Thread Cert.ScatterIdeal.nD Cert.ScatterIdeal.τ).loc Cert.ScatterIdeal.main_arg0)
            = m ((c.tc : Thread Cert.ScatterIdeal.nD Cert.ScatterIdeal.τ).loc Cert.ScatterIdeal.main_arg0)
        ∧ r.2.mem ((c.tc : Thread Cert.ScatterIdeal.nD Cert.ScatterIdeal.τ).loc Cert.ScatterIdeal.main_arg1)
            = m ((c.tc : Thread Cert.ScatterIdeal.nD Cert.ScatterIdeal.τ).loc Cert.ScatterIdeal.main_arg1))
      ∧ r.2.sem = fun _ => 0 :=
  (θ_run _ _ _).mono (fun _ h => ⟨fun c => ⟨(h.1 c).2.2.1, (h.1 c).2.2.2, (h.1 c).1, (h.1 c).2.1⟩, h.2⟩) (run_main m ρ hp)

/-! ## A scatter of single entries -/

/-- Update `k` begins at the place that the list holds at `k`. -/
theorem start_at (idx : IVec S8192x1 32) (k : Fin 8192) :
    scatter_S12288_S8192x1_S8192_n_0_0_1.start (ix1 k) idx 0 = (idx (ix2 k (0 : Fin 1))).toInt := by
  refine congrArg (fun z => (idx z).toInt) (funext fun b => Fin.ext ?_)
  match b with
  | ⟨0, _⟩ => rfl
  | ⟨1, _⟩ => rfl

/-- It is of one entry: it lands at entry `x` exactly when the list holds `x` at `k`. -/
theorem lands (idx : IVec S8192x1 32) (k : Fin 8192) (x : Fin 12288) :
    scatter_S12288_S8192x1_S8192_n_0_0_1.resultIdx? (ix1 k) idx = some (ix1 x) ↔ (idx (ix2 k (0 : Fin 1))).toInt = x.val := by
  have hw : scatter_S12288_S8192x1_S8192_n_0_0_1.window (ix1 k) 0 = 0 := rfl
  refine (Routing.resultIdx?_ix1 _ _ _ _).trans ?_
  rw [start_at, hw, Nat.cast_zero, add_zero]

/-- The scatter's updates are made in order, the later over the earlier: it is the array after all of them. -/
theorem scatter_put {β : Type} (z : β) (idx : IVec S8192x1 32) (upd : S8192.Idx → β) (p : IVec S8192 32) (v : ℕ → β) (hp : InPlaces p)
    (hidx : ∀ k : Fin 8192, idx (ix2 k (0 : Fin 1)) = p (ix1 k)) (hupd : ∀ k : Fin 8192, upd (ix1 k) = v k.val) :
    Host.scatter scatter_S12288_S8192x1_S8192_n_0_0_1 (fun _ b => b) (fun _ => z) idx upd = put z (placeOf p) v 8192 := by
  funext x
  obtain ⟨e, rfl⟩ : ∃ e : Fin 12288, x = ix1 e := ⟨x 0, eq_ix1 x⟩
  rw [Routing.scatter_at]
  have hn : S8192.numel = 8192 := by decide
  have hs : ∀ n : Fin S8192.numel, S8192.rowMajor.symm n = ix1 (n.cast hn : Fin 8192) := fun n =>
    (S8192.rowMajor.symm_apply_eq).2 (Fin.ext (by rw [Shape.rowMajor_val_one]; rfl))
  have key : ∀ (a : β) (n : Fin S8192.numel),
      (if scatter_S12288_S8192x1_S8192_n_0_0_1.resultIdx? (S8192.rowMajor.symm n) idx = some (ix1 e) then upd (S8192.rowMajor.symm n) else a)
        = if e.val = placeOf p n.val then v n.val else a := by
    intro a n
    have hlt : n.val < 8192 := hn ▸ n.isLt
    have hpl : placeOf p n.val = (p (ix1 (n.cast hn : Fin 8192))).toNat := by
      unfold placeOf
      exact congrArg (fun k : Fin 8192 => (p (ix1 k)).toNat) (Fin.ext (Nat.mod_eq_of_lt hlt))
    have hb := hp (ix1 (n.cast hn : Fin 8192))
    have hl := lands idx (n.cast hn : Fin 8192) e
    rw [hidx, StableHlo.Predicate.toInt_eq_toNat_of_lt (by omega)] at hl
    rw [hs n, hpl]
    by_cases h : e.val = (p (ix1 (n.cast hn : Fin 8192))).toNat
    · rw [if_pos h, if_pos (hl.2 (by omega))]
      exact hupd _
    · rw [if_neg h, if_neg fun h' => h (by have := hl.1 h'; omega)]
  have hr : List.range 8192 = (List.finRange S8192.numel).map (fun n => n.val) := by
    rw [List.map_coe_finRange_eq_range, hn]
  unfold put
  rw [hr, List.foldl_map]
  exact congrArg (fun f => List.foldl f z (List.finRange S8192.numel)) (funext fun a => funext fun n => key a n)

/-! ## The reference's two results -/

/-- The list of places as the reference indexes with it. -/
def boxOf (p : IVec S8192 32) : IVec S8192x1 32 :=
  broadcastInDim S8192x1 ![0] bcast_S8192_S8192x1_0 (select (cmpi .slt p (broadcastInDim S8192 ![] bcast_S_S8192 (constantI S_ 32 0#32)))
    (addi p (broadcastInDim S8192 ![] bcast_S_S8192 (constantI S_ 32 12288#32))) p)

/-- It holds the positions: none is negative, so none is moved up. -/
theorem box_at {p : IVec S8192 32} (hp : InPlaces p) (k : Fin 8192) : boxOf p (ix2 k (0 : Fin 1)) = p (ix1 k) := by
  have hb := hp (ix1 k)
  unfold boxOf
  refine (Routing.bcCol bcast_S8192_S8192x1_0 _ k).trans ?_
  exact Routing.wrap_of_lt _ _ (by omega)

/-- The tokens' updates. -/
def tokUpd : IVec S8192 32 := shapeCast S8192 (broadcastInDim S4096x2 ![0] bcast_S4096_S4096x2_0 (iotaInDim S4096 32 0)) shapeCasts_S4096x2_S8192

/-- Assignment `k` is token `k / 2`'s. -/
theorem tokUpd_at (k : Fin 8192) : tokUpd (ix1 k) = BitVec.ofNat 32 (k.val / 2) := by
  have hk := k.isLt
  unfold tokUpd
  refine (Routing.cast21 _ shapeCasts_S4096x2_S8192 (⟨k.val / 2, by omega⟩ : Fin 4096) (⟨k.val % 2, by omega⟩ : Fin 2) k (by show k.val = k.val / 2 * 2 + k.val % 2; omega)).trans ?_
  refine (broadcastInDim_apply _ bcast_S4096_S4096x2_0 _ _ (ix1 (⟨k.val / 2, by omega⟩ : Fin 4096)) fun a => ?_).trans rfl
  match a with
  | ⟨0, _⟩ => rfl

/-- What the reference computes of the tokens. -/
def refTokens (p : IVec S8192 32) : IVec S12288 32 :=
  Host.scatter scatter_S12288_S8192x1_S8192_n_0_0_1 (fun _ b => b) (broadcastInDim S12288 ![] bcast_S_S12288 (constantI S_ 32 0#32)) (boxOf p) tokUpd

/-- What the reference computes of the gates. -/
def refGates (p : IVec S8192 32) (w : FVec Ideal S8192 .f32) : FVec Ideal S12288 .f32 :=
  Host.scatter scatter_S12288_S8192x1_S8192_n_0_0_1 (fun _ b => b) (broadcastInDim S12288 ![] bcast_S_S12288 (constant S_ .f32 0x00000000#32)) (boxOf p) w

/-- The reference's tokens are the sorted ones. -/
theorem tok_eq {p : IVec S8192 32} (hp : InPlaces p) : refTokens p = tokens p :=
  scatter_put (0#32) (boxOf p) tokUpd p _ hp (box_at hp) tokUpd_at

/-- The reference's gates are the sorted ones. -/
theorem gate_eq {p : IVec S8192 32} (hp : InPlaces p) (w : FVec Ideal S8192 .f32) : refGates p w = gates (F := Ideal) p w :=
  scatter_put (Scalar.ofBits .f32 0x00000000#32) (boxOf p) w p (gateOf w) hp (box_at hp) fun k => by
    unfold gateOf
    exact congrArg (fun k : Fin 8192 => w (ix1 k)) (Fin.ext (Nat.mod_eq_of_lt k.isLt).symm)

/-- The reference's run. -/
theorem ref_run (m : (ℓ : Loc nD τ sig) → Buf (Elt Ideal) ℓ) (ρ : Dev nD → PrngReg) :
    θ_run (Cert.ScatterReferenceIdeal.defs (F := Ideal)) (onTc (τ := τ) (Cert.ScatterReferenceIdeal.main (F := Ideal))) ⟨m, fun _ => 0, ρ⟩ fun r => ∀ c : Dev nD,
      r.2.mem ((c.tc : Thread nD τ).loc main_v10) = refTokens (m ((c.tc : Thread nD τ).loc main_arg0))
        ∧ r.2.mem ((c.tc : Thread nD τ).loc main_v18) = refGates (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  Cert.ScatterReferenceIdeal.Value.run m ρ

end Cert.Proof.Scatter

end
-- ==== Proof.Experts.Reference.lean ====
/-
  The reference's table of expert outputs at the ideal float values: entry by entry the program's; and with it the reference's
  result, the program's.
-/
module

public import proofs.«01_k».proof.Proof.Experts.Value
public import proofs.«01_k».proof.Proof.Combine.Reference
public import proofs.«01_k».proof.Proof.Scatter.Reference
public import proofs.«01_k».proof.Proof.SharedCall.Value

@[expose] public section

set_option maxRecDepth 16384

noncomputable section

namespace Cert.Proof.Experts

open Cert.ReferenceIdeal Cert.ReferenceIdeal.Gen
open Idealize.ShloMosaic hiding ix1 ix2 ix3
open Idealize.ShloMosaic.TcCoe
open Idealize.SL.Sem
open Idealize.ShloMosaic.ValueIdx
open Cert.Proof.Combine (boxOf refOf InRows Routed AllRouted outputs combined)
open scoped BigOperators

/-- The tokens' words, a negative one wrapped round, as a column; -/
def tokCol (tok : IVec S12288 32) : IVec S12288x1 32 :=
  broadcastInDim S12288x1 ![0] bcast_S12288_S12288x1_0 (select (cmpi .slt tok (broadcastInDim S12288 ![] bcast_S_S12288 (constantI S_ 32 0#32)))
    (addi tok (broadcastInDim S12288 ![] bcast_S_S12288 (constantI S_ 32 4096#32))) tok)
/-- the tiles' experts' words likewise. -/
def expCol (te : IVec S48 32) : IVec S48x1 32 :=
  broadcastInDim S48x1 ![0] bcast_S48_S48x1_0 (select (cmpi .slt te (broadcastInDim S48 ![] bcast_S_S48 (constantI S_ 32 0#32)))
    (addi te (broadcastInDim S48 ![] bcast_S_S48 (constantI S_ 32 16#32))) te)

/-- The tokens' rows in the tables' order, a tile at a time. -/
def rowsOf (tok : IVec S12288 32) (xb : FVec Ideal S4096x1024 .bf16) : FVec Ideal S48x256x1024 .f32 :=
  shapeCast S48x256x1024 (Host.gather gather_S4096x1024_S12288x1_S12288x1024_1_0_n_n_0_1_11024 (extf .f32 xb bitsLt_bf16_f32) (tokCol tok)) shapeCasts_S12288x1024_S48x256x1024
/-- The tiles' weights. -/
def weightsOf (te : IVec S48 32) (w : FVec Ideal S16x1024x1024 .f32) : FVec Ideal S48x1024x1024 .f32 :=
  Host.gather gather_S16x1024x1024_S48x1_S48x1024x1024_12_0_n_n_0_1_110241024 w (expCol te)
/-- The product of each tile's rows with rows of weights. -/
def tileDot (a : FVec Ideal S48x256x1024 .f32) (b : FVec Ideal S48x1024x1024 .f32) : FVec Ideal S48x256x1024 .f32 :=
  Host.dotGeneral dot_S48x256x1024_S48x1024x1024_S48x256x1024_2_2_1_1_0_0 none a b
/-- The reference's table of expert outputs. -/
def refTable (te : IVec S48 32) (tok : IVec S12288 32) (g : FVec Ideal S12288 .f32) (xb : FVec Ideal S4096x1024 .bf16)
    (w1 w2 w3 : FVec Ideal S16x1024x1024 .f32) : FVec Ideal S12288x1024 .f32 :=
  shapeCast S12288x1024
    (mulf (tileDot (mulf (mulf (tileDot (rowsOf tok xb) (weightsOf te w1))
          (Host.divf (broadcastInDim S48x256x1024 ![] bcast_S_S48x256x1024 (constant S_ .f32 0x3F800000#32))
            (addf (broadcastInDim S48x256x1024 ![] bcast_S_S48x256x1024 (constant S_ .f32 0x3F800000#32))
              (Host.exp (Host.negf (tileDot (rowsOf tok xb) (weightsOf te w1)))))))
        (tileDot (rowsOf tok xb) (weightsOf te w2))) (weightsOf te w3))
      (broadcastInDim S48x256x1024 ![0, 1, 2] bcast_S48x256x1_S48x256x1024_0_1_2 (shapeCast S48x256x1 g shapeCasts_S12288_S48x256x1)))
    shapeCasts_S48x256x1024_S12288x1024

/-- The row of a tile. -/
def rowIx (t : Fin 48) (r : Fin 256) : Fin 12288 := ⟨256 * t.val + r.val, by have := t.isLt; have := r.isLt; omega⟩

/-- The tokens' column at a row, where the words name tokens. -/
theorem tokCol_at {tok : IVec S12288 32} (h : ∀ i, (tok i).toNat < 4096) (r : Fin 12288) :
    tokCol tok (ix2 r (0 : Fin 1)) = BitVec.ofNat 32 (tokAt tok r).val := by
  have hb := h (ix1 r)
  unfold tokCol
  refine (Routing.bcCol (n := 12288) bcast_S12288_S12288x1_0 _ r).trans ?_
  refine Eq.trans (b := tok (ix1 r)) (Routing.wrap_of_lt _ _ (by omega)) (BitVec.eq_of_toNat_eq ?_)
  rw [BitVec.toNat_ofNat]
  show _ = (tok (ix1 r)).toNat % 4096 % 2 ^ 32
  omega
/-- The experts' column at a tile, where the words name experts. -/
theorem expCol_at {te : IVec S48 32} (h : ∀ i, (te i).toNat < 16) (t : Fin 48) :
    expCol te (ix2 t (0 : Fin 1)) = BitVec.ofNat 32 (expOf te t).val := by
  have hb := h (ix1 t)
  unfold expCol
  refine (Routing.bcCol (n := 48) bcast_S48_S48x1_0 _ t).trans ?_
  refine Eq.trans (b := te (ix1 t)) (Routing.wrap_of_lt _ _ (by omega)) (BitVec.eq_of_toNat_eq ?_)
  rw [BitVec.toNat_ofNat]
  show _ = (te (ix1 t)).toNat % 16 % 2 ^ 32
  omega

/-- A row of the tokens' rows is its token. -/
theorem rowsOf_at {tok : IVec S12288 32} (h : ∀ i, (tok i).toNat < 4096) (xb : FVec Ideal S4096x1024 .bf16) (t : Fin 48) (r : Fin 256) (k : Fin 1024) :
    rowsOf tok xb (ix3 t r k) = xb (ix2 (tokAt tok (rowIx t r)) k) := by
  unfold rowsOf
  refine (shapeCast_apply _ _ (ix3 t r k) (ix2 (rowIx t r) k) ?_).trans ?_
  · rw [Shape.rowMajor_val_three, Shape.rowMajor_val_two]
    show (256 * t.val + r.val) * 1024 + k.val = (t.val * 256 + r.val) * 1024 + k.val
    omega
  exact Routing.gather_row (nb := 4096) (B := 1024) (n := 12288) gather_S4096x1024_S12288x1_S12288x1024_1_0_n_n_0_1_11024 rfl rfl rfl rfl rfl
    (extf .f32 xb bitsLt_bf16_f32) (tokCol tok) (rowIx t r) k (tokAt tok (rowIx t r)) (tokCol_at h _) (by decide)

/-- A tile's weights are its expert's. -/
theorem weightsOf_at {te : IVec S48 32} (h : ∀ i, (te i).toNat < 16) (w : FVec Ideal S16x1024x1024 .f32) (t : Fin 48) (i k : Fin 1024) :
    weightsOf te w (ix3 t i k) = w (ix3 (expOf te t) i k) := by
  have hlt := (expOf te t).isLt
  have hs : gather_S16x1024x1024_S48x1_S48x1024x1024_12_0_n_n_0_1_110241024.start (ix3 t i k) (expCol te) 0 = (expOf te t).val := by
    have e : gather_S16x1024x1024_S48x1_S48x1024x1024_12_0_n_n_0_1_110241024.start (ix3 t i k) (expCol te) 0
        = min (expCol te (ix2 t (0 : Fin 1))).toInt.toNat 15 := by
      refine congrArg (fun z => min (expCol te z).toInt.toNat 15) (funext fun b => Fin.ext ?_)
      match b with
      | ⟨0, _⟩ => rfl
      | ⟨1, _⟩ => rfl
    rw [e, expCol_at h, StableHlo.Predicate.toInt_ofNat_small _ (by omega)]
    omega
  unfold weightsOf
  refine congrArg w (funext fun a => Fin.ext ?_)
  match a with
  | ⟨0, _⟩ => exact hs
  | ⟨1, _⟩ => exact Nat.zero_add i.val
  | ⟨2, _⟩ => exact Nat.zero_add k.val

/-- A tile's product at an entry: its row with a row of weights. -/
theorem tileDot_at (a : FVec Ideal S48x256x1024 .f32) (b : FVec Ideal S48x1024x1024 .f32) (t : Fin 48) (r : Fin 256) (h : Fin 1024) :
    tileDot a b (ix3 t r h) = ∑ k : Fin 1024, a (ix3 t r k) * b (ix3 t h k) := by
  unfold tileDot
  refine (Ideal.dotGeneral_apply dot_S48x256x1024_S48x1024x1024_S48x256x1024_2_2_1_1_0_0 none _ a b (ix3 t r h)).trans ?_
  rw [← Equiv.sum_comp (contrEquiv1 dot_S48x256x1024_S48x1024x1024_S48x256x1024_2_2_1_1_0_0 1024 rfl rfl).symm]
  refine Finset.sum_congr rfl fun k _ => ?_
  have hk := contrEquiv1_symm_val dot_S48x256x1024_S48x1024x1024_S48x256x1024_2_2_1_1_0_0 1024 rfl rfl k
  refine congrArg₂ (fun x y : EReal => x * y) (congrArg a ?_) (congrArg b ?_)
  · funext c; apply Fin.ext
    match c with
    | ⟨0, _⟩ => rfl
    | ⟨1, _⟩ => rfl
    | ⟨2, _⟩ => exact hk
  · funext c; apply Fin.ext
    match c with
    | ⟨0, _⟩ => rfl
    | ⟨1, _⟩ => rfl
    | ⟨2, _⟩ => exact hk

/-- The reference's table, entry by entry. -/
theorem refTable_at {te : IVec S48 32} (he : ∀ i, (te i).toNat < 16) {tok : IVec S12288 32} (hk : ∀ i, (tok i).toNat < 4096) (g : FVec Ideal S12288 .f32)
    (xb : FVec Ideal S4096x1024 .bf16) (w1 w2 w3 : FVec Ideal S16x1024x1024 .f32) (r : Fin 12288) (d : Fin 1024) :
    refTable te tok g xb w1 w2 w3 (ix2 r d) = outW te tok g xb w1 w2 w3 r d := by
  have hlt := r.isLt
  have hrow : rowIx (tileOf r) (⟨r.val % 256, Nat.mod_lt _ (by decide)⟩ : Fin 256) = r := Fin.ext (by show 256 * (r.val / 256) + r.val % 256 = r.val; omega)
  unfold refTable
  refine (shapeCast_apply _ _ (ix2 r d) (ix3 (tileOf r) (⟨r.val % 256, Nat.mod_lt _ (by decide)⟩ : Fin 256) d) ?_).trans ?_
  · rw [Shape.rowMajor_val_three, Shape.rowMajor_val_two]
    show (r.val / 256 * 256 + r.val % 256) * 1024 + d.val = r.val * 1024 + d.val
    omega
  have hg : broadcastInDim S48x256x1024 ![0, 1, 2] bcast_S48x256x1_S48x256x1024_0_1_2 (shapeCast S48x256x1 g shapeCasts_S12288_S48x256x1)
      (ix3 (tileOf r) (⟨r.val % 256, Nat.mod_lt _ (by decide)⟩ : Fin 256) d) = g (ix1 r) := by
    refine (broadcastInDim_apply _ _ _ _ (ix3 (tileOf r) (⟨r.val % 256, Nat.mod_lt _ (by decide)⟩ : Fin 256) (0 : Fin 1)) fun a => ?_).trans ?_
    · match a with
      | ⟨0, _⟩ => rfl
      | ⟨1, _⟩ => rfl
      | ⟨2, _⟩ => rfl
    exact Routing.cast13 g _ (tileOf r) (⟨r.val % 256, Nat.mod_lt _ (by decide)⟩ : Fin 256) (0 : Fin 1) r (by show r.val = (r.val / 256 * 256 + r.val % 256) * 1 + 0; omega)
  have hd : ∀ (w : FVec Ideal S16x1024x1024 .f32) (h : Fin 1024),
      tileDot (rowsOf tok xb) (weightsOf te w) (ix3 (tileOf r) (⟨r.val % 256, Nat.mod_lt _ (by decide)⟩ : Fin 256) h)
        = dotW xb w (expOf te (tileOf r)) (tokAt tok r) h := fun w h => by
    rw [tileDot_at]
    unfold dotW
    refine Finset.sum_congr rfl fun k _ => ?_
    rw [rowsOf_at hk, weightsOf_at he, hrow]
  unfold outW
  refine congrArg₂ (fun x y : EReal => x * y) ?_ hg
  rw [tileDot_at]
  unfold expertW
  refine Finset.sum_congr rfl fun h _ => congrArg₂ (fun x y : EReal => x * y) ?_ (weightsOf_at he w3 (tileOf r) d h)
  have hone : broadcastInDim S48x256x1024 ![] bcast_S_S48x256x1024 (constant (F := Ideal) S_ .f32 0x3F800000#32)
      (ix3 (tileOf r) (⟨r.val % 256, Nat.mod_lt _ (by decide)⟩ : Fin 256) h) = (1 : EReal) := Ideal.ofBits_one_f32
  show tileDot (rowsOf tok xb) (weightsOf te w1) (ix3 (tileOf r) (⟨r.val % 256, Nat.mod_lt _ (by decide)⟩ : Fin 256) h)
      * Ideal.div (broadcastInDim S48x256x1024 ![] bcast_S_S48x256x1024 (constant (F := Ideal) S_ .f32 0x3F800000#32)
          (ix3 (tileOf r) (⟨r.val % 256, Nat.mod_lt _ (by decide)⟩ : Fin 256) h))
          (broadcastInDim S48x256x1024 ![] bcast_S_S48x256x1024 (constant (F := Ideal) S_ .f32 0x3F800000#32)
            (ix3 (tileOf r) (⟨r.val % 256, Nat.mod_lt _ (by decide)⟩ : Fin 256) h)
            + Ideal.exp (-(tileDot (rowsOf tok xb) (weightsOf te w1) (ix3 (tileOf r) (⟨r.val % 256, Nat.mod_lt _ (by decide)⟩ : Fin 256) h))))
      * tileDot (rowsOf tok xb) (weightsOf te w2) (ix3 (tileOf r) (⟨r.val % 256, Nat.mod_lt _ (by decide)⟩ : Fin 256) h) = _
  rw [hd, hd, hone]
  rfl

/-- The reference's run: its result is the combination of its table with the shared expert's part. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v75)
          = refOf (refTable (m ((c.tc : Thread nD τ).loc main_arg0)) (Scatter.refTokens (m ((c.tc : Thread nD τ).loc main_arg2)))
              (Scatter.refGates (m ((c.tc : Thread nD τ).loc main_arg2)) (m ((c.tc : Thread nD τ).loc main_arg3)))
              (m ((c.tc : Thread nD τ).loc main_arg4)) (m ((c.tc : Thread nD τ).loc main_arg5)) (m ((c.tc : Thread nD τ).loc main_arg6))
              (m ((c.tc : Thread nD τ).loc main_arg7))) (m ((c.tc : Thread nD τ).loc main_arg2))
              (Shared.refExpr (m ((c.tc : Thread nD τ).loc main_arg8)) (m ((c.tc : Thread nD τ).loc main_arg9)) (m ((c.tc : Thread nD τ).loc main_arg10))
                (m ((c.tc : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  Cert.ReferenceIdeal.Value.run m ρ

/-- The two results are one array, where the arguments are as the precondition says. -/
theorem result_eq {m : (ℓ : Loc Cert.KernelIdeal.nD Cert.KernelIdeal.τ Cert.KernelIdeal.sig) → Buf (Elt Ideal) ℓ} (hr : AllRouted m) (c : Dev Cert.KernelIdeal.nD) :
    refOf (refTable (Combine.teOf m c) (Scatter.refTokens (Combine.posOf m c))
        (Scatter.refGates (Combine.posOf m c) (m ((SparseCore.T c).loc Cert.KernelIdeal.main_arg3))) (m ((SparseCore.T c).loc Cert.KernelIdeal.main_arg4))
        (m ((SparseCore.T c).loc Cert.KernelIdeal.main_arg5)) (m ((SparseCore.T c).loc Cert.KernelIdeal.main_arg6)) (m ((SparseCore.T c).loc Cert.KernelIdeal.main_arg7)))
        (Combine.posOf m c)
        (Shared.refExpr (m ((SparseCore.T c).loc Cert.KernelIdeal.main_arg8)) (m ((SparseCore.T c).loc Cert.KernelIdeal.main_arg9))
          (m ((SparseCore.T c).loc Cert.KernelIdeal.main_arg10)) (m ((SparseCore.T c).loc Cert.KernelIdeal.main_arg11)))
      = combined (F := Ideal) (outputs hr c) (Combine.posOf m c) (Combine.SHof m c) := by
  have hs : Shared.refExpr (m ((SparseCore.T c).loc Cert.KernelIdeal.main_arg8)) (m ((SparseCore.T c).loc Cert.KernelIdeal.main_arg9))
      (m ((SparseCore.T c).loc Cert.KernelIdeal.main_arg10)) (m ((SparseCore.T c).loc Cert.KernelIdeal.main_arg11)) = Combine.SHof m c :=
    SharedCall.total_eq (Combine.V0 m) c
  rw [hs, Scatter.tok_eq (hr c).rows, Scatter.gate_eq (hr c).rows]
  refine (Combine.ref_eq _ (hr c).rows _).trans (Combine.combined_congr (fun k j => ?_) _)
  unfold Combine.rowOf
  exact (refTable_at (hr c).experts (Combine.tokens_lt _) _ _ _ _ _ _ _).trans (outputs_apply hr c _ _).symm

end Cert.Proof.Experts

end
-- ==== Proof.lean ====
/-
  The certificate, for each of the three programs: the frame of the kernel at the bit patterns and at the ideal float values,
  the frames of the reference, and the equality of the kernel's results with the reference's at the ideal float values.

  The run of the shared expert, the scatter call, the grouped matmul and the combine call, one program, is proved once, over any
  float values. Proof/SharedCall/ has the shared expert as its first call: Body.lean what its body does at a point of the grid, Region.lean
  the whole call, Value.lean its result over the extended reals and the reference's.
  Proof/Chain/ has the scatter call as its second call: Loops.lean the loops that fill the sorted arrays, Body.lean the tile's
  program, Call.lean what the call is given and hands back. Proof/Experts/ has the grouped matmul: Body.lean what its body does at
  a tile, Region.lean the whole call, Value.lean its result over the extended reals, Reference.lean that what is gathered of it is
  the reference's. Proof/Combine/ has the combine call: Setup.lean and Rows.lean the transfers and the sums of one chunk, Chunk.lean
  and Tile.lean a tile's eight chunks, Body.lean the tile's program, Debt.lean what the TensorCore owes between the calls, Launch.lean the whole
  program of the four calls, Value.lean its result as a function of the arguments, Reference.lean the reference's.

  So is the run of the scatter call by itself (Proof/Scatter/): Setup.lean what the sorted arrays hold, Loops.lean the loops that fill them,
  Body.lean the tile's program, Launch.lean the whole program, Reference.lean its results and the reference's.

  And the shared expert's by itself (Proof/Shared/): Body.lean what the body does at a point of the grid, Launch.lean the whole program,
  Value.lean its result as a function of the arguments, Reference.lean the reference's, and that the two are the same.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_routed
public import proofs.«01_k».proof.Proof.SharedCall.Value
public import proofs.«01_k».proof.Proof.Experts.Reference
public import proofs.«01_k».proof.Proof.Gen.Scatter
public import proofs.«01_k».proof.Proof.Gen.Scatter.Skeleton
public import proofs.«01_k».proof.Proof.Gen.ScatterIdeal
public import proofs.«01_k».proof.Proof.Gen.ScatterIdeal.Skeleton
public import proofs.«01_k».proof.Proof.Gen.ScatterReferenceIdeal
public import proofs.«01_k».proof.Proof.Gen.ScatterReferenceIdeal.Run
public import proofs.«01_k».proof.Proof.Gen.Pre_places_in_rows
public import proofs.«01_k».proof.Proof.Scatter.Launch
public import proofs.«01_k».proof.Proof.Scatter.Reference
public import proofs.«01_k».proof.Proof.Shared.Reference
public import Idealize.ShloMosaic.Adequacy
public import proofs.«01_k».proof.Proof.Gen.SharedExpert
public import proofs.«01_k».proof.Proof.Gen.SharedExpertIdeal
public import proofs.«01_k».proof.Proof.Gen.SharedExpertIdeal.Frame
public import proofs.«01_k».proof.Proof.Gen.SharedExpertIdeal.Launch
public import proofs.«01_k».proof.Proof.Gen.SharedExpertIdeal.Points
public import proofs.«01_k».proof.Proof.Gen.SharedExpertIdeal.Skeleton
public import proofs.«01_k».proof.Proof.Gen.SharedReferenceIdeal
public import proofs.«01_k».proof.Proof.Gen.SharedReferenceIdeal.Run
public import Idealize.ShloMosaic.Init

@[expose] public section

set_option maxRecDepth 16384

noncomputable section

namespace Cert.Proof

open Idealize.ShloMosaic Idealize.SL.Sem
open Cert.Proof.Combine

/-- The kernel's frame at the ideal float values. -/
theorem frame_ideal : Cert.quiescent_KernelIdeal := fun m ρ h =>
  (θ_run Cert.KernelIdeal.defs _ _).mono (fun _ hr => ⟨fun c => (hr.1 c).2, hr.2⟩)
    (run_value (F := Ideal) ρ fun d => routed_of_pre (h d))

set_option maxHeartbeats 4000000 in
/-- The kernel's two programs call the same functions on the TensorCore. -/
theorem kernel_bodies_tc {F : FTy → Type} [FloatOps F] (f : Cert.Kernel.Facts) (g : Cert.KernelIdeal.Facts) (ℓ) (a) :
    @Cert.Kernel.defs₀ F _ f .tc ℓ a = @Cert.KernelIdeal.defs₀ F _ g .tc ℓ a := by
  match ℓ, a with
  | 0, (t, s) => rfl
  | 1, _ => rfl
  | 2, (t, s) => unfold Cert.Kernel.defs₀ Cert.KernelIdeal.defs₀; rfl
  | 3, _ => rfl

set_option maxHeartbeats 4000000 in
/-- And on a scalar subcore. -/
theorem kernel_bodies_scalar {F : FTy → Type} [FloatOps F] (f : Cert.Kernel.Facts) (g : Cert.KernelIdeal.Facts) (c) (ℓ) (a) :
    @Cert.Kernel.defs₀ F _ f (.scScalar c) ℓ a = @Cert.KernelIdeal.defs₀ F _ g (.scScalar c) ℓ a := by
  match ℓ, a with
  | 0, _ => rfl
  | 1, _ => rfl
  | 2, _ => unfold Cert.Kernel.defs₀ Cert.KernelIdeal.defs₀; rfl
  | 3, _ => rfl

set_option maxHeartbeats 4000000 in
/-- And on a vector subcore. -/
theorem kernel_bodies_vector {F : FTy → Type} [FloatOps F] (f : Cert.Kernel.Facts) (g : Cert.KernelIdeal.Facts) (c s) (ℓ) (a) :
    @Cert.Kernel.defs₀ F _ f (.scVector c s) ℓ a = @Cert.KernelIdeal.defs₀ F _ g (.scVector c s) ℓ a := by
  match ℓ, a with
  | 0, _ => rfl
  | 1, _ => rfl
  | 2, _ => unfold Cert.Kernel.defs₀ Cert.KernelIdeal.defs₀; rfl
  | 3, _ => rfl

/-- The kernel's two programs have the same kernel functions: they differ in a case analysis on the function called. -/
theorem kernel_bodies {F : FTy → Type} [FloatOps F] (f : Cert.Kernel.Facts) (g : Cert.KernelIdeal.Facts) :
    @Cert.Kernel.defs₀ F _ f = @Cert.KernelIdeal.defs₀ F _ g := by
  funext κ ℓ a
  match κ with
  | .tc => exact kernel_bodies_tc f g ℓ a
  | .scScalar c => exact kernel_bodies_scalar f g c ℓ a
  | .scVector c s => exact kernel_bodies_vector f g c s ℓ a

set_option maxHeartbeats 4000000 in
/-- And the same two pipelines: they differ in a case analysis on the call. -/
theorem kernel_pcfgs {F : FTy → Type} [FloatOps F] (f : Cert.Kernel.Facts) (g : Cert.KernelIdeal.Facts) :
    @Cert.Kernel.pcfgs F _ f = @Cert.KernelIdeal.pcfgs F _ g := by
  funext p
  match p with
  | 0 => rfl
  | 1 => rfl

set_option maxHeartbeats 4000000 in
/-- The kernel's frame at the bit patterns: the program's text is the same. -/
theorem frame_kernel : Cert.quiescent_Kernel := fun m ρ h => by
  have hrun := run_value (F := Bits) (m := m) ρ fun d => routed_of_pre (h d)
  unfold Cert.KernelIdeal.defs Cert.KernelIdeal.threads Cert.KernelIdeal.main Cert.KernelIdeal.sc at hrun
  unfold Cert.Kernel.defs Cert.Kernel.threads Cert.Kernel.main Cert.Kernel.sc
  rw [kernel_bodies Cert.Kernel.Gen.facts Cert.KernelIdeal.Gen.facts, kernel_pcfgs Cert.Kernel.Gen.facts Cert.KernelIdeal.Gen.facts]
  exact (θ_run _ _ _).mono (fun _ hr => ⟨fun c => (hr.1 c).2, hr.2⟩) hrun

/-- The reference's frame: it declares no semaphore. -/
theorem frame_ref : Cert.quiescent_ReferenceIdeal := fun m ρ _ =>
  (θ_run Cert.ReferenceIdeal.defs _ _).mono (fun r hr => ⟨fun c => (hr c).2, sem_eq_zero_of_no_sems (by decide) r.2⟩) (Experts.ref_run m ρ)

/-- The reference's frame under the kernel's precondition. -/
theorem frame_ref_pre : Cert.quiescent_ReferenceIdeal_pre_routed := fun m ρ _ =>
  (θ_run Cert.ReferenceIdeal.defs _ _).mono (fun r hr => ⟨fun c => (hr c).2, sem_eq_zero_of_no_sems (by decide) r.2⟩) (Experts.ref_run m ρ)

/-- The kernel's result is the reference's, at the ideal float values. -/
theorem value_eq : Cert.algebraic_KernelIdeal_ReferenceIdeal := fun m ρ m' ρ' h hm =>
  have hr : AllRouted (F := Ideal) m := fun d => routed_of_pre (h d)
  ⟨fun c => combined (outputs hr c) (posOf m c) (SHof m c),
    (θ_run Cert.KernelIdeal.defs _ _).mono (fun _ hk c => hk.1 c) (run_value (F := Ideal) ρ hr),
    (θ_run Cert.ReferenceIdeal.defs _ _).mono (fun _ hk c => by
      obtain ⟨h0, h1, h2, h3, h4, h5, h6, h7, h8, h9, h10, h11⟩ := hm c
      refine ⟨(hk c).1.trans ?_, (hk c).2⟩
      rw [h0, h2, h3, h4, h5, h6, h7, h8, h9, h10, h11]
      exact Experts.result_eq hr c) (Experts.ref_run m' ρ')⟩

/-- The scatter's frame at the ideal float values. -/
theorem frame_scatter_ideal : Cert.quiescent_ScatterIdeal := fun m ρ h =>
  (θ_run Cert.ScatterIdeal.defs _ _).mono (fun _ hr => ⟨fun c => (hr.1 c).2.2, hr.2⟩)
    (Scatter.run_value (F := Ideal) m ρ fun d => Scatter.inPlaces_of_pre (h d))

/-- The scatter's frame at the bit patterns: the program's text is the same. -/
theorem frame_scatter : Cert.quiescent_Scatter := fun m ρ h =>
  (θ_run Cert.ScatterIdeal.defs _ _).mono (fun _ hr => ⟨fun c => (hr.1 c).2.2, hr.2⟩)
    (Scatter.run_value (F := Bits) m ρ fun d => Scatter.inPlaces_of_pre (h d))

/-- The frame of the scatter's reference: it declares no semaphore. -/
theorem frame_scatter_ref : Cert.quiescent_ScatterReferenceIdeal := fun m ρ _ =>
  (θ_run Cert.ScatterReferenceIdeal.defs _ _).mono (fun r hr => ⟨fun c => (hr c).2.2, sem_eq_zero_of_no_sems (by decide) r.2⟩) (Scatter.ref_run m ρ)

/-- The frame of the scatter's reference under the scatter's precondition. -/
theorem frame_scatter_ref_pre : Cert.quiescent_ScatterReferenceIdeal_pre_places_in_rows := fun m ρ _ =>
  (θ_run Cert.ScatterReferenceIdeal.defs _ _).mono (fun r hr => ⟨fun c => (hr c).2.2, sem_eq_zero_of_no_sems (by decide) r.2⟩) (Scatter.ref_run m ρ)

/-- The scatter's two results are its reference's, at the ideal float values. -/
theorem scatter_eq : Cert.algebraic_ScatterIdeal_ScatterReferenceIdeal := fun m ρ m' ρ' h hm =>
  ⟨fun c => Scatter.tokens (m ((c.tc : Thread Cert.ScatterIdeal.nD Cert.ScatterIdeal.τ).loc Cert.ScatterIdeal.main_arg0)),
    fun c => Scatter.gates (F := Ideal) (m ((c.tc : Thread Cert.ScatterIdeal.nD Cert.ScatterIdeal.τ).loc Cert.ScatterIdeal.main_arg0))
      (m ((c.tc : Thread Cert.ScatterIdeal.nD Cert.ScatterIdeal.τ).loc Cert.ScatterIdeal.main_arg1)),
    (θ_run Cert.ScatterIdeal.defs _ _).mono (fun _ hr c => hr.1 c) (Scatter.run_value (F := Ideal) m ρ fun d => Scatter.inPlaces_of_pre (h d)),
    (θ_run Cert.ScatterReferenceIdeal.defs _ _).mono (fun _ hr c => by
      obtain ⟨h0, h1⟩ := hm c
      refine ⟨(hr c).1.trans ?_, (hr c).2.1.trans ?_, (hr c).2.2⟩
      · rw [h0]
        exact Scatter.tok_eq (Scatter.inPlaces_of_pre (h c))
      · rw [h0, h1]
        exact Scatter.gate_eq (Scatter.inPlaces_of_pre (h c)) _) (Scatter.ref_run m' ρ')⟩

/-- The shared expert's frame at the ideal float values. -/
theorem frame_shared_ideal : Cert.quiescent_SharedExpertIdeal := fun m ρ _ =>
  (θ_run Cert.SharedExpertIdeal.defs _ _).mono (fun _ hr => ⟨fun c => (hr.1 c).2, hr.2⟩) (Shared.run_value (F := Ideal) m ρ)

/-- The shared expert's two programs have the same kernel functions: they differ in a case analysis on the function called. -/
theorem shared_bodies {F : FTy → Type} [FloatOps F] (f : Cert.SharedExpert.Facts) (g : Cert.SharedExpertIdeal.Facts) :
    @Cert.SharedExpert.defs₀ F _ f = @Cert.SharedExpertIdeal.defs₀ F _ g := by
  unfold Cert.SharedExpert.defs₀ Cert.SharedExpertIdeal.defs₀
  refine congrArg Defs.onTc ?_
  funext p a
  match p, a with
  | 0, (t, s) => rfl

/-- So their tables of functions are the same. -/
theorem shared_defs {F : FTy → Type} [FloatOps F] (f : Cert.SharedExpert.Facts) (g : Cert.SharedExpertIdeal.Facts) :
    @Cert.SharedExpert.defs F _ f = @Cert.SharedExpertIdeal.defs F _ g :=
  congrArg (Pipeline.defs (Cert.SharedExpertIdeal.pcfgs (F := F))) (shared_bodies f g)

/-- The shared expert's frame at the bit patterns: the program's text is the same. -/
theorem frame_shared : Cert.quiescent_SharedExpert := fun m ρ _ => by
  rw [shared_defs Cert.SharedExpert.Gen.facts Cert.SharedExpertIdeal.Gen.facts]
  exact (θ_run Cert.SharedExpertIdeal.defs _ _).mono (fun _ hr => ⟨fun c => (hr.1 c).2, hr.2⟩) (Shared.run_value (F := Bits) m ρ)

/-- The frame of the shared expert's reference: it declares no semaphore. -/
theorem frame_shared_ref : Cert.quiescent_SharedReferenceIdeal := fun m ρ _ =>
  (θ_run Cert.SharedReferenceIdeal.defs _ _).mono (fun r hr => ⟨fun c => (hr c).2, sem_eq_zero_of_no_sems (by decide) r.2⟩) (Shared.ref_run m ρ)

/-- The shared expert's result is its reference's, at the ideal float values. -/
theorem shared_eq : Cert.algebraic_SharedExpertIdeal_SharedReferenceIdeal := fun m ρ m' ρ' _ hm =>
  ⟨fun c => Shared.total m c,
    (θ_run Cert.SharedExpertIdeal.defs _ _).mono (fun _ hr c => hr.1 c) (Shared.run_value (F := Ideal) m ρ),
    (θ_run Cert.SharedReferenceIdeal.defs _ _).mono (fun _ hr c => by
      obtain ⟨h0, h1, h2, h3⟩ := hm c
      refine ⟨(hr c).1.trans ?_, (hr c).2⟩
      rw [h0, h1, h2, h3]
      exact Shared.total_eq m c) (Shared.ref_run m' ρ')⟩

/-- The certificate's claims. -/
theorem claim : Cert.Claim := ⟨Cert.Kernel.Gen.facts, Cert.KernelIdeal.Gen.facts, Cert.ReferenceIdeal.Gen.facts, Cert.Scatter.Gen.facts,
  Cert.ScatterIdeal.Gen.facts, Cert.ScatterReferenceIdeal.Gen.facts, Cert.SharedExpert.Gen.facts, Cert.SharedExpertIdeal.Gen.facts,
  Cert.SharedReferenceIdeal.Gen.facts, Cert.Pre_routed.Gen.facts, Cert.Pre_places_in_rows.Gen.facts,
  frame_kernel, frame_ideal, frame_ref, frame_ref_pre, frame_scatter, frame_scatter_ideal, frame_scatter_ref, frame_scatter_ref_pre,
  frame_shared, frame_shared_ideal, frame_shared_ref, trivial, value_eq, trivial, scatter_eq, trivial, shared_eq⟩

end Cert.Proof

end
